-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_finite7 [hPre_finite7 : Cert.Pre_finite7.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5))) = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_finite7 [hPre_finite7 : Cert.Pre_finite7.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ r.2.sem = fun _ => 0)

def quiescent_Kernel7Ideal_pre_finite7 [hKernel7Ideal : Cert.Kernel7Ideal.Facts] [hPre_finite7 : Cert.Pre_finite7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_finite7 m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5))
      ∧ r.2.sem = fun _ => 0)

def quiescent_Reference7Ideal_pre_finite7 [hReference7Ideal : Cert.Reference7Ideal.Facts] [hPre_finite7 : Cert.Pre_finite7.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_finite7 m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5))
      ∧ r.2.sem = fun _ => 0)

def preserves_Kernel_KernelIdeal : Prop :=
  IdealRules.named_const.Statement Cert.KernelIdeal.κ "gelu_cubic" .f32 0x3D922279#32 ((80338380498831 / 1125899906842624 : ℝ) : EReal)
  ∧ IdealRules.named_const.Statement Cert.KernelIdeal.κ "gelu_cubic_slope" .f32 0x3E5B33B6#32 ((241015141496493 / 1125899906842624 : ℝ) : EReal)

def algebraic_KernelIdeal_ReferenceIdeal_on_written [hKernelIdeal : Cert.KernelIdeal.Facts] [hReferenceIdeal : Cert.ReferenceIdeal.Facts] [hOn_written : Cert.On_written.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v94_0)) (v1 : (c : Dev Cert.KernelIdeal.nD) → Buf (Elt Ideal) ((c.tc : Thread Cert.KernelIdeal.nD Cert.KernelIdeal.τ).loc Cert.KernelIdeal.main_v94_1)) (v2 : (c : Dev Cert.KernelIdeal.nD) → Buf (Elt Ideal) ((c.tc : Thread Cert.KernelIdeal.nD Cert.KernelIdeal.τ).loc Cert.KernelIdeal.main_v94_2)) (v3 : (c : Dev Cert.KernelIdeal.nD) → Buf (Elt Ideal) ((c.tc : Thread Cert.KernelIdeal.nD Cert.KernelIdeal.τ).loc Cert.KernelIdeal.main_v94_3)) (v4 : (c : Dev Cert.KernelIdeal.nD) → Buf (Elt Ideal) ((c.tc : Thread Cert.KernelIdeal.nD Cert.KernelIdeal.τ).loc Cert.KernelIdeal.main_v94_4)) (v5 : (c : Dev Cert.KernelIdeal.nD) → Buf (Elt Ideal) ((c.tc : Thread Cert.KernelIdeal.nD Cert.KernelIdeal.τ).loc Cert.KernelIdeal.main_v94_5)) (v6 : (c : Dev Cert.KernelIdeal.nD) → Buf (Elt Ideal) ((c.tc : Thread Cert.KernelIdeal.nD Cert.KernelIdeal.τ).loc Cert.KernelIdeal.main_v94_6)) (v7 : (c : Dev Cert.KernelIdeal.nD) → Buf (Elt Ideal) ((c.tc : Thread Cert.KernelIdeal.nD Cert.KernelIdeal.τ).loc Cert.KernelIdeal.main_v94_7)) (v8 : (c : Dev Cert.KernelIdeal.nD) → Buf (Elt Ideal) ((c.tc : Thread Cert.KernelIdeal.nD Cert.KernelIdeal.τ).loc Cert.KernelIdeal.main_v94_8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![8192, 1024]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).1 i = 1#1 → r.2.mem ((c.tc : Thread Cert.KernelIdeal.nD Cert.KernelIdeal.τ).loc Cert.KernelIdeal.main_v94_0) i = v0 c i)
          ∧ (∀ i : (⟨2, ![8192, 6144]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.1 i = 1#1 → r.2.mem ((c.tc : Thread Cert.KernelIdeal.nD Cert.KernelIdeal.τ).loc Cert.KernelIdeal.main_v94_1) i = v1 c i)
          ∧ (∀ i : (⟨3, ![8, 128, 128]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.1 i = 1#1 → r.2.mem ((c.tc : Thread Cert.KernelIdeal.nD Cert.KernelIdeal.τ).loc Cert.KernelIdeal.main_v94_2) i = v2 c i)
          ∧ (∀ i : (⟨2, ![8, 128]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.1 i = 1#1 → r.2.mem ((c.tc : Thread Cert.KernelIdeal.nD Cert.KernelIdeal.τ).loc Cert.KernelIdeal.main_v94_3) i = v3 c i)
          ∧ (∀ i : (⟨2, ![1, 1024]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.1 i = 1#1 → r.2.mem ((c.tc : Thread Cert.KernelIdeal.nD Cert.KernelIdeal.τ).loc Cert.KernelIdeal.main_v94_4) i = v4 c i)
          ∧ (∀ i : (⟨2, ![1, 1024]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.1 i = 1#1 → r.2.mem ((c.tc : Thread Cert.KernelIdeal.nD Cert.KernelIdeal.τ).loc Cert.KernelIdeal.main_v94_5) i = v5 c i)
          ∧ (∀ i : (⟨2, ![1024, 1024]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.2.1 i = 1#1 → r.2.mem ((c.tc : Thread Cert.KernelIdeal.nD Cert.KernelIdeal.τ).loc Cert.KernelIdeal.main_v94_6) i = v6 c i)
          ∧ (∀ i : (⟨2, ![1024, 1024]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.2.2.1 i = 1#1 → r.2.mem ((c.tc : Thread Cert.KernelIdeal.nD Cert.KernelIdeal.τ).loc Cert.KernelIdeal.main_v94_7) i = v7 c i)
          ∧ (∀ i : (⟨2, ![1024, 1024]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.2.2.2 i = 1#1 → r.2.mem ((c.tc : Thread Cert.KernelIdeal.nD Cert.KernelIdeal.τ).loc Cert.KernelIdeal.main_v94_8) i = v8 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![8192, 1024]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).1 i = 1#1 → r.2.mem ((c.tc : Thread Cert.ReferenceIdeal.nD Cert.ReferenceIdeal.τ).loc Cert.ReferenceIdeal.main_v207) i = v0 c i)
          ∧ (∀ i : (⟨2, ![8192, 6144]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.1 i = 1#1 → r.2.mem ((c.tc : Thread Cert.ReferenceIdeal.nD Cert.ReferenceIdeal.τ).loc Cert.ReferenceIdeal.main_v208) i = v1 c i)
          ∧ (∀ i : (⟨3, ![8, 128, 128]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.1 i = 1#1 → r.2.mem ((c.tc : Thread Cert.ReferenceIdeal.nD Cert.ReferenceIdeal.τ).loc Cert.ReferenceIdeal.main_v209) i = v2 c i)
          ∧ (∀ i : (⟨2, ![8, 128]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.1 i = 1#1 → r.2.mem ((c.tc : Thread Cert.ReferenceIdeal.nD Cert.ReferenceIdeal.τ).loc Cert.ReferenceIdeal.main_v210) i = v3 c i)
          ∧ (∀ i : (⟨2, ![1, 1024]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.1 i = 1#1 → r.2.mem ((c.tc : Thread Cert.ReferenceIdeal.nD Cert.ReferenceIdeal.τ).loc Cert.ReferenceIdeal.main_v154) i = v4 c i)
          ∧ (∀ i : (⟨2, ![1, 1024]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.1 i = 1#1 → r.2.mem ((c.tc : Thread Cert.ReferenceIdeal.nD Cert.ReferenceIdeal.τ).loc Cert.ReferenceIdeal.main_v151) i = v5 c i)
          ∧ (∀ i : (⟨2, ![1024, 1024]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.2.1 i = 1#1 → r.2.mem ((c.tc : Thread Cert.ReferenceIdeal.nD Cert.ReferenceIdeal.τ).loc Cert.ReferenceIdeal.main_v132) i = v6 c i)
          ∧ (∀ i : (⟨2, ![1024, 1024]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.2.2.1 i = 1#1 → r.2.mem ((c.tc : Thread Cert.ReferenceIdeal.nD Cert.ReferenceIdeal.τ).loc Cert.ReferenceIdeal.main_v126) i = v7 c i)
          ∧ (∀ i : (⟨2, ![1024, 1024]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.2.2.2 i = 1#1 → r.2.mem ((c.tc : Thread Cert.ReferenceIdeal.nD Cert.ReferenceIdeal.τ).loc Cert.ReferenceIdeal.main_v121) i = v8 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v7) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v5) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v10) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v9) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal_on_written6 [hKernel6Ideal : Cert.Kernel6Ideal.Facts] [hReference6Ideal : Cert.Reference6Ideal.Facts] [hOn_written6 : Cert.On_written6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)) →
    ∃ (v0 : (c : Dev Cert.Kernel6Ideal.nD) → Buf (Elt Ideal) ((c.tc : Thread Cert.Kernel6Ideal.nD Cert.Kernel6Ideal.τ).loc Cert.Kernel6Ideal.main_v0_0)) (v1 : (c : Dev Cert.Kernel6Ideal.nD) → Buf (Elt Ideal) ((c.tc : Thread Cert.Kernel6Ideal.nD Cert.Kernel6Ideal.τ).loc Cert.Kernel6Ideal.main_v0_1)) (v2 : (c : Dev Cert.Kernel6Ideal.nD) → Buf (Elt Ideal) ((c.tc : Thread Cert.Kernel6Ideal.nD Cert.Kernel6Ideal.τ).loc Cert.Kernel6Ideal.main_v0_2)) (v3 : (c : Dev Cert.Kernel6Ideal.nD) → Buf (Elt Ideal) ((c.tc : Thread Cert.Kernel6Ideal.nD Cert.Kernel6Ideal.τ).loc Cert.Kernel6Ideal.main_v0_3)) (v4 : (c : Dev Cert.Kernel6Ideal.nD) → Buf (Elt Ideal) ((c.tc : Thread Cert.Kernel6Ideal.nD Cert.Kernel6Ideal.τ).loc Cert.Kernel6Ideal.main_v0_4)) (v5 : (c : Dev Cert.Kernel6Ideal.nD) → Buf (Elt Ideal) ((c.tc : Thread Cert.Kernel6Ideal.nD Cert.Kernel6Ideal.τ).loc Cert.Kernel6Ideal.main_v0_5)) (v6 : (c : Dev Cert.Kernel6Ideal.nD) → Buf (Elt Ideal) ((c.tc : Thread Cert.Kernel6Ideal.nD Cert.Kernel6Ideal.τ).loc Cert.Kernel6Ideal.main_v0_6)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          (∀ i : (⟨2, ![8192, 1024]⟩ : Shape).Idx, (Cert.On_written6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5))).1 i = 1#1 → r.2.mem ((c.tc : Thread Cert.Kernel6Ideal.nD Cert.Kernel6Ideal.τ).loc Cert.Kernel6Ideal.main_v0_0) i = v0 c i)
          ∧ (∀ i : (⟨2, ![8192, 5632]⟩ : Shape).Idx, (Cert.On_written6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5))).2.1 i = 1#1 → r.2.mem ((c.tc : Thread Cert.Kernel6Ideal.nD Cert.Kernel6Ideal.τ).loc Cert.Kernel6Ideal.main_v0_1) i = v1 c i)
          ∧ (∀ i : (⟨2, ![8192, 2816]⟩ : Shape).Idx, (Cert.On_written6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5))).2.2.1 i = 1#1 → r.2.mem ((c.tc : Thread Cert.Kernel6Ideal.nD Cert.Kernel6Ideal.τ).loc Cert.Kernel6Ideal.main_v0_2) i = v2 c i)
          ∧ (∀ i : (⟨2, ![8192, 1024]⟩ : Shape).Idx, (Cert.On_written6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5))).2.2.2.1 i = 1#1 → r.2.mem ((c.tc : Thread Cert.Kernel6Ideal.nD Cert.Kernel6Ideal.τ).loc Cert.Kernel6Ideal.main_v0_3) i = v3 c i)
          ∧ (∀ i : (⟨2, ![8192, 1024]⟩ : Shape).Idx, (Cert.On_written6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5))).2.2.2.2.1 i = 1#1 → r.2.mem ((c.tc : Thread Cert.Kernel6Ideal.nD Cert.Kernel6Ideal.τ).loc Cert.Kernel6Ideal.main_v0_4) i = v4 c i)
          ∧ (∀ i : (⟨2, ![1, 1]⟩ : Shape).Idx, (Cert.On_written6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5))).2.2.2.2.2.1 i = 1#1 → r.2.mem ((c.tc : Thread Cert.Kernel6Ideal.nD Cert.Kernel6Ideal.τ).loc Cert.Kernel6Ideal.main_v0_5) i = v5 c i)
          ∧ (∀ i : (⟨2, ![1, 1024]⟩ : Shape).Idx, (Cert.On_written6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5))).2.2.2.2.2.2 i = 1#1 → r.2.mem ((c.tc : Thread Cert.Kernel6Ideal.nD Cert.Kernel6Ideal.τ).loc Cert.Kernel6Ideal.main_v0_6) i = v6 c i)
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          (∀ i : (⟨2, ![8192, 1024]⟩ : Shape).Idx, (Cert.On_written6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5))).1 i = 1#1 → r.2.mem ((c.tc : Thread Cert.Reference6Ideal.nD Cert.Reference6Ideal.τ).loc Cert.Reference6Ideal.main_v72) i = v0 c i)
          ∧ (∀ i : (⟨2, ![8192, 5632]⟩ : Shape).Idx, (Cert.On_written6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5))).2.1 i = 1#1 → r.2.mem ((c.tc : Thread Cert.Reference6Ideal.nD Cert.Reference6Ideal.τ).loc Cert.Reference6Ideal.main_v73) i = v1 c i)
          ∧ (∀ i : (⟨2, ![8192, 2816]⟩ : Shape).Idx, (Cert.On_written6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5))).2.2.1 i = 1#1 → r.2.mem ((c.tc : Thread Cert.Reference6Ideal.nD Cert.Reference6Ideal.τ).loc Cert.Reference6Ideal.main_v74) i = v2 c i)
          ∧ (∀ i : (⟨2, ![8192, 1024]⟩ : Shape).Idx, (Cert.On_written6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5))).2.2.2.1 i = 1#1 → r.2.mem ((c.tc : Thread Cert.Reference6Ideal.nD Cert.Reference6Ideal.τ).loc Cert.Reference6Ideal.main_v71) i = v3 c i)
          ∧ (∀ i : (⟨2, ![8192, 1024]⟩ : Shape).Idx, (Cert.On_written6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5))).2.2.2.2.1 i = 1#1 → r.2.mem ((c.tc : Thread Cert.Reference6Ideal.nD Cert.Reference6Ideal.τ).loc Cert.Reference6Ideal.main_v75) i = v4 c i)
          ∧ (∀ i : (⟨2, ![1, 1]⟩ : Shape).Idx, (Cert.On_written6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5))).2.2.2.2.2.1 i = 1#1 → r.2.mem ((c.tc : Thread Cert.Reference6Ideal.nD Cert.Reference6Ideal.τ).loc Cert.Reference6Ideal.main_v76) i = v5 c i)
          ∧ (∀ i : (⟨2, ![1, 1024]⟩ : Shape).Idx, (Cert.On_written6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5))).2.2.2.2.2.2 i = 1#1 → r.2.mem ((c.tc : Thread Cert.Reference6Ideal.nD Cert.Reference6Ideal.τ).loc Cert.Reference6Ideal.main_v55) i = v6 c i)
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5))

def preserves_Kernel7_Kernel7Ideal : Prop :=
  True

def algebraic_Kernel7Ideal_Reference7Ideal_on_written7_pre_finite7 [hKernel7Ideal : Cert.Kernel7Ideal.Facts] [hReference7Ideal : Cert.Reference7Ideal.Facts] [hPre_finite7 : Cert.Pre_finite7.Facts] [hOn_written7 : Cert.On_written7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_finite7 m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)) →
    ∃ (v0 : (c : Dev Cert.Kernel7Ideal.nD) → Buf (Elt Ideal) ((c.tc : Thread Cert.Kernel7Ideal.nD Cert.Kernel7Ideal.τ).loc Cert.Kernel7Ideal.main_v1_0)) (v1 : (c : Dev Cert.Kernel7Ideal.nD) → Buf (Elt Ideal) ((c.tc : Thread Cert.Kernel7Ideal.nD Cert.Kernel7Ideal.τ).loc Cert.Kernel7Ideal.main_v1_1)) (v2 : (c : Dev Cert.Kernel7Ideal.nD) → Buf (Elt Ideal) ((c.tc : Thread Cert.Kernel7Ideal.nD Cert.Kernel7Ideal.τ).loc Cert.Kernel7Ideal.main_v1_2)) (v3 : (c : Dev Cert.Kernel7Ideal.nD) → Buf (Elt Ideal) ((c.tc : Thread Cert.Kernel7Ideal.nD Cert.Kernel7Ideal.τ).loc Cert.Kernel7Ideal.main_v1_3)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          (∀ i : (⟨2, ![8192, 5632]⟩ : Shape).Idx, (Cert.On_written7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5))).1 i = 1#1 → r.2.mem ((c.tc : Thread Cert.Kernel7Ideal.nD Cert.Kernel7Ideal.τ).loc Cert.Kernel7Ideal.main_v1_0) i = v0 c i)
          ∧ (∀ i : (⟨2, ![8192, 1024]⟩ : Shape).Idx, (Cert.On_written7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5))).2.1 i = 1#1 → r.2.mem ((c.tc : Thread Cert.Kernel7Ideal.nD Cert.Kernel7Ideal.τ).loc Cert.Kernel7Ideal.main_v1_1) i = v1 c i)
          ∧ (∀ i : (⟨2, ![8192, 1024]⟩ : Shape).Idx, (Cert.On_written7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5))).2.2.1 i = 1#1 → r.2.mem ((c.tc : Thread Cert.Kernel7Ideal.nD Cert.Kernel7Ideal.τ).loc Cert.Kernel7Ideal.main_v1_2) i = v2 c i)
          ∧ (∀ i : (⟨2, ![1, 1024]⟩ : Shape).Idx, (Cert.On_written7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5))).2.2.2 i = 1#1 → r.2.mem ((c.tc : Thread Cert.Kernel7Ideal.nD Cert.Kernel7Ideal.τ).loc Cert.Kernel7Ideal.main_v1_3) i = v3 c i)
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          (∀ i : (⟨2, ![8192, 5632]⟩ : Shape).Idx, (Cert.On_written7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5))).1 i = 1#1 → r.2.mem ((c.tc : Thread Cert.Reference7Ideal.nD Cert.Reference7Ideal.τ).loc Cert.Reference7Ideal.main_v52) i = v0 c i)
          ∧ (∀ i : (⟨2, ![8192, 1024]⟩ : Shape).Idx, (Cert.On_written7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5))).2.1 i = 1#1 → r.2.mem ((c.tc : Thread Cert.Reference7Ideal.nD Cert.Reference7Ideal.τ).loc Cert.Reference7Ideal.main_v51) i = v1 c i)
          ∧ (∀ i : (⟨2, ![8192, 1024]⟩ : Shape).Idx, (Cert.On_written7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5))).2.2.1 i = 1#1 → r.2.mem ((c.tc : Thread Cert.Reference7Ideal.nD Cert.Reference7Ideal.τ).loc Cert.Reference7Ideal.main_v53) i = v2 c i)
          ∧ (∀ i : (⟨2, ![1, 1024]⟩ : Shape).Idx, (Cert.On_written7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5))).2.2.2 i = 1#1 → r.2.mem ((c.tc : Thread Cert.Reference7Ideal.nD Cert.Reference7Ideal.τ).loc Cert.Reference7Ideal.main_v34) i = v3 c i)
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_finite7 : Cert.Pre_finite7.Facts) (hOn_written : Cert.On_written.Facts) (hOn_written6 : Cert.On_written6.Facts) (hOn_written7 : Cert.On_written7.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Kernel7Ideal_pre_finite7 (hKernel7Ideal := hKernel7Ideal) (hPre_finite7 := hPre_finite7)
    ∧ quiescent_Reference7Ideal (hReference7Ideal := hReference7Ideal)
    ∧ quiescent_Reference7Ideal_pre_finite7 (hReference7Ideal := hReference7Ideal) (hPre_finite7 := hPre_finite7)
    ∧ preserves_Kernel_KernelIdeal
    ∧ algebraic_KernelIdeal_ReferenceIdeal_on_written (hKernelIdeal := hKernelIdeal) (hReferenceIdeal := hReferenceIdeal) (hOn_written := hOn_written)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal_on_written6 (hKernel6Ideal := hKernel6Ideal) (hReference6Ideal := hReference6Ideal) (hOn_written6 := hOn_written6)
    ∧ preserves_Kernel7_Kernel7Ideal
    ∧ algebraic_Kernel7Ideal_Reference7Ideal_on_written7_pre_finite7 (hKernel7Ideal := hKernel7Ideal) (hReference7Ideal := hReference7Ideal) (hPre_finite7 := hPre_finite7) (hOn_written7 := hOn_written7)
-- ==== On_written.lean ====
abbrev S8192x1024 : Shape := ⟨2, ![8192, 1024]⟩
abbrev S8192x6144 : Shape := ⟨2, ![8192, 6144]⟩
abbrev S1x1024 : Shape := ⟨2, ![1, 1024]⟩
abbrev S1x8x128x128 : Shape := ⟨4, ![1, 8, 128, 128]⟩
abbrev S1x8x128 : Shape := ⟨3, ![1, 8, 128]⟩
abbrev S1024x1024 : Shape := ⟨2, ![1024, 1024]⟩
abbrev S6144 : Shape := ⟨1, ![6144]⟩
abbrev S1x6144 : Shape := ⟨2, ![1, 6144]⟩
abbrev S_ : Shape := ⟨0, ![]⟩
abbrev S8x128x128 : Shape := ⟨3, ![8, 128, 128]⟩
abbrev S8x128 : Shape := ⟨2, ![8, 128]⟩

class Facts : Prop where
  bcast_S6144_S1x6144_1 : S6144.BroadcastsInDim S1x6144 (![1] : Fin 1 → Fin S1x6144.rank)
  bcast_S_S1x6144 : S_.BroadcastsInDim S1x6144 (![] : Fin 0 → Fin S1x6144.rank)
  bcast_S1x6144_S8192x6144_0_1 : S1x6144.BroadcastsInDim S8192x6144 (![0, 1] : Fin 2 → Fin S8192x6144.rank)
  bcast_S_S8192x1024 : S_.BroadcastsInDim S8192x1024 (![] : Fin 0 → Fin S8192x1024.rank)
  bcast_S_S8x128x128 : S_.BroadcastsInDim S8x128x128 (![] : Fin 0 → Fin S8x128x128.rank)
  bcast_S_S8x128 : S_.BroadcastsInDim S8x128 (![] : Fin 0 → Fin S8x128.rank)
  bcast_S_S1x1024 : S_.BroadcastsInDim S1x1024 (![] : Fin 0 → Fin S1x1024.rank)
  bcast_S_S1024x1024 : S_.BroadcastsInDim S1024x1024 (![] : Fin 0 → Fin S1024x1024.rank)

variable [Facts]

def fn_part1 {F : FTy → Type} [FloatOps F] (main_v7 : IVec S8192x6144 1) (main_v8 : IVec S8192x1024 1) (main_v9 : IVec S8x128x128 1) (main_v10 : IVec S8x128 1) (main_v11 : IVec S1x1024 1) (main_v12 : IVec S1x1024 1) (main_v13 : IVec S1024x1024 1) (main_v14 : IVec S1024x1024 1) : IVec S8192x1024 1 × IVec S8192x6144 1 × IVec S8x128x128 1 × IVec S8x128 1 × IVec S1x1024 1 × IVec S1x1024 1 × IVec S1024x1024 1 × IVec S1024x1024 1 × IVec S1024x1024 1 :=
  let main_c_8 : IVec S_ 1 := constantI S_ 1 1#1
  let main_v15 : IVec S1024x1024 1 := broadcastInDim S1024x1024 ![] bcast_S_S1024x1024 main_c_8
  (main_v8, main_v7, main_v9, main_v10, main_v11, main_v12, main_v13, main_v14, main_v15)

def fn {F : FTy → Type} [FloatOps F] (main_arg0 : FVec F S8192x1024 .bf16) (main_arg1 : FVec F S8192x6144 .bf16) (main_arg2 : FVec F S8192x1024 .bf16) (main_arg3 : FVec F S1x1024 .f32) (main_arg4 : FVec F S1x1024 .f32) (main_arg5 : FVec F S1x8x128x128 .f32) (main_arg6 : FVec F S1x8x128 .f32) (main_arg7 : FVec F S1024x1024 .bf16) (main_arg8 : FVec F S1024x1024 .bf16) (main_arg9 : FVec F S1024x1024 .bf16) : IVec S8192x1024 1 × IVec S8192x6144 1 × IVec S8x128x128 1 × IVec S8x128 1 × IVec S1x1024 1 × IVec S1x1024 1 × IVec S1024x1024 1 × IVec S1024x1024 1 × IVec S1024x1024 1 :=
  let main_v0 : IVec S6144 32 := iotaInDim S6144 32 0
  let main_v1 : IVec S1x6144 32 := broadcastInDim S1x6144 ![1] bcast_S6144_S1x6144_1 main_v0
  let main_c : IVec S_ 32 := constantI S_ 32 2048#32
  let main_v2 : IVec S1x6144 32 := broadcastInDim S1x6144 ![] bcast_S_S1x6144 main_c
  let main_v3 : IVec S1x6144 1 := cmpi .sge main_v1 main_v2
  let main_c_0 : IVec S_ 32 := constantI S_ 32 4096#32
  let main_v4 : IVec S1x6144 32 := broadcastInDim S1x6144 ![] bcast_S_S1x6144 main_c_0
  let main_v5 : IVec S1x6144 1 := cmpi .slt main_v1 main_v4
  let main_v6 : IVec S1x6144 1 := andi main_v3 main_v5
  let main_v7 : IVec S8192x6144 1 := broadcastInDim S8192x6144 ![0, 1] bcast_S1x6144_S8192x6144_0_1 main_v6
  let main_c_1 : IVec S_ 1 := constantI S_ 1 1#1
  let main_v8 : IVec S8192x1024 1 := broadcastInDim S8192x1024 ![] bcast_S_S8192x1024 main_c_1
  let main_c_2 : IVec S_ 1 := constantI S_ 1 0#1
  let main_v9 : IVec S8x128x128 1 := broadcastInDim S8x128x128 ![] bcast_S_S8x128x128 main_c_2
  let main_c_3 : IVec S_ 1 := constantI S_ 1 0#1
  let main_v10 : IVec S8x128 1 := broadcastInDim S8x128 ![] bcast_S_S8x128 main_c_3
  let main_c_4 : IVec S_ 1 := constantI S_ 1 0#1
  let main_v11 : IVec S1x1024 1 := broadcastInDim S1x1024 ![] bcast_S_S1x1024 main_c_4
  let main_c_5 : IVec S_ 1 := constantI S_ 1 0#1
  let main_v12 : IVec S1x1024 1 := broadcastInDim S1x1024 ![] bcast_S_S1x1024 main_c_5
  let main_c_6 : IVec S_ 1 := constantI S_ 1 1#1
  let main_v13 : IVec S1024x1024 1 := broadcastInDim S1024x1024 ![] bcast_S_S1024x1024 main_c_6
  let main_c_7 : IVec S_ 1 := constantI S_ 1 1#1
  let main_v14 : IVec S1024x1024 1 := broadcastInDim S1024x1024 ![] bcast_S_S1024x1024 main_c_7
  fn_part1 (F := F) main_v7 main_v8 main_v9 main_v10 main_v11 main_v12 main_v13 main_v14
-- ==== On_written6.lean ====
abbrev S8192x1024 : Shape := ⟨2, ![8192, 1024]⟩
abbrev S1x1024 : Shape := ⟨2, ![1, 1024]⟩
abbrev S4x1024x1408 : Shape := ⟨3, ![4, 1024, 1408]⟩
abbrev S2816x1024 : Shape := ⟨2, ![2816, 1024]⟩
abbrev S_ : Shape := ⟨0, ![]⟩
abbrev S8192x5632 : Shape := ⟨2, ![8192, 5632]⟩
abbrev S8192x2816 : Shape := ⟨2, ![8192, 2816]⟩
abbrev S1x1 : Shape := ⟨2, ![1, 1]⟩

class Facts : Prop where
  bcast_S_S8192x1024 : S_.BroadcastsInDim S8192x1024 (![] : Fin 0 → Fin S8192x1024.rank)
  bcast_S_S8192x5632 : S_.BroadcastsInDim S8192x5632 (![] : Fin 0 → Fin S8192x5632.rank)
  bcast_S_S8192x2816 : S_.BroadcastsInDim S8192x2816 (![] : Fin 0 → Fin S8192x2816.rank)
  bcast_S_S1x1 : S_.BroadcastsInDim S1x1 (![] : Fin 0 → Fin S1x1.rank)
  bcast_S_S1x1024 : S_.BroadcastsInDim S1x1024 (![] : Fin 0 → Fin S1x1024.rank)

variable [Facts]

def fn {F : FTy → Type} [FloatOps F] (main_arg0 : FVec F S8192x1024 .f32) (main_arg1 : FVec F S1x1024 .f32) (main_arg2 : FVec F S4x1024x1408 .bf16) (main_arg3 : FVec F S2816x1024 .bf16) (main_arg4 : FVec F S1x1024 .f32) (main_arg5 : FVec F S8192x1024 .f32) : IVec S8192x1024 1 × IVec S8192x5632 1 × IVec S8192x2816 1 × IVec S8192x1024 1 × IVec S8192x1024 1 × IVec S1x1 1 × IVec S1x1024 1 :=
  let main_c : IVec S_ 1 := constantI S_ 1 1#1
  let main_v0 : IVec S8192x1024 1 := broadcastInDim S8192x1024 ![] bcast_S_S8192x1024 main_c
  let main_c_0 : IVec S_ 1 := constantI S_ 1 1#1
  let main_v1 : IVec S8192x5632 1 := broadcastInDim S8192x5632 ![] bcast_S_S8192x5632 main_c_0
  let main_c_1 : IVec S_ 1 := constantI S_ 1 1#1
  let main_v2 : IVec S8192x2816 1 := broadcastInDim S8192x2816 ![] bcast_S_S8192x2816 main_c_1
  let main_c_2 : IVec S_ 1 := constantI S_ 1 0#1
  let main_v3 : IVec S8192x1024 1 := broadcastInDim S8192x1024 ![] bcast_S_S8192x1024 main_c_2
  let main_c_3 : IVec S_ 1 := constantI S_ 1 0#1
  let main_v4 : IVec S8192x1024 1 := broadcastInDim S8192x1024 ![] bcast_S_S8192x1024 main_c_3
  let main_c_4 : IVec S_ 1 := constantI S_ 1 1#1
  let main_v5 : IVec S1x1 1 := broadcastInDim S1x1 ![] bcast_S_S1x1 main_c_4
  let main_c_5 : IVec S_ 1 := constantI S_ 1 1#1
  let main_v6 : IVec S1x1024 1 := broadcastInDim S1x1024 ![] bcast_S_S1x1024 main_c_5
  (main_v0, main_v1, main_v2, main_v3, main_v4, main_v5, main_v6)
-- ==== On_written7.lean ====
abbrev S8192x1024 : Shape := ⟨2, ![8192, 1024]⟩
abbrev S8192x5632 : Shape := ⟨2, ![8192, 5632]⟩
abbrev S2816x1024 : Shape := ⟨2, ![2816, 1024]⟩
abbrev S4x1024x1408 : Shape := ⟨3, ![4, 1024, 1408]⟩
abbrev S1x1024 : Shape := ⟨2, ![1, 1024]⟩
abbrev S_ : Shape := ⟨0, ![]⟩

class Facts : Prop where
  bcast_S_S8192x5632 : S_.BroadcastsInDim S8192x5632 (![] : Fin 0 → Fin S8192x5632.rank)
  bcast_S_S8192x1024 : S_.BroadcastsInDim S8192x1024 (![] : Fin 0 → Fin S8192x1024.rank)
  bcast_S_S1x1024 : S_.BroadcastsInDim S1x1024 (![] : Fin 0 → Fin S1x1024.rank)

variable [Facts]

def fn {F : FTy → Type} [FloatOps F] (main_arg0 : FVec F S8192x1024 .f32) (main_arg1 : FVec F S8192x5632 .bf16) (main_arg2 : FVec F S2816x1024 .bf16) (main_arg3 : FVec F S4x1024x1408 .bf16) (main_arg4 : FVec F S8192x1024 .f32) (main_arg5 : FVec F S1x1024 .f32) : IVec S8192x5632 1 × IVec S8192x1024 1 × IVec S8192x1024 1 × IVec S1x1024 1 :=
  let main_c : IVec S_ 1 := constantI S_ 1 1#1
  let main_v0 : IVec S8192x5632 1 := broadcastInDim S8192x5632 ![] bcast_S_S8192x5632 main_c
  let main_c_0 : IVec S_ 1 := constantI S_ 1 0#1
  let main_v1 : IVec S8192x1024 1 := broadcastInDim S8192x1024 ![] bcast_S_S8192x1024 main_c_0
  let main_c_1 : IVec S_ 1 := constantI S_ 1 0#1
  let main_v2 : IVec S8192x1024 1 := broadcastInDim S8192x1024 ![] bcast_S_S8192x1024 main_c_1
  let main_c_2 : IVec S_ 1 := constantI S_ 1 1#1
  let main_v3 : IVec S1x1024 1 := broadcastInDim S1x1024 ![] bcast_S_S1x1024 main_c_2
  (main_v0, main_v1, main_v2, main_v3)
-- ==== Pre_finite7.lean ====
abbrev S8192x1024 : Shape := ⟨2, ![8192, 1024]⟩
abbrev S8192x5632 : Shape := ⟨2, ![8192, 5632]⟩
abbrev S2816x1024 : Shape := ⟨2, ![2816, 1024]⟩
abbrev S4x1024x1408 : Shape := ⟨3, ![4, 1024, 1408]⟩
abbrev S1x1024 : Shape := ⟨2, ![1, 1024]⟩
abbrev S8192x2816 : Shape := ⟨2, ![8192, 2816]⟩
abbrev S_ : Shape := ⟨0, ![]⟩

class Facts : Prop where
  slices_S8192x5632_S8192x2816_0_2816 : S8192x5632.Slices ![0, 2816] S8192x2816
  bitsLt_bf16_f32 : FTy.bits .bf16 < FTy.bits .f32
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S8192x2816 : S_.BroadcastsInDim S8192x2816 (![] : Fin 0 → Fin S8192x2816.rank)
  reducesTo_S8192x2816_S_d0_1 : S8192x2816.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn {F : FTy → Type} [FloatOps F] (main_arg0 : FVec F S8192x1024 .f32) (main_arg1 : FVec F S8192x5632 .bf16) (main_arg2 : FVec F S2816x1024 .bf16) (main_arg3 : FVec F S4x1024x1408 .bf16) (main_arg4 : FVec F S8192x1024 .f32) (main_arg5 : FVec F S1x1024 .f32) : IVec S_ 1 :=
  let main_v0 : FVec F S8192x2816 .bf16 := (extractStridedSlice S8192x2816 ![0, 2816] · slices_S8192x5632_S8192x2816_0_2816) main_arg1
  let main_v1 : FVec F S8192x2816 .f32 := (extf .f32 · bitsLt_bf16_f32) main_v0
  let main_v2 : FVec F S2816x1024 .f32 := (extf .f32 · bitsLt_bf16_f32) main_arg2
  let main_v3 : FVec F S8192x1024 .f32 := Host.absf main_arg0
  let main_cst : FVec F S_ .f32 := constant S_ .f32 0x7F800000#32
  let main_v4 : FVec F S8192x1024 .f32 := broadcastInDim S8192x1024 ![] bcast_S_S8192x1024 main_cst
  let main_v5 : IVec S8192x1024 1 := cmpf .olt main_v3 main_v4
  let main_c : IVec S_ 1 := constantI S_ 1 1#1
  let main_v6 : IVec S_ 1 := (fun x v => Host.reduce IntOp.andi x v reducesTo_S8192x1024_S_d0_1 h_S_) main_v5 main_c
  let main_v7 : FVec F S8192x2816 .f32 := Host.absf main_v1
  let main_cst_0 : FVec F S_ .f32 := constant S_ .f32 0x7F800000#32
  let main_v8 : FVec F S8192x2816 .f32 := broadcastInDim S8192x2816 ![] bcast_S_S8192x2816 main_cst_0
  let main_v9 : IVec S8192x2816 1 := cmpf .olt main_v7 main_v8
  let main_c_1 : IVec S_ 1 := constantI S_ 1 1#1
  let main_v10 : IVec S_ 1 := (fun x v => Host.reduce IntOp.andi x v reducesTo_S8192x2816_S_d0_1 h_S_) main_v9 main_c_1
  let main_v11 : IVec S_ 1 := andi main_v6 main_v10
  let main_v12 : FVec F S2816x1024 .f32 := Host.absf main_v2
  let main_cst_2 : FVec F S_ .f32 := constant S_ .f32 0x7F800000#32
  let main_v13 : FVec F S2816x1024 .f32 := broadcastInDim S2816x1024 ![] bcast_S_S2816x1024 main_cst_2
  let main_v14 : IVec S2816x1024 1 := cmpf .olt main_v12 main_v13
  let main_c_3 : IVec S_ 1 := constantI S_ 1 1#1
  let main_v15 : IVec S_ 1 := (fun x v => Host.reduce IntOp.andi x v reducesTo_S2816x1024_S_d0_1 h_S_) main_v14 main_c_3
  let main_v16 : IVec S_ 1 := andi main_v11 main_v15
  main_v16
-- ==== Kernel.lean ====
abbrev S8192x1024 : Shape := ⟨2, ![8192, 1024]⟩
abbrev S8192x6144 : Shape := ⟨2, ![8192, 6144]⟩
abbrev S1x1024 : Shape := ⟨2, ![1, 1024]⟩
abbrev S1x8x128x128 : Shape := ⟨4, ![1, 8, 128, 128]⟩
abbrev S1x8x128 : Shape := ⟨3, ![1, 8, 128]⟩
abbrev S1024x1024 : Shape := ⟨2, ![1024, 1024]⟩
abbrev S_ : Shape := ⟨0, ![]⟩
abbrev S8192 : Shape := ⟨1, ![8192]⟩
abbrev S8192x1 : Shape := ⟨2, ![8192, 1]⟩
abbrev S64x128x8x128 : Shape := ⟨4, ![64, 128, 8, 128]⟩
abbrev S128x128 : Shape := ⟨2, ![128, 128]⟩
abbrev S1x128x128 : Shape := ⟨3, ![1, 128, 128]⟩
abbrev S8x128x128 : Shape := ⟨3, ![8, 128, 128]⟩
abbrev S8x64x128x128 : Shape := ⟨4, ![8, 64, 128, 128]⟩
abbrev S8x128 : Shape := ⟨2, ![8, 128]⟩
abbrev S128x8 : Shape := ⟨2, ![128, 8]⟩
abbrev S1x128x8x1 : Shape := ⟨4, ![1, 128, 8, 1]⟩
abbrev S256x1024 : Shape := ⟨2, ![256, 1024]⟩
abbrev S256x2048 : Shape := ⟨2, ![256, 2048]⟩
abbrev S256x4096 : Shape := ⟨2, ![256, 4096]⟩
abbrev S1x1x128x128 : Shape := ⟨4, ![1, 1, 128, 128]⟩
abbrev S256 : Shape := ⟨1, ![256]⟩
abbrev S256x1 : Shape := ⟨2, ![256, 1]⟩
abbrev S256x128 : Shape := ⟨2, ![256, 128]⟩
abbrev S2x128x128 : Shape := ⟨3, ![2, 128, 128]⟩
abbrev S128x1 : Shape := ⟨2, ![128, 1]⟩
abbrev S1x128x1 : Shape := ⟨3, ![1, 128, 1]⟩
abbrev S2x128 : Shape := ⟨2, ![2, 128]⟩
abbrev S128 : Shape := ⟨1, ![128]⟩
abbrev S1x128 : Shape := ⟨2, ![1, 128]⟩
abbrev S1024 : Shape := ⟨1, ![1024]⟩

abbrev nBuf : Space → Nat
  | .hbm => 141
  | .vmem => 37
  | .smem => 0
  | _ => 0

abbrev hbmTy0_0 (i : Nat) : BufTy := match i % 128 with
  | 0 => ⟨S8192x1024, .bf16⟩
  | 1 => ⟨S8192x6144, .bf16⟩
  | 2 => ⟨S8192x1024, .bf16⟩
  | 3 => ⟨S1x1024, .f32⟩
  | 4 => ⟨S1x1024, .f32⟩
  | 5 => ⟨S1x8x128x128, .f32⟩
  | 6 => ⟨S1x8x128, .f32⟩
  | 7 => ⟨S1024x1024, .bf16⟩
  | 8 => ⟨S1024x1024, .bf16⟩
  | 9 => ⟨S1024x1024, .bf16⟩
  | 10 => ⟨S8192x6144, .f32⟩
  | 11 => ⟨S8192x1024, .f32⟩
  | 12 => ⟨S8192x1024, .f32⟩
  | 13 => ⟨S8192x1024, .f32⟩
  | 14 => ⟨S8192x1024, .f32⟩
  | 15 => ⟨S8192x1024, .f32⟩
  | 16 => ⟨S8192x1024, .f32⟩
  | 17 => ⟨S_, .f32⟩
  | 18 => ⟨S8192x1024, .f32⟩
  | 19 => ⟨S8192x1024, .f32⟩
  | 20 => ⟨S8192x1024, .f32⟩
  | 21 => ⟨S_, .f32⟩
  | 22 => ⟨S8192x1024, .f32⟩
  | 23 => ⟨S8192x1024, .f32⟩
  | 24 => ⟨S8192x1024, .f32⟩
  | 25 => ⟨S_, .f32⟩
  | 26 => ⟨S8192x1024, .f32⟩
  | 27 => ⟨S8192x1024, .f32⟩
  | 28 => ⟨S_, .f32⟩
  | 29 => ⟨S8192x1024, .f32⟩
  | 30 => ⟨S8192x1024, .f32⟩
  | 31 => ⟨S8192x1024, .f32⟩
  | 32 => ⟨S8192x1024, .f32⟩
  | 33 => ⟨S8192x1024, .f32⟩
  | 34 => ⟨S_, .f32⟩
  | 35 => ⟨S8192x1024, .f32⟩
  | 36 => ⟨S8192x1024, .f32⟩
  | 37 => ⟨S8192x1024, .f32⟩
  | 38 => ⟨S_, .f32⟩
  | 39 => ⟨S8192x1024, .f32⟩
  | 40 => ⟨S8192x1024, .f32⟩
  | 41 => ⟨S8192x1024, .f32⟩
  | 42 => ⟨S_, .f32⟩
  | 43 => ⟨S8192x1024, .f32⟩
  | 44 => ⟨S8192x1024, .f32⟩
  | 45 => ⟨S_, .f32⟩
  | 46 => ⟨S8192x1024, .f32⟩
  | 47 => ⟨S8192x1024, .f32⟩
  | 48 => ⟨S8192x1024, .f32⟩
  | 49 => ⟨S_, .f32⟩
  | 50 => ⟨S8192, .f32⟩
  | 51 => ⟨S8192x1, .f32⟩
  | 52 => ⟨S_, .f32⟩
  | 53 => ⟨S8192x1, .f32⟩
  | 54 => ⟨S8192x1, .f32⟩
  | 55 => ⟨S8192x1024, .f32⟩
  | 56 => ⟨S8192x1024, .f32⟩
  | 57 => ⟨S8192x1024, .f32⟩
  | 58 => ⟨S_, .f32⟩
  | 59 => ⟨S8192, .f32⟩
  | 60 => ⟨S8192x1, .f32⟩
  | 61 => ⟨S_, .f32⟩
  | 62 => ⟨S8192x1, .f32⟩
  | 63 => ⟨S8192x1, .f32⟩
  | 64 => ⟨S8192x1024, .f32⟩
  | 65 => ⟨S8192x1024, .f32⟩
  | 66 => ⟨S_, .f32⟩
  | 67 => ⟨S8192x1, .f32⟩
  | 68 => ⟨S8192x1, .f32⟩
  | 69 => ⟨S8192x1, .f32⟩
  | 70 => ⟨S8192x1024, .f32⟩
  | 71 => ⟨S8192x1024, .f32⟩
  | 72 => ⟨S8192x1024, .f32⟩
  | 73 => ⟨S8192x1024, .f32⟩
  | 74 => ⟨S8192x1024, .f32⟩
  | 75 => ⟨S8192x1024, .f32⟩
  | 76 => ⟨S64x128x8x128, .f32⟩
  | 77 => ⟨S_, .i1⟩
  | 78 => ⟨S128x128, .i1⟩
  | 79 => ⟨S128x128, .i32⟩
  | 80 => ⟨S_, .i32⟩
  | 81 => ⟨S128x128, .i32⟩
  | 82 => ⟨S128x128, .i32⟩
  | 83 => ⟨S128x128, .i32⟩
  | 84 => ⟨S128x128, .i1⟩
  | 85 => ⟨S_, .i1⟩
  | 86 => ⟨S128x128, .i1⟩
  | 87 => ⟨S128x128, .i1⟩
  | 88 => ⟨S1x128x128, .i1⟩
  | 89 => ⟨S8x128x128, .f32⟩
  | 90 => ⟨S8x128x128, .f32⟩
  | 91 => ⟨S_, .f32⟩
  | 92 => ⟨S8x128x128, .f32⟩
  | 93 => ⟨S8x128x128, .i1⟩
  | 94 => ⟨S8x128x128, .f32⟩
  | 95 => ⟨S8x64x128x128, .f32⟩
  | 96 => ⟨S64x128x8x128, .f32⟩
  | 97 => ⟨S8x128, .f32⟩
  | 98 => ⟨S128x8, .f32⟩
  | 99 => ⟨S1x128x8x1, .f32⟩
  | 100 => ⟨S64x128x8x128, .f32⟩
  | 101 => ⟨S64x128x8x128, .f32⟩
  | 102 => ⟨S8192x1024, .f32⟩
  | 103 => ⟨S8192x1024, .f32⟩
  | 104 => ⟨S8192x1024, .f32⟩
  | 105 => ⟨S1024x1024, .f32⟩
  | 106 => ⟨S8192x1024, .f32⟩
  | 107 => ⟨S1024x1024, .f32⟩
  | 108 => ⟨S8192x1024, .f32⟩
  | 109 => ⟨S8192x1024, .f32⟩
  | 110 => ⟨S8192x1024, .f32⟩
  | 111 => ⟨S_, .f32⟩
  | 112 => ⟨S8192x1024, .f32⟩
  | 113 => ⟨S8192x1024, .f32⟩
  | 114 => ⟨S_, .f32⟩
  | 115 => ⟨S8192x1024, .f32⟩
  | 116 => ⟨S8192x1024, .f32⟩
  | 117 => ⟨S8192x1024, .f32⟩
  | 118 => ⟨S8192x1024, .f32⟩
  | 119 => ⟨S8192x1024, .f32⟩
  | 120 => ⟨S_, .f32⟩
  | 121 => ⟨S8192x1024, .f32⟩
  | 122 => ⟨S8192x1024, .f32⟩
  | 123 => ⟨S_, .f32⟩
  | 124 => ⟨S8192x1024, .f32⟩
  | 125 => ⟨S8192x1024, .f32⟩
  | 126 => ⟨S8192x1024, .f32⟩
  | 127 => ⟨S8192x1024, .f32⟩
  | _ => ⟨S8192x1024, .bf16⟩

abbrev hbmTy0_1 (i : Nat) : BufTy := match i % 128 with
  | 0 => ⟨S8192x1024, .bf16⟩
  | 1 => ⟨S8192x1024, .bf16⟩
  | 2 => ⟨S8192x1024, .bf16⟩
  | 3 => ⟨S8192x1024, .bf16⟩
  | 4 => ⟨S8192x1024, .bf16⟩
  | 5 => ⟨S8192x6144, .bf16⟩
  | 6 => ⟨S8x128x128, .f32⟩
  | 7 => ⟨S8x128, .f32⟩
  | 8 => ⟨S1x1024, .f32⟩
  | 9 => ⟨S1x1024, .f32⟩
  | 10 => ⟨S1024x1024, .f32⟩
  | 11 => ⟨S1024x1024, .f32⟩
  | 12 => ⟨S1024x1024, .f32⟩
  | _ => ⟨S8192x1024, .bf16⟩

abbrev hbmTy (i : Nat) : BufTy := match i / 128 with
  | 0 => hbmTy0_0 i
  | 1 => hbmTy0_1 i
  | _ => ⟨S8192x1024, .bf16⟩

abbrev bufTy : (tb : Table) → Fin (tcTables nBuf tb) → BufTy
  | .hbm, ⟨i, _⟩ => hbmTy i
  | .local _ .vmem, ⟨0, _⟩ => ⟨S256x1024, .bf16⟩
  | .local _ .vmem, ⟨1, _⟩ => ⟨S256x1024, .bf16⟩
  | .local _ .vmem, ⟨2, _⟩ => ⟨S256x2048, .bf16⟩
  | .local _ .vmem, ⟨3, _⟩ => ⟨S256x2048, .bf16⟩
  | .local _ .vmem, ⟨4, _⟩ => ⟨S256x2048, .bf16⟩
  | .local _ .vmem, ⟨5, _⟩ => ⟨S256x2048, .bf16⟩
  | .local _ .vmem, ⟨6, _⟩ => ⟨S256x1024, .bf16⟩
  | .local _ .vmem, ⟨7, _⟩ => ⟨S256x1024, .bf16⟩
  | .local _ .vmem, ⟨8, _⟩ => ⟨S256x1024, .bf16⟩
  | .local _ .vmem, ⟨9, _⟩ => ⟨S256x1024, .bf16⟩
  | .local _ .vmem, ⟨10, _⟩ => ⟨S256x1024, .bf16⟩
  | .local _ .vmem, ⟨11, _⟩ => ⟨S256x1024, .bf16⟩
  | .local _ .vmem, ⟨12, _⟩ => ⟨S256x1024, .bf16⟩
  | .local _ .vmem, ⟨13, _⟩ => ⟨S256x1024, .bf16⟩
  | .local _ .vmem, ⟨14, _⟩ => ⟨S256x1024, .bf16⟩
  | .local _ .vmem, ⟨15, _⟩ => ⟨S256x1024, .bf16⟩
  | .local _ .vmem, ⟨16, _⟩ => ⟨S1x1024, .f32⟩
  | .local _ .vmem, ⟨17, _⟩ => ⟨S1x1024, .f32⟩
  | .local _ .vmem, ⟨18, _⟩ => ⟨S1x8x128x128, .f32⟩
  | .local _ .vmem, ⟨19, _⟩ => ⟨S1x8x128, .f32⟩
  | .local _ .vmem, ⟨20, _⟩ => ⟨S1024x1024, .bf16⟩
  | .local _ .vmem, ⟨21, _⟩ => ⟨S1024x1024, .bf16⟩
  | .local _ .vmem, ⟨22, _⟩ => ⟨S1024x1024, .bf16⟩
  | .local _ .vmem, ⟨23, _⟩ => ⟨S256x1024, .bf16⟩
  | .local _ .vmem, ⟨24, _⟩ => ⟨S256x1024, .bf16⟩
  | .local _ .vmem, ⟨25, _⟩ => ⟨S256x4096, .bf16⟩
  | .local _ .vmem, ⟨26, _⟩ => ⟨S256x4096, .bf16⟩
  | .local _ .vmem, ⟨27, _⟩ => ⟨S8x128x128, .f32⟩
  | .local _ .vmem, ⟨28, _⟩ => ⟨S8x128, .f32⟩
  | .local _ .vmem, ⟨29, _⟩ => ⟨S1x1024, .f32⟩
  | .local _ .vmem, ⟨30, _⟩ => ⟨S1x1024, .f32⟩
  | .local _ .vmem, ⟨31, _⟩ => ⟨S8x128x128, .bf16⟩
  | .local _ .vmem, ⟨32, _⟩ => ⟨S8x128x128, .bf16⟩
  | .local _ .vmem, ⟨33, _⟩ => ⟨S128x8, .f32⟩
  | .local _ .vmem, ⟨34, _⟩ => ⟨S1024x1024, .f32⟩
  | .local _ .vmem, ⟨35, _⟩ => ⟨S1024x1024, .f32⟩
  | .local _ .vmem, ⟨36, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_0 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_1 : Ref sig .tc := ⟨.hbm, 25, rfl⟩
abbrev main_v13 : Ref sig .tc := ⟨.hbm, 26, rfl⟩
abbrev main_v14 : Ref sig .tc := ⟨.hbm, 27, rfl⟩
abbrev main_cst_2 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_3 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_4 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_5 : Ref sig .tc := ⟨.hbm, 42, rfl⟩
abbrev main_v26 : Ref sig .tc := ⟨.hbm, 43, rfl⟩
abbrev main_v27 : Ref sig .tc := ⟨.hbm, 44, rfl⟩
abbrev main_cst_6 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_7 : Ref sig .tc := ⟨.hbm, 49, rfl⟩
abbrev main_v31 : Ref sig .tc := ⟨.hbm, 50, rfl⟩
abbrev main_v32 : Ref sig .tc := ⟨.hbm, 51, rfl⟩
abbrev main_cst_8 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_9 : Ref sig .tc := ⟨.hbm, 58, rfl⟩
abbrev main_v38 : Ref sig .tc := ⟨.hbm, 59, rfl⟩
abbrev main_v39 : Ref sig .tc := ⟨.hbm, 60, rfl⟩
abbrev main_cst_10 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_cst_11 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_c : Ref sig .tc := ⟨.hbm, 77, rfl⟩
abbrev main_v54 : Ref sig .tc := ⟨.hbm, 78, rfl⟩
abbrev main_call0_v0 : Ref sig .tc := ⟨.hbm, 79, rfl⟩
abbrev main_call0_c : Ref sig .tc := ⟨.hbm, 80, rfl⟩
abbrev main_call0_v1 : Ref sig .tc := ⟨.hbm, 81, rfl⟩
abbrev main_call0_v2 : Ref sig .tc := ⟨.hbm, 82, rfl⟩
abbrev main_call0_v3 : Ref sig .tc := ⟨.hbm, 83, rfl⟩
abbrev main_call0_v4 : Ref sig .tc := ⟨.hbm, 84, rfl⟩
abbrev main_call0_c_0 : Ref sig .tc := ⟨.hbm, 85, rfl⟩
abbrev main_call0_v5 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_cst_12 : Ref sig .tc := ⟨.hbm, 91, rfl⟩
abbrev main_v59 : Ref sig .tc := ⟨.hbm, 92, rfl⟩
abbrev main_call1_v0 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_cst_13 : Ref sig .tc := ⟨.hbm, 111, rfl⟩
abbrev main_v77 : Ref sig .tc := ⟨.hbm, 112, rfl⟩
abbrev main_v78 : Ref sig .tc := ⟨.hbm, 113, rfl⟩
abbrev main_cst_14 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_cst_15 : Ref sig .tc := ⟨.hbm, 120, rfl⟩
abbrev main_v84 : Ref sig .tc := ⟨.hbm, 121, rfl⟩
abbrev main_v85 : Ref sig .tc := ⟨.hbm, 122, rfl⟩
abbrev main_cst_16 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94_0 : Ref sig .tc := ⟨.hbm, 132, rfl⟩
abbrev main_v94_1 : Ref sig .tc := ⟨.hbm, 133, rfl⟩
abbrev main_v94_2 : Ref sig .tc := ⟨.hbm, 134, rfl⟩
abbrev main_v94_3 : Ref sig .tc := ⟨.hbm, 135, rfl⟩
abbrev main_v94_4 : Ref sig .tc := ⟨.hbm, 136, rfl⟩
abbrev main_v94_5 : Ref sig .tc := ⟨.hbm, 137, rfl⟩
abbrev main_v94_6 : Ref sig .tc := ⟨.hbm, 138, rfl⟩
abbrev main_v94_7 : Ref sig .tc := ⟨.hbm, 139, rfl⟩
abbrev main_v94_8 : Ref sig .tc := ⟨.hbm, 140, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg16_1 : Ref sig .tc := ⟨.vmem, 26, rfl⟩
abbrev cc0_stg17_0 : Ref sig .tc := ⟨.vmem, 27, rfl⟩
abbrev cc0_stg18_0 : Ref sig .tc := ⟨.vmem, 28, rfl⟩
abbrev cc0_stg19_0 : Ref sig .tc := ⟨.vmem, 29, rfl⟩
abbrev cc0_stg20_0 : Ref sig .tc := ⟨.vmem, 30, rfl⟩
abbrev cc0_scratch0 : Ref sig .tc := ⟨.vmem, 31, rfl⟩
abbrev cc0_scratch1 : Ref sig .tc := ⟨.vmem, 32, rfl⟩
abbrev cc0_scratch2 : Ref sig .tc := ⟨.vmem, 33, rfl⟩
abbrev cc0_scratch3 : Ref sig .tc := ⟨.vmem, 34, rfl⟩
abbrev cc0_scratch4 : Ref sig .tc := ⟨.vmem, 35, rfl⟩
abbrev cc0_scratch5 : Ref sig .tc := ⟨.vmem, 36, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem14_0 : DmaSem sig := 22
abbrev cc0_sem15_0 : DmaSem sig := 23
abbrev cc0_sem15_1 : DmaSem sig := 24
abbrev cc0_sem16_0 : DmaSem sig := 25
abbrev cc0_sem16_1 : DmaSem sig := 26
abbrev cc0_sem17_0 : DmaSem sig := 27
abbrev cc0_sem18_0 : DmaSem sig := 28
abbrev cc0_sem19_0 : DmaSem sig := 29
abbrev cc0_sem20_0 : DmaSem sig := 30

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x8x128x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x8x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1024x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1024x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S256x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x4096 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 1 → Memref sig .tc .vmem S8x128x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S8x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1x1024 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]
-- ==== KernelIdeal.lean ====
variable {F : FTy → Type} [FloatOps F] [Named F]
def κ : String → Option EReal := fun
  | "gelu_cubic" => some ((80338380498831 / 1125899906842624 : ℝ) : EReal)
  | "gelu_cubic_slope" => some ((241015141496493 / 1125899906842624 : ℝ) : EReal)
  | _ => none
-- ==== ReferenceIdeal.lean ====
abbrev S8192x1024 : Shape := ⟨2, ![8192, 1024]⟩
abbrev S8192x6144 : Shape := ⟨2, ![8192, 6144]⟩
abbrev S1x1024 : Shape := ⟨2, ![1, 1024]⟩
abbrev S1x8x128x128 : Shape := ⟨4, ![1, 8, 128, 128]⟩
abbrev S1x8x128 : Shape := ⟨3, ![1, 8, 128]⟩
abbrev S1024x1024 : Shape := ⟨2, ![1024, 1024]⟩
abbrev S_ : Shape := ⟨0, ![]⟩
abbrev S8192 : Shape := ⟨1, ![8192]⟩
abbrev S8192x1 : Shape := ⟨2, ![8192, 1]⟩
abbrev S64x128x8x128 : Shape := ⟨4, ![64, 128, 8, 128]⟩
abbrev S128x128 : Shape := ⟨2, ![128, 128]⟩
abbrev S1x128x128 : Shape := ⟨3, ![1, 128, 128]⟩
abbrev S8x128x128 : Shape := ⟨3, ![8, 128, 128]⟩
abbrev S8x64x128x128 : Shape := ⟨4, ![8, 64, 128, 128]⟩
abbrev S8x128 : Shape := ⟨2, ![8, 128]⟩
abbrev S128x8 : Shape := ⟨2, ![128, 8]⟩
abbrev S1x128x8x1 : Shape := ⟨4, ![1, 128, 8, 1]⟩
abbrev S1024 : Shape := ⟨1, ![1024]⟩
abbrev S8192x2048 : Shape := ⟨2, ![8192, 2048]⟩

abbrev nBuf : Space → Nat
  | .hbm => 281
  | .vmem => 0
  | .smem => 0
  | _ => 0

abbrev hbmTy0_0 (i : Nat) : BufTy := match i % 128 with
  | 0 => ⟨S8192x1024, .bf16⟩
  | 1 => ⟨S8192x6144, .bf16⟩
  | 2 => ⟨S8192x1024, .bf16⟩
  | 3 => ⟨S1x1024, .f32⟩
  | 4 => ⟨S1x1024, .f32⟩
  | 5 => ⟨S1x8x128x128, .f32⟩
  | 6 => ⟨S1x8x128, .f32⟩
  | 7 => ⟨S1024x1024, .bf16⟩
  | 8 => ⟨S1024x1024, .bf16⟩
  | 9 => ⟨S1024x1024, .bf16⟩
  | 10 => ⟨S8192x6144, .f32⟩
  | 11 => ⟨S8192x1024, .f32⟩
  | 12 => ⟨S8192x1024, .f32⟩
  | 13 => ⟨S8192x1024, .f32⟩
  | 14 => ⟨S8192x1024, .f32⟩
  | 15 => ⟨S8192x1024, .f32⟩
  | 16 => ⟨S1024x1024, .f32⟩
  | 17 => ⟨S1024x1024, .f32⟩
  | 18 => ⟨S1024x1024, .f32⟩
  | 19 => ⟨S8192x1024, .f32⟩
  | 20 => ⟨S8192x1024, .f32⟩
  | 21 => ⟨S8192x1024, .f32⟩
  | 22 => ⟨S_, .f32⟩
  | 23 => ⟨S8192x1024, .f32⟩
  | 24 => ⟨S8192x1024, .f32⟩
  | 25 => ⟨S_, .f32⟩
  | 26 => ⟨S8192x1024, .f32⟩
  | 27 => ⟨S8192x1024, .f32⟩
  | 28 => ⟨S8192x1024, .f32⟩
  | 29 => ⟨S_, .f32⟩
  | 30 => ⟨S8192x1024, .f32⟩
  | 31 => ⟨S8192x1024, .f32⟩
  | 32 => ⟨S8192x1024, .f32⟩
  | 33 => ⟨S_, .f32⟩
  | 34 => ⟨S8192x1024, .f32⟩
  | 35 => ⟨S8192x1024, .f32⟩
  | 36 => ⟨S_, .f32⟩
  | 37 => ⟨S8192x1024, .f32⟩
  | 38 => ⟨S8192x1024, .f32⟩
  | 39 => ⟨S8192x1024, .f32⟩
  | 40 => ⟨S_, .f32⟩
  | 41 => ⟨S8192x1024, .f32⟩
  | 42 => ⟨S8192x1024, .f32⟩
  | 43 => ⟨S_, .f32⟩
  | 44 => ⟨S8192x1024, .f32⟩
  | 45 => ⟨S8192x1024, .f32⟩
  | 46 => ⟨S8192x1024, .f32⟩
  | 47 => ⟨S8192x1024, .f32⟩
  | 48 => ⟨S8192x1024, .f32⟩
  | 49 => ⟨S8192x1024, .f32⟩
  | 50 => ⟨S_, .f32⟩
  | 51 => ⟨S8192x1024, .f32⟩
  | 52 => ⟨S8192x1024, .f32⟩
  | 53 => ⟨S_, .f32⟩
  | 54 => ⟨S8192x1024, .f32⟩
  | 55 => ⟨S8192x1024, .f32⟩
  | 56 => ⟨S8192x1024, .f32⟩
  | 57 => ⟨S_, .f32⟩
  | 58 => ⟨S8192x1024, .f32⟩
  | 59 => ⟨S8192x1024, .f32⟩
  | 60 => ⟨S8192x1024, .f32⟩
  | 61 => ⟨S_, .f32⟩
  | 62 => ⟨S8192x1024, .f32⟩
  | 63 => ⟨S8192x1024, .f32⟩
  | 64 => ⟨S_, .f32⟩
  | 65 => ⟨S8192x1024, .f32⟩
  | 66 => ⟨S8192x1024, .f32⟩
  | 67 => ⟨S8192x1024, .f32⟩
  | 68 => ⟨S_, .f32⟩
  | 69 => ⟨S8192x1024, .f32⟩
  | 70 => ⟨S8192x1024, .f32⟩
  | 71 => ⟨S_, .f32⟩
  | 72 => ⟨S8192x1024, .f32⟩
  | 73 => ⟨S8192x1024, .f32⟩
  | 74 => ⟨S8192x1024, .f32⟩
  | 75 => ⟨S_, .f32⟩
  | 76 => ⟨S8192, .f32⟩
  | 77 => ⟨S8192x1, .f32⟩
  | 78 => ⟨S_, .f32⟩
  | 79 => ⟨S8192x1, .f32⟩
  | 80 => ⟨S8192x1, .f32⟩
  | 81 => ⟨S8192x1024, .f32⟩
  | 82 => ⟨S8192x1024, .f32⟩
  | 83 => ⟨S8192x1024, .f32⟩
  | 84 => ⟨S_, .f32⟩
  | 85 => ⟨S8192x1024, .f32⟩
  | 86 => ⟨S8192x1024, .f32⟩
  | 87 => ⟨S_, .f32⟩
  | 88 => ⟨S8192, .f32⟩
  | 89 => ⟨S8192x1, .f32⟩
  | 90 => ⟨S_, .f32⟩
  | 91 => ⟨S8192x1, .f32⟩
  | 92 => ⟨S8192x1, .f32⟩
  | 93 => ⟨S8192x1024, .f32⟩
  | 94 => ⟨S8192x1024, .f32⟩
  | 95 => ⟨S_, .f32⟩
  | 96 => ⟨S8192x1, .f32⟩
  | 97 => ⟨S8192x1, .f32⟩
  | 98 => ⟨S8192x1, .f32⟩
  | 99 => ⟨S8192x1, .f32⟩
  | 100 => ⟨S_, .f32⟩
  | 101 => ⟨S8192x1, .f32⟩
  | 102 => ⟨S8192x1, .f32⟩
  | 103 => ⟨S8192x1024, .f32⟩
  | 104 => ⟨S8192x1024, .f32⟩
  | 105 => ⟨S8192x1024, .f32⟩
  | 106 => ⟨S8192x1024, .f32⟩
  | 107 => ⟨S8192x1024, .f32⟩
  | 108 => ⟨S8192x1024, .f32⟩
  | 109 => ⟨S64x128x8x128, .f32⟩
  | 110 => ⟨S_, .i1⟩
  | 111 => ⟨S128x128, .i1⟩
  | 112 => ⟨S128x128, .i32⟩
  | 113 => ⟨S_, .i32⟩
  | 114 => ⟨S128x128, .i32⟩
  | 115 => ⟨S128x128, .i32⟩
  | 116 => ⟨S128x128, .i32⟩
  | 117 => ⟨S128x128, .i1⟩
  | 118 => ⟨S_, .i1⟩
  | 119 => ⟨S128x128, .i1⟩
  | 120 => ⟨S128x128, .i1⟩
  | 121 => ⟨S1x128x128, .i1⟩
  | 122 => ⟨S8x128x128, .f32⟩
  | 123 => ⟨S8x128x128, .f32⟩
  | 124 => ⟨S_, .f32⟩
  | 125 => ⟨S8x128x128, .f32⟩
  | 126 => ⟨S8x128x128, .i1⟩
  | 127 => ⟨S8x128x128, .f32⟩
  | _ => ⟨S8192x1024, .bf16⟩

abbrev hbmTy0_1 (i : Nat) : BufTy := match i % 128 with
  | 0 => ⟨S_, .f32⟩
  | 1 => ⟨S8x128x128, .f32⟩
  | 2 => ⟨S8x64x128x128, .f32⟩
  | 3 => ⟨S64x128x8x128, .f32⟩
  | 4 => ⟨S8x128, .f32⟩
  | 5 => ⟨S128x8, .f32⟩
  | 6 => ⟨S1x128x8x1, .f32⟩
  | 7 => ⟨S64x128x8x128, .f32⟩
  | 8 => ⟨S64x128x8x128, .f32⟩
  | 9 => ⟨S8192x1024, .f32⟩
  | 10 => ⟨S8192x1024, .f32⟩
  | 11 => ⟨S8192x1024, .f32⟩
  | 12 => ⟨S8192x1024, .f32⟩
  | 13 => ⟨S_, .f32⟩
  | 14 => ⟨S8192x1024, .f32⟩
  | 15 => ⟨S8192x1024, .f32⟩
  | 16 => ⟨S_, .f32⟩
  | 17 => ⟨S8192x1024, .f32⟩
  | 18 => ⟨S8192x1024, .f32⟩
  | 19 => ⟨S_, .f32⟩
  | 20 => ⟨S8192x1024, .f32⟩
  | 21 => ⟨S8192x1024, .f32⟩
  | 22 => ⟨S8192x1024, .f32⟩
  | 23 => ⟨S8192x1024, .f32⟩
  | 24 => ⟨S8192x1024, .f32⟩
  | 25 => ⟨S8192x1024, .f32⟩
  | 26 => ⟨S8192x1024, .f32⟩
  | 27 => ⟨S_, .f32⟩
  | 28 => ⟨S8192x1024, .f32⟩
  | 29 => ⟨S8192x1024, .f32⟩
  | 30 => ⟨S_, .f32⟩
  | 31 => ⟨S8192x1024, .f32⟩
  | 32 => ⟨S8192x1024, .f32⟩
  | 33 => ⟨S_, .f32⟩
  | 34 => ⟨S8192x1024, .f32⟩
  | 35 => ⟨S8192x1024, .f32⟩
  | 36 => ⟨S8192x1024, .f32⟩
  | 37 => ⟨S8192x1024, .f32⟩
  | 38 => ⟨S8192x1024, .f32⟩
  | 39 => ⟨S8192x1024, .f32⟩
  | 40 => ⟨S8192x1024, .f32⟩
  | 41 => ⟨S8192x1024, .f32⟩
  | 42 => ⟨S1024x1024, .f32⟩
  | 43 => ⟨S1024x1024, .f32⟩
  | 44 => ⟨S8192x1024, .f32⟩
  | 45 => ⟨S8192x1024, .f32⟩
  | 46 => ⟨S8192x1024, .f32⟩
  | 47 => ⟨S1024x1024, .f32⟩
  | 48 => ⟨S1024x1024, .f32⟩
  | 49 => ⟨S8192x1024, .f32⟩
  | 50 => ⟨S8192x1024, .f32⟩
  | 51 => ⟨S8192x1024, .f32⟩
  | 52 => ⟨S8192x1024, .f32⟩
  | 53 => ⟨S1024x1024, .f32⟩
  | 54 => ⟨S1024x1024, .f32⟩
  | 55 => ⟨S8192x1024, .f32⟩
  | 56 => ⟨S8192x1024, .f32⟩
  | 57 => ⟨S8192x1024, .f32⟩
  | 58 => ⟨S8192x1024, .f32⟩
  | 59 => ⟨S64x128x8x128, .f32⟩
  | 60 => ⟨S_, .f32⟩
  | 61 => ⟨S128x8, .f32⟩
  | 62 => ⟨S1x128x8x1, .f32⟩
  | 63 => ⟨S_, .f32⟩
  | 64 => ⟨S128x8, .f32⟩
  | 65 => ⟨S8x128, .f32⟩
  | 66 => ⟨S1x8x128, .f32⟩
  | 67 => ⟨S8x64x128x128, .f32⟩
  | 68 => ⟨S8x128x128, .f32⟩
  | 69 => ⟨S8x64x128x128, .f32⟩
  | 70 => ⟨S64x128x8x128, .f32⟩
  | 71 => ⟨S_, .f32⟩
  | 72 => ⟨S8x128x128, .f32⟩
  | 73 => ⟨S8x128x128, .f32⟩
  | 74 => ⟨S1x8x128x128, .f32⟩
  | 75 => ⟨S8192x1024, .f32⟩
  | 76 => ⟨S_, .f32⟩
  | 77 => ⟨S1024, .f32⟩
  | 78 => ⟨S1x1024, .f32⟩
  | 79 => ⟨S8192x1024, .f32⟩
  | 80 => ⟨S_, .f32⟩
  | 81 => ⟨S1024, .f32⟩
  | 82 => ⟨S1x1024, .f32⟩
  | 83 => ⟨S8192x1024, .f32⟩
  | 84 => ⟨S8192x1024, .f32⟩
  | 85 => ⟨S8192x1024, .f32⟩
  | 86 => ⟨S_, .f32⟩
  | 87 => ⟨S8192, .f32⟩
  | 88 => ⟨S8192x1, .f32⟩
  | 89 => ⟨S8192x1024, .f32⟩
  | 90 => ⟨S8192x1024, .f32⟩
  | 91 => ⟨S8192x1, .f32⟩
  | 92 => ⟨S8192x1024, .f32⟩
  | 93 => ⟨S_, .f32⟩
  | 94 => ⟨S8192, .f32⟩
  | 95 => ⟨S8192x1, .f32⟩
  | 96 => ⟨S_, .f32⟩
  | 97 => ⟨S8192x1, .f32⟩
  | 98 => ⟨S8192x1, .f32⟩
  | 99 => ⟨S_, .f32⟩
  | 100 => ⟨S8192, .f32⟩
  | 101 => ⟨S8192x1024, .f32⟩
  | 102 => ⟨S8192x1024, .f32⟩
  | 103 => ⟨S8192x1024, .f32⟩
  | 104 => ⟨S_, .f32⟩
  | 105 => ⟨S8192, .f32⟩
  | 106 => ⟨S8192x1, .f32⟩
  | 107 => ⟨S8192x1024, .f32⟩
  | 108 => ⟨S8192x1, .f32⟩
  | 109 => ⟨S_, .f32⟩
  | 110 => ⟨S8192x1, .f32⟩
  | 111 => ⟨S8192x1, .f32⟩
  | 112 => ⟨S_, .f32⟩
  | 113 => ⟨S8192, .f32⟩
  | 114 => ⟨S8192x1024, .f32⟩
  | 115 => ⟨S8192x1024, .f32⟩
  | 116 => ⟨S8192x1024, .f32⟩
  | 117 => ⟨S8192x1024, .f32⟩
  | 118 => ⟨S_, .f32⟩
  | 119 => ⟨S8192x1024, .f32⟩
  | 120 => ⟨S8192x1024, .f32⟩
  | 121 => ⟨S8192x1024, .f32⟩
  | 122 => ⟨S_, .f32⟩
  | 123 => ⟨S8192x1024, .f32⟩
  | 124 => ⟨S8192x1024, .f32⟩
  | 125 => ⟨S8192x1024, .f32⟩
  | 126 => ⟨S_, .f32⟩
  | 127 => ⟨S8192x1024, .f32⟩
  | _ => ⟨S8192x1024, .bf16⟩

abbrev hbmTy0_2 (i : Nat) : BufTy := match i % 128 with
  | 0 => ⟨S8192x1024, .f32⟩
  | 1 => ⟨S8192x1024, .f32⟩
  | 2 => ⟨S8192x1024, .f32⟩
  | 3 => ⟨S8192x1024, .f32⟩
  | 4 => ⟨S8192x1024, .f32⟩
  | 5 => ⟨S_, .f32⟩
  | 6 => ⟨S8192x1024, .f32⟩
  | 7 => ⟨S8192x1024, .f32⟩
  | 8 => ⟨S8192x1024, .f32⟩
  | 9 => ⟨S_, .f32⟩
  | 10 => ⟨S8192x1024, .f32⟩
  | 11 => ⟨S8192x1024, .f32⟩
  | 12 => ⟨S8192x1024, .f32⟩
  | 13 => ⟨S_, .f32⟩
  | 14 => ⟨S8192x1024, .f32⟩
  | 15 => ⟨S8192x1024, .f32⟩
  | 16 => ⟨S8192x1024, .f32⟩
  | 17 => ⟨S8192x1024, .f32⟩
  | 18 => ⟨S_, .f32⟩
  | 19 => ⟨S8192x2048, .f32⟩
  | 20 => ⟨S8192x6144, .f32⟩
  | 21 => ⟨S8192x1024, .bf16⟩
  | 22 => ⟨S8192x6144, .bf16⟩
  | 23 => ⟨S8x128x128, .f32⟩
  | 24 => ⟨S8x128, .f32⟩
  | _ => ⟨S8192x1024, .bf16⟩

abbrev hbmTy (i : Nat) : BufTy := match i / 128 with
  | 0 => hbmTy0_0 i
  | 1 => hbmTy0_1 i
  | 2 => hbmTy0_2 i
  | _ => ⟨S8192x1024, .bf16⟩

abbrev bufTy : (tb : Table) → Fin (tcTables nBuf tb) → BufTy
  | .hbm, ⟨i, _⟩ => hbmTy i
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst : Ref sig .tc := ⟨.hbm, 22, rfl⟩
abbrev main_v12 : Ref sig .tc := ⟨.hbm, 23, rfl⟩
abbrev main_v13 : Ref sig .tc := ⟨.hbm, 24, rfl⟩
abbrev main_cst_0 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_1 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_2 : Ref sig .tc := ⟨.hbm, 33, rfl⟩
abbrev main_v20 : Ref sig .tc := ⟨.hbm, 34, rfl⟩
abbrev main_v21 : Ref sig .tc := ⟨.hbm, 35, rfl⟩
abbrev main_cst_3 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_4 : Ref sig .tc := ⟨.hbm, 40, rfl⟩
abbrev main_v25 : Ref sig .tc := ⟨.hbm, 41, rfl⟩
abbrev main_v26 : Ref sig .tc := ⟨.hbm, 42, rfl⟩
abbrev main_cst_5 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_6 : Ref sig .tc := ⟨.hbm, 50, rfl⟩
abbrev main_v33 : Ref sig .tc := ⟨.hbm, 51, rfl⟩
abbrev main_v34 : Ref sig .tc := ⟨.hbm, 52, rfl⟩
abbrev main_cst_7 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_8 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_9 : Ref sig .tc := ⟨.hbm, 61, rfl⟩
abbrev main_v41 : Ref sig .tc := ⟨.hbm, 62, rfl⟩
abbrev main_v42 : Ref sig .tc := ⟨.hbm, 63, rfl⟩
abbrev main_cst_10 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_cst_11 : Ref sig .tc := ⟨.hbm, 68, rfl⟩
abbrev main_v46 : Ref sig .tc := ⟨.hbm, 69, rfl⟩
abbrev main_v47 : Ref sig .tc := ⟨.hbm, 70, rfl⟩
abbrev main_cst_12 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_cst_13 : Ref sig .tc := ⟨.hbm, 75, rfl⟩
abbrev main_v51 : Ref sig .tc := ⟨.hbm, 76, rfl⟩
abbrev main_v52 : Ref sig .tc := ⟨.hbm, 77, rfl⟩
abbrev main_cst_14 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_cst_15 : Ref sig .tc := ⟨.hbm, 84, rfl⟩
abbrev main_v58 : Ref sig .tc := ⟨.hbm, 85, rfl⟩
abbrev main_v59 : Ref sig .tc := ⟨.hbm, 86, rfl⟩
abbrev main_cst_16 : Ref sig .tc := ⟨.hbm, 87, rfl⟩
abbrev main_v60 : Ref sig .tc := ⟨.hbm, 88, rfl⟩
abbrev main_v61 : Ref sig .tc := ⟨.hbm, 89, rfl⟩
abbrev main_cst_17 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_cst_18 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_cst_19 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_c : Ref sig .tc := ⟨.hbm, 110, rfl⟩
abbrev main_v79 : Ref sig .tc := ⟨.hbm, 111, rfl⟩
abbrev main_call0_v0 : Ref sig .tc := ⟨.hbm, 112, rfl⟩
abbrev main_call0_c : Ref sig .tc := ⟨.hbm, 113, rfl⟩
abbrev main_call0_v1 : Ref sig .tc := ⟨.hbm, 114, rfl⟩
abbrev main_call0_v2 : Ref sig .tc := ⟨.hbm, 115, rfl⟩
abbrev main_call0_v3 : Ref sig .tc := ⟨.hbm, 116, rfl⟩
abbrev main_call0_v4 : Ref sig .tc := ⟨.hbm, 117, rfl⟩
abbrev main_call0_c_0 : Ref sig .tc := ⟨.hbm, 118, rfl⟩
abbrev main_call0_v5 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_cst_20 : Ref sig .tc := ⟨.hbm, 124, rfl⟩
abbrev main_v84 : Ref sig .tc := ⟨.hbm, 125, rfl⟩
abbrev main_v85_1 : Ref sig .tc := ⟨.hbm, 126, rfl⟩
abbrev main_v85_0 : Ref sig .tc := ⟨.hbm, 127, rfl⟩
abbrev main_call1_cst : Ref sig .tc := ⟨.hbm, 128, rfl⟩
abbrev main_v85_2 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_cst_21 : Ref sig .tc := ⟨.hbm, 141, rfl⟩
abbrev main_v97 : Ref sig .tc := ⟨.hbm, 142, rfl⟩
abbrev main_v98 : Ref sig .tc := ⟨.hbm, 143, rfl⟩
abbrev main_cst_22 : Ref sig .tc := ⟨.hbm, 144, rfl⟩
abbrev main_v99 : Ref sig .tc := ⟨.hbm, 145, rfl⟩
abbrev main_v100 : Ref sig .tc := ⟨.hbm, 146, rfl⟩
abbrev main_cst_23 : Ref sig .tc := ⟨.hbm, 147, rfl⟩
abbrev main_v101 : Ref sig .tc := ⟨.hbm, 148, rfl⟩
abbrev main_v102 : Ref sig .tc := ⟨.hbm, 149, rfl⟩
abbrev main_v103 : Ref sig .tc := ⟨.hbm, 150, rfl⟩
abbrev main_v104 : Ref sig .tc := ⟨.hbm, 151, rfl⟩
abbrev main_v105 : Ref sig .tc := ⟨.hbm, 152, rfl⟩
abbrev main_v106 : Ref sig .tc := ⟨.hbm, 153, rfl⟩
abbrev main_v107 : Ref sig .tc := ⟨.hbm, 154, rfl⟩
abbrev main_cst_24 : Ref sig .tc := ⟨.hbm, 155, rfl⟩
abbrev main_v108 : Ref sig .tc := ⟨.hbm, 156, rfl⟩
abbrev main_v109 : Ref sig .tc := ⟨.hbm, 157, rfl⟩
abbrev main_cst_25 : Ref sig .tc := ⟨.hbm, 158, rfl⟩
abbrev main_v110 : Ref sig .tc := ⟨.hbm, 159, rfl⟩
abbrev main_v111 : Ref sig .tc := ⟨.hbm, 160, rfl⟩
abbrev main_cst_26 : Ref sig .tc := ⟨.hbm, 161, rfl⟩
abbrev main_v112 : Ref sig .tc := ⟨.hbm, 162, rfl⟩
abbrev main_v113 : Ref sig .tc := ⟨.hbm, 163, rfl⟩
abbrev main_v114 : Ref sig .tc := ⟨.hbm, 164, rfl⟩
abbrev main_v115 : Ref sig .tc := ⟨.hbm, 165, rfl⟩
abbrev main_v116 : Ref sig .tc := ⟨.hbm, 166, rfl⟩
abbrev main_v117 : Ref sig .tc := ⟨.hbm, 167, rfl⟩
abbrev main_v118 : Ref sig .tc := ⟨.hbm, 168, rfl⟩
abbrev main_v119 : Ref sig .tc := ⟨.hbm, 169, rfl⟩
abbrev main_v120 : Ref sig .tc := ⟨.hbm, 170, rfl⟩
abbrev main_v121 : Ref sig .tc := ⟨.hbm, 171, rfl⟩
abbrev main_v122 : Ref sig .tc := ⟨.hbm, 172, rfl⟩
abbrev main_v123 : Ref sig .tc := ⟨.hbm, 173, rfl⟩
abbrev main_v124 : Ref sig .tc := ⟨.hbm, 174, rfl⟩
abbrev main_v125 : Ref sig .tc := ⟨.hbm, 175, rfl⟩
abbrev main_v126 : Ref sig .tc := ⟨.hbm, 176, rfl⟩
abbrev main_v127 : Ref sig .tc := ⟨.hbm, 177, rfl⟩
abbrev main_v128 : Ref sig .tc := ⟨.hbm, 178, rfl⟩
abbrev main_v129 : Ref sig .tc := ⟨.hbm, 179, rfl⟩
abbrev main_v130 : Ref sig .tc := ⟨.hbm, 180, rfl⟩
abbrev main_v131 : Ref sig .tc := ⟨.hbm, 181, rfl⟩
abbrev main_v132 : Ref sig .tc := ⟨.hbm, 182, rfl⟩
abbrev main_v133 : Ref sig .tc := ⟨.hbm, 183, rfl⟩
abbrev main_v134 : Ref sig .tc := ⟨.hbm, 184, rfl⟩
abbrev main_v135 : Ref sig .tc := ⟨.hbm, 185, rfl⟩
abbrev main_v136 : Ref sig .tc := ⟨.hbm, 186, rfl⟩
abbrev main_v137 : Ref sig .tc := ⟨.hbm, 187, rfl⟩
abbrev main_cst_27 : Ref sig .tc := ⟨.hbm, 188, rfl⟩
abbrev main_v138 : Ref sig .tc := ⟨.hbm, 189, rfl⟩
abbrev main_v139 : Ref sig .tc := ⟨.hbm, 190, rfl⟩
abbrev main_cst_28 : Ref sig .tc := ⟨.hbm, 191, rfl⟩
abbrev main_v140 : Ref sig .tc := ⟨.hbm, 192, rfl⟩
abbrev main_v141 : Ref sig .tc := ⟨.hbm, 193, rfl⟩
abbrev main_v142 : Ref sig .tc := ⟨.hbm, 194, rfl⟩
abbrev main_v143 : Ref sig .tc := ⟨.hbm, 195, rfl⟩
abbrev main_v144 : Ref sig .tc := ⟨.hbm, 196, rfl⟩
abbrev main_v145 : Ref sig .tc := ⟨.hbm, 197, rfl⟩
abbrev main_v146 : Ref sig .tc := ⟨.hbm, 198, rfl⟩
abbrev main_call2_cst : Ref sig .tc := ⟨.hbm, 199, rfl⟩
abbrev main_call2_v0 : Ref sig .tc := ⟨.hbm, 200, rfl⟩
abbrev main_v147 : Ref sig .tc := ⟨.hbm, 201, rfl⟩
abbrev main_v148 : Ref sig .tc := ⟨.hbm, 202, rfl⟩
abbrev main_v149 : Ref sig .tc := ⟨.hbm, 203, rfl⟩
abbrev main_cst_29 : Ref sig .tc := ⟨.hbm, 204, rfl⟩
abbrev main_v150 : Ref sig .tc := ⟨.hbm, 205, rfl⟩
abbrev main_v151 : Ref sig .tc := ⟨.hbm, 206, rfl⟩
abbrev main_v152 : Ref sig .tc := ⟨.hbm, 207, rfl⟩
abbrev main_cst_30 : Ref sig .tc := ⟨.hbm, 208, rfl⟩
abbrev main_v153 : Ref sig .tc := ⟨.hbm, 209, rfl⟩
abbrev main_v154 : Ref sig .tc := ⟨.hbm, 210, rfl⟩
abbrev main_v155 : Ref sig .tc := ⟨.hbm, 211, rfl⟩
abbrev main_v156 : Ref sig .tc := ⟨.hbm, 212, rfl⟩
abbrev main_v157 : Ref sig .tc := ⟨.hbm, 213, rfl⟩
abbrev main_cst_31 : Ref sig .tc := ⟨.hbm, 214, rfl⟩
abbrev main_v158 : Ref sig .tc := ⟨.hbm, 215, rfl⟩
abbrev main_v159 : Ref sig .tc := ⟨.hbm, 216, rfl⟩
abbrev main_v160 : Ref sig .tc := ⟨.hbm, 217, rfl⟩
abbrev main_v161 : Ref sig .tc := ⟨.hbm, 218, rfl⟩
abbrev main_v162 : Ref sig .tc := ⟨.hbm, 219, rfl⟩
abbrev main_v163 : Ref sig .tc := ⟨.hbm, 220, rfl⟩
abbrev main_cst_32 : Ref sig .tc := ⟨.hbm, 221, rfl⟩
abbrev main_v164 : Ref sig .tc := ⟨.hbm, 222, rfl⟩
abbrev main_v165 : Ref sig .tc := ⟨.hbm, 223, rfl⟩
abbrev main_cst_33 : Ref sig .tc := ⟨.hbm, 224, rfl⟩
abbrev main_v166 : Ref sig .tc := ⟨.hbm, 225, rfl⟩
abbrev main_v167 : Ref sig .tc := ⟨.hbm, 226, rfl⟩
abbrev main_cst_34 : Ref sig .tc := ⟨.hbm, 227, rfl⟩
abbrev main_v168 : Ref sig .tc := ⟨.hbm, 228, rfl⟩
abbrev main_v169 : Ref sig .tc := ⟨.hbm, 229, rfl⟩
abbrev main_v170 : Ref sig .tc := ⟨.hbm, 230, rfl⟩
abbrev main_v171 : Ref sig .tc := ⟨.hbm, 231, rfl⟩
abbrev main_cst_35 : Ref sig .tc := ⟨.hbm, 232, rfl⟩
abbrev main_v172 : Ref sig .tc := ⟨.hbm, 233, rfl⟩
abbrev main_v173 : Ref sig .tc := ⟨.hbm, 234, rfl⟩
abbrev main_v174 : Ref sig .tc := ⟨.hbm, 235, rfl⟩
abbrev main_v175 : Ref sig .tc := ⟨.hbm, 236, rfl⟩
abbrev main_cst_36 : Ref sig .tc := ⟨.hbm, 237, rfl⟩
abbrev main_v176 : Ref sig .tc := ⟨.hbm, 238, rfl⟩
abbrev main_v177 : Ref sig .tc := ⟨.hbm, 239, rfl⟩
abbrev main_cst_37 : Ref sig .tc := ⟨.hbm, 240, rfl⟩
abbrev main_v178 : Ref sig .tc := ⟨.hbm, 241, rfl⟩
abbrev main_v179 : Ref sig .tc := ⟨.hbm, 242, rfl⟩
abbrev main_v180 : Ref sig .tc := ⟨.hbm, 243, rfl⟩
abbrev main_v181 : Ref sig .tc := ⟨.hbm, 244, rfl⟩
abbrev main_v182 : Ref sig .tc := ⟨.hbm, 245, rfl⟩
abbrev main_cst_38 : Ref sig .tc := ⟨.hbm, 246, rfl⟩
abbrev main_v183 : Ref sig .tc := ⟨.hbm, 247, rfl⟩
abbrev main_v184 : Ref sig .tc := ⟨.hbm, 248, rfl⟩
abbrev main_v185 : Ref sig .tc := ⟨.hbm, 249, rfl⟩
abbrev main_cst_39 : Ref sig .tc := ⟨.hbm, 250, rfl⟩
abbrev main_v186 : Ref sig .tc := ⟨.hbm, 251, rfl⟩
abbrev main_v187 : Ref sig .tc := ⟨.hbm, 252, rfl⟩
abbrev main_v188 : Ref sig .tc := ⟨.hbm, 253, rfl⟩
abbrev main_cst_40 : Ref sig .tc := ⟨.hbm, 254, rfl⟩
abbrev main_v189 : Ref sig .tc := ⟨.hbm, 255, rfl⟩
abbrev main_v190 : Ref sig .tc := ⟨.hbm, 256, rfl⟩
abbrev main_v191 : Ref sig .tc := ⟨.hbm, 257, rfl⟩
abbrev main_v192 : Ref sig .tc := ⟨.hbm, 258, rfl⟩
abbrev main_v193 : Ref sig .tc := ⟨.hbm, 259, rfl⟩
abbrev main_v194 : Ref sig .tc := ⟨.hbm, 260, rfl⟩
abbrev main_cst_41 : Ref sig .tc := ⟨.hbm, 261, rfl⟩
abbrev main_v195 : Ref sig .tc := ⟨.hbm, 262, rfl⟩
abbrev main_v196 : Ref sig .tc := ⟨.hbm, 263, rfl⟩
abbrev main_v197 : Ref sig .tc := ⟨.hbm, 264, rfl⟩
abbrev main_cst_42 : Ref sig .tc := ⟨.hbm, 265, rfl⟩
abbrev main_v198 : Ref sig .tc := ⟨.hbm, 266, rfl⟩
abbrev main_v199 : Ref sig .tc := ⟨.hbm, 267, rfl⟩
abbrev main_v200 : Ref sig .tc := ⟨.hbm, 268, rfl⟩
abbrev main_cst_43 : Ref sig .tc := ⟨.hbm, 269, rfl⟩
abbrev main_v201 : Ref sig .tc := ⟨.hbm, 270, rfl⟩
abbrev main_v202 : Ref sig .tc := ⟨.hbm, 271, rfl⟩
abbrev main_v203 : Ref sig .tc := ⟨.hbm, 272, rfl⟩
abbrev main_v204 : Ref sig .tc := ⟨.hbm, 273, rfl⟩
abbrev main_cst_44 : Ref sig .tc := ⟨.hbm, 274, rfl⟩
abbrev main_v205 : Ref sig .tc := ⟨.hbm, 275, rfl⟩
abbrev main_v206 : Ref sig .tc := ⟨.hbm, 276, rfl⟩
abbrev main_v207 : Ref sig .tc := ⟨.hbm, 277, rfl⟩
abbrev main_v208 : Ref sig .tc := ⟨.hbm, 278, rfl⟩
abbrev main_v209 : Ref sig .tc := ⟨.hbm, 279, rfl⟩
abbrev main_v210 : Ref sig .tc := ⟨.hbm, 280, rfl⟩

abbrev nD : Nat := 1
abbrev τ : Topo := Topo.v7x

variable {F : FTy → Type} [FloatOps F]
-- ==== Kernel2.lean ====
abbrev S8192x1024 : Shape := ⟨2, ![8192, 1024]⟩
abbrev S8192x5632 : Shape := ⟨2, ![8192, 5632]⟩
abbrev S4x1024x1408 : Shape := ⟨3, ![4, 1024, 1408]⟩
abbrev S2048x1024 : Shape := ⟨2, ![2048, 1024]⟩
abbrev S2048x1408 : Shape := ⟨2, ![2048, 1408]⟩
abbrev S1x1024x1408 : Shape := ⟨3, ![1, 1024, 1408]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x5632, .bf16⟩
  | .hbm, ⟨2, _⟩ => ⟨S4x1024x1408, .f32⟩
  | .local _ .vmem, ⟨0, _⟩ => ⟨S2048x1024, .bf16⟩
  | .local _ .vmem, ⟨1, _⟩ => ⟨S2048x1024, .bf16⟩
  | .local _ .vmem, ⟨2, _⟩ => ⟨S2048x1408, .bf16⟩
  | .local _ .vmem, ⟨3, _⟩ => ⟨S2048x1408, .bf16⟩
  | .local _ .vmem, ⟨4, _⟩ => ⟨S1x1024x1408, .f32⟩
  | .local _ .vmem, ⟨5, _⟩ => ⟨S1x1024x1408, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference2Ideal.lean ====
abbrev S8192x1024 : Shape := ⟨2, ![8192, 1024]⟩
abbrev S8192x5632 : Shape := ⟨2, ![8192, 5632]⟩
abbrev S_ : Shape := ⟨0, ![]⟩
abbrev S1024x5632 : Shape := ⟨2, ![1024, 5632]⟩
abbrev S5632x1024 : Shape := ⟨2, ![5632, 1024]⟩
abbrev S1024x4x1408 : Shape := ⟨3, ![1024, 4, 1408]⟩
abbrev S4x1024x1408 : Shape := ⟨3, ![4, 1024, 1408]⟩

abbrev nBuf : Space → Nat
  | .hbm => 11
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x5632, .bf16⟩
  | .hbm, ⟨2, _⟩ => ⟨S_, .f32⟩
  | .hbm, ⟨3, _⟩ => ⟨S1024x5632, .f32⟩
  | .hbm, ⟨4, _⟩ => ⟨S8192x1024, .f32⟩
  | .hbm, ⟨5, _⟩ => ⟨S8192x5632, .f32⟩
  | .hbm, ⟨6, _⟩ => ⟨S8192x5632, .f32⟩
  | .hbm, ⟨7, _⟩ => ⟨S5632x1024, .f32⟩
  | .hbm, ⟨8, _⟩ => ⟨S1024x5632, .f32⟩
  | .hbm, ⟨9, _⟩ => ⟨S1024x4x1408, .f32⟩
  | .hbm, ⟨10, _⟩ => ⟨S4x1024x1408, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel3.lean ====
abbrev S8192x2816 : Shape := ⟨2, ![8192, 2816]⟩
abbrev S8192x1024 : Shape := ⟨2, ![8192, 1024]⟩
abbrev S2816x1024 : Shape := ⟨2, ![2816, 1024]⟩
abbrev S2048x2816 : Shape := ⟨2, ![2048, 2816]⟩
abbrev S2048x512 : Shape := ⟨2, ![2048, 512]⟩
abbrev S2816x512 : Shape := ⟨2, ![2816, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S2816x1024, .f32⟩
  | .local _ .vmem, ⟨0, _⟩ => ⟨S2048x2816, .bf16⟩
  | .local _ .vmem, ⟨1, _⟩ => ⟨S2048x2816, .bf16⟩
  | .local _ .vmem, ⟨2, _⟩ => ⟨S2048x512, .bf16⟩
  | .local _ .vmem, ⟨3, _⟩ => ⟨S2048x512, .bf16⟩
  | .local _ .vmem, ⟨4, _⟩ => ⟨S2816x512, .f32⟩
  | .local _ .vmem, ⟨5, _⟩ => ⟨S2816x512, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2816x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference3Ideal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 9
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S_, .f32⟩
  | .hbm, ⟨3, _⟩ => ⟨S2816x1024, .f32⟩
  | .hbm, ⟨4, _⟩ => ⟨S8192x2816, .f32⟩
  | .hbm, ⟨5, _⟩ => ⟨S8192x1024, .f32⟩
  | .hbm, ⟨6, _⟩ => ⟨S8192x1024, .f32⟩
  | .hbm, ⟨7, _⟩ => ⟨S1024x2816, .f32⟩
  | .hbm, ⟨8, _⟩ => ⟨S2816x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel4.lean ====
abbrev S8192x1024 : Shape := ⟨2, ![8192, 1024]⟩
abbrev S8192x6144 : Shape := ⟨2, ![8192, 6144]⟩
abbrev S4x1024x1536 : Shape := ⟨3, ![4, 1024, 1536]⟩
abbrev S2048x1024 : Shape := ⟨2, ![2048, 1024]⟩
abbrev S2048x512 : Shape := ⟨2, ![2048, 512]⟩
abbrev S1x1024x1536 : Shape := ⟨3, ![1, 1024, 1536]⟩
abbrev S1024x1536 : Shape := ⟨2, ![1024, 1536]⟩
abbrev S2048x1536 : Shape := ⟨2, ![2048, 1536]⟩

abbrev nBuf : Space → Nat
  | .hbm => 3
  | .vmem => 10
  | .smem => 0
  | _ => 0

abbrev bufTy : (tb : Table) → Fin (tcTables nBuf tb) → BufTy
  | .hbm, ⟨0, _⟩ => ⟨S8192x1024, .bf16⟩
  | .hbm, ⟨1, _⟩ => ⟨S8192x6144, .bf16⟩
  | .hbm, ⟨2, _⟩ => ⟨S4x1024x1536, .f32⟩
  | .local _ .vmem, ⟨0, _⟩ => ⟨S2048x1024, .bf16⟩
  | .local _ .vmem, ⟨1, _⟩ => ⟨S2048x1024, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S2048x512, .bf16⟩
  | .local _ .vmem, ⟨8, _⟩ => ⟨S1x1024x1536, .f32⟩
  | .local _ .vmem, ⟨9, _⟩ => ⟨S1x1024x1536, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.muli c3_i32 arg0
  let c0_i32 : BitVec 32 := 0#32
  let v1 : BitVec 32 := Scalar.addi v0 c0_i32
  let c12_i32 : BitVec 32 := 12#32
  let v2 : BitVec 32 := Scalar.addi v1 c12_i32
  let c4_i32 : BitVec 32 := 4#32
  let v3 : BitVec 32 := Scalar.subi v2 c4_i32
  let c12_i32_0 : BitVec 32 := 12#32
  let c0_i32_1 : BitVec 32 := 0#32
  let v4 : BitVec 1 := Scalar.cmpi .eq c12_i32_0 c0_i32_1
  let c1_i32 : BitVec 32 := 1#32
  let v5 : BitVec 32 := Scalar.select v4 c1_i32 c12_i32_0
  let v6 : BitVec 32 := Scalar.remsi v3 v5
  let c0_i32_2 : BitVec 32 := 0#32
  let v7 : BitVec 1 := Scalar.cmpi .ne v6 c0_i32_2
  let c0_i32_3 : BitVec 32 := 0#32
  let v8 : BitVec 1 := Scalar.cmpi .slt v6 c0_i32_3
  let c0_i32_4 : BitVec 32 := 0#32
  let v9 : BitVec 1 := Scalar.cmpi .slt v5 c0_i32_4
  let v10 : BitVec 1 := Scalar.xori v8 v9
  let v11 : BitVec 1 := Scalar.andi v10 v7
  let v12 : BitVec 32 := Scalar.addi v6 v5
  let v13 : BitVec 32 := Scalar.select v11 v12 v6
  let c0_i32_5 : BitVec 32 := 0#32
  ![arg1.toNat, v13.toNat]

def cc0_transform_2 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.muli c3_i32 arg0
  let c1_i32 : BitVec 32 := 1#32
  let v1 : BitVec 32 := Scalar.addi v0 c1_i32
  let c12_i32 : BitVec 32 := 12#32
  let v2 : BitVec 32 := Scalar.addi v1 c12_i32
  let c4_i32 : BitVec 32 := 4#32
  let v3 : BitVec 32 := Scalar.subi v2 c4_i32
  let c12_i32_0 : BitVec 32 := 12#32
  let c0_i32 : BitVec 32 := 0#32
  let v4 : BitVec 1 := Scalar.cmpi .eq c12_i32_0 c0_i32
  let c1_i32_1 : BitVec 32 := 1#32
  let v5 : BitVec 32 := Scalar.select v4 c1_i32_1 c12_i32_0
  let v6 : BitVec 32 := Scalar.remsi v3 v5
  let c0_i32_2 : BitVec 32 := 0#32
  let v7 : BitVec 1 := Scalar.cmpi .ne v6 c0_i32_2
  let c0_i32_3 : BitVec 32 := 0#32
  let v8 : BitVec 1 := Scalar.cmpi .slt v6 c0_i32_3
  let c0_i32_4 : BitVec 32 := 0#32
  let v9 : BitVec 1 := Scalar.cmpi .slt v5 c0_i32_4
  let v10 : BitVec 1 := Scalar.xori v8 v9
  let v11 : BitVec 1 := Scalar.andi v10 v7
  let v12 : BitVec 32 := Scalar.addi v6 v5
  let v13 : BitVec 32 := Scalar.select v11 v12 v6
  let c0_i32_5 : BitVec 32 := 0#32
  ![arg1.toNat, v13.toNat]

def cc0_transform_3 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.muli c3_i32 arg0
  let c2_i32 : BitVec 32 := 2#32
  let v1 : BitVec 32 := Scalar.addi v0 c2_i32
  let c12_i32 : BitVec 32 := 12#32
  let v2 : BitVec 32 := Scalar.addi v1 c12_i32
  let c4_i32 : BitVec 32 := 4#32
  let v3 : BitVec 32 := Scalar.subi v2 c4_i32
  let c12_i32_0 : BitVec 32 := 12#32
  let c0_i32 : BitVec 32 := 0#32
  let v4 : BitVec 1 := Scalar.cmpi .eq c12_i32_0 c0_i32
  let c1_i32 : BitVec 32 := 1#32
  let v5 : BitVec 32 := Scalar.select v4 c1_i32 c12_i32_0
  let v6 : BitVec 32 := Scalar.remsi v3 v5
  let c0_i32_1 : BitVec 32 := 0#32
  let v7 : BitVec 1 := Scalar.cmpi .ne v6 c0_i32_1
  let c0_i32_2 : BitVec 32 := 0#32
  let v8 : BitVec 1 := Scalar.cmpi .slt v6 c0_i32_2
  let c0_i32_3 : BitVec 32 := 0#32
  let v9 : BitVec 1 := Scalar.cmpi .slt v5 c0_i32_3
  let v10 : BitVec 1 := Scalar.xori v8 v9
  let v11 : BitVec 1 := Scalar.andi v10 v7
  let v12 : BitVec 32 := Scalar.addi v6 v5
  let v13 : BitVec 32 := Scalar.select v11 v12 v6
  let c0_i32_4 : BitVec 32 := 0#32
  ![arg1.toNat, v13.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference4Ideal.lean ====
abbrev S8192x1024 : Shape := ⟨2, ![8192, 1024]⟩
abbrev S8192x6144 : Shape := ⟨2, ![8192, 6144]⟩
abbrev S8192x2048 : Shape := ⟨2, ![8192, 2048]⟩
abbrev S8192x4096 : Shape := ⟨2, ![8192, 4096]⟩
abbrev S_ : Shape := ⟨0, ![]⟩
abbrev S1024x6144 : Shape := ⟨2, ![1024, 6144]⟩
abbrev S6144x1024 : Shape := ⟨2, ![6144, 1024]⟩
abbrev S1024x4x1536 : Shape := ⟨3, ![1024, 4, 1536]⟩
abbrev S4x1024x1536 : Shape := ⟨3, ![4, 1024, 1536]⟩

abbrev nBuf : Space → Nat
  | .hbm => 14
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x6144, .bf16⟩
  | .hbm, ⟨2, _⟩ => ⟨S8192x2048, .bf16⟩
  | .hbm, ⟨3, _⟩ => ⟨S8192x4096, .bf16⟩
  | .hbm, ⟨4, _⟩ => ⟨S8192x6144, .bf16⟩
  | .hbm, ⟨5, _⟩ => ⟨S_, .f32⟩
  | .hbm, ⟨6, _⟩ => ⟨S1024x6144, .f32⟩
  | .hbm, ⟨7, _⟩ => ⟨S8192x1024, .f32⟩
  | .hbm, ⟨8, _⟩ => ⟨S8192x6144, .f32⟩
  | .hbm, ⟨9, _⟩ => ⟨S8192x6144, .f32⟩
  | .hbm, ⟨10, _⟩ => ⟨S6144x1024, .f32⟩
  | .hbm, ⟨11, _⟩ => ⟨S1024x6144, .f32⟩
  | .hbm, ⟨12, _⟩ => ⟨S1024x4x1536, .f32⟩
  | .hbm, ⟨13, _⟩ => ⟨S4x1024x1536, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== Kernel5.lean ====
abbrev S8192x6144 : Shape := ⟨2, ![8192, 6144]⟩
abbrev S4x1024x1536 : Shape := ⟨3, ![4, 1024, 1536]⟩
abbrev S8192x1024 : Shape := ⟨2, ![8192, 1024]⟩
abbrev S512x6144 : Shape := ⟨2, ![512, 6144]⟩
abbrev S512x1024 : Shape := ⟨2, ![512, 1024]⟩
abbrev S512x512 : Shape := ⟨2, ![512, 512]⟩
abbrev S1x1024x512 : Shape := ⟨3, ![1, 1024, 512]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S8192x6144, .bf16⟩
  | .hbm, ⟨1, _⟩ => ⟨S4x1024x1536, .bf16⟩
  | .hbm, ⟨2, _⟩ => ⟨S8192x1024, .f32⟩
  | .local _ .vmem, ⟨0, _⟩ => ⟨S512x6144, .bf16⟩
  | .local _ .vmem, ⟨1, _⟩ => ⟨S512x6144, .bf16⟩
  | .local _ .vmem, ⟨2, _⟩ => ⟨S4x1024x1536, .bf16⟩
  | .local _ .vmem, ⟨3, _⟩ => ⟨S512x1024, .f32⟩
  | .local _ .vmem, ⟨4, _⟩ => ⟨S512x1024, .f32⟩
  | _, _ => ⟨S8192x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

abbrev stage0_0 : Fin 2 → Memref sig .tc .vmem S512x6144 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1024x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference5Ideal.lean ====
abbrev S8192x6144 : Shape := ⟨2, ![8192, 6144]⟩
abbrev S4x1024x1536 : Shape := ⟨3, ![4, 1024, 1536]⟩
abbrev S1024x4x1536 : Shape := ⟨3, ![1024, 4, 1536]⟩
abbrev S1024x6144 : Shape := ⟨2, ![1024, 6144]⟩
abbrev S_ : Shape := ⟨0, ![]⟩
abbrev S8192x1024 : Shape := ⟨2, ![8192, 1024]⟩
abbrev S8192x2048 : Shape := ⟨2, ![8192, 2048]⟩
abbrev S8192x4096 : Shape := ⟨2, ![8192, 4096]⟩

abbrev nBuf : Space → Nat
  | .hbm => 13
  | .vmem => 0
  | .smem => 0
  | _ => 0

abbrev bufTy : (tb : Table) → Fin (tcTables nBuf tb) → BufTy
  | .hbm, ⟨0, _⟩ => ⟨S8192x6144, .bf16⟩
  | .hbm, ⟨1, _⟩ => ⟨S4x1024x1536, .bf16⟩
  | .hbm, ⟨2, _⟩ => ⟨S4x1024x1536, .f32⟩
  | .hbm, ⟨3, _⟩ => ⟨S1024x4x1536, .f32⟩
  | .hbm, ⟨4, _⟩ => ⟨S1024x6144, .f32⟩
  | .hbm, ⟨5, _⟩ => ⟨S_, .f32⟩
  | .hbm, ⟨6, _⟩ => ⟨S8192x1024, .f32⟩
  | .hbm, ⟨7, _⟩ => ⟨S8192x6144, .f32⟩
  | .hbm, ⟨8, _⟩ => ⟨S8192x2048, .bf16⟩
  | .hbm, ⟨9, _⟩ => ⟨S8192x4096, .bf16⟩
  | .hbm, ⟨10, _⟩ => ⟨S8192x6144, .bf16⟩
  | .hbm, ⟨11, _⟩ => ⟨S8192x6144, .f32⟩
  | .hbm, ⟨12, _⟩ => ⟨S8192x1024, .f32⟩
  | _, _ => ⟨S8192x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Kernel6.lean ====
abbrev S8192x1024 : Shape := ⟨2, ![8192, 1024]⟩
abbrev S1x1024 : Shape := ⟨2, ![1, 1024]⟩
abbrev S4x1024x1408 : Shape := ⟨3, ![4, 1024, 1408]⟩
abbrev S2816x1024 : Shape := ⟨2, ![2816, 1024]⟩
abbrev S8192x5632 : Shape := ⟨2, ![8192, 5632]⟩
abbrev S8192x2816 : Shape := ⟨2, ![8192, 2816]⟩
abbrev S1x1 : Shape := ⟨2, ![1, 1]⟩
abbrev S256x1024 : Shape := ⟨2, ![256, 1024]⟩
abbrev S256x5632 : Shape := ⟨2, ![256, 5632]⟩
abbrev S256x2816 : Shape := ⟨2, ![256, 2816]⟩
abbrev S256 : Shape := ⟨1, ![256]⟩
abbrev S256x1 : Shape := ⟨2, ![256, 1]⟩
abbrev S1x1024x1408 : Shape := ⟨3, ![1, 1024, 1408]⟩
abbrev S1024x1408 : Shape := ⟨2, ![1024, 1408]⟩
abbrev S256x1408 : Shape := ⟨2, ![256, 1408]⟩
abbrev S1408x1024 : Shape := ⟨2, ![1408, 1024]⟩
abbrev S1 : Shape := ⟨1, ![1]⟩
abbrev S1024 : Shape := ⟨1, ![1024]⟩

abbrev nBuf : Space → Nat
  | .hbm => 13
  | .vmem => 20
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S4x1024x1408, .bf16⟩
  | .hbm, ⟨3, _⟩ => ⟨S2816x1024, .bf16⟩
  | .hbm, ⟨4, _⟩ => ⟨S1x1024, .f32⟩
  | .hbm, ⟨5, _⟩ => ⟨S8192x1024, .f32⟩
  | .hbm, ⟨6, _⟩ => ⟨S8192x1024, .bf16⟩
  | .hbm, ⟨7, _⟩ => ⟨S8192x5632, .bf16⟩
  | .hbm, ⟨8, _⟩ => ⟨S8192x2816, .bf16⟩
  | .hbm, ⟨9, _⟩ => ⟨S8192x1024, .f32⟩
  | .hbm, ⟨10, _⟩ => ⟨S8192x1024, .bf16⟩
  | .hbm, ⟨11, _⟩ => ⟨S1x1, .f32⟩
  | .hbm, ⟨12, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S4x1024x1408, .bf16⟩
  | .local _ .vmem, ⟨4, _⟩ => ⟨S2816x1024, .bf16⟩
  | .local _ .vmem, ⟨5, _⟩ => ⟨S1x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .bf16⟩
  | .local _ .vmem, ⟨9, _⟩ => ⟨S256x1024, .bf16⟩
  | .local _ .vmem, ⟨10, _⟩ => ⟨S256x5632, .bf16⟩
  | .local _ .vmem, ⟨11, _⟩ => ⟨S256x5632, .bf16⟩
  | .local _ .vmem, ⟨12, _⟩ => ⟨S256x2816, .bf16⟩
  | .local _ .vmem, ⟨13, _⟩ => ⟨S256x2816, .bf16⟩
  | .local _ .vmem, ⟨14, _⟩ => ⟨S256x1024, .f32⟩
  | .local _ .vmem, ⟨15, _⟩ => ⟨S256x1024, .f32⟩
  | .local _ .vmem, ⟨16, _⟩ => ⟨S256x1024, .bf16⟩
  | .local _ .vmem, ⟨17, _⟩ => ⟨S256x1024, .bf16⟩
  | .local _ .vmem, ⟨18, _⟩ => ⟨S1x1, .f32⟩
  | .local _ .vmem, ⟨19, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev main_v0_5 : Ref sig .tc := ⟨.hbm, 11, rfl⟩
abbrev main_v0_6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg12_0 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem12_0 : DmaSem sig := 19

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x1024x1408 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x5632 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2816 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== Reference6Ideal.lean ====
abbrev S8192x1024 : Shape := ⟨2, ![8192, 1024]⟩
abbrev S1x1024 : Shape := ⟨2, ![1, 1024]⟩
abbrev S4x1024x1408 : Shape := ⟨3, ![4, 1024, 1408]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S1024x4x1408 : Shape := ⟨3, ![1024, 4, 1408]⟩
abbrev S1024x5632 : Shape := ⟨2, ![1024, 5632]⟩
abbrev S8192x5632 : Shape := ⟨2, ![8192, 5632]⟩
abbrev S8192x2816 : Shape := ⟨2, ![8192, 2816]⟩
abbrev S1024 : Shape := ⟨1, ![1024]⟩
abbrev S1x1 : Shape := ⟨2, ![1, 1]⟩

abbrev nBuf : Space → Nat
  | .hbm => 110
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S4x1024x1408, .bf16⟩
  | .hbm, ⟨3, _⟩ => ⟨S2816x1024, .bf16⟩
  | .hbm, ⟨4, _⟩ => ⟨S1x1024, .f32⟩
  | .hbm, ⟨5, _⟩ => ⟨S8192x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S4x1024x1408, .f32⟩
  | .hbm, ⟨22, _⟩ => ⟨S1024x4x1408, .f32⟩
  | .hbm, ⟨23, _⟩ => ⟨S1024x5632, .f32⟩
  | .hbm, ⟨24, _⟩ => ⟨S8192x5632, .f32⟩
  | .hbm, ⟨25, _⟩ => ⟨S8192x2816, .f32⟩
  | .hbm, ⟨26, _⟩ => ⟨S8192x2816, .f32⟩
  | .hbm, ⟨27, _⟩ => ⟨S8192x2816, .f32⟩
  | .hbm, ⟨28, _⟩ => ⟨S8192x2816, .f32⟩
  | .hbm, ⟨29, _⟩ => ⟨S_, .f32⟩
  | .hbm, ⟨30, _⟩ => ⟨S8192x2816, .f32⟩
  | .hbm, ⟨31, _⟩ => ⟨S8192x2816, .f32⟩
  | .hbm, ⟨32, _⟩ => ⟨S_, .f32⟩
  | .hbm, ⟨33, _⟩ => ⟨S8192x2816, .f32⟩
  | .hbm, ⟨34, _⟩ => ⟨S8192x2816, .f32⟩
  | .hbm, ⟨35, _⟩ => ⟨S8192x2816, .f32⟩
  | .hbm, ⟨36, _⟩ => ⟨S8192x2816, .f32⟩
  | .hbm, ⟨37, _⟩ => ⟨S2816x1024, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S_, .f32⟩
  | .hbm, ⟨42, _⟩ => ⟨S8192, .f32⟩
  | .hbm, ⟨43, _⟩ => ⟨S8192x1, .f32⟩
  | .hbm, ⟨44, _⟩ => ⟨S_, .f32⟩
  | .hbm, ⟨45, _⟩ => ⟨S8192x1, .f32⟩
  | .hbm, ⟨46, _⟩ => ⟨S8192x1, .f32⟩
  | .hbm, ⟨47, _⟩ => ⟨S_, .f32⟩
  | .hbm, ⟨48, _⟩ => ⟨S8192x1, .f32⟩
  | .hbm, ⟨49, _⟩ => ⟨S8192x1, .f32⟩
  | .hbm, ⟨50, _⟩ => ⟨S8192x1, .f32⟩
  | .hbm, ⟨51, _⟩ => ⟨S8192x1, .f32⟩
  | .hbm, ⟨52, _⟩ => ⟨S_, .f32⟩
  | .hbm, ⟨53, _⟩ => ⟨S8192x1, .f32⟩
  | .hbm, ⟨54, _⟩ => ⟨S8192x1, .f32⟩
  | .hbm, ⟨55, _⟩ => ⟨S8192x1024, .f32⟩
  | .hbm, ⟨56, _⟩ => ⟨S8192x1024, .f32⟩
  | .hbm, ⟨57, _⟩ => ⟨S8192x1024, .f32⟩
  | .hbm, ⟨58, _⟩ => ⟨S8192x1024, .f32⟩
  | .hbm, ⟨59, _⟩ => ⟨S8192x1024, .f32⟩
  | .hbm, ⟨60, _⟩ => ⟨S8192x1024, .f32⟩
  | .hbm, ⟨61, _⟩ => ⟨S_, .f32⟩
  | .hbm, ⟨62, _⟩ => ⟨S8192x1024, .f32⟩
  | .hbm, ⟨63, _⟩ => ⟨S8192x1024, .f32⟩
  | .hbm, ⟨64, _⟩ => ⟨S_, .f32⟩
  | .hbm, ⟨65, _⟩ => ⟨S8192, .f32⟩
  | .hbm, ⟨66, _⟩ => ⟨S_, .f32⟩
  | .hbm, ⟨67, _⟩ => ⟨S8192, .f32⟩
  | .hbm, ⟨68, _⟩ => ⟨S8192, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S8192, .f32⟩
  | .hbm, ⟨77, _⟩ => ⟨S_, .f32⟩
  | .hbm, ⟨78, _⟩ => ⟨S8192, .f32⟩
  | .hbm, ⟨79, _⟩ => ⟨S8192, .f32⟩
  | .hbm, ⟨80, _⟩ => ⟨S8192x1024, .f32⟩
  | .hbm, ⟨81, _⟩ => ⟨S8192x1024, .f32⟩
  | .hbm, ⟨82, _⟩ => ⟨S8192x1024, .f32⟩
  | .hbm, ⟨83, _⟩ => ⟨S_, .f32⟩
  | .hbm, ⟨84, _⟩ => ⟨S1024, .f32⟩
  | .hbm, ⟨85, _⟩ => ⟨S1x1024, .f32⟩
  | .hbm, ⟨86, _⟩ => ⟨S8192x1024, .f32⟩
  | .hbm, ⟨87, _⟩ => ⟨S8192x1024, .f32⟩
  | .hbm, ⟨88, _⟩ => ⟨S8192x1024, .f32⟩
  | .hbm, ⟨89, _⟩ => ⟨S_, .f32⟩
  | .hbm, ⟨90, _⟩ => ⟨S8192, .f32⟩
  | .hbm, ⟨91, _⟩ => ⟨S8192x1, .f32⟩
  | .hbm, ⟨92, _⟩ => ⟨S8192x1024, .f32⟩
  | .hbm, ⟨93, _⟩ => ⟨S8192x1024, .f32⟩
  | .hbm, ⟨94, _⟩ => ⟨S8192x1, .f32⟩
  | .hbm, ⟨95, _⟩ => ⟨S_, .f32⟩
  | .hbm, ⟨96, _⟩ => ⟨S8192x1, .f32⟩
  | .hbm, ⟨97, _⟩ => ⟨S8192x1, .f32⟩
  | .hbm, ⟨98, _⟩ => ⟨S_, .f32⟩
  | .hbm, ⟨99, _⟩ => ⟨S8192, .f32⟩
  | .hbm, ⟨100, _⟩ => ⟨S8192x1024, .f32⟩
  | .hbm, ⟨101, _⟩ => ⟨S8192x1024, .f32⟩
  | .hbm, ⟨102, _⟩ => ⟨S8192x1024, .f32⟩
  | .hbm, ⟨103, _⟩ => ⟨S8192x1024, .f32⟩
  | .hbm, ⟨104, _⟩ => ⟨S8192x1024, .f32⟩
  | .hbm, ⟨105, _⟩ => ⟨S8192x1024, .bf16⟩
  | .hbm, ⟨106, _⟩ => ⟨S8192x5632, .bf16⟩
  | .hbm, ⟨107, _⟩ => ⟨S8192x2816, .bf16⟩
  | .hbm, ⟨108, _⟩ => ⟨S8192x1024, .bf16⟩
  | .hbm, ⟨109, _⟩ => ⟨S1x1, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_2 : Ref sig .tc := ⟨.hbm, 41, rfl⟩
abbrev main_v24 : Ref sig .tc := ⟨.hbm, 42, rfl⟩
abbrev main_v25 : Ref sig .tc := ⟨.hbm, 43, rfl⟩
abbrev main_cst_3 : Ref sig .tc := ⟨.hbm, 44, rfl⟩
abbrev main_v26 : Ref sig .tc := ⟨.hbm, 45, rfl⟩
abbrev main_v27 : Ref sig .tc := ⟨.hbm, 46, rfl⟩
abbrev main_cst_4 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst_5 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_cst_6 : Ref sig .tc := ⟨.hbm, 61, rfl⟩
abbrev main_v40 : Ref sig .tc := ⟨.hbm, 62, rfl⟩
abbrev main_v41 : Ref sig .tc := ⟨.hbm, 63, rfl⟩
abbrev main_cst_7 : Ref sig .tc := ⟨.hbm, 64, rfl⟩
abbrev main_v42 : Ref sig .tc := ⟨.hbm, 65, rfl⟩
abbrev main_cst_8 : Ref sig .tc := ⟨.hbm, 66, rfl⟩
abbrev main_v43 : Ref sig .tc := ⟨.hbm, 67, rfl⟩
abbrev main_v44 : Ref sig .tc := ⟨.hbm, 68, rfl⟩
abbrev main_cst_9 : Ref sig .tc := ⟨.hbm, 69, rfl⟩
abbrev main_v45 : Ref sig .tc := ⟨.hbm, 70, rfl⟩
abbrev main_cst_10 : Ref sig .tc := ⟨.hbm, 71, rfl⟩
abbrev main_v46 : Ref sig .tc := ⟨.hbm, 72, rfl⟩
abbrev main_cst_11 : Ref sig .tc := ⟨.hbm, 73, rfl⟩
abbrev main_cst_12 : Ref sig .tc := ⟨.hbm, 74, rfl⟩
abbrev main_v47 : Ref sig .tc := ⟨.hbm, 75, rfl⟩
abbrev main_v48 : Ref sig .tc := ⟨.hbm, 76, rfl⟩
abbrev main_cst_13 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_cst_14 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_cst_15 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_cst_16 : Ref sig .tc := ⟨.hbm, 95, rfl⟩
abbrev main_v64 : Ref sig .tc := ⟨.hbm, 96, rfl⟩
abbrev main_v65 : Ref sig .tc := ⟨.hbm, 97, rfl⟩
abbrev main_cst_17 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩

abbrev nD : Nat := 1
abbrev τ : Topo := Topo.v7x

variable {F : FTy → Type} [FloatOps F]
-- ==== Kernel7.lean ====
abbrev S8192x1024 : Shape := ⟨2, ![8192, 1024]⟩
abbrev S8192x5632 : Shape := ⟨2, ![8192, 5632]⟩
abbrev S2816x1024 : Shape := ⟨2, ![2816, 1024]⟩
abbrev S4x1024x1408 : Shape := ⟨3, ![4, 1024, 1408]⟩
abbrev S1x1024 : Shape := ⟨2, ![1, 1024]⟩
abbrev S256x1024 : Shape := ⟨2, ![256, 1024]⟩
abbrev S256x5632 : Shape := ⟨2, ![256, 5632]⟩
abbrev S1408x1024 : Shape := ⟨2, ![1408, 1024]⟩
abbrev S256x1408 : Shape := ⟨2, ![256, 1408]⟩
abbrev S1x1024x1408 : Shape := ⟨3, ![1, 1024, 1408]⟩
abbrev S1024x1408 : Shape := ⟨2, ![1024, 1408]⟩
abbrev S256 : Shape := ⟨1, ![256]⟩
abbrev S256x1 : Shape := ⟨2, ![256, 1]⟩
abbrev S1024 : Shape := ⟨1, ![1024]⟩

abbrev nBuf : Space → Nat
  | .hbm => 11
  | .vmem => 18
  | .smem => 0
  | _ => 0

abbrev bufTy : (tb : Table) → Fin (tcTables nBuf tb) → BufTy
  | .hbm, ⟨0, _⟩ => ⟨S8192x1024, .f32⟩
  | .hbm, ⟨1, _⟩ => ⟨S8192x5632, .bf16⟩
  | .hbm, ⟨2, _⟩ => ⟨S2816x1024, .bf16⟩
  | .hbm, ⟨3, _⟩ => ⟨S4x1024x1408, .bf16⟩
  | .hbm, ⟨4, _⟩ => ⟨S8192x1024, .f32⟩
  | .hbm, ⟨5, _⟩ => ⟨S1x1024, .f32⟩
  | .hbm, ⟨6, _⟩ => ⟨S8192x1024, .bf16⟩
  | .hbm, ⟨7, _⟩ => ⟨S8192x5632, .bf16⟩
  | .hbm, ⟨8, _⟩ => ⟨S8192x1024, .f32⟩
  | .hbm, ⟨9, _⟩ => ⟨S8192x1024, .bf16⟩
  | .hbm, ⟨10, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .bf16⟩
  | .local _ .vmem, ⟨3, _⟩ => ⟨S256x1024, .bf16⟩
  | .local _ .vmem, ⟨4, _⟩ => ⟨S256x5632, .bf16⟩
  | .local _ .vmem, ⟨5, _⟩ => ⟨S256x5632, .bf16⟩
  | .local _ .vmem, ⟨6, _⟩ => ⟨S2816x1024, .bf16⟩
  | .local _ .vmem, ⟨7, _⟩ => ⟨S4x1024x1408, .bf16⟩
  | .local _ .vmem, ⟨8, _⟩ => ⟨S256x1024, .f32⟩
  | .local _ .vmem, ⟨9, _⟩ => ⟨S256x1024, .f32⟩
  | .local _ .vmem, ⟨10, _⟩ => ⟨S1x1024, .f32⟩
  | .local _ .vmem, ⟨11, _⟩ => ⟨S256x5632, .bf16⟩
  | .local _ .vmem, ⟨12, _⟩ => ⟨S256x5632, .bf16⟩
  | .local _ .vmem, ⟨13, _⟩ => ⟨S256x1024, .f32⟩
  | .local _ .vmem, ⟨14, _⟩ => ⟨S256x1024, .f32⟩
  | .local _ .vmem, ⟨15, _⟩ => ⟨S256x1024, .bf16⟩
  | .local _ .vmem, ⟨16, _⟩ => ⟨S256x1024, .bf16⟩
  | .local _ .vmem, ⟨17, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev main_v1_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x5632 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x1024x1408 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x5632 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== Reference7Ideal.lean ====
abbrev S8192x1024 : Shape := ⟨2, ![8192, 1024]⟩
abbrev S8192x5632 : Shape := ⟨2, ![8192, 5632]⟩
abbrev S2816x1024 : Shape := ⟨2, ![2816, 1024]⟩
abbrev S4x1024x1408 : Shape := ⟨3, ![4, 1024, 1408]⟩
abbrev S1x1024 : Shape := ⟨2, ![1, 1024]⟩
abbrev S8192x2816 : Shape := ⟨2, ![8192, 2816]⟩
abbrev S_ : Shape := ⟨0, ![]⟩
abbrev S8192 : Shape := ⟨1, ![8192]⟩
abbrev S8192x1 : Shape := ⟨2, ![8192, 1]⟩
abbrev S1024x4x1408 : Shape := ⟨3, ![1024, 4, 1408]⟩
abbrev S1024x5632 : Shape := ⟨2, ![1024, 5632]⟩
abbrev S1024 : Shape := ⟨1, ![1024]⟩

abbrev nBuf : Space → Nat
  | .hbm => 83
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x5632, .bf16⟩
  | .hbm, ⟨2, _⟩ => ⟨S2816x1024, .bf16⟩
  | .hbm, ⟨3, _⟩ => ⟨S4x1024x1408, .bf16⟩
  | .hbm, ⟨4, _⟩ => ⟨S8192x1024, .f32⟩
  | .hbm, ⟨5, _⟩ => ⟨S1x1024, .f32⟩
  | .hbm, ⟨6, _⟩ => ⟨S8192x5632, .f32⟩
  | .hbm, ⟨7, _⟩ => ⟨S8192x2816, .f32⟩
  | .hbm, ⟨8, _⟩ => ⟨S8192x2816, .f32⟩
  | .hbm, ⟨9, _⟩ => ⟨S8192x2816, .f32⟩
  | .hbm, ⟨10, _⟩ => ⟨S8192x2816, .f32⟩
  | .hbm, ⟨11, _⟩ => ⟨S_, .f32⟩
  | .hbm, ⟨12, _⟩ => ⟨S8192x2816, .f32⟩
  | .hbm, ⟨13, _⟩ => ⟨S8192x2816, .f32⟩
  | .hbm, ⟨14, _⟩ => ⟨S_, .f32⟩
  | .hbm, ⟨15, _⟩ => ⟨S8192x2816, .f32⟩
  | .hbm, ⟨16, _⟩ => ⟨S8192x2816, .f32⟩
  | .hbm, ⟨17, _⟩ => ⟨S_, .f32⟩
  | .hbm, ⟨18, _⟩ => ⟨S8192x2816, .f32⟩
  | .hbm, ⟨19, _⟩ => ⟨S8192x2816, .f32⟩
  | .hbm, ⟨20, _⟩ => ⟨S8192x2816, .f32⟩
  | .hbm, ⟨21, _⟩ => ⟨S8192x2816, .f32⟩
  | .hbm, ⟨22, _⟩ => ⟨S8192x2816, .f32⟩
  | .hbm, ⟨23, _⟩ => ⟨S2816x1024, .f32⟩
  | .hbm, ⟨24, _⟩ => ⟨S8192x1024, .f32⟩
  | .hbm, ⟨25, _⟩ => ⟨S8192x2816, .f32⟩
  | .hbm, ⟨26, _⟩ => ⟨S8192x2816, .f32⟩
  | .hbm, ⟨27, _⟩ => ⟨S8192x2816, .f32⟩
  | .hbm, ⟨28, _⟩ => ⟨S8192x2816, .f32⟩
  | .hbm, ⟨29, _⟩ => ⟨S8192x2816, .f32⟩
  | .hbm, ⟨30, _⟩ => ⟨S8192x2816, .f32⟩
  | .hbm, ⟨31, _⟩ => ⟨S8192x2816, .f32⟩
  | .hbm, ⟨32, _⟩ => ⟨S8192x5632, .f32⟩
  | .hbm, ⟨33, _⟩ => ⟨S8192x1024, .f32⟩
  | .hbm, ⟨34, _⟩ => ⟨S_, .f32⟩
  | .hbm, ⟨35, _⟩ => ⟨S8192, .f32⟩
  | .hbm, ⟨36, _⟩ => ⟨S8192x1, .f32⟩
  | .hbm, ⟨37, _⟩ => ⟨S_, .f32⟩
  | .hbm, ⟨38, _⟩ => ⟨S8192x1, .f32⟩
  | .hbm, ⟨39, _⟩ => ⟨S8192x1, .f32⟩
  | .hbm, ⟨40, _⟩ => ⟨S_, .f32⟩
  | .hbm, ⟨41, _⟩ => ⟨S8192x1, .f32⟩
  | .hbm, ⟨42, _⟩ => ⟨S8192x1, .f32⟩
  | .hbm, ⟨43, _⟩ => ⟨S8192x1, .f32⟩
  | .hbm, ⟨44, _⟩ => ⟨S8192x1, .f32⟩
  | .hbm, ⟨45, _⟩ => ⟨S_, .f32⟩
  | .hbm, ⟨46, _⟩ => ⟨S8192x1, .f32⟩
  | .hbm, ⟨47, _⟩ => ⟨S8192x1, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S4x1024x1408, .f32⟩
  | .hbm, ⟨53, _⟩ => ⟨S1024x4x1408, .f32⟩
  | .hbm, ⟨54, _⟩ => ⟨S1024x5632, .f32⟩
  | .hbm, ⟨55, _⟩ => ⟨S8192x5632, .f32⟩
  | .hbm, ⟨56, _⟩ => ⟨S8192x1024, .f32⟩
  | .hbm, ⟨57, _⟩ => ⟨S8192x1024, .f32⟩
  | .hbm, ⟨58, _⟩ => ⟨S_, .f32⟩
  | .hbm, ⟨59, _⟩ => ⟨S1024, .f32⟩
  | .hbm, ⟨60, _⟩ => ⟨S1x1024, .f32⟩
  | .hbm, ⟨61, _⟩ => ⟨S8192x1024, .f32⟩
  | .hbm, ⟨62, _⟩ => ⟨S8192x1024, .f32⟩
  | .hbm, ⟨63, _⟩ => ⟨S8192x1024, .f32⟩
  | .hbm, ⟨64, _⟩ => ⟨S_, .f32⟩
  | .hbm, ⟨65, _⟩ => ⟨S8192, .f32⟩
  | .hbm, ⟨66, _⟩ => ⟨S8192x1, .f32⟩
  | .hbm, ⟨67, _⟩ => ⟨S8192x1024, .f32⟩
  | .hbm, ⟨68, _⟩ => ⟨S8192x1024, .f32⟩
  | .hbm, ⟨69, _⟩ => ⟨S8192x1, .f32⟩
  | .hbm, ⟨70, _⟩ => ⟨S_, .f32⟩
  | .hbm, ⟨71, _⟩ => ⟨S8192x1, .f32⟩
  | .hbm, ⟨72, _⟩ => ⟨S8192x1, .f32⟩
  | .hbm, ⟨73, _⟩ => ⟨S_, .f32⟩
  | .hbm, ⟨74, _⟩ => ⟨S8192, .f32⟩
  | .hbm, ⟨75, _⟩ => ⟨S8192x1024, .f32⟩
  | .hbm, ⟨76, _⟩ => ⟨S8192x1024, .f32⟩
  | .hbm, ⟨77, _⟩ => ⟨S8192x1024, .f32⟩
  | .hbm, ⟨78, _⟩ => ⟨S8192x1024, .f32⟩
  | .hbm, ⟨79, _⟩ => ⟨S8192x1024, .f32⟩
  | .hbm, ⟨80, _⟩ => ⟨S8192x1024, .f32⟩
  | .hbm, ⟨81, _⟩ => ⟨S8192x5632, .bf16⟩
  | .hbm, ⟨82, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_v3_2 : Ref sig .tc := ⟨.hbm, 16, rfl⟩
abbrev main_call0_cst_1 : Ref sig .tc := ⟨.hbm, 17, rfl⟩
abbrev main_call0_v6 : Ref sig .tc := ⟨.hbm, 18, rfl⟩
abbrev main_call0_v7 : Ref sig .tc := ⟨.hbm, 19, rfl⟩
abbrev main_v3_1 : Ref sig .tc := ⟨.hbm, 20, rfl⟩
abbrev main_v3_0 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_call1_v0 : Ref sig .tc := ⟨.hbm, 28, rfl⟩
abbrev main_call1_v1 : Ref sig .tc := ⟨.hbm, 29, rfl⟩
abbrev main_call1_v2 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_cst : Ref sig .tc := ⟨.hbm, 34, rfl⟩
abbrev main_v13 : Ref sig .tc := ⟨.hbm, 35, rfl⟩
abbrev main_v14 : Ref sig .tc := ⟨.hbm, 36, rfl⟩
abbrev main_cst_0 : Ref sig .tc := ⟨.hbm, 37, rfl⟩
abbrev main_v15 : Ref sig .tc := ⟨.hbm, 38, rfl⟩
abbrev main_v16 : Ref sig .tc := ⟨.hbm, 39, rfl⟩
abbrev main_cst_1 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_cst_2 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_cst_3 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_cst_4 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_cst_5 : Ref sig .tc := ⟨.hbm, 70, rfl⟩
abbrev main_v43 : Ref sig .tc := ⟨.hbm, 71, rfl⟩
abbrev main_v44 : Ref sig .tc := ⟨.hbm, 72, rfl⟩
abbrev main_cst_6 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩

abbrev nD : Nat := 1
abbrev τ : Topo := Topo.v7x

variable {F : FTy → Type} [FloatOps F]
-- ==== Proof.Merge.Steps.lean ====
module

public import proofs.«01_k».proof.Proof.Gen.KernelIdeal.Frame.RunC

@[expose] public section

set_option maxRecDepth 16384

noncomputable section

namespace Cert.KernelIdeal.Whole

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

variable (m : (ℓ : Loc nD τ sig) → Buf (Elt F) ℓ) (ρ : Dev nD → PrngReg)

/-- What is held after a grid point: the six output blocks in window order, the six scratch buffers, and the three
results that stay in HBM. -/
abbrev Held (F : FTy → Type) [FloatOps F] [Named F] (c : Dev nD) : Type :=
  Vec F S256x1024 .bf16 × Vec F S256x4096 .bf16 × Vec F S8x128x128 .f32 × Vec F S8x128 .f32 × Vec F S1x1024 .f32 × Vec F S1x1024 .f32 × Vec F S8x128x128 .bf16 × Vec F S8x128x128 .bf16 × Vec F S128x8 .f32 × Vec F S1024x1024 .f32 × Vec F S1024x1024 .f32 × Vec F S1024x1024 .f32 × HbBuf0 (F := F) c hbM0_0 × HbBuf0 (F := F) c hbM0_1 × HbBuf0 (F := F) c hbM0_2

/-- The body's run at the first point. -/
def runA (c : Dev nD) (t : Fin cfg0.N) (h0 : t.val % 32 = 0) (h1 : ¬t.val % 32 = 31) :=
  kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) scM0_1 (Memref.isWhole_whole _) scM0_2 (Memref.isWhole_whole _) scM0_3 (Memref.isWhole_whole _) scM0_4 (Memref.isWhole_whole _) scM0_5 (Memref.isWhole_whole _)
    ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (V m c main_v94_6) (V m c main_v94_7) (V m c main_v94_8)

theorem coverA_15 (c : Dev nD) (t : Fin cfg0.N) (h0 : t.val % 32 = 0) (h1 : ¬t.val % 32 = 31) (y : S256x1024.Idx) :
    ∃ pc ∈ (runA m c t h0 h1).1, y ∈ pc.1.set :=
  View.cover_of_tiledL (runA m c t h0 h1).1 S256x1024.size (by sl_kernel_rfl) y

theorem coverA_16 (c : Dev nD) (t : Fin cfg0.N) (h0 : t.val % 32 = 0) (h1 : ¬t.val % 32 = 31) (y : S256x4096.Idx) :
    ∃ pc ∈ (runA m c t h0 h1).2.1, y ∈ pc.1.set :=
  View.cover_of_tiledL (runA m c t h0 h1).2.1 S256x1024.size (by sl_kernel_rfl) y

theorem coverA_17 (c : Dev nD) (t : Fin cfg0.N) (h0 : t.val % 32 = 0) (h1 : ¬t.val % 32 = 31) (y : S8x128x128.Idx) :
    ∃ pc ∈ (runA m c t h0 h1).2.2.1, y ∈ pc.1.set :=
  View.cover_of_tiledL (runA m c t h0 h1).2.2.1 ![1, 128, 128] (by sl_kernel_rfl) y

theorem coverA_18 (c : Dev nD) (t : Fin cfg0.N) (h0 : t.val % 32 = 0) (h1 : ¬t.val % 32 = 31) (y : S8x128.Idx) :
    ∃ pc ∈ (runA m c t h0 h1).2.2.2.1, y ∈ pc.1.set :=
  View.cover_of_tiledL (runA m c t h0 h1).2.2.2.1 S8x128.size (by sl_kernel_rfl) y

theorem coverA_19 (c : Dev nD) (t : Fin cfg0.N) (h0 : t.val % 32 = 0) (h1 : ¬t.val % 32 = 31) (y : S1x1024.Idx) :
    ∃ pc ∈ (runA m c t h0 h1).2.2.2.2.1, y ∈ pc.1.set :=
  View.cover_of_tiledL (runA m c t h0 h1).2.2.2.2.1 S1x1024.size (by sl_kernel_rfl) y

theorem coverA_20 (c : Dev nD) (t : Fin cfg0.N) (h0 : t.val % 32 = 0) (h1 : ¬t.val % 32 = 31) (y : S1x1024.Idx) :
    ∃ pc ∈ (runA m c t h0 h1).2.2.2.2.2.1, y ∈ pc.1.set :=
  View.cover_of_tiledL (runA m c t h0 h1).2.2.2.2.2.1 S1x1024.size (by sl_kernel_rfl) y

theorem scoverA_0 (c : Dev nD) (t : Fin cfg0.N) (h0 : t.val % 32 = 0) (h1 : ¬t.val % 32 = 31) (y : S8x128x128.Idx) :
    ∃ pc ∈ (runA m c t h0 h1).2.2.2.2.2.2.1, y ∈ pc.1.set :=
  View.cover_of_tiledL (runA m c t h0 h1).2.2.2.2.2.2.1 S1x128x128.size (by sl_kernel_rfl) y

theorem scoverA_1 (c : Dev nD) (t : Fin cfg0.N) (h0 : t.val % 32 = 0) (h1 : ¬t.val % 32 = 31) (y : S8x128x128.Idx) :
    ∃ pc ∈ (runA m c t h0 h1).2.2.2.2.2.2.2.1, y ∈ pc.1.set :=
  View.cover_of_tiledL (runA m c t h0 h1).2.2.2.2.2.2.2.1 S1x128x128.size (by sl_kernel_rfl) y

theorem scoverA_2 (c : Dev nD) (t : Fin cfg0.N) (h0 : t.val % 32 = 0) (h1 : ¬t.val % 32 = 31) (y : S128x8.Idx) :
    ∃ pc ∈ (runA m c t h0 h1).2.2.2.2.2.2.2.2.1, y ∈ pc.1.set :=
  View.cover_of_tiledL (runA m c t h0 h1).2.2.2.2.2.2.2.2.1 S128x8.size (by sl_kernel_rfl) y

theorem scoverA_3 (c : Dev nD) (t : Fin cfg0.N) (h0 : t.val % 32 = 0) (h1 : ¬t.val % 32 = 31) (y : S1024x1024.Idx) :
    ∃ pc ∈ (runA m c t h0 h1).2.2.2.2.2.2.2.2.2.1, y ∈ pc.1.set :=
  View.cover_of_tiledL (runA m c t h0 h1).2.2.2.2.2.2.2.2.2.1 S1024x1024.size (by sl_kernel_rfl) y

theorem scoverA_4 (c : Dev nD) (t : Fin cfg0.N) (h0 : t.val % 32 = 0) (h1 : ¬t.val % 32 = 31) (y : S1024x1024.Idx) :
    ∃ pc ∈ (runA m c t h0 h1).2.2.2.2.2.2.2.2.2.2.1, y ∈ pc.1.set :=
  View.cover_of_tiledL (runA m c t h0 h1).2.2.2.2.2.2.2.2.2.2.1 S1024x1024.size (by sl_kernel_rfl) y

theorem scoverA_5 (c : Dev nD) (t : Fin cfg0.N) (h0 : t.val % 32 = 0) (h1 : ¬t.val % 32 = 31) (y : S1024x1024.Idx) :
    ∃ pc ∈ (runA m c t h0 h1).2.2.2.2.2.2.2.2.2.2.2.1, y ∈ pc.1.set :=
  View.cover_of_tiledL (runA m c t h0 h1).2.2.2.2.2.2.2.2.2.2.2.1 S1024x1024.size (by sl_kernel_rfl) y

/-- Everything the first point leaves: each buffer's pieces read back, in the order of `Held`. -/
def stepA (c : Dev nD) (t : Fin cfg0.N) (h0 : t.val % 32 = 0) (h1 : ¬t.val % 32 = 31) : Held F c :=
  (VO0_15.read (Elt F) (VO0_15.writes (Elt F) VO0_15.junk (runA m c t h0 h1).1),
   VO0_16.read (Elt F) (VO0_16.writes (Elt F) VO0_16.junk (runA m c t h0 h1).2.1),
   VO0_17.read (Elt F) (VO0_17.writes (Elt F) VO0_17.junk (runA m c t h0 h1).2.2.1),
   VO0_18.read (Elt F) (VO0_18.writes (Elt F) VO0_18.junk (runA m c t h0 h1).2.2.2.1),
   VO0_19.read (Elt F) (VO0_19.writes (Elt F) VO0_19.junk (runA m c t h0 h1).2.2.2.2.1),
   VO0_20.read (Elt F) (VO0_20.writes (Elt F) VO0_20.junk (runA m c t h0 h1).2.2.2.2.2.1),
   VS0_0.read (Elt F) (VS0_0.writes (Elt F) VS0_0.junk (runA m c t h0 h1).2.2.2.2.2.2.1),
   VS0_1.read (Elt F) (VS0_1.writes (Elt F) VS0_1.junk (runA m c t h0 h1).2.2.2.2.2.2.2.1),
   VS0_2.read (Elt F) (VS0_2.writes (Elt F) VS0_2.junk (runA m c t h0 h1).2.2.2.2.2.2.2.2.1),
   VS0_3.read (Elt F) (VS0_3.writes (Elt F) VS0_3.junk (runA m c t h0 h1).2.2.2.2.2.2.2.2.2.1),
   VS0_4.read (Elt F) (VS0_4.writes (Elt F) VS0_4.junk (runA m c t h0 h1).2.2.2.2.2.2.2.2.2.2.1),
   VS0_5.read (Elt F) (VS0_5.writes (Elt F) VS0_5.junk (runA m c t h0 h1).2.2.2.2.2.2.2.2.2.2.2.1),
   (runA m c t h0 h1).2.2.2.2.2.2.2.2.2.2.2.2.1,
   (runA m c t h0 h1).2.2.2.2.2.2.2.2.2.2.2.2.2.1,
   (runA m c t h0 h1).2.2.2.2.2.2.2.2.2.2.2.2.2.2.1)

/-- The body's run at a middle point, on what the point before left. -/
def runB (c : Dev nD) (t : Fin cfg0.N) (h0 : ¬t.val % 32 = 0) (h1 : ¬t.val % 32 = 31) (a : Held F c) :=
  kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) scM0_1 (Memref.isWhole_whole _) scM0_2 (Memref.isWhole_whole _) scM0_3 (Memref.isWhole_whole _) scM0_4 (Memref.isWhole_whole _) scM0_5 (Memref.isWhole_whole _)
    (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) a.2.2.1 a.2.2.2.1 a.2.2.2.2.1 a.2.2.2.2.2.1 a.2.2.2.2.2.2.1 a.2.2.2.2.2.2.2.1 a.2.2.2.2.2.2.2.2.1 a.2.2.2.2.2.2.2.2.2.1 a.2.2.2.2.2.2.2.2.2.2.1 a.2.2.2.2.2.2.2.2.2.2.2.1 a.2.2.2.2.2.2.2.2.2.2.2.2.1 a.2.2.2.2.2.2.2.2.2.2.2.2.2.1 a.2.2.2.2.2.2.2.2.2.2.2.2.2.2

theorem coverB_15 (c : Dev nD) (t : Fin cfg0.N) (h0 : ¬t.val % 32 = 0) (h1 : ¬t.val % 32 = 31) (a : Held F c) (y : S256x1024.Idx) :
    ∃ pc ∈ (runB m c t h0 h1 a).1, y ∈ pc.1.set :=
  View.cover_of_tiledL (runB m c t h0 h1 a).1 S256x1024.size (by sl_kernel_rfl) y

theorem coverB_16 (c : Dev nD) (t : Fin cfg0.N) (h0 : ¬t.val % 32 = 0) (h1 : ¬t.val % 32 = 31) (a : Held F c) (y : S256x4096.Idx) :
    ∃ pc ∈ (runB m c t h0 h1 a).2.1, y ∈ pc.1.set :=
  View.cover_of_tiledL (runB m c t h0 h1 a).2.1 S256x1024.size (by sl_kernel_rfl) y

theorem coverB_17 (c : Dev nD) (t : Fin cfg0.N) (h0 : ¬t.val % 32 = 0) (h1 : ¬t.val % 32 = 31) (a : Held F c) (y : S8x128x128.Idx) :
    ∃ pc ∈ (runB m c t h0 h1 a).2.2.1, y ∈ pc.1.set :=
  View.cover_of_tiledL (runB m c t h0 h1 a).2.2.1 S1x128x128.size (by sl_kernel_rfl) y

theorem coverB_18 (c : Dev nD) (t : Fin cfg0.N) (h0 : ¬t.val % 32 = 0) (h1 : ¬t.val % 32 = 31) (a : Held F c) (y : S8x128.Idx) :
    ∃ pc ∈ (runB m c t h0 h1 a).2.2.2.1, y ∈ pc.1.set :=
  View.cover_of_tiledL (runB m c t h0 h1 a).2.2.2.1 S8x128.size (by sl_kernel_rfl) y

theorem coverB_19 (c : Dev nD) (t : Fin cfg0.N) (h0 : ¬t.val % 32 = 0) (h1 : ¬t.val % 32 = 31) (a : Held F c) (y : S1x1024.Idx) :
    ∃ pc ∈ (runB m c t h0 h1 a).2.2.2.2.1, y ∈ pc.1.set :=
  View.cover_of_tiledL (runB m c t h0 h1 a).2.2.2.2.1 S1x1024.size (by sl_kernel_rfl) y

theorem coverB_20 (c : Dev nD) (t : Fin cfg0.N) (h0 : ¬t.val % 32 = 0) (h1 : ¬t.val % 32 = 31) (a : Held F c) (y : S1x1024.Idx) :
    ∃ pc ∈ (runB m c t h0 h1 a).2.2.2.2.2.1, y ∈ pc.1.set :=
  View.cover_of_tiledL (runB m c t h0 h1 a).2.2.2.2.2.1 S1x1024.size (by sl_kernel_rfl) y

theorem scoverB_3 (c : Dev nD) (t : Fin cfg0.N) (h0 : ¬t.val % 32 = 0) (h1 : ¬t.val % 32 = 31) (a : Held F c) (y : S1024x1024.Idx) :
    ∃ pc ∈ (runB m c t h0 h1 a).2.2.2.2.2.2.2.2.2.1, y ∈ pc.1.set :=
  View.cover_of_tiledL (runB m c t h0 h1 a).2.2.2.2.2.2.2.2.2.1 S1024x1024.size (by sl_kernel_rfl) y

theorem scoverB_4 (c : Dev nD) (t : Fin cfg0.N) (h0 : ¬t.val % 32 = 0) (h1 : ¬t.val % 32 = 31) (a : Held F c) (y : S1024x1024.Idx) :
    ∃ pc ∈ (runB m c t h0 h1 a).2.2.2.2.2.2.2.2.2.2.1, y ∈ pc.1.set :=
  View.cover_of_tiledL (runB m c t h0 h1 a).2.2.2.2.2.2.2.2.2.2.1 S1024x1024.size (by sl_kernel_rfl) y

theorem scoverB_5 (c : Dev nD) (t : Fin cfg0.N) (h0 : ¬t.val % 32 = 0) (h1 : ¬t.val % 32 = 31) (a : Held F c) (y : S1024x1024.Idx) :
    ∃ pc ∈ (runB m c t h0 h1 a).2.2.2.2.2.2.2.2.2.2.2.1, y ∈ pc.1.set :=
  View.cover_of_tiledL (runB m c t h0 h1 a).2.2.2.2.2.2.2.2.2.2.2.1 S1024x1024.size (by sl_kernel_rfl) y

/-- Everything a middle point leaves: each buffer's pieces read back, in the order of `Held`. -/
def stepB (c : Dev nD) (t : Fin cfg0.N) (h0 : ¬t.val % 32 = 0) (h1 : ¬t.val % 32 = 31) (a : Held F c) : Held F c :=
  (VO0_15.read (Elt F) (VO0_15.writes (Elt F) VO0_15.junk (runB m c t h0 h1 a).1),
   VO0_16.read (Elt F) (VO0_16.writes (Elt F) VO0_16.junk (runB m c t h0 h1 a).2.1),
   VO0_17.read (Elt F) (VO0_17.writes (Elt F) VO0_17.junk (runB m c t h0 h1 a).2.2.1),
   VO0_18.read (Elt F) (VO0_18.writes (Elt F) VO0_18.junk (runB m c t h0 h1 a).2.2.2.1),
   VO0_19.read (Elt F) (VO0_19.writes (Elt F) VO0_19.junk (runB m c t h0 h1 a).2.2.2.2.1),
   VO0_20.read (Elt F) (VO0_20.writes (Elt F) VO0_20.junk (runB m c t h0 h1 a).2.2.2.2.2.1),
   a.2.2.2.2.2.2.1,
   a.2.2.2.2.2.2.2.1,
   a.2.2.2.2.2.2.2.2.1,
   VS0_3.read (Elt F) (VS0_3.writes (Elt F) VS0_3.junk (runB m c t h0 h1 a).2.2.2.2.2.2.2.2.2.1),
   VS0_4.read (Elt F) (VS0_4.writes (Elt F) VS0_4.junk (runB m c t h0 h1 a).2.2.2.2.2.2.2.2.2.2.1),
   VS0_5.read (Elt F) (VS0_5.writes (Elt F) VS0_5.junk (runB m c t h0 h1 a).2.2.2.2.2.2.2.2.2.2.2.1),
   (runB m c t h0 h1 a).2.2.2.2.2.2.2.2.2.2.2.2.1,
   (runB m c t h0 h1 a).2.2.2.2.2.2.2.2.2.2.2.2.2.1,
   (runB m c t h0 h1 a).2.2.2.2.2.2.2.2.2.2.2.2.2.2.1)

/-- The body's run at the last point, on what the point before left. -/
def runC (c : Dev nD) (t : Fin cfg0.N) (h0 : ¬t.val % 32 = 0) (h1 : t.val % 32 = 31) (a : Held F c) :=
  kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) scM0_1 (Memref.isWhole_whole _) scM0_2 (Memref.isWhole_whole _) scM0_3 (Memref.isWhole_whole _) scM0_4 (Memref.isWhole_whole _) scM0_5 (Memref.isWhole_whole _)
    (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) a.2.2.1 a.2.2.2.1 a.2.2.2.2.1 a.2.2.2.2.2.1 a.2.2.2.2.2.2.1 a.2.2.2.2.2.2.2.1 a.2.2.2.2.2.2.2.2.1 a.2.2.2.2.2.2.2.2.2.1 a.2.2.2.2.2.2.2.2.2.2.1 a.2.2.2.2.2.2.2.2.2.2.2.1 a.2.2.2.2.2.2.2.2.2.2.2.2.1 a.2.2.2.2.2.2.2.2.2.2.2.2.2.1 a.2.2.2.2.2.2.2.2.2.2.2.2.2.2

theorem coverC_15 (c : Dev nD) (t : Fin cfg0.N) (h0 : ¬t.val % 32 = 0) (h1 : t.val % 32 = 31) (a : Held F c) (y : S256x1024.Idx) :
    ∃ pc ∈ (runC m c t h0 h1 a).1, y ∈ pc.1.set :=
  View.cover_of_tiledL (runC m c t h0 h1 a).1 S256x1024.size (by sl_kernel_rfl) y

theorem coverC_16 (c : Dev nD) (t : Fin cfg0.N) (h0 : ¬t.val % 32 = 0) (h1 : t.val % 32 = 31) (a : Held F c) (y : S256x4096.Idx) :
    ∃ pc ∈ (runC m c t h0 h1 a).2.1, y ∈ pc.1.set :=
  View.cover_of_tiledL (runC m c t h0 h1 a).2.1 S256x1024.size (by sl_kernel_rfl) y

theorem coverC_17 (c : Dev nD) (t : Fin cfg0.N) (h0 : ¬t.val % 32 = 0) (h1 : t.val % 32 = 31) (a : Held F c) (y : S8x128x128.Idx) :
    ∃ pc ∈ (runC m c t h0 h1 a).2.2.1, y ∈ pc.1.set :=
  View.cover_of_tiledL (runC m c t h0 h1 a).2.2.1 S1x128x128.size (by sl_kernel_rfl) y

theorem coverC_18 (c : Dev nD) (t : Fin cfg0.N) (h0 : ¬t.val % 32 = 0) (h1 : t.val % 32 = 31) (a : Held F c) (y : S8x128.Idx) :
    ∃ pc ∈ (runC m c t h0 h1 a).2.2.2.1, y ∈ pc.1.set :=
  View.cover_of_tiledL (runC m c t h0 h1 a).2.2.2.1 S8x128.size (by sl_kernel_rfl) y

theorem coverC_19 (c : Dev nD) (t : Fin cfg0.N) (h0 : ¬t.val % 32 = 0) (h1 : t.val % 32 = 31) (a : Held F c) (y : S1x1024.Idx) :
    ∃ pc ∈ (runC m c t h0 h1 a).2.2.2.2.1, y ∈ pc.1.set :=
  View.cover_of_tiledL (runC m c t h0 h1 a).2.2.2.2.1 S1x1024.size (by sl_kernel_rfl) y

theorem coverC_20 (c : Dev nD) (t : Fin cfg0.N) (h0 : ¬t.val % 32 = 0) (h1 : t.val % 32 = 31) (a : Held F c) (y : S1x1024.Idx) :
    ∃ pc ∈ (runC m c t h0 h1 a).2.2.2.2.2.1, y ∈ pc.1.set :=
  View.cover_of_tiledL (runC m c t h0 h1 a).2.2.2.2.2.1 S1x1024.size (by sl_kernel_rfl) y

theorem scoverC_3 (c : Dev nD) (t : Fin cfg0.N) (h0 : ¬t.val % 32 = 0) (h1 : t.val % 32 = 31) (a : Held F c) (y : S1024x1024.Idx) :
    ∃ pc ∈ (runC m c t h0 h1 a).2.2.2.2.2.2.2.2.2.1, y ∈ pc.1.set :=
  View.cover_of_tiledL (runC m c t h0 h1 a).2.2.2.2.2.2.2.2.2.1 S1024x1024.size (by sl_kernel_rfl) y

theorem scoverC_4 (c : Dev nD) (t : Fin cfg0.N) (h0 : ¬t.val % 32 = 0) (h1 : t.val % 32 = 31) (a : Held F c) (y : S1024x1024.Idx) :
    ∃ pc ∈ (runC m c t h0 h1 a).2.2.2.2.2.2.2.2.2.2.1, y ∈ pc.1.set :=
  View.cover_of_tiledL (runC m c t h0 h1 a).2.2.2.2.2.2.2.2.2.2.1 S1024x1024.size (by sl_kernel_rfl) y

theorem scoverC_5 (c : Dev nD) (t : Fin cfg0.N) (h0 : ¬t.val % 32 = 0) (h1 : t.val % 32 = 31) (a : Held F c) (y : S1024x1024.Idx) :
    ∃ pc ∈ (runC m c t h0 h1 a).2.2.2.2.2.2.2.2.2.2.2.1, y ∈ pc.1.set :=
  View.cover_of_tiledL (runC m c t h0 h1 a).2.2.2.2.2.2.2.2.2.2.2.1 S1024x1024.size (by sl_kernel_rfl) y

/-- Everything the last point leaves: each buffer's pieces read back, in the order of `Held`. -/
def stepC (c : Dev nD) (t : Fin cfg0.N) (h0 : ¬t.val % 32 = 0) (h1 : t.val % 32 = 31) (a : Held F c) : Held F c :=
  (VO0_15.read (Elt F) (VO0_15.writes (Elt F) VO0_15.junk (runC m c t h0 h1 a).1),
   VO0_16.read (Elt F) (VO0_16.writes (Elt F) VO0_16.junk (runC m c t h0 h1 a).2.1),
   VO0_17.read (Elt F) (VO0_17.writes (Elt F) VO0_17.junk (runC m c t h0 h1 a).2.2.1),
   VO0_18.read (Elt F) (VO0_18.writes (Elt F) VO0_18.junk (runC m c t h0 h1 a).2.2.2.1),
   VO0_19.read (Elt F) (VO0_19.writes (Elt F) VO0_19.junk (runC m c t h0 h1 a).2.2.2.2.1),
   VO0_20.read (Elt F) (VO0_20.writes (Elt F) VO0_20.junk (runC m c t h0 h1 a).2.2.2.2.2.1),
   a.2.2.2.2.2.2.1,
   a.2.2.2.2.2.2.2.1,
   a.2.2.2.2.2.2.2.2.1,
   VS0_3.read (Elt F) (VS0_3.writes (Elt F) VS0_3.junk (runC m c t h0 h1 a).2.2.2.2.2.2.2.2.2.1),
   VS0_4.read (Elt F) (VS0_4.writes (Elt F) VS0_4.junk (runC m c t h0 h1 a).2.2.2.2.2.2.2.2.2.2.1),
   VS0_5.read (Elt F) (VS0_5.writes (Elt F) VS0_5.junk (runC m c t h0 h1 a).2.2.2.2.2.2.2.2.2.2.2.1),
   (runC m c t h0 h1 a).2.2.2.2.2.2.2.2.2.2.2.2.1,
   (runC m c t h0 h1 a).2.2.2.2.2.2.2.2.2.2.2.2.2.1,
   (runC m c t h0 h1 a).2.2.2.2.2.2.2.2.2.2.2.2.2.2.1)

end Cert.KernelIdeal.Whole
-- ==== Proof.Merge.Points.lean ====
module

public import proofs.«01_k».proof.Proof.Merge.Steps

@[expose] public section

set_option maxRecDepth 16384

noncomputable section

namespace Cert.KernelIdeal.Whole

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

variable (m : (ℓ : Loc nD τ sig) → Buf (Elt F) ℓ) (ρ : Dev nD → PrngReg)

attribute [local irreducible] stepA stepB stepC

/-- A value for every position below `N`: a first one, then each from the one before. -/
def sweep {T : Type} (N : ℕ) (A : 0 < N → T) (S : (n : ℕ) → n + 1 < N → T → T) : (n : ℕ) → n < N → T
  | 0, h => A h
  | n + 1, h => S n h (sweep N A S n (Nat.lt_of_succ_lt h))

theorem sweep_zero {T : Type} (N : ℕ) (A : 0 < N → T) (S : (n : ℕ) → n + 1 < N → T → T) (h : 0 < N) :
    sweep N A S 0 h = A h := rfl

theorem sweep_succ {T : Type} (N : ℕ) (A : 0 < N → T) (S : (n : ℕ) → n + 1 < N → T → T) (n : ℕ) (h : n + 1 < N) :
    sweep N A S (n + 1) h = S n h (sweep N A S n (Nat.lt_of_succ_lt h)) := rfl

/-- What is held after the body at position `n`. -/
def outsAt0 (c : Dev nD) : (n : ℕ) → n < cfg0.N → Held F c :=
  sweep cfg0.N (fun h => stepA m c ⟨0, h⟩ (Nat.zero_mod 32) (show ¬ 0 % 32 = 31 by decide)) fun n hn a =>
    if h1 : (n + 1) % 32 = 31 then
      stepC m c ⟨n + 1, hn⟩ (by show ¬(n + 1) % 32 = 0; omega) h1 a
    else
      stepB m c ⟨n + 1, hn⟩ (by have hN : n + 1 < 32 := lt_of_lt_of_eq hn (show cfg0.N = 32 from N_0); show ¬(n + 1) % 32 = 0; omega) h1 a

/-- What the point before left, at a point that is not the first. -/
abbrev prev0 (c : Dev nD) (t : Fin cfg0.N) : Held F c :=
  outsAt0 m c (t.val - 1) (Nat.lt_of_le_of_lt (Nat.sub_le _ _) t.isLt)

theorem outsAt0_last (c : Dev nD) (n : ℕ) (hn : n + 1 < cfg0.N) (h0 : ¬(n + 1) % 32 = 0) (h1 : (n + 1) % 32 = 31) :
    outsAt0 m c (n + 1) hn = stepC m c ⟨n + 1, hn⟩ h0 h1 (outsAt0 m c n (Nat.lt_of_succ_lt hn)) := by
  exact (sweep_succ cfg0.N _ _ n hn).trans (dif_pos h1)

theorem outsAt0_middle (c : Dev nD) (n : ℕ) (hn : n + 1 < cfg0.N) (h0 : ¬(n + 1) % 32 = 0) (h1 : ¬(n + 1) % 32 = 31) :
    outsAt0 m c (n + 1) hn = stepB m c ⟨n + 1, hn⟩ h0 h1 (outsAt0 m c n (Nat.lt_of_succ_lt hn)) := by
  exact (sweep_succ cfg0.N _ _ n hn).trans (dif_neg h1)

theorem outsAt0_A (c : Dev nD) (t : Fin cfg0.N) (h0 : t.val % 32 = 0) (h1 : ¬t.val % 32 = 31) :
    outsAt0 m c t.val t.isLt = stepA m c t h0 h1 := by
  obtain ⟨n, hn⟩ := t
  cases n with
  | zero => exact sweep_zero cfg0.N _ _ hn
  | succ n =>
    exfalso
    have hN : n + 1 < 32 := lt_of_lt_of_eq hn (show cfg0.N = 32 from N_0)
    have h0' : (n + 1) % 32 = 0 := h0
    omega

theorem outsAt0_B (c : Dev nD) (t : Fin cfg0.N) (h0 : ¬t.val % 32 = 0) (h1 : ¬t.val % 32 = 31) :
    outsAt0 m c t.val t.isLt = stepB m c t h0 h1 (prev0 m c t) := by
  obtain ⟨n, hn⟩ := t
  cases n with
  | zero => exact absurd rfl h0
  | succ n => exact outsAt0_middle m c n hn h0 h1

theorem outsAt0_C (c : Dev nD) (t : Fin cfg0.N) (h0 : ¬t.val % 32 = 0) (h1 : t.val % 32 = 31) :
    outsAt0 m c t.val t.isLt = stepC m c t h0 h1 (prev0 m c t) := by
  obtain ⟨n, hn⟩ := t
  cases n with
  | zero => exact absurd rfl h0
  | succ n => exact outsAt0_last m c n hn h0 h1

end Cert.KernelIdeal.Whole
-- ==== Proof.Merge.Tiles.lean ====
module

public import proofs.«01_k».proof.Proof.Merge.Points
public import Idealize.ShloMosaic.Lib.Pipeline.Value

@[expose] public section

set_option maxRecDepth 16384

noncomputable section

namespace Cert.KernelIdeal.Whole

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

theorem hz2 : (![0, 0] : Fin 2 → ℕ) = fun _ => 0 := by funext a; fin_cases a <;> rfl

theorem hz3 : (![0, 0, 0] : Fin 3 → ℕ) = fun _ => 0 := by funext a; fin_cases a <;> rfl

/-- A whole scratch buffer that was given a value reads that value. -/
theorem read_scratch (r : Ref sig .tc) (h : (Memref.whole r).IsWhole) (x : _) :
    View.read (Elt F) (View.whole r) (h.unread x) = x := h.read_unread x

/-! ## What the body computes, of its blocks

`x0 … x14` are the blocks the body reads, `xs0 … xs5` what its scratch holds and `xo17 … xo20` what its running
sums hold. `tile_n` is the `n`-th value that the body names; the definitions with names are what it writes. -/

/-- The left half of a block of two arrays side by side. -/
def lo (x : FVec F S256x2048 .bf16) : FVec F S256x1024 .bf16 :=
  View.ld (Val := Elt F) (e' := .bf16) x (Rect.unit (s := S256x2048) ![0, 0] S256x1024.size inb_S256x2048_S256x1024_0_0)

/-- Its right half. -/
def hi (x : FVec F S256x2048 .bf16) : FVec F S256x1024 .bf16 :=
  View.ld (Val := Elt F) (e' := .bf16) x (Rect.unit (s := S256x2048) ![0, 1024] S256x1024.size inb_S256x2048_S256x1024_0_1024)

def tile_1 (x0 : FVec F S256x1024 .bf16) (x14 : FVec F S1024x1024 .bf16) : FVec F S256x1024 .f32 :=
  k0_pay39 x0 x14

def tile_2 (x2 : FVec F S256x2048 .bf16) : FVec F S256x1024 .f32 :=
  k0_pay40 (lo x2)

def tile_3 (x2 : FVec F S256x2048 .bf16) : FVec F S256x1024 .f32 :=
  k0_pay41 (hi x2)

def tile_4 (x0 : FVec F S256x1024 .bf16) (x2 : FVec F S256x2048 .bf16) (x14 : FVec F S1024x1024 .bf16) : FVec F S256x1024 .bf16 :=
  k0_pay42 x0 x14 (lo x2)

def tile_5 (x0 : FVec F S256x1024 .bf16) (x2 : FVec F S256x2048 .bf16) (x14 : FVec F S1024x1024 .bf16) : FVec F S256x1024 .bf16 :=
  k0_pay43 x0 x14 (hi x2)

def tile_6 (x0 : FVec F S256x1024 .bf16) (x2 : FVec F S256x2048 .bf16) (x5 : FVec F S256x1024 .bf16) (x14 : FVec F S1024x1024 .bf16) (xs3 : FVec F S1024x1024 .f32) : FVec F S1024x1024 .f32 :=
  k0_pay44 x0 x14 (lo x2) xs3 x5

def tile_7 (x0 : FVec F S256x1024 .bf16) (x4 : FVec F S256x1024 .bf16) (x14 : FVec F S1024x1024 .bf16) : FVec F S256x1024 .f32 :=
  k0_pay49 (tile_1 x0 x14) x4

def tile_8 (x2 : FVec F S256x2048 .bf16) : FVec F S256x1024 .f32 :=
  k0_pay50 (tile_3 x2)

def tile_9 (x0 : FVec F S256x1024 .bf16) (x2 : FVec F S256x2048 .bf16) (x13 : FVec F S1024x1024 .bf16) (x14 : FVec F S1024x1024 .bf16) : FVec F S256x1024 .f32 :=
  k0_pay53 (tile_5 x0 x2 x14) x13

def tile_10 (x1 : FVec F S256x2048 .bf16) : FVec F S256x1024 .f32 :=
  k0_pay57 (lo x1)

def tile_11 (x1 : FVec F S256x2048 .bf16) : FVec F S256x1024 .f32 :=
  k0_pay58 (lo x1)

def tile_12 (x1 : FVec F S256x2048 .bf16) : FVec F S256x1024 .f32 :=
  k0_pay59 (hi x1)

def tile_13 (x1 : FVec F S256x2048 .bf16) : FVec F S256x1024 .f32 :=
  k0_pay63 (tile_12 x1)

def tile_14 (x1 : FVec F S256x2048 .bf16) : FVec F S256x1 .f32 :=
  k0_pay65 (tile_12 x1)

def tile_15 (x1 : FVec F S256x2048 .bf16) : FVec F S256x1024 .f32 :=
  k0_pay66 (tile_12 x1)

def tile_16 (x8 : FVec F S1x1024 .f32) : FVec F S1x1024 .f32 :=
  x8

def tile_17 (x1 : FVec F S256x2048 .bf16) (x8 : FVec F S1x1024 .f32) : FVec F S256x1024 .f32 :=
  k0_pay67 (tile_12 x1) x8

def tile_18 (x9 : FVec F S1x1024 .f32) : FVec F S1x1024 .f32 :=
  x9

def tile_19 (x1 : FVec F S256x2048 .bf16) (x8 : FVec F S1x1024 .f32) (x9 : FVec F S1x1024 .f32) : FVec F S256x1024 .bf16 :=
  k0_pay68 (tile_17 x1 x8) (tile_18 x9)

def tile_20 (x1 : FVec F S256x2048 .bf16) (x8 : FVec F S1x1024 .f32) (x9 : FVec F S1x1024 .f32) (xs0 : FVec F S8x128x128 .bf16) (xs2 : FVec F S128x8 .f32) : FVec F S256x128 .f32 :=
  k0_pay69 (tile_17 x1 x8) (tile_18 x9) (View.ld xs0 (Rect.unit (s := S8x128x128) ![0, 0, 0] S1x128x128.size inb_S8x128x128_S1x128x128_0_0_0)) (View.ld xs2 (Rect.unit (s := S128x8) ![0, 0] S128x1.size inb_S128x8_S128x1_0_0))

def tile_21 (x1 : FVec F S256x2048 .bf16) (x8 : FVec F S1x1024 .f32) (x9 : FVec F S1x1024 .f32) (xs0 : FVec F S8x128x128 .bf16) (xs2 : FVec F S128x8 .f32) : FVec F S256x128 .f32 :=
  k0_pay70 (tile_17 x1 x8) (tile_18 x9) (View.ld xs0 (Rect.unit (s := S8x128x128) ![1, 0, 0] S1x128x128.size inb_S8x128x128_S1x128x128_1_0_0)) (View.ld xs2 (Rect.unit (s := S128x8) ![0, 1] S128x1.size inb_S128x8_S128x1_0_1))

def tile_22 (x1 : FVec F S256x2048 .bf16) (x8 : FVec F S1x1024 .f32) (x9 : FVec F S1x1024 .f32) (xs0 : FVec F S8x128x128 .bf16) (xs2 : FVec F S128x8 .f32) : FVec F S256x128 .f32 :=
  k0_pay71 (tile_17 x1 x8) (tile_18 x9) (View.ld xs0 (Rect.unit (s := S8x128x128) ![2, 0, 0] S1x128x128.size inb_S8x128x128_S1x128x128_2_0_0)) (View.ld xs2 (Rect.unit (s := S128x8) ![0, 2] S128x1.size inb_S128x8_S128x1_0_2))

def tile_23 (x1 : FVec F S256x2048 .bf16) (x8 : FVec F S1x1024 .f32) (x9 : FVec F S1x1024 .f32) (xs0 : FVec F S8x128x128 .bf16) (xs2 : FVec F S128x8 .f32) : FVec F S256x128 .f32 :=
  k0_pay72 (tile_19 x1 x8 x9) (View.ld xs0 (Rect.unit (s := S8x128x128) ![3, 0, 0] S1x128x128.size inb_S8x128x128_S1x128x128_3_0_0)) (View.ld xs2 (Rect.unit (s := S128x8) ![0, 3] S128x1.size inb_S128x8_S128x1_0_3))

def tile_24 (x1 : FVec F S256x2048 .bf16) (x8 : FVec F S1x1024 .f32) (x9 : FVec F S1x1024 .f32) (xs0 : FVec F S8x128x128 .bf16) (xs2 : FVec F S128x8 .f32) : FVec F S256x128 .f32 :=
  k0_pay73 (tile_19 x1 x8 x9) (View.ld xs0 (Rect.unit (s := S8x128x128) ![4, 0, 0] S1x128x128.size inb_S8x128x128_S1x128x128_4_0_0)) (View.ld xs2 (Rect.unit (s := S128x8) ![0, 4] S128x1.size inb_S128x8_S128x1_0_4))

def tile_25 (x1 : FVec F S256x2048 .bf16) (x8 : FVec F S1x1024 .f32) (x9 : FVec F S1x1024 .f32) (xs0 : FVec F S8x128x128 .bf16) (xs2 : FVec F S128x8 .f32) : FVec F S256x128 .f32 :=
  k0_pay74 (tile_19 x1 x8 x9) (View.ld xs0 (Rect.unit (s := S8x128x128) ![5, 0, 0] S1x128x128.size inb_S8x128x128_S1x128x128_5_0_0)) (View.ld xs2 (Rect.unit (s := S128x8) ![0, 5] S128x1.size inb_S128x8_S128x1_0_5))

def tile_26 (x1 : FVec F S256x2048 .bf16) (x8 : FVec F S1x1024 .f32) (x9 : FVec F S1x1024 .f32) : FVec F S2x128x128 .bf16 :=
  k0_pay75 (tile_19 x1 x8 x9)

def tile_27 (x0 : FVec F S256x1024 .bf16) (x1 : FVec F S256x2048 .bf16) (x2 : FVec F S256x2048 .bf16) (x13 : FVec F S1024x1024 .bf16) (x14 : FVec F S1024x1024 .bf16) : FVec F S256x1024 .f32 :=
  k0_pay77 (tile_9 x0 x2 x13 x14) (tile_10 x1)

def tile_28 (x0 : FVec F S256x1024 .bf16) (x1 : FVec F S256x2048 .bf16) (x2 : FVec F S256x2048 .bf16) (x13 : FVec F S1024x1024 .bf16) (x14 : FVec F S1024x1024 .bf16) : FVec F S256x1024 .bf16 :=
  k0_pay78 (tile_9 x0 x2 x13 x14) (tile_10 x1)

def tile_29 (x0 : FVec F S256x1024 .bf16) (x1 : FVec F S256x2048 .bf16) (x2 : FVec F S256x2048 .bf16) (x13 : FVec F S1024x1024 .bf16) (x14 : FVec F S1024x1024 .bf16) : FVec F S2x128x128 .bf16 :=
  k0_pay80 (tile_9 x0 x2 x13 x14) (tile_10 x1)

def tile_30 (x1 : FVec F S256x2048 .bf16) (x8 : FVec F S1x1024 .f32) (x9 : FVec F S1x1024 .f32) : FVec F S2x128x128 .bf16 :=
  k0_pay81 (tile_19 x1 x8 x9)

def tile_31 (xs1 : FVec F S8x128x128 .bf16) : FVec F S2x128x128 .bf16 :=
  k0_pay82 (View.ld xs1 (Rect.unit (s := S8x128x128) ![0, 0, 0] S1x128x128.size inb_S8x128x128_S1x128x128_0_0_0))

def tile_32 (x0 : FVec F S256x1024 .bf16) (x1 : FVec F S256x2048 .bf16) (x2 : FVec F S256x2048 .bf16) (x13 : FVec F S1024x1024 .bf16) (x14 : FVec F S1024x1024 .bf16) (xs1 : FVec F S8x128x128 .bf16) : FVec F S256x128 .f32 :=
  k0_pay83 (tile_29 x0 x1 x2 x13 x14) (tile_31 xs1)

def tile_33 (x0 : FVec F S256x1024 .bf16) (x1 : FVec F S256x2048 .bf16) (x2 : FVec F S256x2048 .bf16) (x13 : FVec F S1024x1024 .bf16) (x14 : FVec F S1024x1024 .bf16) : FVec F S1x128 .f32 :=
  k0_pay85 (tile_27 x0 x1 x2 x13 x14)

def tile_34 (x0 : FVec F S256x1024 .bf16) (x1 : FVec F S256x2048 .bf16) (x2 : FVec F S256x2048 .bf16) (x13 : FVec F S1024x1024 .bf16) (x14 : FVec F S1024x1024 .bf16) (xs1 : FVec F S8x128x128 .bf16) : FVec F S256x128 .f32 :=
  k0_pay87 (tile_28 x0 x1 x2 x13 x14) (View.ld xs1 (Rect.unit (s := S8x128x128) ![1, 0, 0] S1x128x128.size inb_S8x128x128_S1x128x128_1_0_0))

def tile_35 (x0 : FVec F S256x1024 .bf16) (x1 : FVec F S256x2048 .bf16) (x2 : FVec F S256x2048 .bf16) (x8 : FVec F S1x1024 .f32) (x9 : FVec F S1x1024 .f32) (x13 : FVec F S1024x1024 .bf16) (x14 : FVec F S1024x1024 .bf16) (xo17 : FVec F S8x128x128 .f32) : FVec F S128x128 .f32 :=
  k0_pay88 (tile_19 x1 x8 x9) (tile_28 x0 x1 x2 x13 x14) k0_pay79 (View.ld xo17 (Rect.unit (s := S8x128x128) ![1, 0, 0] S1x128x128.size inb_S8x128x128_S1x128x128_1_0_0))

def tile_36 (x0 : FVec F S256x1024 .bf16) (x1 : FVec F S256x2048 .bf16) (x2 : FVec F S256x2048 .bf16) (x13 : FVec F S1024x1024 .bf16) (x14 : FVec F S1024x1024 .bf16) : FVec F S1x128 .f32 :=
  k0_pay90 (tile_27 x0 x1 x2 x13 x14)

def tile_37 (x0 : FVec F S256x1024 .bf16) (x1 : FVec F S256x2048 .bf16) (x2 : FVec F S256x2048 .bf16) (x13 : FVec F S1024x1024 .bf16) (x14 : FVec F S1024x1024 .bf16) (xs1 : FVec F S8x128x128 .bf16) : FVec F S256x128 .f32 :=
  k0_pay92 (tile_28 x0 x1 x2 x13 x14) (View.ld xs1 (Rect.unit (s := S8x128x128) ![2, 0, 0] S1x128x128.size inb_S8x128x128_S1x128x128_2_0_0))

def tile_38 (x0 : FVec F S256x1024 .bf16) (x1 : FVec F S256x2048 .bf16) (x2 : FVec F S256x2048 .bf16) (x13 : FVec F S1024x1024 .bf16) (x14 : FVec F S1024x1024 .bf16) : FVec F S1x128 .f32 :=
  k0_pay94 (tile_27 x0 x1 x2 x13 x14)

def tile_39 (x0 : FVec F S256x1024 .bf16) (x1 : FVec F S256x2048 .bf16) (x2 : FVec F S256x2048 .bf16) (x13 : FVec F S1024x1024 .bf16) (x14 : FVec F S1024x1024 .bf16) : FVec F S2x128x128 .bf16 :=
  k0_pay95 (tile_28 x0 x1 x2 x13 x14)

def tile_40 (x1 : FVec F S256x2048 .bf16) (x8 : FVec F S1x1024 .f32) (x9 : FVec F S1x1024 .f32) : FVec F S2x128x128 .bf16 :=
  k0_pay96 (tile_19 x1 x8 x9)

def tile_41 (x0 : FVec F S256x1024 .bf16) (x1 : FVec F S256x2048 .bf16) (x2 : FVec F S256x2048 .bf16) (x13 : FVec F S1024x1024 .bf16) (x14 : FVec F S1024x1024 .bf16) (xs1 : FVec F S8x128x128 .bf16) : FVec F S256x128 .f32 :=
  k0_pay97 (tile_39 x0 x1 x2 x13 x14) (View.ld xs1 (Rect.unit (s := S8x128x128) ![3, 0, 0] S1x128x128.size inb_S8x128x128_S1x128x128_3_0_0))

def tile_42 (x0 : FVec F S256x1024 .bf16) (x1 : FVec F S256x2048 .bf16) (x2 : FVec F S256x2048 .bf16) (x13 : FVec F S1024x1024 .bf16) (x14 : FVec F S1024x1024 .bf16) : FVec F S1x128 .f32 :=
  k0_pay99 (tile_27 x0 x1 x2 x13 x14)

def tile_43 (x0 : FVec F S256x1024 .bf16) (x1 : FVec F S256x2048 .bf16) (x2 : FVec F S256x2048 .bf16) (x13 : FVec F S1024x1024 .bf16) (x14 : FVec F S1024x1024 .bf16) (xs1 : FVec F S8x128x128 .bf16) : FVec F S256x128 .f32 :=
  k0_pay101 (tile_28 x0 x1 x2 x13 x14) (View.ld xs1 (Rect.unit (s := S8x128x128) ![4, 0, 0] S1x128x128.size inb_S8x128x128_S1x128x128_4_0_0))

def tile_44 (xo17 : FVec F S8x128x128 .f32) : FVec F S128x128 .f32 :=
  k0_pay102 (View.ld xo17 (Rect.unit (s := S8x128x128) ![4, 0, 0] S1x128x128.size inb_S8x128x128_S1x128x128_4_0_0))

def tile_45 (x0 : FVec F S256x1024 .bf16) (x1 : FVec F S256x2048 .bf16) (x2 : FVec F S256x2048 .bf16) (x8 : FVec F S1x1024 .f32) (x9 : FVec F S1x1024 .f32) (x13 : FVec F S1024x1024 .bf16) (x14 : FVec F S1024x1024 .bf16) : FVec F S128x128 .f32 :=
  k0_pay103 (tile_19 x1 x8 x9) (tile_28 x0 x1 x2 x13 x14)

def tile_46 (x0 : FVec F S256x1024 .bf16) (x1 : FVec F S256x2048 .bf16) (x2 : FVec F S256x2048 .bf16) (x13 : FVec F S1024x1024 .bf16) (x14 : FVec F S1024x1024 .bf16) : FVec F S1x128 .f32 :=
  k0_pay105 (tile_27 x0 x1 x2 x13 x14)

def tile_47 (x0 : FVec F S256x1024 .bf16) (x1 : FVec F S256x2048 .bf16) (x2 : FVec F S256x2048 .bf16) (x13 : FVec F S1024x1024 .bf16) (x14 : FVec F S1024x1024 .bf16) (xs1 : FVec F S8x128x128 .bf16) : FVec F S256x128 .f32 :=
  k0_pay107 (tile_28 x0 x1 x2 x13 x14) (View.ld xs1 (Rect.unit (s := S8x128x128) ![5, 0, 0] S1x128x128.size inb_S8x128x128_S1x128x128_5_0_0))

def tile_48 (x0 : FVec F S256x1024 .bf16) (x1 : FVec F S256x2048 .bf16) (x2 : FVec F S256x2048 .bf16) (x13 : FVec F S1024x1024 .bf16) (x14 : FVec F S1024x1024 .bf16) : FVec F S1x128 .f32 :=
  k0_pay109 (tile_27 x0 x1 x2 x13 x14)

def tile_49 (x0 : FVec F S256x1024 .bf16) (x1 : FVec F S256x2048 .bf16) (x2 : FVec F S256x2048 .bf16) (x13 : FVec F S1024x1024 .bf16) (x14 : FVec F S1024x1024 .bf16) (xs1 : FVec F S8x128x128 .bf16) : FVec F S256x128 .f32 :=
  k0_pay111 (tile_28 x0 x1 x2 x13 x14) (View.ld xs1 (Rect.unit (s := S8x128x128) ![6, 0, 0] S1x128x128.size inb_S8x128x128_S1x128x128_6_0_0))

def tile_50 (x0 : FVec F S256x1024 .bf16) (x1 : FVec F S256x2048 .bf16) (x2 : FVec F S256x2048 .bf16) (x13 : FVec F S1024x1024 .bf16) (x14 : FVec F S1024x1024 .bf16) : FVec F S1x128 .f32 :=
  k0_pay113 (tile_27 x0 x1 x2 x13 x14)

def tile_51 (x0 : FVec F S256x1024 .bf16) (x1 : FVec F S256x2048 .bf16) (x2 : FVec F S256x2048 .bf16) (x13 : FVec F S1024x1024 .bf16) (x14 : FVec F S1024x1024 .bf16) (xs1 : FVec F S8x128x128 .bf16) : FVec F S256x128 .f32 :=
  k0_pay115 (tile_28 x0 x1 x2 x13 x14) (View.ld xs1 (Rect.unit (s := S8x128x128) ![7, 0, 0] S1x128x128.size inb_S8x128x128_S1x128x128_7_0_0))

def tile_52 (x0 : FVec F S256x1024 .bf16) (x1 : FVec F S256x2048 .bf16) (x2 : FVec F S256x2048 .bf16) (x8 : FVec F S1x1024 .f32) (x9 : FVec F S1x1024 .f32) (x13 : FVec F S1024x1024 .bf16) (x14 : FVec F S1024x1024 .bf16) : FVec F S2x128x128 .f32 :=
  k0_pay116 (tile_19 x1 x8 x9) (tile_28 x0 x1 x2 x13 x14)

def tile_53 (x0 : FVec F S256x1024 .bf16) (x1 : FVec F S256x2048 .bf16) (x2 : FVec F S256x2048 .bf16) (x13 : FVec F S1024x1024 .bf16) (x14 : FVec F S1024x1024 .bf16) (xs1 : FVec F S8x128x128 .bf16) : FVec F S256x1024 .f32 :=
  k0_pay119 (tile_32 x0 x1 x2 x13 x14 xs1) (tile_34 x0 x1 x2 x13 x14 xs1) (tile_37 x0 x1 x2 x13 x14 xs1) (tile_41 x0 x1 x2 x13 x14 xs1) (tile_43 x0 x1 x2 x13 x14 xs1) (tile_47 x0 x1 x2 x13 x14 xs1) (tile_49 x0 x1 x2 x13 x14 xs1) (tile_51 x0 x1 x2 x13 x14 xs1)

/-- What the body writes of the cotangent of `ya`. -/
def dyaT (x0 : FVec F S256x1024 .bf16) (x2 : FVec F S256x2048 .bf16) (x12 : FVec F S1024x1024 .bf16) (x14 : FVec F S1024x1024 .bf16) : FVec F S256x1024 .bf16 :=
  k0_pay52 (tile_4 x0 x2 x14) x12

/-- … of the cotangent of `v`. -/
def dvT (x0 : FVec F S256x1024 .bf16) (x1 : FVec F S256x2048 .bf16) (x2 : FVec F S256x2048 .bf16) (x8 : FVec F S1x1024 .f32) (x13 : FVec F S1024x1024 .bf16) (x14 : FVec F S1024x1024 .bf16) (xs1 : FVec F S8x128x128 .bf16) : FVec F S256x1024 .bf16 :=
  k0_pay1 (tile_13 x1) (tile_14 x1) (tile_15 x1) (tile_16 x8) (tile_53 x0 x1 x2 x13 x14 xs1)

/-- … of the cotangent of `u`. -/
def duT (x0 : FVec F S256x1024 .bf16) (x1 : FVec F S256x2048 .bf16) (x2 : FVec F S256x2048 .bf16) (x8 : FVec F S1x1024 .f32) (x9 : FVec F S1x1024 .f32) (x13 : FVec F S1024x1024 .bf16) (x14 : FVec F S1024x1024 .bf16) (xs0 : FVec F S8x128x128 .bf16) (xs2 : FVec F S128x8 .f32) : FVec F S256x1024 .bf16 :=
  k0_pay76 (tile_9 x0 x2 x13 x14) (tile_11 x1) (tile_19 x1 x8 x9) (tile_20 x1 x8 x9 xs0 xs2) (tile_21 x1 x8 x9 xs0 xs2) (tile_22 x1 x8 x9 xs0 xs2) (tile_23 x1 x8 x9 xs0 xs2) (tile_24 x1 x8 x9 xs0 xs2) (tile_25 x1 x8 x9 xs0 xs2) (tile_26 x1 x8 x9) (View.ld xs0 (Rect.unit (s := S8x128x128) ![6, 0, 0] S1x128x128.size inb_S8x128x128_S1x128x128_6_0_0)) (View.ld xs2 (Rect.unit (s := S128x8) ![0, 6] S128x1.size inb_S128x8_S128x1_0_6)) (View.ld xs0 (Rect.unit (s := S8x128x128) ![7, 0, 0] S1x128x128.size inb_S8x128x128_S1x128x128_7_0_0)) (View.ld xs2 (Rect.unit (s := S128x8) ![0, 7] S128x1.size inb_S128x8_S128x1_0_7))

/-- … of the cotangent of the second gate. -/
def dgbT (x0 : FVec F S256x1024 .bf16) (x2 : FVec F S256x2048 .bf16) (x4 : FVec F S256x1024 .bf16) (x14 : FVec F S1024x1024 .bf16) : FVec F S256x1024 .bf16 :=
  k0_pay51 (tile_7 x0 x4 x14) (tile_8 x2)

/-- … of the cotangent of the first gate. -/
def dgaT (x0 : FVec F S256x1024 .bf16) (x2 : FVec F S256x2048 .bf16) (x3 : FVec F S256x1024 .bf16) (x14 : FVec F S1024x1024 .bf16) : FVec F S256x1024 .bf16 :=
  k0_pay48 (tile_1 x0 x14) (tile_2 x2) x3

/-- The running weight gradients after the body. -/
def accPaT (x0 : FVec F S256x1024 .bf16) (x2 : FVec F S256x2048 .bf16) (x5 : FVec F S256x1024 .bf16) (x14 : FVec F S1024x1024 .bf16) (xs3 : FVec F S1024x1024 .f32) : FVec F S1024x1024 .f32 :=
  k0_pay45 (tile_6 x0 x2 x5 x14 xs3)

/-- The second of them. -/
def accPbT (x0 : FVec F S256x1024 .bf16) (x2 : FVec F S256x2048 .bf16) (x6 : FVec F S256x1024 .bf16) (x14 : FVec F S1024x1024 .bf16) (xs4 : FVec F S1024x1024 .f32) : FVec F S1024x1024 .f32 :=
  k0_pay46 (tile_5 x0 x2 x14) xs4 x6

/-- The third. -/
def accOutT (x0 : FVec F S256x1024 .bf16) (x7 : FVec F S256x1024 .bf16) (xs5 : FVec F S1024x1024 .f32) : FVec F S1024x1024 .f32 :=
  k0_pay47 x0 xs5 x7

/-- The running gradient of the spatial bias. -/
def dbsT (x0 : FVec F S256x1024 .bf16) (x1 : FVec F S256x2048 .bf16) (x2 : FVec F S256x2048 .bf16) (x13 : FVec F S1024x1024 .bf16) (x14 : FVec F S1024x1024 .bf16) (xo18 : FVec F S8x128 .f32) : FVec F S8x128 .f32 :=
  k0_pay118 (tile_27 x0 x1 x2 x13 x14) (tile_33 x0 x1 x2 x13 x14) (tile_36 x0 x1 x2 x13 x14) (tile_38 x0 x1 x2 x13 x14) (tile_42 x0 x1 x2 x13 x14) (tile_46 x0 x1 x2 x13 x14) (tile_48 x0 x1 x2 x13 x14) (tile_50 x0 x1 x2 x13 x14) xo18

/-- The running gradient of the scale. -/
def dlngT (x0 : FVec F S256x1024 .bf16) (x1 : FVec F S256x2048 .bf16) (x2 : FVec F S256x2048 .bf16) (x13 : FVec F S1024x1024 .bf16) (x14 : FVec F S1024x1024 .bf16) (xo19 : FVec F S1x1024 .f32) (xs1 : FVec F S8x128x128 .bf16) : FVec F S1x1024 .f32 :=
  k0_pay120 (tile_15 x1) (tile_32 x0 x1 x2 x13 x14 xs1) (tile_34 x0 x1 x2 x13 x14 xs1) (tile_37 x0 x1 x2 x13 x14 xs1) (tile_41 x0 x1 x2 x13 x14 xs1) (tile_43 x0 x1 x2 x13 x14 xs1) (tile_47 x0 x1 x2 x13 x14 xs1) (tile_49 x0 x1 x2 x13 x14 xs1) (tile_51 x0 x1 x2 x13 x14 xs1) xo19

/-- The running gradient of the shift. -/
def dlnbT (x0 : FVec F S256x1024 .bf16) (x1 : FVec F S256x2048 .bf16) (x2 : FVec F S256x2048 .bf16) (x13 : FVec F S1024x1024 .bf16) (x14 : FVec F S1024x1024 .bf16) (xo20 : FVec F S1x1024 .f32) (xs1 : FVec F S8x128x128 .bf16) : FVec F S1x1024 .f32 :=
  k0_pay121 (tile_32 x0 x1 x2 x13 x14 xs1) (tile_34 x0 x1 x2 x13 x14 xs1) (tile_37 x0 x1 x2 x13 x14 xs1) (tile_41 x0 x1 x2 x13 x14 xs1) (tile_43 x0 x1 x2 x13 x14 xs1) (tile_47 x0 x1 x2 x13 x14 xs1) (tile_49 x0 x1 x2 x13 x14 xs1) (tile_51 x0 x1 x2 x13 x14 xs1) xo20

/-- The running gradient of the spatial weight, group by group. -/
def dw0T (x0 : FVec F S256x1024 .bf16) (x1 : FVec F S256x2048 .bf16) (x2 : FVec F S256x2048 .bf16) (x8 : FVec F S1x1024 .f32) (x9 : FVec F S1x1024 .f32) (x13 : FVec F S1024x1024 .bf16) (x14 : FVec F S1024x1024 .bf16) (xo17 : FVec F S8x128x128 .f32) : FVec F S1x128x128 .f32 :=
  k0_pay84 k0_pay79 (tile_29 x0 x1 x2 x13 x14) (tile_30 x1 x8 x9) (View.ld xo17 (Rect.unit (s := S8x128x128) ![0, 0, 0] S1x128x128.size inb_S8x128x128_S1x128x128_0_0_0))

/-- Group 1. -/
def dw1T (x0 : FVec F S256x1024 .bf16) (x1 : FVec F S256x2048 .bf16) (x2 : FVec F S256x2048 .bf16) (x8 : FVec F S1x1024 .f32) (x9 : FVec F S1x1024 .f32) (x13 : FVec F S1024x1024 .bf16) (x14 : FVec F S1024x1024 .bf16) (xo17 : FVec F S8x128x128 .f32) : FVec F S1x128x128 .f32 :=
  k0_pay89 (tile_35 x0 x1 x2 x8 x9 x13 x14 xo17)

/-- Group 2. -/
def dw2T (x0 : FVec F S256x1024 .bf16) (x1 : FVec F S256x2048 .bf16) (x2 : FVec F S256x2048 .bf16) (x8 : FVec F S1x1024 .f32) (x9 : FVec F S1x1024 .f32) (x13 : FVec F S1024x1024 .bf16) (x14 : FVec F S1024x1024 .bf16) (xo17 : FVec F S8x128x128 .f32) : FVec F S1x128x128 .f32 :=
  k0_pay93 (tile_19 x1 x8 x9) (tile_28 x0 x1 x2 x13 x14) k0_pay79 (View.ld xo17 (Rect.unit (s := S8x128x128) ![2, 0, 0] S1x128x128.size inb_S8x128x128_S1x128x128_2_0_0))

/-- Group 3. -/
def dw3T (x0 : FVec F S256x1024 .bf16) (x1 : FVec F S256x2048 .bf16) (x2 : FVec F S256x2048 .bf16) (x8 : FVec F S1x1024 .f32) (x9 : FVec F S1x1024 .f32) (x13 : FVec F S1024x1024 .bf16) (x14 : FVec F S1024x1024 .bf16) (xo17 : FVec F S8x128x128 .f32) : FVec F S1x128x128 .f32 :=
  k0_pay98 k0_pay79 (tile_39 x0 x1 x2 x13 x14) (tile_40 x1 x8 x9) (View.ld xo17 (Rect.unit (s := S8x128x128) ![3, 0, 0] S1x128x128.size inb_S8x128x128_S1x128x128_3_0_0))

/-- Group 4. -/
def dw4T (x0 : FVec F S256x1024 .bf16) (x1 : FVec F S256x2048 .bf16) (x2 : FVec F S256x2048 .bf16) (x8 : FVec F S1x1024 .f32) (x9 : FVec F S1x1024 .f32) (x13 : FVec F S1024x1024 .bf16) (x14 : FVec F S1024x1024 .bf16) (xo17 : FVec F S8x128x128 .f32) : FVec F S1x128x128 .f32 :=
  k0_pay104 k0_pay79 (tile_44 xo17) (tile_45 x0 x1 x2 x8 x9 x13 x14)

/-- Group 5. -/
def dw5T (x0 : FVec F S256x1024 .bf16) (x1 : FVec F S256x2048 .bf16) (x2 : FVec F S256x2048 .bf16) (x8 : FVec F S1x1024 .f32) (x9 : FVec F S1x1024 .f32) (x13 : FVec F S1024x1024 .bf16) (x14 : FVec F S1024x1024 .bf16) (xo17 : FVec F S8x128x128 .f32) : FVec F S1x128x128 .f32 :=
  k0_pay108 (tile_19 x1 x8 x9) (tile_28 x0 x1 x2 x13 x14) k0_pay79 (View.ld xo17 (Rect.unit (s := S8x128x128) ![5, 0, 0] S1x128x128.size inb_S8x128x128_S1x128x128_5_0_0))

/-- Group 6. -/
def dw6T (x0 : FVec F S256x1024 .bf16) (x1 : FVec F S256x2048 .bf16) (x2 : FVec F S256x2048 .bf16) (x8 : FVec F S1x1024 .f32) (x9 : FVec F S1x1024 .f32) (x13 : FVec F S1024x1024 .bf16) (x14 : FVec F S1024x1024 .bf16) (xo17 : FVec F S8x128x128 .f32) : FVec F S1x128x128 .f32 :=
  k0_pay112 (tile_19 x1 x8 x9) (tile_28 x0 x1 x2 x13 x14) k0_pay79 (View.ld xo17 (Rect.unit (s := S8x128x128) ![6, 0, 0] S1x128x128.size inb_S8x128x128_S1x128x128_6_0_0))

/-- Group 7. -/
def dw7T (x0 : FVec F S256x1024 .bf16) (x1 : FVec F S256x2048 .bf16) (x2 : FVec F S256x2048 .bf16) (x8 : FVec F S1x1024 .f32) (x9 : FVec F S1x1024 .f32) (x13 : FVec F S1024x1024 .bf16) (x14 : FVec F S1024x1024 .bf16) (xo17 : FVec F S8x128x128 .f32) : FVec F S1x128x128 .f32 :=
  k0_pay117 k0_pay79 (tile_52 x0 x1 x2 x8 x9 x13 x14) (View.ld xo17 (Rect.unit (s := S8x128x128) ![7, 0, 0] S1x128x128.size inb_S8x128x128_S1x128x128_7_0_0))

/-! ## What the first point prepares in scratch -/

/-- A block of zeros, as the running sums start. -/
def zeroT (s : Shape) : FVec F s .f32 := broadcast s (FloatOps.ofBits .f32 0#32)

theorem broadcast_at {s : Shape} (x : F .f32) (i : s.Idx) : broadcast s x i = x := rfl

/-- The lower triangle of one group's weights. -/
def wslab (x10 : FVec F S1x8x128x128 .f32) (g : ℕ) (inb : ∀ a, (![0, g, 0, 0] : Fin 4 → ℕ) a + S1x1x128x128.size a ≤ S1x8x128x128.size a) :
    FVec F S1x128x128 .bf16 :=
  k0_pay36 k0_pay79 (shapeCast S128x128 (View.ld (Val := Elt F) (e' := .f32) x10 (Rect.unit (s := S1x8x128x128) ![0, g, 0, 0] S1x1x128x128.size inb)) shapeCasts_S1x1x128x128_S128x128)

/-- The same, transposed. -/
def wtslab (x10 : FVec F S1x8x128x128 .f32) (g : ℕ) (inb : ∀ a, (![0, g, 0, 0] : Fin 4 → ℕ) a + S1x1x128x128.size a ≤ S1x8x128x128.size a) :
    FVec F S1x128x128 .bf16 :=
  k0_pay37 k0_pay79 (shapeCast S128x128 (View.ld (Val := Elt F) (e' := .f32) x10 (Rect.unit (s := S1x8x128x128) ![0, g, 0, 0] S1x1x128x128.size inb)) shapeCasts_S1x1x128x128_S128x128)

/-- The masked weights of every group. -/
def wT (x10 : FVec F S1x8x128x128 .f32) : FVec F S8x128x128 .bf16 :=
  View.canon (Val := Elt F) (e := .bf16) [⟨Rect.unit (s := S8x128x128) ![7, 0, 0] S1x128x128.size inb_S8x128x128_S1x128x128_7_0_0, wslab x10 7 inb_S1x8x128x128_S1x1x128x128_0_7_0_0⟩, ⟨Rect.unit (s := S8x128x128) ![6, 0, 0] S1x128x128.size inb_S8x128x128_S1x128x128_6_0_0, wslab x10 6 inb_S1x8x128x128_S1x1x128x128_0_6_0_0⟩, ⟨Rect.unit (s := S8x128x128) ![5, 0, 0] S1x128x128.size inb_S8x128x128_S1x128x128_5_0_0, wslab x10 5 inb_S1x8x128x128_S1x1x128x128_0_5_0_0⟩, ⟨Rect.unit (s := S8x128x128) ![4, 0, 0] S1x128x128.size inb_S8x128x128_S1x128x128_4_0_0, wslab x10 4 inb_S1x8x128x128_S1x1x128x128_0_4_0_0⟩, ⟨Rect.unit (s := S8x128x128) ![3, 0, 0] S1x128x128.size inb_S8x128x128_S1x128x128_3_0_0, wslab x10 3 inb_S1x8x128x128_S1x1x128x128_0_3_0_0⟩, ⟨Rect.unit (s := S8x128x128) ![2, 0, 0] S1x128x128.size inb_S8x128x128_S1x128x128_2_0_0, wslab x10 2 inb_S1x8x128x128_S1x1x128x128_0_2_0_0⟩, ⟨Rect.unit (s := S8x128x128) ![1, 0, 0] S1x128x128.size inb_S8x128x128_S1x128x128_1_0_0, wslab x10 1 inb_S1x8x128x128_S1x1x128x128_0_1_0_0⟩, ⟨Rect.unit (s := S8x128x128) ![0, 0, 0] S1x128x128.size inb_S8x128x128_S1x128x128_0_0_0, wslab x10 0 inb_S1x8x128x128_S1x1x128x128_0_0_0_0⟩]

/-- Their transposes. -/
def wtT (x10 : FVec F S1x8x128x128 .f32) : FVec F S8x128x128 .bf16 :=
  View.canon (Val := Elt F) (e := .bf16) [⟨Rect.unit (s := S8x128x128) ![7, 0, 0] S1x128x128.size inb_S8x128x128_S1x128x128_7_0_0, wtslab x10 7 inb_S1x8x128x128_S1x1x128x128_0_7_0_0⟩, ⟨Rect.unit (s := S8x128x128) ![6, 0, 0] S1x128x128.size inb_S8x128x128_S1x128x128_6_0_0, wtslab x10 6 inb_S1x8x128x128_S1x1x128x128_0_6_0_0⟩, ⟨Rect.unit (s := S8x128x128) ![5, 0, 0] S1x128x128.size inb_S8x128x128_S1x128x128_5_0_0, wtslab x10 5 inb_S1x8x128x128_S1x1x128x128_0_5_0_0⟩, ⟨Rect.unit (s := S8x128x128) ![4, 0, 0] S1x128x128.size inb_S8x128x128_S1x128x128_4_0_0, wtslab x10 4 inb_S1x8x128x128_S1x1x128x128_0_4_0_0⟩, ⟨Rect.unit (s := S8x128x128) ![3, 0, 0] S1x128x128.size inb_S8x128x128_S1x128x128_3_0_0, wtslab x10 3 inb_S1x8x128x128_S1x1x128x128_0_3_0_0⟩, ⟨Rect.unit (s := S8x128x128) ![2, 0, 0] S1x128x128.size inb_S8x128x128_S1x128x128_2_0_0, wtslab x10 2 inb_S1x8x128x128_S1x1x128x128_0_2_0_0⟩, ⟨Rect.unit (s := S8x128x128) ![1, 0, 0] S1x128x128.size inb_S8x128x128_S1x128x128_1_0_0, wtslab x10 1 inb_S1x8x128x128_S1x1x128x128_0_1_0_0⟩, ⟨Rect.unit (s := S8x128x128) ![0, 0, 0] S1x128x128.size inb_S8x128x128_S1x128x128_0_0_0, wtslab x10 0 inb_S1x8x128x128_S1x1x128x128_0_0_0_0⟩]

/-- The biases, one column for each group. -/
def bsT (x11 : FVec F S1x8x128 .f32) : FVec F S128x8 .f32 := k0_pay38 x11

/-- A read of what stores left, through a rectangle. -/
theorem readCov_ld {sp : Space} {s : Shape} {e : EltTy} (v : View sig .tc sp s e) (L : List (View.Piece (Elt F) s e)) (r : Rect s) :
    v.readCov L r.toLoadRect = View.ld (View.canon L) r := View.readCov_eq_canon' v L _

/-- A read of one slab does not see a store to another. -/
theorem readCov_skip {sp : Space} {e : EltTy} (v : View sig .tc sp S8x128x128 e) (a b : ℕ) (h : a ≠ b)
    (ia : ∀ x, (![a, 0, 0] : Fin 3 → ℕ) x + (![1, 128, 128] : Fin 3 → ℕ) x ≤ S8x128x128.size x)
    (ib : ∀ x, (![b, 0, 0] : Fin 3 → ℕ) x + (![1, 128, 128] : Fin 3 → ℕ) x ≤ S8x128x128.size x)
    (w : S1x128x128.Idx → Elt F e) (L : List (View.Piece (Elt F) S8x128x128 e)) :
    v.readCov (⟨Rect.unit (s := S8x128x128) ![a, 0, 0] ![1, 128, 128] ia, w⟩ :: L) (Rect.unit (s := S8x128x128) ![b, 0, 0] ![1, 128, 128] ib).toLoadRect
      = v.readCov L (Rect.unit (s := S8x128x128) ![b, 0, 0] ![1, 128, 128] ib).toLoadRect := by
  rw [readCov_ld, readCov_ld]
  funext j
  refine View.canon_cons_of_not_mem _ _ fun hm => h ?_
  have h1 := (Rect.mem_set_unit (inb := ia)).mp hm 0
  have h2 : ((Rect.unit (s := S8x128x128) ![b, 0, 0] ![1, 128, 128] ib).toLoadRect.idx j 0).val = b + 1 * (j 0).val := rfl
  have h3 : (j 0).val < 1 := (j 0).isLt
  have h4 : a ≤ b + 1 * (j 0).val ∧ b + 1 * (j 0).val < a + 1 := h1
  omega

end Cert.KernelIdeal.Whole

end
-- ==== Proof.Merge.Gates.lean ====
module

public import proofs.«01_k».proof.Proof.Merge.Tiles
public import proofs.«01_k».proof.Proof.Gen.ReferenceIdeal.Read
public import Idealize.ShloMosaic.Lib.Pointwise

@[expose] public section

set_option maxRecDepth 16384

noncomputable section

namespace Cert.KernelIdeal.Whole

open Cert.KernelIdeal.Gen Cert.ReferenceIdeal.Read
open Idealize.ShloMosaic Idealize.ShloMosaic.TcCoe Idealize.ShloMosaic.Tactic

/-! ## The tiles of the reference's values

The body at point `t` reads rows `256 t … 256 t + 255`. What it computes on them is the reference's value of the
same name, on those rows. -/

/-- Row `r` of tile `t`, as a row of the whole array. -/
def row (t : Fin 32) (r : Fin 256) : Fin 8192 := ⟨256 * t.val + r.val, by omega⟩

/-- The blocks of one point, of the arguments `a0 … a9`. -/
structure Blocks (t : Fin 32) (x0 : FVec Ideal S256x1024 .bf16) (x1 x2 : FVec Ideal S256x2048 .bf16) (x3 x4 x5 x6 x7 : FVec Ideal S256x1024 .bf16)
    (x8 x9 : FVec Ideal S1x1024 .f32) (x12 x13 x14 : FVec Ideal S1024x1024 .bf16)
    (a0 : FVec Ideal S8192x1024 .bf16) (a1 : FVec Ideal S8192x6144 .bf16) (a2 : FVec Ideal S8192x1024 .bf16) (a3 a4 : FVec Ideal S1x1024 .f32)
    (a5 : FVec Ideal S1x8x128x128 .f32) (a6 : FVec Ideal S1x8x128 .f32) (a7 a8 a9 : FVec Ideal S1024x1024 .bf16) : Prop where
  h0 : ∀ r l, x0 (ix2 r l) = val_main_v119 (F := Ideal) a0 (ix2 (row t r) l)
  hu : ∀ r l, lo x1 (ix2 r l) = val_main_v1 (F := Ideal) a1 (ix2 (row t r) l)
  hv : ∀ r l, hi x1 (ix2 r l) = val_main_v2 (F := Ideal) a1 (ix2 (row t r) l)
  hga : ∀ r l, lo x2 (ix2 r l) = val_main_v3 (F := Ideal) a1 (ix2 (row t r) l)
  hgb : ∀ r l, hi x2 (ix2 r l) = val_main_v4 (F := Ideal) a1 (ix2 (row t r) l)
  h3 : ∀ r l, x3 (ix2 r l) = val_main_v104 (F := Ideal) a2 a7 (ix2 (row t r) l)
  h4 : ∀ r l, x4 (ix2 r l) = val_main_v115 (F := Ideal) a1 a3 a4 a5 a6 a8 (ix2 (row t r) l)
  h5 : ∀ r l, x5 (ix2 r l) = val_main_v5 (F := Ideal) a2 (ix2 (row t r) l)
  h6 : ∀ r l, x6 (ix2 r l) = val_main_v94 (F := Ideal) a1 a3 a4 a5 a6 (ix2 (row t r) l)
  h7 : ∀ r l, x7 (ix2 r l) = val_main_v117 (F := Ideal) a1 a2 a3 a4 a5 a6 a7 a8 (ix2 (row t r) l)
  h8 : x8 = a3
  h9 : x9 = a4
  h12 : ∀ i j, x12 (ix2 i j) = val_main_v6 (F := Ideal) a7 (ix2 i j)
  h13 : ∀ i j, x13 (ix2 i j) = val_main_v7 (F := Ideal) a8 (ix2 i j)
  h14 : ∀ i j, x14 (ix2 i j) = val_main_v8 (F := Ideal) a9 (ix2 i j)

variable {t : Fin 32} {x0 : FVec Ideal S256x1024 .bf16} {x1 x2 : FVec Ideal S256x2048 .bf16} {x3 x4 x5 x6 x7 : FVec Ideal S256x1024 .bf16}
    {x8 x9 : FVec Ideal S1x1024 .f32} {x12 x13 x14 : FVec Ideal S1024x1024 .bf16}
    {a0 : FVec Ideal S8192x1024 .bf16} {a1 : FVec Ideal S8192x6144 .bf16} {a2 : FVec Ideal S8192x1024 .bf16} {a3 a4 : FVec Ideal S1x1024 .f32}
    {a5 : FVec Ideal S1x8x128x128 .f32} {a6 : FVec Ideal S1x8x128 .f32} {a7 a8 a9 : FVec Ideal S1024x1024 .bf16}

theorem dm_at (h : Blocks t x0 x1 x2 x3 x4 x5 x6 x7 x8 x9 x12 x13 x14 a0 a1 a2 a3 a4 a5 a6 a7 a8 a9) (r : Fin 256) (l : Fin 1024) :
    tile_1 x0 x14 (ix2 r l) = val_main_v122 (F := Ideal) a0 a9 (ix2 (row t r) l) := by
  pointwise [tile_1, k0_pay39, val_main_v122]
  simp only [h.h0, h.h14]

theorem sa_at (h : Blocks t x0 x1 x2 x3 x4 x5 x6 x7 x8 x9 x12 x13 x14 a0 a1 a2 a3 a4 a5 a6 a7 a8 a9) (r : Fin 256) (l : Fin 1024) :
    tile_2 x2 (ix2 r l) = val_main_v100 (F := Ideal) a1 (ix2 (row t r) l) := by
  pointwise [tile_2, k0_pay40, val_main_v100, val_main_v99, val_main_v98, val_main_v97, val_main_v96, val_main_v95, val_main_cst_21, val_main_cst_22]
  simp only [h.hga, zero_sub]

theorem sb_at (h : Blocks t x0 x1 x2 x3 x4 x5 x6 x7 x8 x9 x12 x13 x14 a0 a1 a2 a3 a4 a5 a6 a7 a8 a9) (r : Fin 256) (l : Fin 1024) :
    tile_3 x2 (ix2 r l) = val_main_v111 (F := Ideal) a1 (ix2 (row t r) l) := by
  pointwise [tile_3, k0_pay41, val_main_v111, val_main_v110, val_main_v109, val_main_v108, val_main_v107, val_main_v106, val_main_cst_24, val_main_cst_25]
  simp only [h.hgb, zero_sub]

theorem dpa_at (h : Blocks t x0 x1 x2 x3 x4 x5 x6 x7 x8 x9 x12 x13 x14 a0 a1 a2 a3 a4 a5 a6 a7 a8 a9) (r : Fin 256) (l : Fin 1024) :
    tile_4 x0 x2 x14 (ix2 r l) = val_main_v129 (F := Ideal) a0 a1 a9 (ix2 (row t r) l) := by
  have e := dm_at h r l
  have e2 := sa_at h r l
  revert e e2
  pointwise [tile_1, tile_2, tile_4, k0_pay39, k0_pay40, k0_pay42, val_main_v129]
  intro e e2
  rw [e, e2]
  exact mul_comm _ _

theorem dpb_at (h : Blocks t x0 x1 x2 x3 x4 x5 x6 x7 x8 x9 x12 x13 x14 a0 a1 a2 a3 a4 a5 a6 a7 a8 a9) (r : Fin 256) (l : Fin 1024) :
    tile_5 x0 x2 x14 (ix2 r l) = val_main_v123 (F := Ideal) a0 a1 a9 (ix2 (row t r) l) := by
  have e := dm_at h r l
  have e2 := sb_at h r l
  revert e e2
  pointwise [tile_1, tile_3, tile_5, k0_pay39, k0_pay41, k0_pay43, val_main_v123]
  intro e e2
  rw [e, e2]
  exact mul_comm _ _

/-- The cotangent of `ya`. -/
theorem dya_at (h : Blocks t x0 x1 x2 x3 x4 x5 x6 x7 x8 x9 x12 x13 x14 a0 a1 a2 a3 a4 a5 a6 a7 a8 a9) (r : Fin 256) (l : Fin 1024) :
    dyaT x0 x2 x12 x14 (ix2 r l) = val_main_v133 (F := Ideal) a0 a1 a7 a9 (ix2 (row t r) l) := by
  have e := dpa_at h
  revert e
  unfold dyaT
  generalize tile_4 x0 x2 x14 = y
  intro e
  pointwise [k0_pay52, val_main_v133]
  simp only [e, h.h12]

/-- The cotangent of `yb`. -/
theorem dyb_at (h : Blocks t x0 x1 x2 x3 x4 x5 x6 x7 x8 x9 x12 x13 x14 a0 a1 a2 a3 a4 a5 a6 a7 a8 a9) (r : Fin 256) (l : Fin 1024) :
    tile_9 x0 x2 x13 x14 (ix2 r l) = val_main_v127 (F := Ideal) a0 a1 a8 a9 (ix2 (row t r) l) := by
  have e := dpb_at h
  revert e
  unfold tile_9
  generalize tile_5 x0 x2 x14 = y
  intro e
  pointwise [k0_pay53, val_main_v127]
  simp only [e, h.h13]

/-- The cotangent of the first gate. -/
theorem dga_at (h : Blocks t x0 x1 x2 x3 x4 x5 x6 x7 x8 x9 x12 x13 x14 a0 a1 a2 a3 a4 a5 a6 a7 a8 a9) (r : Fin 256) (l : Fin 1024) :
    dgaT x0 x2 x3 x14 (ix2 r l) = val_main_v134 (F := Ideal) a0 a1 a2 a7 a9 (ix2 (row t r) l) := by
  have e := dm_at h r l
  have e2 := sa_at h r l
  revert e e2
  unfold dgaT
  generalize tile_1 x0 x14 = y
  generalize tile_2 x2 = z
  intro e e2
  pointwise [k0_pay48, val_main_v134, val_main_v130, val_main_v103, val_main_v102, val_main_v101, val_main_cst_23]
  rw [e, e2, h.h3]

/-- The cotangent of the second gate. -/
theorem dgb_at (h : Blocks t x0 x1 x2 x3 x4 x5 x6 x7 x8 x9 x12 x13 x14 a0 a1 a2 a3 a4 a5 a6 a7 a8 a9) (r : Fin 256) (l : Fin 1024) :
    dgbT x0 x2 x4 x14 (ix2 r l) = val_main_v128 (F := Ideal) a0 a1 a3 a4 a5 a6 a8 a9 (ix2 (row t r) l) := by
  have e := dm_at h r l
  have e2 := sb_at h r l
  revert e e2
  unfold dgbT tile_7 tile_8
  generalize tile_1 x0 x14 = y
  generalize tile_3 x2 = z
  intro e e2
  pointwise [k0_pay51, k0_pay49, k0_pay50, val_main_v128, val_main_v124, val_main_v114, val_main_v113, val_main_v112, val_main_cst_26]
  rw [e, e2, h.h4]

/-- One tile's part of the gradient of the first projection. -/
theorem accPa_at (h : Blocks t x0 x1 x2 x3 x4 x5 x6 x7 x8 x9 x12 x13 x14 a0 a1 a2 a3 a4 a5 a6 a7 a8 a9) (s : FVec Ideal S1024x1024 .f32) (i j : Fin 1024) :
    accPaT x0 x2 x5 x14 s (ix2 i j)
      = s (ix2 i j) + ∑ r : Fin 256, val_main_v5 (F := Ideal) a2 (ix2 (row t r) i) * val_main_v129 (F := Ideal) a0 a1 a9 (ix2 (row t r) j) := by
  have e := dpa_at h
  revert e
  pointwise [accPaT, k0_pay45, tile_6, k0_pay44, tile_4, k0_pay42]
  intro e
  simp only [e, h.h5]

/-- One tile's part of the gradient of the second projection. -/
theorem accPb_at (h : Blocks t x0 x1 x2 x3 x4 x5 x6 x7 x8 x9 x12 x13 x14 a0 a1 a2 a3 a4 a5 a6 a7 a8 a9) (s : FVec Ideal S1024x1024 .f32) (i j : Fin 1024) :
    accPbT x0 x2 x6 x14 s (ix2 i j)
      = s (ix2 i j) + ∑ r : Fin 256, val_main_v94 (F := Ideal) a1 a3 a4 a5 a6 (ix2 (row t r) i) * val_main_v123 (F := Ideal) a0 a1 a9 (ix2 (row t r) j) := by
  have e := dpb_at h
  revert e
  unfold accPbT
  generalize tile_5 x0 x2 x14 = y
  intro e
  pointwise [k0_pay46]
  simp only [e, h.h6]

/-- One tile's part of the gradient of the output projection. -/
theorem accOut_at (h : Blocks t x0 x1 x2 x3 x4 x5 x6 x7 x8 x9 x12 x13 x14 a0 a1 a2 a3 a4 a5 a6 a7 a8 a9) (s : FVec Ideal S1024x1024 .f32) (i j : Fin 1024) :
    accOutT x0 x7 s (ix2 i j)
      = s (ix2 i j) + ∑ r : Fin 256, val_main_v117 (F := Ideal) a1 a2 a3 a4 a5 a6 a7 a8 (ix2 (row t r) i) * val_main_v119 (F := Ideal) a0 (ix2 (row t r) j) := by
  pointwise [accOutT, k0_pay47]
  simp only [h.h0, h.h7]

end Cert.KernelIdeal.Whole

end
-- ==== Proof.Merge.Reads.lean ====
module

public import proofs.«01_k».proof.Proof.Merge.Gates
public import proofs.«01_k».proof.Proof.Merge.Points
public import proofs.«01_k».proof.Proof.Gen.ReferenceIdeal.Read
public import Idealize.ShloMosaic.Lib.Pointwise
public import Idealize.ShloMosaic.Lib.Pipeline.ValueKit.Geometry

@[expose] public section

set_option maxRecDepth 16384

noncomputable section

namespace Cert.KernelIdeal.Whole

open Cert.KernelIdeal.Gen Cert.ReferenceIdeal.Read
open Idealize.ShloMosaic Idealize.ShloMosaic.TcCoe Idealize.ShloMosaic.Tactic

variable (m : (ℓ : Loc nD τ sig) → Buf (Elt Ideal) ℓ)

/-! ## The blocks that a point reads, as parts of the arrays -/

theorem index_0 : ∀ t : Fin cfg0.N, win0_0.index t = ![t.val, 0] := (by decide +kernel : ∀ t : Fin grid0.N, _)

theorem index_1 : ∀ t : Fin cfg0.N, win0_1.index t = ![t.val, 1] := (by decide +kernel : ∀ t : Fin grid0.N, _)

theorem index_2 : ∀ t : Fin cfg0.N, win0_2.index t = ![t.val, 2] := (by decide +kernel : ∀ t : Fin grid0.N, _)

theorem index_3 : ∀ t : Fin cfg0.N, win0_3.index t = ![t.val, 0] := (by decide +kernel : ∀ t : Fin grid0.N, _)

theorem index_4 : ∀ t : Fin cfg0.N, win0_4.index t = ![t.val, 0] := (by decide +kernel : ∀ t : Fin grid0.N, _)

theorem index_5 : ∀ t : Fin cfg0.N, win0_5.index t = ![t.val, 0] := (by decide +kernel : ∀ t : Fin grid0.N, _)

theorem index_6 : ∀ t : Fin cfg0.N, win0_6.index t = ![t.val, 0] := (by decide +kernel : ∀ t : Fin grid0.N, _)

theorem index_7 : ∀ t : Fin cfg0.N, win0_7.index t = ![t.val, 0] := (by decide +kernel : ∀ t : Fin grid0.N, _)

theorem index_8 : ∀ t : Fin cfg0.N, win0_8.index t = ![0, 0] := (by decide +kernel : ∀ t : Fin grid0.N, _)

theorem index_9 : ∀ t : Fin cfg0.N, win0_9.index t = ![0, 0] := (by decide +kernel : ∀ t : Fin grid0.N, _)

theorem index_10 : ∀ t : Fin cfg0.N, win0_10.index t = ![0, 0, 0, 0] := (by decide +kernel : ∀ t : Fin grid0.N, _)

theorem index_11 : ∀ t : Fin cfg0.N, win0_11.index t = ![0, 0, 0] := (by decide +kernel : ∀ t : Fin grid0.N, _)

theorem index_12 : ∀ t : Fin cfg0.N, win0_12.index t = ![0, 0] := (by decide +kernel : ∀ t : Fin grid0.N, _)

theorem index_13 : ∀ t : Fin cfg0.N, win0_13.index t = ![0, 0] := (by decide +kernel : ∀ t : Fin grid0.N, _)

theorem index_14 : ∀ t : Fin cfg0.N, win0_14.index t = ![0, 0] := (by decide +kernel : ∀ t : Fin grid0.N, _)

theorem iblk_0 (c : Dev nD) (t : Fin cfg0.N) (r : Fin 256) (l : Fin 1024) :
    iblk m c 0 t (ix2 r l) = V m c main_arg0 (ix2 (row (t.cast N_0) r) (l : Fin 1024)) := by
  have e := index_0 t
  unfold iblk
  show V m c main_arg0 (((cfg0.win 0).blk t).view.emb (ix2 r l)) = _
  refine congrArg _ (funext fun a => Fin.ext ?_)
  match a with
  | ⟨0, _⟩ => show win0_0.index t (0 : Fin 2) * 256 + 1 * r.val = 256 * t.val + r.val; rw [e]; show t.val * 256 + 1 * r.val = _; omega
  | ⟨1, _⟩ => show win0_0.index t (1 : Fin 2) * 1024 + 1 * l.val = l.val; rw [e]; show 0 * 1024 + 1 * l.val = _; omega

theorem iblk_1 (c : Dev nD) (t : Fin cfg0.N) (r : Fin 256) (l : Fin 2048) :
    iblk m c 1 t (ix2 r l) = V m c main_arg1 (ix2 (row (t.cast N_0) r) (⟨2048 + l.val, by have := l.isLt; omega⟩ : Fin 6144)) := by
  have e := index_1 t
  unfold iblk
  show V m c main_arg1 (((cfg0.win 1).blk t).view.emb (ix2 r l)) = _
  refine congrArg _ (funext fun a => Fin.ext ?_)
  match a with
  | ⟨0, _⟩ => show win0_1.index t (0 : Fin 2) * 256 + 1 * r.val = 256 * t.val + r.val; rw [e]; show t.val * 256 + 1 * r.val = _; omega
  | ⟨1, _⟩ => show win0_1.index t (1 : Fin 2) * 2048 + 1 * l.val = 2048 + l.val; rw [e]; show 1 * 2048 + 1 * l.val = _; omega

theorem iblk_2 (c : Dev nD) (t : Fin cfg0.N) (r : Fin 256) (l : Fin 2048) :
    iblk m c 2 t (ix2 r l) = V m c main_arg1 (ix2 (row (t.cast N_0) r) (⟨4096 + l.val, by have := l.isLt; omega⟩ : Fin 6144)) := by
  have e := index_2 t
  unfold iblk
  show V m c main_arg1 (((cfg0.win 2).blk t).view.emb (ix2 r l)) = _
  refine congrArg _ (funext fun a => Fin.ext ?_)
  match a with
  | ⟨0, _⟩ => show win0_2.index t (0 : Fin 2) * 256 + 1 * r.val = 256 * t.val + r.val; rw [e]; show t.val * 256 + 1 * r.val = _; omega
  | ⟨1, _⟩ => show win0_2.index t (1 : Fin 2) * 2048 + 1 * l.val = 4096 + l.val; rw [e]; show 2 * 2048 + 1 * l.val = _; omega

theorem iblk_3 (c : Dev nD) (t : Fin cfg0.N) (r : Fin 256) (l : Fin 1024) :
    iblk m c 3 t (ix2 r l) = V m c main_v91 (ix2 (row (t.cast N_0) r) (l : Fin 1024)) := by
  have e := index_3 t
  unfold iblk
  show V m c main_v91 (((cfg0.win 3).blk t).view.emb (ix2 r l)) = _
  refine congrArg _ (funext fun a => Fin.ext ?_)
  match a with
  | ⟨0, _⟩ => show win0_3.index t (0 : Fin 2) * 256 + 1 * r.val = 256 * t.val + r.val; rw [e]; show t.val * 256 + 1 * r.val = _; omega
  | ⟨1, _⟩ => show win0_3.index t (1 : Fin 2) * 1024 + 1 * l.val = l.val; rw [e]; show 0 * 1024 + 1 * l.val = _; omega

theorem iblk_4 (c : Dev nD) (t : Fin cfg0.N) (r : Fin 256) (l : Fin 1024) :
    iblk m c 4 t (ix2 r l) = V m c main_v92 (ix2 (row (t.cast N_0) r) (l : Fin 1024)) := by
  have e := index_4 t
  unfold iblk
  show V m c main_v92 (((cfg0.win 4).blk t).view.emb (ix2 r l)) = _
  refine congrArg _ (funext fun a => Fin.ext ?_)
  match a with
  | ⟨0, _⟩ => show win0_4.index t (0 : Fin 2) * 256 + 1 * r.val = 256 * t.val + r.val; rw [e]; show t.val * 256 + 1 * r.val = _; omega
  | ⟨1, _⟩ => show win0_4.index t (1 : Fin 2) * 1024 + 1 * l.val = l.val; rw [e]; show 0 * 1024 + 1 * l.val = _; omega

theorem iblk_5 (c : Dev nD) (t : Fin cfg0.N) (r : Fin 256) (l : Fin 1024) :
    iblk m c 5 t (ix2 r l) = V m c main_arg2 (ix2 (row (t.cast N_0) r) (l : Fin 1024)) := by
  have e := index_5 t
  unfold iblk
  show V m c main_arg2 (((cfg0.win 5).blk t).view.emb (ix2 r l)) = _
  refine congrArg _ (funext fun a => Fin.ext ?_)
  match a with
  | ⟨0, _⟩ => show win0_5.index t (0 : Fin 2) * 256 + 1 * r.val = 256 * t.val + r.val; rw [e]; show t.val * 256 + 1 * r.val = _; omega
  | ⟨1, _⟩ => show win0_5.index t (1 : Fin 2) * 1024 + 1 * l.val = l.val; rw [e]; show 0 * 1024 + 1 * l.val = _; omega

theorem iblk_6 (c : Dev nD) (t : Fin cfg0.N) (r : Fin 256) (l : Fin 1024) :
    iblk m c 6 t (ix2 r l) = V m c main_v90 (ix2 (row (t.cast N_0) r) (l : Fin 1024)) := by
  have e := index_6 t
  unfold iblk
  show V m c main_v90 (((cfg0.win 6).blk t).view.emb (ix2 r l)) = _
  refine congrArg _ (funext fun a => Fin.ext ?_)
  match a with
  | ⟨0, _⟩ => show win0_6.index t (0 : Fin 2) * 256 + 1 * r.val = 256 * t.val + r.val; rw [e]; show t.val * 256 + 1 * r.val = _; omega
  | ⟨1, _⟩ => show win0_6.index t (1 : Fin 2) * 1024 + 1 * l.val = l.val; rw [e]; show 0 * 1024 + 1 * l.val = _; omega

theorem iblk_7 (c : Dev nD) (t : Fin cfg0.N) (r : Fin 256) (l : Fin 1024) :
    iblk m c 7 t (ix2 r l) = V m c main_v93 (ix2 (row (t.cast N_0) r) (l : Fin 1024)) := by
  have e := index_7 t
  unfold iblk
  show V m c main_v93 (((cfg0.win 7).blk t).view.emb (ix2 r l)) = _
  refine congrArg _ (funext fun a => Fin.ext ?_)
  match a with
  | ⟨0, _⟩ => show win0_7.index t (0 : Fin 2) * 256 + 1 * r.val = 256 * t.val + r.val; rw [e]; show t.val * 256 + 1 * r.val = _; omega
  | ⟨1, _⟩ => show win0_7.index t (1 : Fin 2) * 1024 + 1 * l.val = l.val; rw [e]; show 0 * 1024 + 1 * l.val = _; omega

theorem iblk_8 (c : Dev nD) (t : Fin cfg0.N) : iblk m c 8 t = V m c main_arg3 := by
  have e := index_8 t
  funext y
  unfold iblk
  show V m c main_arg3 (((cfg0.win 8).blk t).view.emb y) = _
  refine congrArg _ (funext fun a => Fin.ext ?_)
  match a with
  | ⟨0, _⟩ => show win0_8.index t (0 : Fin 2) * 1 + 1 * (y 0).val = (y 0).val; rw [e]; show 0 * 1 + 1 * (y 0).val = _; omega
  | ⟨1, _⟩ => show win0_8.index t (1 : Fin 2) * 1024 + 1 * (y 1).val = (y 1).val; rw [e]; show 0 * 1024 + 1 * (y 1).val = _; omega

theorem iblk_9 (c : Dev nD) (t : Fin cfg0.N) : iblk m c 9 t = V m c main_arg4 := by
  have e := index_9 t
  funext y
  unfold iblk
  show V m c main_arg4 (((cfg0.win 9).blk t).view.emb y) = _
  refine congrArg _ (funext fun a => Fin.ext ?_)
  match a with
  | ⟨0, _⟩ => show win0_9.index t (0 : Fin 2) * 1 + 1 * (y 0).val = (y 0).val; rw [e]; show 0 * 1 + 1 * (y 0).val = _; omega
  | ⟨1, _⟩ => show win0_9.index t (1 : Fin 2) * 1024 + 1 * (y 1).val = (y 1).val; rw [e]; show 0 * 1024 + 1 * (y 1).val = _; omega

theorem iblk_10 (c : Dev nD) (t : Fin cfg0.N) : iblk m c 10 t = V m c main_arg5 := by
  have e := index_10 t
  funext y
  unfold iblk
  show V m c main_arg5 (((cfg0.win 10).blk t).view.emb y) = _
  refine congrArg _ (funext fun a => Fin.ext ?_)
  match a with
  | ⟨0, _⟩ => show win0_10.index t (0 : Fin 4) * 1 + 1 * (y 0).val = (y 0).val; rw [e]; show 0 * 1 + 1 * (y 0).val = _; omega
  | ⟨1, _⟩ => show win0_10.index t (1 : Fin 4) * 8 + 1 * (y 1).val = (y 1).val; rw [e]; show 0 * 8 + 1 * (y 1).val = _; omega
  | ⟨2, _⟩ => show win0_10.index t (2 : Fin 4) * 128 + 1 * (y 2).val = (y 2).val; rw [e]; show 0 * 128 + 1 * (y 2).val = _; omega
  | ⟨3, _⟩ => show win0_10.index t (3 : Fin 4) * 128 + 1 * (y 3).val = (y 3).val; rw [e]; show 0 * 128 + 1 * (y 3).val = _; omega

theorem iblk_11 (c : Dev nD) (t : Fin cfg0.N) : iblk m c 11 t = V m c main_arg6 := by
  have e := index_11 t
  funext y
  unfold iblk
  show V m c main_arg6 (((cfg0.win 11).blk t).view.emb y) = _
  refine congrArg _ (funext fun a => Fin.ext ?_)
  match a with
  | ⟨0, _⟩ => show win0_11.index t (0 : Fin 3) * 1 + 1 * (y 0).val = (y 0).val; rw [e]; show 0 * 1 + 1 * (y 0).val = _; omega
  | ⟨1, _⟩ => show win0_11.index t (1 : Fin 3) * 8 + 1 * (y 1).val = (y 1).val; rw [e]; show 0 * 8 + 1 * (y 1).val = _; omega
  | ⟨2, _⟩ => show win0_11.index t (2 : Fin 3) * 128 + 1 * (y 2).val = (y 2).val; rw [e]; show 0 * 128 + 1 * (y 2).val = _; omega

theorem iblk_12 (c : Dev nD) (t : Fin cfg0.N) : iblk m c 12 t = V m c main_arg7 := by
  have e := index_12 t
  funext y
  unfold iblk
  show V m c main_arg7 (((cfg0.win 12).blk t).view.emb y) = _
  refine congrArg _ (funext fun a => Fin.ext ?_)
  match a with
  | ⟨0, _⟩ => show win0_12.index t (0 : Fin 2) * 1024 + 1 * (y 0).val = (y 0).val; rw [e]; show 0 * 1024 + 1 * (y 0).val = _; omega
  | ⟨1, _⟩ => show win0_12.index t (1 : Fin 2) * 1024 + 1 * (y 1).val = (y 1).val; rw [e]; show 0 * 1024 + 1 * (y 1).val = _; omega

theorem iblk_13 (c : Dev nD) (t : Fin cfg0.N) : iblk m c 13 t = V m c main_arg8 := by
  have e := index_13 t
  funext y
  unfold iblk
  show V m c main_arg8 (((cfg0.win 13).blk t).view.emb y) = _
  refine congrArg _ (funext fun a => Fin.ext ?_)
  match a with
  | ⟨0, _⟩ => show win0_13.index t (0 : Fin 2) * 1024 + 1 * (y 0).val = (y 0).val; rw [e]; show 0 * 1024 + 1 * (y 0).val = _; omega
  | ⟨1, _⟩ => show win0_13.index t (1 : Fin 2) * 1024 + 1 * (y 1).val = (y 1).val; rw [e]; show 0 * 1024 + 1 * (y 1).val = _; omega

theorem iblk_14 (c : Dev nD) (t : Fin cfg0.N) : iblk m c 14 t = V m c main_arg9 := by
  have e := index_14 t
  funext y
  unfold iblk
  show V m c main_arg9 (((cfg0.win 14).blk t).view.emb y) = _
  refine congrArg _ (funext fun a => Fin.ext ?_)
  match a with
  | ⟨0, _⟩ => show win0_14.index t (0 : Fin 2) * 1024 + 1 * (y 0).val = (y 0).val; rw [e]; show 0 * 1024 + 1 * (y 0).val = _; omega
  | ⟨1, _⟩ => show win0_14.index t (1 : Fin 2) * 1024 + 1 * (y 1).val = (y 1).val; rw [e]; show 0 * 1024 + 1 * (y 1).val = _; omega

end Cert.KernelIdeal.Whole

end
-- ==== Proof.Merge.Host.lean ====
module

public import proofs.«01_k».proof.Proof.Gen.KernelIdeal.Frame.Runs
public import proofs.«01_k».proof.Proof.Gen.ReferenceIdeal.Read

@[expose] public section

set_option maxRecDepth 16384
set_option Elab.async false

noncomputable section

namespace Cert.KernelIdeal.Whole

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.ReferenceIdeal.Read
open Idealize.ShloMosaic.Pipeline (Dat Cfg Window BodyObligation cellOf)

variable {F : FTy → Type} [FloatOps F] [Named F]

variable (V0 : Valuation τ sig (Elt F))

/-! ## What the host operations before the kernel leave

The host operations compute the forward pass of this part of the step, which the kernel reads. Each buffer that is
read later is the reference program's value of the same name in its own forward pass. -/

theorem after_two (l₁ l₂ : List (HloOp τ sig (Elt F))) (V : Valuation τ sig (Elt F)) :
    StableHlo.after (l₁ ++ l₂) V = StableHlo.after l₂ (StableHlo.after l₁ V) := by
  induction l₁ generalizing V with
  | nil => rfl
  | cons op l ih => exact ih _

/-- A stretch of the host operations. -/
abbrev span1 : List (HloOp τ sig (Elt F)) :=
  [StableHlo.unary main_arg1 main_v0 ((extf .f32 · bitsLt_bf16_f32) : (⟨S8192x6144, .bf16⟩ : BufTy).Contents (Elt F) → (⟨S8192x6144, .f32⟩ : BufTy).Contents (Elt F)),
   StableHlo.unary main_v0 main_v1 ((extractStridedSlice S8192x1024 ![0, 2048] · slices_S8192x6144_S8192x1024_0_2048) : (⟨S8192x6144, .f32⟩ : BufTy).Contents (Elt F) → (⟨S8192x1024, .f32⟩ : BufTy).Contents (Elt F)),
   StableHlo.unary main_v0 main_v2 ((extractStridedSlice S8192x1024 ![0, 3072] · slices_S8192x6144_S8192x1024_0_3072) : (⟨S8192x6144, .f32⟩ : BufTy).Contents (Elt F) → (⟨S8192x1024, .f32⟩ : BufTy).Contents (Elt F)),
   StableHlo.unary main_v0 main_v3 ((extractStridedSlice S8192x1024 ![0, 4096] · slices_S8192x6144_S8192x1024_0_4096) : (⟨S8192x6144, .f32⟩ : BufTy).Contents (Elt F) → (⟨S8192x1024, .f32⟩ : BufTy).Contents (Elt F)),
   StableHlo.unary main_v0 main_v4 ((extractStridedSlice S8192x1024 ![0, 5120] · slices_S8192x6144_S8192x1024_0_5120) : (⟨S8192x6144, .f32⟩ : BufTy).Contents (Elt F) → (⟨S8192x1024, .f32⟩ : BufTy).Contents (Elt F)),
   StableHlo.binary main_v1 main_v1 main_v5 (mulf : (⟨S8192x1024, .f32⟩ : BufTy).Contents (Elt F) → (⟨S8192x1024, .f32⟩ : BufTy).Contents (Elt F) → (⟨S8192x1024, .f32⟩ : BufTy).Contents (Elt F)),
   StableHlo.binary main_v5 main_v1 main_v6 (mulf : (⟨S8192x1024, .f32⟩ : BufTy).Contents (Elt F) → (⟨S8192x1024, .f32⟩ : BufTy).Contents (Elt F) → (⟨S8192x1024, .f32⟩ : BufTy).Contents (Elt F)),
   StableHlo.nullary main_cst (constant S_ .f32 0x3D372713#32),
   StableHlo.unary main_cst main_v7 (broadcastInDim S8192x1024 ![] bcast_S_S8192x1024 : (⟨S_, .f32⟩ : BufTy).Contents (Elt F) → (⟨S8192x1024, .f32⟩ : BufTy).Contents (Elt F)),
   StableHlo.binary main_v7 main_v6 main_v8 (mulf : (⟨S8192x1024, .f32⟩ : BufTy).Contents (Elt F) → (⟨S8192x1024, .f32⟩ : BufTy).Contents (Elt F) → (⟨S8192x1024, .f32⟩ : BufTy).Contents (Elt F)),
   StableHlo.binary main_v1 main_v8 main_v9 (addf : (⟨S8192x1024, .f32⟩ : BufTy).Contents (Elt F) → (⟨S8192x1024, .f32⟩ : BufTy).Contents (Elt F) → (⟨S8192x1024, .f32⟩ : BufTy).Contents (Elt F)),
   StableHlo.nullary main_cst_0 (constant S_ .f32 0x3F4C422A#32),
   StableHlo.unary main_cst_0 main_v10 (broadcastInDim S8192x1024 ![] bcast_S_S8192x1024 : (⟨S_, .f32⟩ : BufTy).Contents (Elt F) → (⟨S8192x1024, .f32⟩ : BufTy).Contents (Elt F)),
   StableHlo.binary main_v10 main_v9 main_v11 (mulf : (⟨S8192x1024, .f32⟩ : BufTy).Contents (Elt F) → (⟨S8192x1024, .f32⟩ : BufTy).Contents (Elt F) → (⟨S8192x1024, .f32⟩ : BufTy).Contents (Elt F)),
   StableHlo.unary main_v11 main_v12 (Host.tanh : (⟨S8192x1024, .f32⟩ : BufTy).Contents (Elt F) → (⟨S8192x1024, .f32⟩ : BufTy).Contents (Elt F)),
   StableHlo.nullary main_cst_1 (constant S_ .f32 0x3F800000#32),
   StableHlo.unary main_cst_1 main_v13 (broadcastInDim S8192x1024 ![] bcast_S_S8192x1024 : (⟨S_, .f32⟩ : BufTy).Contents (Elt F) → (⟨S8192x1024, .f32⟩ : BufTy).Contents (Elt F)),
   StableHlo.binary main_v13 main_v12 main_v14 (addf : (⟨S8192x1024, .f32⟩ : BufTy).Contents (Elt F) → (⟨S8192x1024, .f32⟩ : BufTy).Contents (Elt F) → (⟨S8192x1024, .f32⟩ : BufTy).Contents (Elt F)),
   StableHlo.nullary main_cst_2 (constant S_ .f32 0x3F000000#32),
   StableHlo.unary main_cst_2 main_v15 (broadcastInDim S8192x1024 ![] bcast_S_S8192x1024 : (⟨S_, .f32⟩ : BufTy).Contents (Elt F) → (⟨S8192x1024, .f32⟩ : BufTy).Contents (Elt F)),
   StableHlo.binary main_v15 main_v14 main_v16 (mulf : (⟨S8192x1024, .f32⟩ : BufTy).Contents (Elt F) → (⟨S8192x1024, .f32⟩ : BufTy).Contents (Elt F) → (⟨S8192x1024, .f32⟩ : BufTy).Contents (Elt F)),
   StableHlo.binary main_v1 main_v16 main_v17 (mulf : (⟨S8192x1024, .f32⟩ : BufTy).Contents (Elt F) → (⟨S8192x1024, .f32⟩ : BufTy).Contents (Elt F) → (⟨S8192x1024, .f32⟩ : BufTy).Contents (Elt F)),
   StableHlo.binary main_v2 main_v2 main_v18 (mulf : (⟨S8192x1024, .f32⟩ : BufTy).Contents (Elt F) → (⟨S8192x1024, .f32⟩ : BufTy).Contents (Elt F) → (⟨S8192x1024, .f32⟩ : BufTy).Contents (Elt F)),
   StableHlo.binary main_v18 main_v2 main_v19 (mulf : (⟨S8192x1024, .f32⟩ : BufTy).Contents (Elt F) → (⟨S8192x1024, .f32⟩ : BufTy).Contents (Elt F) → (⟨S8192x1024, .f32⟩ : BufTy).Contents (Elt F)),
   StableHlo.nullary main_cst_3 (constant S_ .f32 0x3D372713#32),
   StableHlo.unary main_cst_3 main_v20 (broadcastInDim S8192x1024 ![] bcast_S_S8192x1024 : (⟨S_, .f32⟩ : BufTy).Contents (Elt F) → (⟨S8192x1024, .f32⟩ : BufTy).Contents (Elt F)),
   StableHlo.binary main_v20 main_v19 main_v21 (mulf : (⟨S8192x1024, .f32⟩ : BufTy).Contents (Elt F) → (⟨S8192x1024, .f32⟩ : BufTy).Contents (Elt F) → (⟨S8192x1024, .f32⟩ : BufTy).Contents (Elt F)),
   StableHlo.binary main_v2 main_v21 main_v22 (addf : (⟨S8192x1024, .f32⟩ : BufTy).Contents (Elt F) → (⟨S8192x1024, .f32⟩ : BufTy).Contents (Elt F) → (⟨S8192x1024, .f32⟩ : BufTy).Contents (Elt F)),
   StableHlo.nullary main_cst_4 (constant S_ .f32 0x3F4C422A#32),
   StableHlo.unary main_cst_4 main_v23 (broadcastInDim S8192x1024 ![] bcast_S_S8192x1024 : (⟨S_, .f32⟩ : BufTy).Contents (Elt F) → (⟨S8192x1024, .f32⟩ : BufTy).Contents (Elt F)),
   StableHlo.binary main_v23 main_v22 main_v24 (mulf : (⟨S8192x1024, .f32⟩ : BufTy).Contents (Elt F) → (⟨S8192x1024, .f32⟩ : BufTy).Contents (Elt F) → (⟨S8192x1024, .f32⟩ : BufTy).Contents (Elt F)),
   StableHlo.unary main_v24 main_v25 (Host.tanh : (⟨S8192x1024, .f32⟩ : BufTy).Contents (Elt F) → (⟨S8192x1024, .f32⟩ : BufTy).Contents (Elt F)),
   StableHlo.nullary main_cst_5 (constant S_ .f32 0x3F800000#32),
   StableHlo.unary main_cst_5 main_v26 (broadcastInDim S8192x1024 ![] bcast_S_S8192x1024 : (⟨S_, .f32⟩ : BufTy).Contents (Elt F) → (⟨S8192x1024, .f32⟩ : BufTy).Contents (Elt F)),
   StableHlo.binary main_v26 main_v25 main_v27 (addf : (⟨S8192x1024, .f32⟩ : BufTy).Contents (Elt F) → (⟨S8192x1024, .f32⟩ : BufTy).Contents (Elt F) → (⟨S8192x1024, .f32⟩ : BufTy).Contents (Elt F)),
   StableHlo.nullary main_cst_6 (constant S_ .f32 0x3F000000#32),
   StableHlo.unary main_cst_6 main_v28 (broadcastInDim S8192x1024 ![] bcast_S_S8192x1024 : (⟨S_, .f32⟩ : BufTy).Contents (Elt F) → (⟨S8192x1024, .f32⟩ : BufTy).Contents (Elt F)),
   StableHlo.binary main_v28 main_v27 main_v29 (mulf : (⟨S8192x1024, .f32⟩ : BufTy).Contents (Elt F) → (⟨S8192x1024, .f32⟩ : BufTy).Contents (Elt F) → (⟨S8192x1024, .f32⟩ : BufTy).Contents (Elt F)),
   StableHlo.binary main_v2 main_v29 main_v30 (mulf : (⟨S8192x1024, .f32⟩ : BufTy).Contents (Elt F) → (⟨S8192x1024, .f32⟩ : BufTy).Contents (Elt F) → (⟨S8192x1024, .f32⟩ : BufTy).Contents (Elt F))]
/-- A stretch of the host operations. -/
abbrev span2 : List (HloOp τ sig (Elt F)) :=
  [StableHlo.nullary main_cst_7 (constant S_ .f32 0x00000000#32),
   StableHlo.binary main_v30 main_cst_7 main_v31 ((fun x v => Host.reduceAdd x v reducesTo_S8192x1024_S8192_d1 h_S_) : (⟨S8192x1024, .f32⟩ : BufTy).Contents (Elt F) → (⟨S_, .f32⟩ : BufTy).Contents (Elt F) → (⟨S8192, .f32⟩ : BufTy).Contents (Elt F)),
   StableHlo.unary main_v31 main_v32 (broadcastInDim S8192x1 ![0] bcast_S8192_S8192x1_0 : (⟨S8192, .f32⟩ : BufTy).Contents (Elt F) → (⟨S8192x1, .f32⟩ : BufTy).Contents (Elt F)),
   StableHlo.nullary main_cst_8 (constant S_ .f32 0x44800000#32),
   StableHlo.unary main_cst_8 main_v33 (broadcastInDim S8192x1 ![] bcast_S_S8192x1 : (⟨S_, .f32⟩ : BufTy).Contents (Elt F) → (⟨S8192x1, .f32⟩ : BufTy).Contents (Elt F)),
   StableHlo.binary main_v32 main_v33 main_v34 (Host.divf : (⟨S8192x1, .f32⟩ : BufTy).Contents (Elt F) → (⟨S8192x1, .f32⟩ : BufTy).Contents (Elt F) → (⟨S8192x1, .f32⟩ : BufTy).Contents (Elt F)),
   StableHlo.unary main_v34 main_v35 (broadcastInDim S8192x1024 ![0, 1] bcast_S8192x1_S8192x1024_0_1 : (⟨S8192x1, .f32⟩ : BufTy).Contents (Elt F) → (⟨S8192x1024, .f32⟩ : BufTy).Contents (Elt F)),
   StableHlo.binary main_v30 main_v35 main_v36 (subf : (⟨S8192x1024, .f32⟩ : BufTy).Contents (Elt F) → (⟨S8192x1024, .f32⟩ : BufTy).Contents (Elt F) → (⟨S8192x1024, .f32⟩ : BufTy).Contents (Elt F)),
   StableHlo.binary main_v36 main_v36 main_v37 (mulf : (⟨S8192x1024, .f32⟩ : BufTy).Contents (Elt F) → (⟨S8192x1024, .f32⟩ : BufTy).Contents (Elt F) → (⟨S8192x1024, .f32⟩ : BufTy).Contents (Elt F)),
   StableHlo.nullary main_cst_9 (constant S_ .f32 0x00000000#32),
   StableHlo.binary main_v37 main_cst_9 main_v38 ((fun x v => Host.reduceAdd x v reducesTo_S8192x1024_S8192_d1 h_S_) : (⟨S8192x1024, .f32⟩ : BufTy).Contents (Elt F) → (⟨S_, .f32⟩ : BufTy).Contents (Elt F) → (⟨S8192, .f32⟩ : BufTy).Contents (Elt F)),
   StableHlo.unary main_v38 main_v39 (broadcastInDim S8192x1 ![0] bcast_S8192_S8192x1_0 : (⟨S8192, .f32⟩ : BufTy).Contents (Elt F) → (⟨S8192x1, .f32⟩ : BufTy).Contents (Elt F)),
   StableHlo.nullary main_cst_10 (constant S_ .f32 0x44800000#32),
   StableHlo.unary main_cst_10 main_v40 (broadcastInDim S8192x1 ![] bcast_S_S8192x1 : (⟨S_, .f32⟩ : BufTy).Contents (Elt F) → (⟨S8192x1, .f32⟩ : BufTy).Contents (Elt F)),
   StableHlo.binary main_v39 main_v40 main_v41 (Host.divf : (⟨S8192x1, .f32⟩ : BufTy).Contents (Elt F) → (⟨S8192x1, .f32⟩ : BufTy).Contents (Elt F) → (⟨S8192x1, .f32⟩ : BufTy).Contents (Elt F)),
   StableHlo.unary main_v34 main_v42 (broadcastInDim S8192x1024 ![0, 1] bcast_S8192x1_S8192x1024_0_1 : (⟨S8192x1, .f32⟩ : BufTy).Contents (Elt F) → (⟨S8192x1024, .f32⟩ : BufTy).Contents (Elt F)),
   StableHlo.binary main_v30 main_v42 main_v43 (subf : (⟨S8192x1024, .f32⟩ : BufTy).Contents (Elt F) → (⟨S8192x1024, .f32⟩ : BufTy).Contents (Elt F) → (⟨S8192x1024, .f32⟩ : BufTy).Contents (Elt F)),
   StableHlo.nullary main_cst_11 (constant S_ .f32 0x358637BD#32),
   StableHlo.unary main_cst_11 main_v44 (broadcastInDim S8192x1 ![] bcast_S_S8192x1 : (⟨S_, .f32⟩ : BufTy).Contents (Elt F) → (⟨S8192x1, .f32⟩ : BufTy).Contents (Elt F)),
   StableHlo.binary main_v41 main_v44 main_v45 (addf : (⟨S8192x1, .f32⟩ : BufTy).Contents (Elt F) → (⟨S8192x1, .f32⟩ : BufTy).Contents (Elt F) → (⟨S8192x1, .f32⟩ : BufTy).Contents (Elt F)),
   StableHlo.unary main_v45 main_v46 (Host.rsqrt : (⟨S8192x1, .f32⟩ : BufTy).Contents (Elt F) → (⟨S8192x1, .f32⟩ : BufTy).Contents (Elt F)),
   StableHlo.unary main_v46 main_v47 (broadcastInDim S8192x1024 ![0, 1] bcast_S8192x1_S8192x1024_0_1 : (⟨S8192x1, .f32⟩ : BufTy).Contents (Elt F) → (⟨S8192x1024, .f32⟩ : BufTy).Contents (Elt F)),
   StableHlo.binary main_v43 main_v47 main_v48 (mulf : (⟨S8192x1024, .f32⟩ : BufTy).Contents (Elt F) → (⟨S8192x1024, .f32⟩ : BufTy).Contents (Elt F) → (⟨S8192x1024, .f32⟩ : BufTy).Contents (Elt F)),
   StableHlo.unary main_arg3 main_v49 (broadcastInDim S8192x1024 ![0, 1] bcast_S1x1024_S8192x1024_0_1 : (⟨S1x1024, .f32⟩ : BufTy).Contents (Elt F) → (⟨S8192x1024, .f32⟩ : BufTy).Contents (Elt F)),
   StableHlo.binary main_v48 main_v49 main_v50 (mulf : (⟨S8192x1024, .f32⟩ : BufTy).Contents (Elt F) → (⟨S8192x1024, .f32⟩ : BufTy).Contents (Elt F) → (⟨S8192x1024, .f32⟩ : BufTy).Contents (Elt F)),
   StableHlo.unary main_arg4 main_v51 (broadcastInDim S8192x1024 ![0, 1] bcast_S1x1024_S8192x1024_0_1 : (⟨S1x1024, .f32⟩ : BufTy).Contents (Elt F) → (⟨S8192x1024, .f32⟩ : BufTy).Contents (Elt F)),
   StableHlo.binary main_v50 main_v51 main_v52 (addf : (⟨S8192x1024, .f32⟩ : BufTy).Contents (Elt F) → (⟨S8192x1024, .f32⟩ : BufTy).Contents (Elt F) → (⟨S8192x1024, .f32⟩ : BufTy).Contents (Elt F)),
   StableHlo.reshape main_v52 main_v53 (rfl : (.f32 : EltTy) = .f32) shapeCasts_S8192x1024_S64x128x8x128,
   StableHlo.nullary main_c (constantI S_ 1 1#1),
   StableHlo.unary main_c main_v54 (broadcastInDim S128x128 ![] bcast_S_S128x128 : (⟨S_, .i1⟩ : BufTy).Contents (Elt F) → (⟨S128x128, .i1⟩ : BufTy).Contents (Elt F))]
/-- A stretch of the host operations. -/
abbrev span4 : List (HloOp τ sig (Elt F)) :=
  [StableHlo.binary main_v53 main_v60 main_v61 ((fun l r => Host.dotGeneral dot_S64x128x8x128_S8x128x128_S8x64x128x128_1_2_03_1_2_0 none l r) : (⟨S64x128x8x128, .f32⟩ : BufTy).Contents (Elt F) → (⟨S8x128x128, .f32⟩ : BufTy).Contents (Elt F) → (⟨S8x64x128x128, .f32⟩ : BufTy).Contents (Elt F)),
   StableHlo.unary main_v61 main_v62 ((transpose S64x128x8x128 [1, 3, 0, 2] · transposes_S8x64x128x128_S64x128x8x128_1_3_0_2) : (⟨S8x64x128x128, .f32⟩ : BufTy).Contents (Elt F) → (⟨S64x128x8x128, .f32⟩ : BufTy).Contents (Elt F)),
   StableHlo.reshape main_arg6 main_v63 (rfl : (.f32 : EltTy) = .f32) shapeCasts_S1x8x128_S8x128,
   StableHlo.unary main_v63 main_v64 ((transpose S128x8 [1, 0] · transposes_S8x128_S128x8_1_0) : (⟨S8x128, .f32⟩ : BufTy).Contents (Elt F) → (⟨S128x8, .f32⟩ : BufTy).Contents (Elt F)),
   StableHlo.unary main_v64 main_v65 (broadcastInDim S1x128x8x1 ![1, 2] bcast_S128x8_S1x128x8x1_1_2 : (⟨S128x8, .f32⟩ : BufTy).Contents (Elt F) → (⟨S1x128x8x1, .f32⟩ : BufTy).Contents (Elt F)),
   StableHlo.unary main_v65 main_v66 (broadcastInDim S64x128x8x128 ![0, 1, 2, 3] bcast_S1x128x8x1_S64x128x8x128_0_1_2_3 : (⟨S1x128x8x1, .f32⟩ : BufTy).Contents (Elt F) → (⟨S64x128x8x128, .f32⟩ : BufTy).Contents (Elt F)),
   StableHlo.binary main_v62 main_v66 main_v67 (addf : (⟨S64x128x8x128, .f32⟩ : BufTy).Contents (Elt F) → (⟨S64x128x8x128, .f32⟩ : BufTy).Contents (Elt F) → (⟨S64x128x8x128, .f32⟩ : BufTy).Contents (Elt F)),
   StableHlo.reshape main_v67 main_v68 (rfl : (.f32 : EltTy) = .f32) shapeCasts_S64x128x8x128_S8192x1024,
   StableHlo.binary main_v17 main_v68 main_v69 (mulf : (⟨S8192x1024, .f32⟩ : BufTy).Contents (Elt F) → (⟨S8192x1024, .f32⟩ : BufTy).Contents (Elt F) → (⟨S8192x1024, .f32⟩ : BufTy).Contents (Elt F)),
   StableHlo.unary main_arg2 main_v70 ((extf .f32 · bitsLt_bf16_f32) : (⟨S8192x1024, .bf16⟩ : BufTy).Contents (Elt F) → (⟨S8192x1024, .f32⟩ : BufTy).Contents (Elt F)),
   StableHlo.unary main_arg7 main_v71 ((extf .f32 · bitsLt_bf16_f32) : (⟨S1024x1024, .bf16⟩ : BufTy).Contents (Elt F) → (⟨S1024x1024, .f32⟩ : BufTy).Contents (Elt F)),
   StableHlo.binary main_v70 main_v71 main_v72 ((fun l r => Host.dotGeneral dot_S8192x1024_S1024x1024_S8192x1024_1_0_0_1_n_n none l r) : (⟨S8192x1024, .f32⟩ : BufTy).Contents (Elt F) → (⟨S1024x1024, .f32⟩ : BufTy).Contents (Elt F) → (⟨S8192x1024, .f32⟩ : BufTy).Contents (Elt F)),
   StableHlo.unary main_arg8 main_v73 ((extf .f32 · bitsLt_bf16_f32) : (⟨S1024x1024, .bf16⟩ : BufTy).Contents (Elt F) → (⟨S1024x1024, .f32⟩ : BufTy).Contents (Elt F)),
   StableHlo.binary main_v69 main_v73 main_v74 ((fun l r => Host.dotGeneral dot_S8192x1024_S1024x1024_S8192x1024_1_0_0_1_n_n none l r) : (⟨S8192x1024, .f32⟩ : BufTy).Contents (Elt F) → (⟨S1024x1024, .f32⟩ : BufTy).Contents (Elt F) → (⟨S8192x1024, .f32⟩ : BufTy).Contents (Elt F))]
/-- A stretch of the host operations. -/
abbrev span5 : List (HloOp τ sig (Elt F)) :=
  [StableHlo.unary main_v3 main_v75 (Host.negf : (⟨S8192x1024, .f32⟩ : BufTy).Contents (Elt F) → (⟨S8192x1024, .f32⟩ : BufTy).Contents (Elt F)),
   StableHlo.unary main_v75 main_v76 (Host.exp : (⟨S8192x1024, .f32⟩ : BufTy).Contents (Elt F) → (⟨S8192x1024, .f32⟩ : BufTy).Contents (Elt F)),
   StableHlo.nullary main_cst_13 (constant S_ .f32 0x3F800000#32),
   StableHlo.unary main_cst_13 main_v77 (broadcastInDim S8192x1024 ![] bcast_S_S8192x1024 : (⟨S_, .f32⟩ : BufTy).Contents (Elt F) → (⟨S8192x1024, .f32⟩ : BufTy).Contents (Elt F)),
   StableHlo.binary main_v77 main_v76 main_v78 (addf : (⟨S8192x1024, .f32⟩ : BufTy).Contents (Elt F) → (⟨S8192x1024, .f32⟩ : BufTy).Contents (Elt F) → (⟨S8192x1024, .f32⟩ : BufTy).Contents (Elt F)),
   StableHlo.nullary main_cst_14 (constant S_ .f32 0x3F800000#32),
   StableHlo.unary main_cst_14 main_v79 (broadcastInDim S8192x1024 ![] bcast_S_S8192x1024 : (⟨S_, .f32⟩ : BufTy).Contents (Elt F) → (⟨S8192x1024, .f32⟩ : BufTy).Contents (Elt F)),
   StableHlo.binary main_v79 main_v78 main_v80 (Host.divf : (⟨S8192x1024, .f32⟩ : BufTy).Contents (Elt F) → (⟨S8192x1024, .f32⟩ : BufTy).Contents (Elt F) → (⟨S8192x1024, .f32⟩ : BufTy).Contents (Elt F)),
   StableHlo.binary main_v80 main_v72 main_v81 (mulf : (⟨S8192x1024, .f32⟩ : BufTy).Contents (Elt F) → (⟨S8192x1024, .f32⟩ : BufTy).Contents (Elt F) → (⟨S8192x1024, .f32⟩ : BufTy).Contents (Elt F)),
   StableHlo.unary main_v4 main_v82 (Host.negf : (⟨S8192x1024, .f32⟩ : BufTy).Contents (Elt F) → (⟨S8192x1024, .f32⟩ : BufTy).Contents (Elt F)),
   StableHlo.unary main_v82 main_v83 (Host.exp : (⟨S8192x1024, .f32⟩ : BufTy).Contents (Elt F) → (⟨S8192x1024, .f32⟩ : BufTy).Contents (Elt F)),
   StableHlo.nullary main_cst_15 (constant S_ .f32 0x3F800000#32),
   StableHlo.unary main_cst_15 main_v84 (broadcastInDim S8192x1024 ![] bcast_S_S8192x1024 : (⟨S_, .f32⟩ : BufTy).Contents (Elt F) → (⟨S8192x1024, .f32⟩ : BufTy).Contents (Elt F)),
   StableHlo.binary main_v84 main_v83 main_v85 (addf : (⟨S8192x1024, .f32⟩ : BufTy).Contents (Elt F) → (⟨S8192x1024, .f32⟩ : BufTy).Contents (Elt F) → (⟨S8192x1024, .f32⟩ : BufTy).Contents (Elt F)),
   StableHlo.nullary main_cst_16 (constant S_ .f32 0x3F800000#32),
   StableHlo.unary main_cst_16 main_v86 (broadcastInDim S8192x1024 ![] bcast_S_S8192x1024 : (⟨S_, .f32⟩ : BufTy).Contents (Elt F) → (⟨S8192x1024, .f32⟩ : BufTy).Contents (Elt F)),
   StableHlo.binary main_v86 main_v85 main_v87 (Host.divf : (⟨S8192x1024, .f32⟩ : BufTy).Contents (Elt F) → (⟨S8192x1024, .f32⟩ : BufTy).Contents (Elt F) → (⟨S8192x1024, .f32⟩ : BufTy).Contents (Elt F)),
   StableHlo.binary main_v87 main_v74 main_v88 (mulf : (⟨S8192x1024, .f32⟩ : BufTy).Contents (Elt F) → (⟨S8192x1024, .f32⟩ : BufTy).Contents (Elt F) → (⟨S8192x1024, .f32⟩ : BufTy).Contents (Elt F)),
   StableHlo.binary main_v81 main_v88 main_v89 (addf : (⟨S8192x1024, .f32⟩ : BufTy).Contents (Elt F) → (⟨S8192x1024, .f32⟩ : BufTy).Contents (Elt F) → (⟨S8192x1024, .f32⟩ : BufTy).Contents (Elt F)),
   StableHlo.unary main_v69 main_v90 ((truncf .bf16 · bitsLt_bf16_f32) : (⟨S8192x1024, .f32⟩ : BufTy).Contents (Elt F) → (⟨S8192x1024, .bf16⟩ : BufTy).Contents (Elt F)),
   StableHlo.unary main_v72 main_v91 ((truncf .bf16 · bitsLt_bf16_f32) : (⟨S8192x1024, .f32⟩ : BufTy).Contents (Elt F) → (⟨S8192x1024, .bf16⟩ : BufTy).Contents (Elt F)),
   StableHlo.unary main_v74 main_v92 ((truncf .bf16 · bitsLt_bf16_f32) : (⟨S8192x1024, .f32⟩ : BufTy).Contents (Elt F) → (⟨S8192x1024, .bf16⟩ : BufTy).Contents (Elt F)),
   StableHlo.unary main_v89 main_v93 ((truncf .bf16 · bitsLt_bf16_f32) : (⟨S8192x1024, .f32⟩ : BufTy).Contents (Elt F) → (⟨S8192x1024, .bf16⟩ : BufTy).Contents (Elt F))]
/-- The stretch that masks the spatial weight. -/
abbrev span3 : List (HloOp τ sig (Elt F)) := hostOps0_1 ++ (hostOps0_2 ++ hostOps0_3)

theorem spans : (List.flatten [hostOps0, hostOps0_1, hostOps0_2, hostOps0_3, hostOps0_4] : List (HloOp τ sig (Elt F)))
    = span1 ++ (span2 ++ (span3 ++ (span4 ++ span5))) := rfl

def held1 : Valuation τ sig (Elt F) := StableHlo.after span1 V0
abbrev span1_W : List (Ref sig .tc) := [main_v0, main_v1, main_v2, main_v3, main_v4, main_v5, main_v6, main_cst, main_v7, main_v8, main_v9, main_cst_0, main_v10, main_v11, main_v12, main_cst_1, main_v13, main_v14, main_cst_2, main_v15, main_v16, main_v17, main_v18, main_v19, main_cst_3, main_v20, main_v21, main_v22, main_cst_4, main_v23, main_v24, main_v25, main_cst_5, main_v26, main_v27, main_cst_6, main_v28, main_v29, main_v30]
theorem span1_writes : (span1 : List (HloOp τ sig (Elt F))).Forall fun op => op.writes ⊆ (span1_W.map (Proc.devRef (τ := τ) .tc)).toFinset := by
  simp only [List.Forall]
  repeat' apply And.intro
  all_goals
    simp only [StableHlo.TRef.nullary, StableHlo.TRef.unary, StableHlo.TRef.binary, StableHlo.TRef.ternary, StableHlo.nullary_writes, StableHlo.unary_writes, StableHlo.binary_writes, StableHlo.ternary_writes, StableHlo.reshape_writes, Finset.singleton_subset_iff, List.mem_toFinset]
    exact List.mem_map_of_mem (by decide)
theorem held1_keep (r : Ref sig .tc) (h : r ∉ span1_W) : held1 V0 (Proc.devRef .tc r) = V0 (Proc.devRef .tc r) :=
  StableHlo.after_of_writes_sub span1 _ span1_writes h
def held2 : Valuation τ sig (Elt F) := StableHlo.after span2 (held1 V0)
abbrev span2_W : List (Ref sig .tc) := [main_cst_7, main_v31, main_v32, main_cst_8, main_v33, main_v34, main_v35, main_v36, main_v37, main_cst_9, main_v38, main_v39, main_cst_10, main_v40, main_v41, main_v42, main_v43, main_cst_11, main_v44, main_v45, main_v46, main_v47, main_v48, main_v49, main_v50, main_v51, main_v52, main_v53, main_c, main_v54]
theorem span2_writes : (span2 : List (HloOp τ sig (Elt F))).Forall fun op => op.writes ⊆ (span2_W.map (Proc.devRef (τ := τ) .tc)).toFinset := by
  simp only [List.Forall]
  repeat' apply And.intro
  all_goals
    simp only [StableHlo.TRef.nullary, StableHlo.TRef.unary, StableHlo.TRef.binary, StableHlo.TRef.ternary, StableHlo.nullary_writes, StableHlo.unary_writes, StableHlo.binary_writes, StableHlo.ternary_writes, StableHlo.reshape_writes, Finset.singleton_subset_iff, List.mem_toFinset]
    exact List.mem_map_of_mem (by decide)
theorem held2_keep (r : Ref sig .tc) (h : r ∉ span2_W) : held2 V0 (Proc.devRef .tc r) = held1 V0 (Proc.devRef .tc r) :=
  StableHlo.after_of_writes_sub span2 _ span2_writes h
def held3 : Valuation τ sig (Elt F) := StableHlo.after span3 (held2 V0)
abbrev span3_W : List (Ref sig .tc) := [main_call0_v0, main_call0_c, main_call0_v1, main_call0_v2, main_call0_v3, main_call0_v4, main_call0_c_0, main_call0_v5, main_v55, main_v56, main_v57, main_v58, main_cst_12, main_v59, main_call1_v0, main_v60]
theorem span3_writes : (span3 : List (HloOp τ sig (Elt F))).Forall fun op => op.writes ⊆ (span3_W.map (Proc.devRef (τ := τ) .tc)).toFinset := by
  simp only [span3, hostOps0_1, hostOps0_2, hostOps0_3, List.cons_append, List.nil_append, List.Forall]
  repeat' apply And.intro
  all_goals
    simp only [StableHlo.TRef.nullary, StableHlo.TRef.unary, StableHlo.TRef.binary, StableHlo.TRef.ternary, StableHlo.nullary_writes, StableHlo.unary_writes, StableHlo.binary_writes, StableHlo.ternary_writes, StableHlo.reshape_writes, Finset.singleton_subset_iff, List.mem_toFinset]
    exact List.mem_map_of_mem (by decide)
theorem held3_keep (r : Ref sig .tc) (h : r ∉ span3_W) : held3 V0 (Proc.devRef .tc r) = held2 V0 (Proc.devRef .tc r) :=
  StableHlo.after_of_writes_sub span3 _ span3_writes h
def held4 : Valuation τ sig (Elt F) := StableHlo.after span4 (held3 V0)
abbrev span4_W : List (Ref sig .tc) := [main_v61, main_v62, main_v63, main_v64, main_v65, main_v66, main_v67, main_v68, main_v69, main_v70, main_v71, main_v72, main_v73, main_v74]
theorem span4_writes : (span4 : List (HloOp τ sig (Elt F))).Forall fun op => op.writes ⊆ (span4_W.map (Proc.devRef (τ := τ) .tc)).toFinset := by
  simp only [List.Forall]
  repeat' apply And.intro
  all_goals
    simp only [StableHlo.TRef.nullary, StableHlo.TRef.unary, StableHlo.TRef.binary, StableHlo.TRef.ternary, StableHlo.nullary_writes, StableHlo.unary_writes, StableHlo.binary_writes, StableHlo.ternary_writes, StableHlo.reshape_writes, Finset.singleton_subset_iff, List.mem_toFinset]
    exact List.mem_map_of_mem (by decide)
theorem held4_keep (r : Ref sig .tc) (h : r ∉ span4_W) : held4 V0 (Proc.devRef .tc r) = held3 V0 (Proc.devRef .tc r) :=
  StableHlo.after_of_writes_sub span4 _ span4_writes h
def held5 : Valuation τ sig (Elt F) := StableHlo.after span5 (held4 V0)
abbrev span5_W : List (Ref sig .tc) := [main_v75, main_v76, main_cst_13, main_v77, main_v78, main_cst_14, main_v79, main_v80, main_v81, main_v82, main_v83, main_cst_15, main_v84, main_v85, main_cst_16, main_v86, main_v87, main_v88, main_v89, main_v90, main_v91, main_v92, main_v93]
theorem span5_writes : (span5 : List (HloOp τ sig (Elt F))).Forall fun op => op.writes ⊆ (span5_W.map (Proc.devRef (τ := τ) .tc)).toFinset := by
  simp only [List.Forall]
  repeat' apply And.intro
  all_goals
    simp only [StableHlo.TRef.nullary, StableHlo.TRef.unary, StableHlo.TRef.binary, StableHlo.TRef.ternary, StableHlo.nullary_writes, StableHlo.unary_writes, StableHlo.binary_writes, StableHlo.ternary_writes, StableHlo.reshape_writes, Finset.singleton_subset_iff, List.mem_toFinset]
    exact List.mem_map_of_mem (by decide)
theorem held5_keep (r : Ref sig .tc) (h : r ∉ span5_W) : held5 V0 (Proc.devRef .tc r) = held4 V0 (Proc.devRef .tc r) :=
  StableHlo.after_of_writes_sub span5 _ span5_writes h
theorem held5_eq : StableHlo.after (List.flatten [hostOps0, hostOps0_1, hostOps0_2, hostOps0_3, hostOps0_4]) V0 = held5 V0 := by
  rw [spans, after_two, after_two, after_two, after_two]; rfl

theorem held1_main_arg0 : held1 V0 (no_index (Proc.devRef .tc main_arg0)) = V0 (Proc.devRef .tc main_arg0) := held1_keep V0 main_arg0 (by decide)
theorem held1_main_arg1 : held1 V0 (no_index (Proc.devRef .tc main_arg1)) = V0 (Proc.devRef .tc main_arg1) := held1_keep V0 main_arg1 (by decide)
theorem held1_main_arg2 : held1 V0 (no_index (Proc.devRef .tc main_arg2)) = V0 (Proc.devRef .tc main_arg2) := held1_keep V0 main_arg2 (by decide)
theorem held1_main_arg3 : held1 V0 (no_index (Proc.devRef .tc main_arg3)) = V0 (Proc.devRef .tc main_arg3) := held1_keep V0 main_arg3 (by decide)
theorem held1_main_arg4 : held1 V0 (no_index (Proc.devRef .tc main_arg4)) = V0 (Proc.devRef .tc main_arg4) := held1_keep V0 main_arg4 (by decide)
theorem held1_main_arg5 : held1 V0 (no_index (Proc.devRef .tc main_arg5)) = V0 (Proc.devRef .tc main_arg5) := held1_keep V0 main_arg5 (by decide)
theorem held1_main_arg6 : held1 V0 (no_index (Proc.devRef .tc main_arg6)) = V0 (Proc.devRef .tc main_arg6) := held1_keep V0 main_arg6 (by decide)
theorem held1_main_arg7 : held1 V0 (no_index (Proc.devRef .tc main_arg7)) = V0 (Proc.devRef .tc main_arg7) := held1_keep V0 main_arg7 (by decide)
theorem held1_main_arg8 : held1 V0 (no_index (Proc.devRef .tc main_arg8)) = V0 (Proc.devRef .tc main_arg8) := held1_keep V0 main_arg8 (by decide)
theorem held1_main_arg9 : held1 V0 (no_index (Proc.devRef .tc main_arg9)) = V0 (Proc.devRef .tc main_arg9) := held1_keep V0 main_arg9 (by decide)
set_option maxHeartbeats 4000000 in
theorem held1_main_v3 : held1 V0 (no_index (Proc.devRef .tc main_v3)) = val_main_v3 (F := F) (V0 (Proc.devRef .tc main_arg1)) := by
  unfold held1
  simp only [span1]
  after_results_simp
  rfl
set_option maxHeartbeats 4000000 in
theorem held1_main_v4 : held1 V0 (no_index (Proc.devRef .tc main_v4)) = val_main_v4 (F := F) (V0 (Proc.devRef .tc main_arg1)) := by
  unfold held1
  simp only [span1]
  after_results_simp
  rfl
set_option maxHeartbeats 4000000 in
theorem held1_main_v17 : held1 V0 (no_index (Proc.devRef .tc main_v17)) = val_main_v29 (F := F) (V0 (Proc.devRef .tc main_arg1)) := by
  unfold held1
  simp only [span1]
  after_results_simp
  rfl
set_option maxHeartbeats 4000000 in
theorem held1_main_v30 : held1 V0 (no_index (Proc.devRef .tc main_v30)) = val_main_v50 (F := F) (V0 (Proc.devRef .tc main_arg1)) := by
  unfold held1
  simp only [span1]
  after_results_simp
  rfl
theorem held2_main_arg0 : held2 V0 (no_index (Proc.devRef .tc main_arg0)) = V0 (Proc.devRef .tc main_arg0) := (held2_keep V0 main_arg0 (by decide)).trans (held1_main_arg0 V0)
theorem held2_main_arg1 : held2 V0 (no_index (Proc.devRef .tc main_arg1)) = V0 (Proc.devRef .tc main_arg1) := (held2_keep V0 main_arg1 (by decide)).trans (held1_main_arg1 V0)
theorem held2_main_arg2 : held2 V0 (no_index (Proc.devRef .tc main_arg2)) = V0 (Proc.devRef .tc main_arg2) := (held2_keep V0 main_arg2 (by decide)).trans (held1_main_arg2 V0)
theorem held2_main_arg3 : held2 V0 (no_index (Proc.devRef .tc main_arg3)) = V0 (Proc.devRef .tc main_arg3) := (held2_keep V0 main_arg3 (by decide)).trans (held1_main_arg3 V0)
theorem held2_main_arg4 : held2 V0 (no_index (Proc.devRef .tc main_arg4)) = V0 (Proc.devRef .tc main_arg4) := (held2_keep V0 main_arg4 (by decide)).trans (held1_main_arg4 V0)
theorem held2_main_arg5 : held2 V0 (no_index (Proc.devRef .tc main_arg5)) = V0 (Proc.devRef .tc main_arg5) := (held2_keep V0 main_arg5 (by decide)).trans (held1_main_arg5 V0)
theorem held2_main_arg6 : held2 V0 (no_index (Proc.devRef .tc main_arg6)) = V0 (Proc.devRef .tc main_arg6) := (held2_keep V0 main_arg6 (by decide)).trans (held1_main_arg6 V0)
theorem held2_main_arg7 : held2 V0 (no_index (Proc.devRef .tc main_arg7)) = V0 (Proc.devRef .tc main_arg7) := (held2_keep V0 main_arg7 (by decide)).trans (held1_main_arg7 V0)
theorem held2_main_arg8 : held2 V0 (no_index (Proc.devRef .tc main_arg8)) = V0 (Proc.devRef .tc main_arg8) := (held2_keep V0 main_arg8 (by decide)).trans (held1_main_arg8 V0)
theorem held2_main_arg9 : held2 V0 (no_index (Proc.devRef .tc main_arg9)) = V0 (Proc.devRef .tc main_arg9) := (held2_keep V0 main_arg9 (by decide)).trans (held1_main_arg9 V0)
theorem held2_main_v3 : held2 V0 (no_index (Proc.devRef .tc main_v3)) = val_main_v3 (F := F) (V0 (Proc.devRef .tc main_arg1)) := (held2_keep V0 main_v3 (by decide)).trans (held1_main_v3 V0)
theorem held2_main_v4 : held2 V0 (no_index (Proc.devRef .tc main_v4)) = val_main_v4 (F := F) (V0 (Proc.devRef .tc main_arg1)) := (held2_keep V0 main_v4 (by decide)).trans (held1_main_v4 V0)
theorem held2_main_v17 : held2 V0 (no_index (Proc.devRef .tc main_v17)) = val_main_v29 (F := F) (V0 (Proc.devRef .tc main_arg1)) := (held2_keep V0 main_v17 (by decide)).trans (held1_main_v17 V0)
set_option maxHeartbeats 4000000 in
theorem held2_main_v53 : held2 V0 (no_index (Proc.devRef .tc main_v53)) = val_main_v78 (F := F) (V0 (Proc.devRef .tc main_arg1)) (V0 (Proc.devRef .tc main_arg3)) (V0 (Proc.devRef .tc main_arg4)) := by
  unfold held2
  simp only [span2]
  after_results_simp
  simp only [held1_main_arg0, held1_main_arg1, held1_main_arg2, held1_main_arg3, held1_main_arg4, held1_main_arg5, held1_main_arg6, held1_main_arg7, held1_main_arg8, held1_main_arg9, held1_main_v3, held1_main_v4, held1_main_v17, held1_main_v30] <;> rfl
set_option maxHeartbeats 4000000 in
theorem held2_main_v54 : held2 V0 (no_index (Proc.devRef .tc main_v54)) = val_main_v79 (F := F) := by
  unfold held2
  simp only [span2]
  after_results_simp
  rfl
theorem held3_main_arg0 : held3 V0 (no_index (Proc.devRef .tc main_arg0)) = V0 (Proc.devRef .tc main_arg0) := (held3_keep V0 main_arg0 (by decide)).trans (held2_main_arg0 V0)
theorem held3_main_arg1 : held3 V0 (no_index (Proc.devRef .tc main_arg1)) = V0 (Proc.devRef .tc main_arg1) := (held3_keep V0 main_arg1 (by decide)).trans (held2_main_arg1 V0)
theorem held3_main_arg2 : held3 V0 (no_index (Proc.devRef .tc main_arg2)) = V0 (Proc.devRef .tc main_arg2) := (held3_keep V0 main_arg2 (by decide)).trans (held2_main_arg2 V0)
theorem held3_main_arg3 : held3 V0 (no_index (Proc.devRef .tc main_arg3)) = V0 (Proc.devRef .tc main_arg3) := (held3_keep V0 main_arg3 (by decide)).trans (held2_main_arg3 V0)
theorem held3_main_arg4 : held3 V0 (no_index (Proc.devRef .tc main_arg4)) = V0 (Proc.devRef .tc main_arg4) := (held3_keep V0 main_arg4 (by decide)).trans (held2_main_arg4 V0)
theorem held3_main_arg5 : held3 V0 (no_index (Proc.devRef .tc main_arg5)) = V0 (Proc.devRef .tc main_arg5) := (held3_keep V0 main_arg5 (by decide)).trans (held2_main_arg5 V0)
theorem held3_main_arg6 : held3 V0 (no_index (Proc.devRef .tc main_arg6)) = V0 (Proc.devRef .tc main_arg6) := (held3_keep V0 main_arg6 (by decide)).trans (held2_main_arg6 V0)
theorem held3_main_arg7 : held3 V0 (no_index (Proc.devRef .tc main_arg7)) = V0 (Proc.devRef .tc main_arg7) := (held3_keep V0 main_arg7 (by decide)).trans (held2_main_arg7 V0)
theorem held3_main_arg8 : held3 V0 (no_index (Proc.devRef .tc main_arg8)) = V0 (Proc.devRef .tc main_arg8) := (held3_keep V0 main_arg8 (by decide)).trans (held2_main_arg8 V0)
theorem held3_main_arg9 : held3 V0 (no_index (Proc.devRef .tc main_arg9)) = V0 (Proc.devRef .tc main_arg9) := (held3_keep V0 main_arg9 (by decide)).trans (held2_main_arg9 V0)
theorem held3_main_v3 : held3 V0 (no_index (Proc.devRef .tc main_v3)) = val_main_v3 (F := F) (V0 (Proc.devRef .tc main_arg1)) := (held3_keep V0 main_v3 (by decide)).trans (held2_main_v3 V0)
theorem held3_main_v4 : held3 V0 (no_index (Proc.devRef .tc main_v4)) = val_main_v4 (F := F) (V0 (Proc.devRef .tc main_arg1)) := (held3_keep V0 main_v4 (by decide)).trans (held2_main_v4 V0)
theorem held3_main_v17 : held3 V0 (no_index (Proc.devRef .tc main_v17)) = val_main_v29 (F := F) (V0 (Proc.devRef .tc main_arg1)) := (held3_keep V0 main_v17 (by decide)).trans (held2_main_v17 V0)
theorem held3_main_v53 : held3 V0 (no_index (Proc.devRef .tc main_v53)) = val_main_v78 (F := F) (V0 (Proc.devRef .tc main_arg1)) (V0 (Proc.devRef .tc main_arg3)) (V0 (Proc.devRef .tc main_arg4)) := (held3_keep V0 main_v53 (by decide)).trans (held2_main_v53 V0)
set_option maxHeartbeats 4000000 in
theorem held3_main_v60 : held3 V0 (no_index (Proc.devRef .tc main_v60)) = val_main_v85_0 (F := F) (V0 (Proc.devRef .tc main_arg5)) := by
  unfold held3
  simp only [span3, hostOps0_1, hostOps0_2, hostOps0_3, List.cons_append, List.nil_append, StableHlo.TRef.nullary, StableHlo.TRef.unary, StableHlo.TRef.binary, StableHlo.TRef.ternary, StableHlo.TRef.toBuf, StableHlo.TRef.ofBuf, cast_eq]
  after_results_simp
  simp only [held2_main_arg0, held2_main_arg1, held2_main_arg2, held2_main_arg3, held2_main_arg4, held2_main_arg5, held2_main_arg6, held2_main_arg7, held2_main_arg8, held2_main_arg9, held2_main_v3, held2_main_v4, held2_main_v17, held2_main_v53, held2_main_v54] <;> rfl
theorem held4_main_arg0 : held4 V0 (no_index (Proc.devRef .tc main_arg0)) = V0 (Proc.devRef .tc main_arg0) := (held4_keep V0 main_arg0 (by decide)).trans (held3_main_arg0 V0)
theorem held4_main_arg1 : held4 V0 (no_index (Proc.devRef .tc main_arg1)) = V0 (Proc.devRef .tc main_arg1) := (held4_keep V0 main_arg1 (by decide)).trans (held3_main_arg1 V0)
theorem held4_main_arg2 : held4 V0 (no_index (Proc.devRef .tc main_arg2)) = V0 (Proc.devRef .tc main_arg2) := (held4_keep V0 main_arg2 (by decide)).trans (held3_main_arg2 V0)
theorem held4_main_arg3 : held4 V0 (no_index (Proc.devRef .tc main_arg3)) = V0 (Proc.devRef .tc main_arg3) := (held4_keep V0 main_arg3 (by decide)).trans (held3_main_arg3 V0)
theorem held4_main_arg4 : held4 V0 (no_index (Proc.devRef .tc main_arg4)) = V0 (Proc.devRef .tc main_arg4) := (held4_keep V0 main_arg4 (by decide)).trans (held3_main_arg4 V0)
theorem held4_main_arg5 : held4 V0 (no_index (Proc.devRef .tc main_arg5)) = V0 (Proc.devRef .tc main_arg5) := (held4_keep V0 main_arg5 (by decide)).trans (held3_main_arg5 V0)
theorem held4_main_arg6 : held4 V0 (no_index (Proc.devRef .tc main_arg6)) = V0 (Proc.devRef .tc main_arg6) := (held4_keep V0 main_arg6 (by decide)).trans (held3_main_arg6 V0)
theorem held4_main_arg7 : held4 V0 (no_index (Proc.devRef .tc main_arg7)) = V0 (Proc.devRef .tc main_arg7) := (held4_keep V0 main_arg7 (by decide)).trans (held3_main_arg7 V0)
theorem held4_main_arg8 : held4 V0 (no_index (Proc.devRef .tc main_arg8)) = V0 (Proc.devRef .tc main_arg8) := (held4_keep V0 main_arg8 (by decide)).trans (held3_main_arg8 V0)
theorem held4_main_arg9 : held4 V0 (no_index (Proc.devRef .tc main_arg9)) = V0 (Proc.devRef .tc main_arg9) := (held4_keep V0 main_arg9 (by decide)).trans (held3_main_arg9 V0)
theorem held4_main_v3 : held4 V0 (no_index (Proc.devRef .tc main_v3)) = val_main_v3 (F := F) (V0 (Proc.devRef .tc main_arg1)) := (held4_keep V0 main_v3 (by decide)).trans (held3_main_v3 V0)
theorem held4_main_v4 : held4 V0 (no_index (Proc.devRef .tc main_v4)) = val_main_v4 (F := F) (V0 (Proc.devRef .tc main_arg1)) := (held4_keep V0 main_v4 (by decide)).trans (held3_main_v4 V0)
theorem held4_main_v17 : held4 V0 (no_index (Proc.devRef .tc main_v17)) = val_main_v29 (F := F) (V0 (Proc.devRef .tc main_arg1)) := (held4_keep V0 main_v17 (by decide)).trans (held3_main_v17 V0)
set_option maxHeartbeats 4000000 in
theorem held4_main_v69 : held4 V0 (no_index (Proc.devRef .tc main_v69)) = val_main_v94 (F := F) (V0 (Proc.devRef .tc main_arg1)) (V0 (Proc.devRef .tc main_arg3)) (V0 (Proc.devRef .tc main_arg4)) (V0 (Proc.devRef .tc main_arg5)) (V0 (Proc.devRef .tc main_arg6)) := by
  unfold held4
  simp only [span4]
  after_results_simp
  simp only [held3_main_arg0, held3_main_arg1, held3_main_arg2, held3_main_arg3, held3_main_arg4, held3_main_arg5, held3_main_arg6, held3_main_arg7, held3_main_arg8, held3_main_arg9, held3_main_v3, held3_main_v4, held3_main_v17, held3_main_v53, held3_main_v60] <;> rfl
set_option maxHeartbeats 4000000 in
theorem held4_main_v72 : held4 V0 (no_index (Proc.devRef .tc main_v72)) = val_main_v104 (F := F) (V0 (Proc.devRef .tc main_arg2)) (V0 (Proc.devRef .tc main_arg7)) := by
  unfold held4
  simp only [span4]
  after_results_simp
  simp only [held3_main_arg0, held3_main_arg1, held3_main_arg2, held3_main_arg3, held3_main_arg4, held3_main_arg5, held3_main_arg6, held3_main_arg7, held3_main_arg8, held3_main_arg9, held3_main_v3, held3_main_v4, held3_main_v17, held3_main_v53, held3_main_v60] <;> rfl
set_option maxHeartbeats 4000000 in
theorem held4_main_v74 : held4 V0 (no_index (Proc.devRef .tc main_v74)) = val_main_v115 (F := F) (V0 (Proc.devRef .tc main_arg1)) (V0 (Proc.devRef .tc main_arg3)) (V0 (Proc.devRef .tc main_arg4)) (V0 (Proc.devRef .tc main_arg5)) (V0 (Proc.devRef .tc main_arg6)) (V0 (Proc.devRef .tc main_arg8)) := by
  unfold held4
  simp only [span4]
  after_results_simp
  simp only [held3_main_arg0, held3_main_arg1, held3_main_arg2, held3_main_arg3, held3_main_arg4, held3_main_arg5, held3_main_arg6, held3_main_arg7, held3_main_arg8, held3_main_arg9, held3_main_v3, held3_main_v4, held3_main_v17, held3_main_v53, held3_main_v60] <;> rfl
theorem held5_main_arg0 : held5 V0 (no_index (Proc.devRef .tc main_arg0)) = V0 (Proc.devRef .tc main_arg0) := (held5_keep V0 main_arg0 (by decide)).trans (held4_main_arg0 V0)
theorem held5_main_arg1 : held5 V0 (no_index (Proc.devRef .tc main_arg1)) = V0 (Proc.devRef .tc main_arg1) := (held5_keep V0 main_arg1 (by decide)).trans (held4_main_arg1 V0)
theorem held5_main_arg2 : held5 V0 (no_index (Proc.devRef .tc main_arg2)) = V0 (Proc.devRef .tc main_arg2) := (held5_keep V0 main_arg2 (by decide)).trans (held4_main_arg2 V0)
theorem held5_main_arg3 : held5 V0 (no_index (Proc.devRef .tc main_arg3)) = V0 (Proc.devRef .tc main_arg3) := (held5_keep V0 main_arg3 (by decide)).trans (held4_main_arg3 V0)
theorem held5_main_arg4 : held5 V0 (no_index (Proc.devRef .tc main_arg4)) = V0 (Proc.devRef .tc main_arg4) := (held5_keep V0 main_arg4 (by decide)).trans (held4_main_arg4 V0)
theorem held5_main_arg5 : held5 V0 (no_index (Proc.devRef .tc main_arg5)) = V0 (Proc.devRef .tc main_arg5) := (held5_keep V0 main_arg5 (by decide)).trans (held4_main_arg5 V0)
theorem held5_main_arg6 : held5 V0 (no_index (Proc.devRef .tc main_arg6)) = V0 (Proc.devRef .tc main_arg6) := (held5_keep V0 main_arg6 (by decide)).trans (held4_main_arg6 V0)
theorem held5_main_arg7 : held5 V0 (no_index (Proc.devRef .tc main_arg7)) = V0 (Proc.devRef .tc main_arg7) := (held5_keep V0 main_arg7 (by decide)).trans (held4_main_arg7 V0)
theorem held5_main_arg8 : held5 V0 (no_index (Proc.devRef .tc main_arg8)) = V0 (Proc.devRef .tc main_arg8) := (held5_keep V0 main_arg8 (by decide)).trans (held4_main_arg8 V0)
theorem held5_main_arg9 : held5 V0 (no_index (Proc.devRef .tc main_arg9)) = V0 (Proc.devRef .tc main_arg9) := (held5_keep V0 main_arg9 (by decide)).trans (held4_main_arg9 V0)
set_option maxHeartbeats 4000000 in
theorem held5_main_v90 : held5 V0 (no_index (Proc.devRef .tc main_v90)) = truncf .bf16 (val_main_v94 (F := F) (V0 (Proc.devRef .tc main_arg1)) (V0 (Proc.devRef .tc main_arg3)) (V0 (Proc.devRef .tc main_arg4)) (V0 (Proc.devRef .tc main_arg5)) (V0 (Proc.devRef .tc main_arg6))) bitsLt_bf16_f32 := by
  unfold held5
  simp only [span5]
  after_results_simp
  simp only [held4_main_arg0, held4_main_arg1, held4_main_arg2, held4_main_arg3, held4_main_arg4, held4_main_arg5, held4_main_arg6, held4_main_arg7, held4_main_arg8, held4_main_arg9, held4_main_v3, held4_main_v4, held4_main_v17, held4_main_v69, held4_main_v72, held4_main_v74] <;> rfl
set_option maxHeartbeats 4000000 in
theorem held5_main_v91 : held5 V0 (no_index (Proc.devRef .tc main_v91)) = truncf .bf16 (val_main_v104 (F := F) (V0 (Proc.devRef .tc main_arg2)) (V0 (Proc.devRef .tc main_arg7))) bitsLt_bf16_f32 := by
  unfold held5
  simp only [span5]
  after_results_simp
  simp only [held4_main_arg0, held4_main_arg1, held4_main_arg2, held4_main_arg3, held4_main_arg4, held4_main_arg5, held4_main_arg6, held4_main_arg7, held4_main_arg8, held4_main_arg9, held4_main_v3, held4_main_v4, held4_main_v17, held4_main_v69, held4_main_v72, held4_main_v74] <;> rfl
set_option maxHeartbeats 4000000 in
theorem held5_main_v92 : held5 V0 (no_index (Proc.devRef .tc main_v92)) = truncf .bf16 (val_main_v115 (F := F) (V0 (Proc.devRef .tc main_arg1)) (V0 (Proc.devRef .tc main_arg3)) (V0 (Proc.devRef .tc main_arg4)) (V0 (Proc.devRef .tc main_arg5)) (V0 (Proc.devRef .tc main_arg6)) (V0 (Proc.devRef .tc main_arg8))) bitsLt_bf16_f32 := by
  unfold held5
  simp only [span5]
  after_results_simp
  simp only [held4_main_arg0, held4_main_arg1, held4_main_arg2, held4_main_arg3, held4_main_arg4, held4_main_arg5, held4_main_arg6, held4_main_arg7, held4_main_arg8, held4_main_arg9, held4_main_v3, held4_main_v4, held4_main_v17, held4_main_v69, held4_main_v72, held4_main_v74] <;> rfl
set_option maxHeartbeats 4000000 in
theorem held5_main_v93 : held5 V0 (no_index (Proc.devRef .tc main_v93)) = truncf .bf16 (val_main_v117 (F := F) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8))) bitsLt_bf16_f32 := by
  unfold held5
  simp only [span5]
  after_results_simp
  simp only [held4_main_arg0, held4_main_arg1, held4_main_arg2, held4_main_arg3, held4_main_arg4, held4_main_arg5, held4_main_arg6, held4_main_arg7, held4_main_arg8, held4_main_arg9, held4_main_v3, held4_main_v4, held4_main_v17, held4_main_v69, held4_main_v72, held4_main_v74] <;> rfl

end Cert.KernelIdeal.Whole

end
-- ==== Proof.Merge.Fill.lean ====
module

public import proofs.«01_k».proof.Proof.Merge.Reads
public import proofs.«01_k».proof.Proof.Merge.Host
public import proofs.«01_k».proof.Proof.Gen.ReferenceIdeal.Read
public import Idealize.ShloMosaic.Lib.Pointwise

@[expose] public section

set_option maxRecDepth 16384

noncomputable section

namespace Cert.KernelIdeal.Whole

open Cert.KernelIdeal.Gen Cert.ReferenceIdeal.Read
open Idealize.ShloMosaic Idealize.ShloMosaic.TcCoe Idealize.ShloMosaic.Tactic

variable (m : (ℓ : Loc nD τ sig) → Buf (Elt Ideal) ℓ)

/-! ## Every point's blocks, from the arguments -/

theorem V_main_v91 (c : Dev nD) : V m c main_v91 = (truncf .bf16 (val_main_v104 (F := Ideal) (m ((c : Thread nD τ).loc main_arg2)) (m ((c : Thread nD τ).loc main_arg7))) bitsLt_bf16_f32 : FVec Ideal S8192x1024 .bf16) :=
  (congrFun (held5_eq (fun b => m (c, b))) (Proc.devRef .tc main_v91)).trans (held5_main_v91 (fun b => m (c, b)))

theorem V_main_v92 (c : Dev nD) : V m c main_v92 = (truncf .bf16 (val_main_v115 (F := Ideal) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg8))) bitsLt_bf16_f32 : FVec Ideal S8192x1024 .bf16) :=
  (congrFun (held5_eq (fun b => m (c, b))) (Proc.devRef .tc main_v92)).trans (held5_main_v92 (fun b => m (c, b)))

theorem V_main_v90 (c : Dev nD) : V m c main_v90 = (truncf .bf16 (val_main_v94 (F := Ideal) (m ((c : Thread nD τ).loc main_arg1)) (m ((c : Thread nD τ).loc main_arg3)) (m ((c : Thread nD τ).loc main_arg4)) (m ((c : Thread nD τ).loc main_arg5)) (m ((c : Thread nD τ).loc main_arg6))) bitsLt_bf16_f32 : FVec Ideal S8192x1024 .bf16) :=
  (congrFun (held5_eq (fun b => m (c, b))) (Proc.devRef .tc main_v90)).trans (held5_main_v90 (fun b => m (c, b)))

theorem V_main_v93 (c : Dev nD) : V m c main_v93 = (truncf .bf16 (val_main_v117 (F := Ideal) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) bitsLt_bf16_f32 : FVec Ideal S8192x1024 .bf16) :=
  (congrFun (held5_eq (fun b => m (c, b))) (Proc.devRef .tc main_v93)).trans (held5_main_v93 (fun b => m (c, b)))

theorem lo_at (x : FVec Ideal S256x2048 .bf16) (r : Fin 256) (l : Fin 1024) : lo x (ix2 r l) = x (ix2 r (⟨l.val, by omega⟩ : Fin 2048)) := by
  refine congrArg x (funext fun a => Fin.ext ?_)
  match a with
  | ⟨0, _⟩ => show 0 + 1 * r.val = r.val; omega
  | ⟨1, _⟩ => show 0 + 1 * l.val = l.val; omega

theorem hi_at (x : FVec Ideal S256x2048 .bf16) (r : Fin 256) (l : Fin 1024) : hi x (ix2 r l) = x (ix2 r (⟨1024 + l.val, by omega⟩ : Fin 2048)) := by
  refine congrArg x (funext fun a => Fin.ext ?_)
  match a with
  | ⟨0, _⟩ => show 0 + 1 * r.val = r.val; omega
  | ⟨1, _⟩ => show 1024 + 1 * l.val = 1024 + l.val; omega

/-- The blocks of point `t` are tile `t` of what they are read from. -/
theorem blocks (c : Dev nD) (t : Fin cfg0.N) :
    Blocks (t.cast N_0) (iblk m c 0 t) (iblk m c 1 t) (iblk m c 2 t) (iblk m c 3 t) (iblk m c 4 t) (iblk m c 5 t) (iblk m c 6 t) (iblk m c 7 t) (iblk m c 8 t) (iblk m c 9 t) (iblk m c 12 t) (iblk m c 13 t) (iblk m c 14 t) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) where
  h0 r l := by
    rw [iblk_0, V_main_arg0]
    pointwise [val_main_v119]
  hu r l := by
    rw [lo_at, iblk_1, V_main_arg1]
    pointwise [val_main_v1, val_main_v0]
  hv r l := by
    rw [hi_at, iblk_1, V_main_arg1]
    pointwise [val_main_v2, val_main_v0]
    exact congrArg (fun z => m ((c : Thread nD τ).loc main_arg1) (ix2 (row (t.cast N_0) r) z)) (Fin.ext (by show 2048 + (1024 + l.val) = 3072 + l.val; omega))
  hga r l := by
    rw [lo_at, iblk_2, V_main_arg1]
    pointwise [val_main_v3, val_main_v0]
  hgb r l := by
    rw [hi_at, iblk_2, V_main_arg1]
    pointwise [val_main_v4, val_main_v0]
    exact congrArg (fun z => m ((c : Thread nD τ).loc main_arg1) (ix2 (row (t.cast N_0) r) z)) (Fin.ext (by show 4096 + (1024 + l.val) = 5120 + l.val; omega))
  h3 r l := by
    rw [iblk_3, V_main_v91]
    rfl
  h4 r l := by
    rw [iblk_4, V_main_v92]
    rfl
  h5 r l := by
    rw [iblk_5, V_main_arg2]
    pointwise [val_main_v5]
  h6 r l := by
    rw [iblk_6, V_main_v90]
    rfl
  h7 r l := by
    rw [iblk_7, V_main_v93]
    rfl
  h12 r l := by
    rw [iblk_12, V_main_arg7]
    pointwise [val_main_v6]
  h13 r l := by
    rw [iblk_13, V_main_arg8]
    pointwise [val_main_v7]
  h14 r l := by
    rw [iblk_14, V_main_arg9]
    pointwise [val_main_v8]
  h8 := (iblk_8 m c t).trans (V_main_arg3 m c)
  h9 := (iblk_9 m c t).trans (V_main_arg4 m c)

end Cert.KernelIdeal.Whole

end
-- ==== Proof.Merge.A1.lean ====
module

public import proofs.«01_k».proof.Proof.Merge.Tiles

@[expose] public section

set_option maxRecDepth 16384

noncomputable section

namespace Cert.KernelIdeal.Whole

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

variable (m : (ℓ : Loc nD τ sig) → Buf (Elt F) ℓ) (ρ : Dev nD → PrngReg)

/-! What the steps leave, in the values of `Merge.Tiles`. -/

set_option maxHeartbeats 8000000 in
theorem stepA_1 (c : Dev nD) (t : Fin cfg0.N) (h0 : t.val % 32 = 0) (h1 : ¬t.val % 32 = 31) :
    (stepA m c t h0 h1).1 = dyaT (iblk m c 0 t) (iblk m c 2 t) (iblk m c 12 t) (iblk m c 14 t) := by
  unfold stepA
  dsimp only
  rw [View.read_writes_junk_eq_canon]
  unfold runA kernelRun0_A
  dsimp only
  sl_unfold_words
  simp only [kernelRun0_A.sl.r_4, View.readAt_eq_ld, Memref.IsWhole.read_unread, View.ld_unit_zero (S := S1024x1024) hz2, View.ld_unit_zero (S := S256x1024) hz2, View.ld_unit_zero (S := S1x1024) hz2, View.ld_unit_zero (S := S8x128) hz2, shapeCast_self, readCov_ld, View.ld_unit_zero (S := S8x128x128) hz3, View.ld_unit_zero (S := S128x8) hz2, View.ld_unit_zero (S := S1x8x128) hz3, View.canon_cons_unit_zero (S := S256x1024) hz2, View.canon_cons_unit_zero (S := S1024x1024) hz2, View.canon_cons_unit_zero (S := S1x1024) hz2, View.canon_cons_unit_zero (S := S8x128) hz2, View.canon_cons_unit_zero (S := S128x8) hz2, View.canon_cons_unit_zero (S := S8x128x128) hz3, broadcast_at, tile_4, dyaT, lo, hi]

set_option maxHeartbeats 8000000 in
theorem stepA_10 (c : Dev nD) (t : Fin cfg0.N) (h0 : t.val % 32 = 0) (h1 : ¬t.val % 32 = 31) :
    (stepA m c t h0 h1).2.2.2.2.2.2.2.2.2.1 = accPaT (iblk m c 0 t) (iblk m c 2 t) (iblk m c 5 t) (iblk m c 14 t) (zeroT S1024x1024) := by
  unfold stepA
  dsimp only
  rw [View.read_writes_junk_eq_canon]
  unfold runA kernelRun0_A
  dsimp only
  sl_unfold_words
  simp only [kernelRun0_A.sl.r_6, View.readAt_eq_ld, Memref.IsWhole.read_unread, View.ld_unit_zero (S := S1024x1024) hz2, View.ld_unit_zero (S := S256x1024) hz2, View.ld_unit_zero (S := S1x1024) hz2, View.ld_unit_zero (S := S8x128) hz2, shapeCast_self, readCov_ld, View.ld_unit_zero (S := S8x128x128) hz3, View.ld_unit_zero (S := S128x8) hz2, View.ld_unit_zero (S := S1x8x128) hz3, View.canon_cons_unit_zero (S := S256x1024) hz2, View.canon_cons_unit_zero (S := S1024x1024) hz2, View.canon_cons_unit_zero (S := S1x1024) hz2, View.canon_cons_unit_zero (S := S8x128) hz2, View.canon_cons_unit_zero (S := S128x8) hz2, View.canon_cons_unit_zero (S := S8x128x128) hz3, broadcast_at, tile_6, accPaT, lo, hi, wT, wtT, bsT, wslab, wtslab, k0_pay35, k0_pay36, k0_pay37, k0_pay79, zeroT]

set_option maxHeartbeats 8000000 in
theorem stepA_11 (c : Dev nD) (t : Fin cfg0.N) (h0 : t.val % 32 = 0) (h1 : ¬t.val % 32 = 31) :
    (stepA m c t h0 h1).2.2.2.2.2.2.2.2.2.2.1 = accPbT (iblk m c 0 t) (iblk m c 2 t) (iblk m c 6 t) (iblk m c 14 t) (zeroT S1024x1024) := by
  unfold stepA
  dsimp only
  rw [View.read_writes_junk_eq_canon]
  unfold runA kernelRun0_A
  dsimp only
  sl_unfold_words
  simp only [kernelRun0_A.sl.r_5, View.readAt_eq_ld, Memref.IsWhole.read_unread, View.ld_unit_zero (S := S1024x1024) hz2, View.ld_unit_zero (S := S256x1024) hz2, View.ld_unit_zero (S := S1x1024) hz2, View.ld_unit_zero (S := S8x128) hz2, shapeCast_self, readCov_ld, View.ld_unit_zero (S := S8x128x128) hz3, View.ld_unit_zero (S := S128x8) hz2, View.ld_unit_zero (S := S1x8x128) hz3, View.canon_cons_unit_zero (S := S256x1024) hz2, View.canon_cons_unit_zero (S := S1024x1024) hz2, View.canon_cons_unit_zero (S := S1x1024) hz2, View.canon_cons_unit_zero (S := S8x128) hz2, View.canon_cons_unit_zero (S := S128x8) hz2, View.canon_cons_unit_zero (S := S8x128x128) hz3, broadcast_at, tile_5, accPbT, lo, hi, wT, wtT, bsT, wslab, wtslab, k0_pay35, k0_pay36, k0_pay37, k0_pay79, zeroT]

set_option maxHeartbeats 8000000 in
theorem stepA_12 (c : Dev nD) (t : Fin cfg0.N) (h0 : t.val % 32 = 0) (h1 : ¬t.val % 32 = 31) :
    (stepA m c t h0 h1).2.2.2.2.2.2.2.2.2.2.2.1 = accOutT (iblk m c 0 t) (iblk m c 7 t) (zeroT S1024x1024) := by
  unfold stepA
  dsimp only
  rw [View.read_writes_junk_eq_canon]
  unfold runA kernelRun0_A
  dsimp only
  sl_unfold_words
  simp only [View.readAt_eq_ld, Memref.IsWhole.read_unread, View.ld_unit_zero (S := S1024x1024) hz2, View.ld_unit_zero (S := S256x1024) hz2, View.ld_unit_zero (S := S1x1024) hz2, View.ld_unit_zero (S := S8x128) hz2, shapeCast_self, readCov_ld, View.ld_unit_zero (S := S8x128x128) hz3, View.ld_unit_zero (S := S128x8) hz2, View.ld_unit_zero (S := S1x8x128) hz3, View.canon_cons_unit_zero (S := S256x1024) hz2, View.canon_cons_unit_zero (S := S1024x1024) hz2, View.canon_cons_unit_zero (S := S1x1024) hz2, View.canon_cons_unit_zero (S := S8x128) hz2, View.canon_cons_unit_zero (S := S128x8) hz2, View.canon_cons_unit_zero (S := S8x128x128) hz3, broadcast_at, accOutT, lo, hi, wT, wtT, bsT, wslab, wtslab, k0_pay35, k0_pay36, k0_pay37, k0_pay79, zeroT]

set_option maxHeartbeats 8000000 in
theorem stepA_4 (c : Dev nD) (t : Fin cfg0.N) (h0 : t.val % 32 = 0) (h1 : ¬t.val % 32 = 31) :
    (stepA m c t h0 h1).2.2.2.1 = dbsT (iblk m c 0 t) (iblk m c 1 t) (iblk m c 2 t) (iblk m c 13 t) (iblk m c 14 t) (zeroT S8x128) := by
  unfold stepA
  dsimp only
  rw [View.read_writes_junk_eq_canon]
  unfold runA kernelRun0_A
  dsimp only
  sl_unfold_words
  simp only [kernelRun0_A.sl.r_5, kernelRun0_A.sl.r_9, kernelRun0_A.sl.r_10, kernelRun0_A.sl.r_27, kernelRun0_A.sl.r_33, kernelRun0_A.sl.r_36, kernelRun0_A.sl.r_38, kernelRun0_A.sl.r_42, kernelRun0_A.sl.r_46, kernelRun0_A.sl.r_48, kernelRun0_A.sl.r_50, View.readAt_eq_ld, Memref.IsWhole.read_unread, View.ld_unit_zero (S := S1024x1024) hz2, View.ld_unit_zero (S := S256x1024) hz2, View.ld_unit_zero (S := S1x1024) hz2, View.ld_unit_zero (S := S8x128) hz2, shapeCast_self, readCov_ld, View.ld_unit_zero (S := S8x128x128) hz3, View.ld_unit_zero (S := S128x8) hz2, View.ld_unit_zero (S := S1x8x128) hz3, View.canon_cons_unit_zero (S := S256x1024) hz2, View.canon_cons_unit_zero (S := S1024x1024) hz2, View.canon_cons_unit_zero (S := S1x1024) hz2, View.canon_cons_unit_zero (S := S8x128) hz2, View.canon_cons_unit_zero (S := S128x8) hz2, View.canon_cons_unit_zero (S := S8x128x128) hz3, broadcast_at, tile_5, tile_9, tile_10, tile_27, tile_33, tile_36, tile_38, tile_42, tile_46, tile_48, tile_50, dbsT, lo, hi, wT, wtT, bsT, wslab, wtslab, k0_pay35, k0_pay36, k0_pay37, k0_pay79, zeroT]

end Cert.KernelIdeal.Whole

end
-- ==== Proof.Merge.A2.lean ====
module

public import proofs.«01_k».proof.Proof.Merge.Tiles

@[expose] public section

set_option maxRecDepth 16384

noncomputable section

namespace Cert.KernelIdeal.Whole

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

variable (m : (ℓ : Loc nD τ sig) → Buf (Elt F) ℓ) (ρ : Dev nD → PrngReg)

/-! What the steps leave, in the values of `Merge.Tiles`. -/

set_option maxHeartbeats 8000000 in
theorem stepA_2 (c : Dev nD) (t : Fin cfg0.N) (h0 : t.val % 32 = 0) (h1 : ¬t.val % 32 = 31) :
    (stepA m c t h0 h1).2.1 = View.canon (Val := Elt F) (e := .bf16) [⟨Rect.unit (s := S256x4096) ![0, 1024] S256x1024.size inb_S256x4096_S256x1024_0_1024, dvT (iblk m c 0 t) (iblk m c 1 t) (iblk m c 2 t) (iblk m c 8 t) (iblk m c 13 t) (iblk m c 14 t) (wtT (iblk m c 10 t))⟩, ⟨Rect.unit (s := S256x4096) ![0, 0] S256x1024.size inb_S256x4096_S256x1024_0_0, duT (iblk m c 0 t) (iblk m c 1 t) (iblk m c 2 t) (iblk m c 8 t) (iblk m c 9 t) (iblk m c 13 t) (iblk m c 14 t) (wT (iblk m c 10 t)) (bsT (iblk m c 11 t))⟩, ⟨Rect.unit (s := S256x4096) ![0, 3072] S256x1024.size inb_S256x4096_S256x1024_0_3072, dgbT (iblk m c 0 t) (iblk m c 2 t) (iblk m c 4 t) (iblk m c 14 t)⟩, ⟨Rect.unit (s := S256x4096) ![0, 2048] S256x1024.size inb_S256x4096_S256x1024_0_2048, dgaT (iblk m c 0 t) (iblk m c 2 t) (iblk m c 3 t) (iblk m c 14 t)⟩] := by
  unfold stepA
  dsimp only
  rw [View.read_writes_junk_eq_canon]
  unfold runA kernelRun0_A
  dsimp only
  sl_unfold_words
  simp only [kernelRun0_A.sl.r_1, kernelRun0_A.sl.r_2, kernelRun0_A.sl.r_3, kernelRun0_A.sl.r_5, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_28, kernelRun0_A.sl.r_29, kernelRun0_A.sl.r_31, kernelRun0_A.sl.r_32, kernelRun0_A.sl.r_34, kernelRun0_A.sl.r_37, kernelRun0_A.sl.r_39, kernelRun0_A.sl.r_41, kernelRun0_A.sl.r_43, kernelRun0_A.sl.r_47, kernelRun0_A.sl.r_49, kernelRun0_A.sl.r_51, kernelRun0_A.sl.r_53, View.readAt_eq_ld, Memref.IsWhole.read_unread, View.ld_unit_zero (S := S1024x1024) hz2, View.ld_unit_zero (S := S256x1024) hz2, View.ld_unit_zero (S := S1x1024) hz2, View.ld_unit_zero (S := S8x128) hz2, shapeCast_self, readCov_ld, View.ld_unit_zero (S := S8x128x128) hz3, View.ld_unit_zero (S := S128x8) hz2, View.ld_unit_zero (S := S1x8x128) hz3, View.canon_cons_unit_zero (S := S256x1024) hz2, View.canon_cons_unit_zero (S := S1024x1024) hz2, View.canon_cons_unit_zero (S := S1x1024) hz2, View.canon_cons_unit_zero (S := S8x128) hz2, View.canon_cons_unit_zero (S := S128x8) hz2, View.canon_cons_unit_zero (S := S8x128x128) hz3, broadcast_at, tile_1, tile_2, tile_3, tile_5, tile_7, tile_8, tile_9, tile_10, tile_11, tile_12, tile_13, tile_14, tile_15, tile_16, tile_17, tile_18, tile_19, tile_20, tile_21, tile_22, tile_23, tile_24, tile_25, tile_26, tile_28, tile_29, tile_31, tile_32, tile_34, tile_37, tile_39, tile_41, tile_43, tile_47, tile_49, tile_51, tile_53, dvT, duT, dgbT, dgaT, lo, hi, wT, wtT, bsT, wslab, wtslab, k0_pay35, k0_pay36, k0_pay37, k0_pay79, zeroT]

end Cert.KernelIdeal.Whole

end
-- ==== Proof.Merge.A3.lean ====
module

public import proofs.«01_k».proof.Proof.Merge.Tiles

@[expose] public section

set_option maxRecDepth 16384

noncomputable section

namespace Cert.KernelIdeal.Whole

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

variable (m : (ℓ : Loc nD τ sig) → Buf (Elt F) ℓ) (ρ : Dev nD → PrngReg)

/-! What the steps leave, in the values of `Merge.Tiles`. -/

set_option maxHeartbeats 8000000 in
theorem stepA_3 (c : Dev nD) (t : Fin cfg0.N) (h0 : t.val % 32 = 0) (h1 : ¬t.val % 32 = 31) :
    (stepA m c t h0 h1).2.2.1 = View.canon (Val := Elt F) (e := .f32) [⟨Rect.unit (s := S8x128x128) ![7, 0, 0] S1x128x128.size inb_S8x128x128_S1x128x128_7_0_0, dw7T (iblk m c 0 t) (iblk m c 1 t) (iblk m c 2 t) (iblk m c 8 t) (iblk m c 9 t) (iblk m c 13 t) (iblk m c 14 t) (zeroT S8x128x128)⟩, ⟨Rect.unit (s := S8x128x128) ![6, 0, 0] S1x128x128.size inb_S8x128x128_S1x128x128_6_0_0, dw6T (iblk m c 0 t) (iblk m c 1 t) (iblk m c 2 t) (iblk m c 8 t) (iblk m c 9 t) (iblk m c 13 t) (iblk m c 14 t) (zeroT S8x128x128)⟩, ⟨Rect.unit (s := S8x128x128) ![5, 0, 0] S1x128x128.size inb_S8x128x128_S1x128x128_5_0_0, dw5T (iblk m c 0 t) (iblk m c 1 t) (iblk m c 2 t) (iblk m c 8 t) (iblk m c 9 t) (iblk m c 13 t) (iblk m c 14 t) (zeroT S8x128x128)⟩, ⟨Rect.unit (s := S8x128x128) ![4, 0, 0] S1x128x128.size inb_S8x128x128_S1x128x128_4_0_0, dw4T (iblk m c 0 t) (iblk m c 1 t) (iblk m c 2 t) (iblk m c 8 t) (iblk m c 9 t) (iblk m c 13 t) (iblk m c 14 t) (zeroT S8x128x128)⟩, ⟨Rect.unit (s := S8x128x128) ![3, 0, 0] S1x128x128.size inb_S8x128x128_S1x128x128_3_0_0, dw3T (iblk m c 0 t) (iblk m c 1 t) (iblk m c 2 t) (iblk m c 8 t) (iblk m c 9 t) (iblk m c 13 t) (iblk m c 14 t) (zeroT S8x128x128)⟩, ⟨Rect.unit (s := S8x128x128) ![2, 0, 0] S1x128x128.size inb_S8x128x128_S1x128x128_2_0_0, dw2T (iblk m c 0 t) (iblk m c 1 t) (iblk m c 2 t) (iblk m c 8 t) (iblk m c 9 t) (iblk m c 13 t) (iblk m c 14 t) (zeroT S8x128x128)⟩, ⟨Rect.unit (s := S8x128x128) ![1, 0, 0] S1x128x128.size inb_S8x128x128_S1x128x128_1_0_0, dw1T (iblk m c 0 t) (iblk m c 1 t) (iblk m c 2 t) (iblk m c 8 t) (iblk m c 9 t) (iblk m c 13 t) (iblk m c 14 t) (zeroT S8x128x128)⟩, ⟨Rect.unit (s := S8x128x128) ![0, 0, 0] S1x128x128.size inb_S8x128x128_S1x128x128_0_0_0, dw0T (iblk m c 0 t) (iblk m c 1 t) (iblk m c 2 t) (iblk m c 8 t) (iblk m c 9 t) (iblk m c 13 t) (iblk m c 14 t) (zeroT S8x128x128)⟩, ⟨Rect.unit (s := S8x128x128) ![0, 0, 0] S8x128x128.size inb_S8x128x128_S8x128x128_0_0_0, zeroT S8x128x128⟩] := by
  unfold stepA
  dsimp only
  rw [View.read_writes_junk_eq_canon]
  unfold runA kernelRun0_A
  dsimp only
  sl_unfold_words
  simp only [kernelRun0_A.sl.r_5, kernelRun0_A.sl.r_9, kernelRun0_A.sl.r_10, kernelRun0_A.sl.r_12, kernelRun0_A.sl.r_17, kernelRun0_A.sl.r_18, kernelRun0_A.sl.r_19, kernelRun0_A.sl.r_28, kernelRun0_A.sl.r_29, kernelRun0_A.sl.r_30, kernelRun0_A.sl.r_35, kernelRun0_A.sl.r_39, kernelRun0_A.sl.r_40, kernelRun0_A.sl.r_44, kernelRun0_A.sl.r_45, kernelRun0_A.sl.r_52, kernelRun0_A.sl.v302, kernelRun0_A.sl.v380, kernelRun0_A.sl.v458, kernelRun0_A.sl.v432, kernelRun0_A.sl.v406, kernelRun0_A.sl.v354, kernelRun0_A.sl.v328, readCov_skip, ne_eq, Nat.reduceEqDiff, not_false_eq_true, OfNat.ofNat_ne_zero, OfNat.ofNat_ne_one, zero_ne_one, one_ne_zero]
  simp only [View.readAt_eq_ld, Memref.IsWhole.read_unread, View.ld_unit_zero (S := S1024x1024) hz2, View.ld_unit_zero (S := S256x1024) hz2, View.ld_unit_zero (S := S1x1024) hz2, View.ld_unit_zero (S := S8x128) hz2, shapeCast_self, readCov_ld, View.ld_unit_zero (S := S8x128x128) hz3, View.ld_unit_zero (S := S128x8) hz2, View.ld_unit_zero (S := S1x8x128) hz3, View.canon_cons_unit_zero (S := S256x1024) hz2, View.canon_cons_unit_zero (S := S1024x1024) hz2, View.canon_cons_unit_zero (S := S1x1024) hz2, View.canon_cons_unit_zero (S := S8x128) hz2, View.canon_cons_unit_zero (S := S128x8) hz2, View.canon_cons_unit_zero (S := S8x128x128) hz3, broadcast_at, tile_5, tile_9, tile_10, tile_12, tile_17, tile_18, tile_19, tile_28, tile_29, tile_30, tile_35, tile_39, tile_40, tile_44, tile_45, tile_52, dw0T, dw1T, dw2T, dw3T, dw4T, dw5T, dw6T, dw7T, lo, hi, wT, wtT, bsT, wslab, wtslab, k0_pay35, k0_pay36, k0_pay37, k0_pay79, zeroT]

end Cert.KernelIdeal.Whole

end
-- ==== Proof.Merge.A4.lean ====
module

public import proofs.«01_k».proof.Proof.Merge.Tiles

@[expose] public section

set_option maxRecDepth 16384

noncomputable section

namespace Cert.KernelIdeal.Whole

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

variable (m : (ℓ : Loc nD τ sig) → Buf (Elt F) ℓ) (ρ : Dev nD → PrngReg)

/-! What the steps leave, in the values of `Merge.Tiles`. -/

set_option maxHeartbeats 8000000 in
theorem stepA_5 (c : Dev nD) (t : Fin cfg0.N) (h0 : t.val % 32 = 0) (h1 : ¬t.val % 32 = 31) :
    (stepA m c t h0 h1).2.2.2.2.1 = dlngT (iblk m c 0 t) (iblk m c 1 t) (iblk m c 2 t) (iblk m c 13 t) (iblk m c 14 t) (zeroT S1x1024) (wtT (iblk m c 10 t)) := by
  unfold stepA
  dsimp only
  rw [View.read_writes_junk_eq_canon]
  unfold runA kernelRun0_A
  dsimp only
  sl_unfold_words
  simp only [kernelRun0_A.sl.r_5, kernelRun0_A.sl.r_9, kernelRun0_A.sl.r_10, kernelRun0_A.sl.r_12, kernelRun0_A.sl.r_15, kernelRun0_A.sl.r_28, kernelRun0_A.sl.r_29, kernelRun0_A.sl.r_31, kernelRun0_A.sl.r_32, kernelRun0_A.sl.r_34, kernelRun0_A.sl.r_37, kernelRun0_A.sl.r_39, kernelRun0_A.sl.r_41, kernelRun0_A.sl.r_43, kernelRun0_A.sl.r_47, kernelRun0_A.sl.r_49, kernelRun0_A.sl.r_51, View.readAt_eq_ld, Memref.IsWhole.read_unread, View.ld_unit_zero (S := S1024x1024) hz2, View.ld_unit_zero (S := S256x1024) hz2, View.ld_unit_zero (S := S1x1024) hz2, View.ld_unit_zero (S := S8x128) hz2, shapeCast_self, readCov_ld, View.ld_unit_zero (S := S8x128x128) hz3, View.ld_unit_zero (S := S128x8) hz2, View.ld_unit_zero (S := S1x8x128) hz3, View.canon_cons_unit_zero (S := S256x1024) hz2, View.canon_cons_unit_zero (S := S1024x1024) hz2, View.canon_cons_unit_zero (S := S1x1024) hz2, View.canon_cons_unit_zero (S := S8x128) hz2, View.canon_cons_unit_zero (S := S128x8) hz2, View.canon_cons_unit_zero (S := S8x128x128) hz3, broadcast_at, tile_5, tile_9, tile_10, tile_12, tile_15, tile_28, tile_29, tile_31, tile_32, tile_34, tile_37, tile_39, tile_41, tile_43, tile_47, tile_49, tile_51, dlngT, lo, hi, wT, wtT, bsT, wslab, wtslab, k0_pay35, k0_pay36, k0_pay37, k0_pay79, zeroT]

set_option maxHeartbeats 8000000 in
theorem stepA_6 (c : Dev nD) (t : Fin cfg0.N) (h0 : t.val % 32 = 0) (h1 : ¬t.val % 32 = 31) :
    (stepA m c t h0 h1).2.2.2.2.2.1 = dlnbT (iblk m c 0 t) (iblk m c 1 t) (iblk m c 2 t) (iblk m c 13 t) (iblk m c 14 t) (zeroT S1x1024) (wtT (iblk m c 10 t)) := by
  unfold stepA
  dsimp only
  rw [View.read_writes_junk_eq_canon]
  unfold runA kernelRun0_A
  dsimp only
  sl_unfold_words
  simp only [kernelRun0_A.sl.r_5, kernelRun0_A.sl.r_9, kernelRun0_A.sl.r_10, kernelRun0_A.sl.r_28, kernelRun0_A.sl.r_29, kernelRun0_A.sl.r_31, kernelRun0_A.sl.r_32, kernelRun0_A.sl.r_34, kernelRun0_A.sl.r_37, kernelRun0_A.sl.r_39, kernelRun0_A.sl.r_41, kernelRun0_A.sl.r_43, kernelRun0_A.sl.r_47, kernelRun0_A.sl.r_49, kernelRun0_A.sl.r_51, View.readAt_eq_ld, Memref.IsWhole.read_unread, View.ld_unit_zero (S := S1024x1024) hz2, View.ld_unit_zero (S := S256x1024) hz2, View.ld_unit_zero (S := S1x1024) hz2, View.ld_unit_zero (S := S8x128) hz2, shapeCast_self, readCov_ld, View.ld_unit_zero (S := S8x128x128) hz3, View.ld_unit_zero (S := S128x8) hz2, View.ld_unit_zero (S := S1x8x128) hz3, View.canon_cons_unit_zero (S := S256x1024) hz2, View.canon_cons_unit_zero (S := S1024x1024) hz2, View.canon_cons_unit_zero (S := S1x1024) hz2, View.canon_cons_unit_zero (S := S8x128) hz2, View.canon_cons_unit_zero (S := S128x8) hz2, View.canon_cons_unit_zero (S := S8x128x128) hz3, broadcast_at, tile_5, tile_9, tile_10, tile_28, tile_29, tile_31, tile_32, tile_34, tile_37, tile_39, tile_41, tile_43, tile_47, tile_49, tile_51, dlnbT, lo, hi, wT, wtT, bsT, wslab, wtslab, k0_pay35, k0_pay36, k0_pay37, k0_pay79, zeroT]

end Cert.KernelIdeal.Whole

end
-- ==== Proof.Merge.A5.lean ====
module

public import proofs.«01_k».proof.Proof.Merge.Tiles

@[expose] public section

set_option maxRecDepth 16384

noncomputable section

namespace Cert.KernelIdeal.Whole

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

variable (m : (ℓ : Loc nD τ sig) → Buf (Elt F) ℓ) (ρ : Dev nD → PrngReg)

/-! What the steps leave, in the values of `Merge.Tiles`. -/

set_option maxHeartbeats 8000000 in
theorem stepA_7 (c : Dev nD) (t : Fin cfg0.N) (h0 : t.val % 32 = 0) (h1 : ¬t.val % 32 = 31) :
    (stepA m c t h0 h1).2.2.2.2.2.2.1 = wT (iblk m c 10 t) := by
  unfold stepA
  dsimp only
  rw [View.read_writes_junk_eq_canon]
  unfold runA kernelRun0_A
  dsimp only
  sl_unfold_words
  simp only [View.readAt_eq_ld, Memref.IsWhole.read_unread, View.ld_unit_zero (S := S1024x1024) hz2, View.ld_unit_zero (S := S256x1024) hz2, View.ld_unit_zero (S := S1x1024) hz2, View.ld_unit_zero (S := S8x128) hz2, shapeCast_self, readCov_ld, View.ld_unit_zero (S := S8x128x128) hz3, View.ld_unit_zero (S := S128x8) hz2, View.ld_unit_zero (S := S1x8x128) hz3, View.canon_cons_unit_zero (S := S256x1024) hz2, View.canon_cons_unit_zero (S := S1024x1024) hz2, View.canon_cons_unit_zero (S := S1x1024) hz2, View.canon_cons_unit_zero (S := S8x128) hz2, View.canon_cons_unit_zero (S := S128x8) hz2, View.canon_cons_unit_zero (S := S8x128x128) hz3, broadcast_at, wT, wtT, bsT, wslab, wtslab, k0_pay35, k0_pay36, k0_pay37, k0_pay79, zeroT]

set_option maxHeartbeats 8000000 in
theorem stepA_8 (c : Dev nD) (t : Fin cfg0.N) (h0 : t.val % 32 = 0) (h1 : ¬t.val % 32 = 31) :
    (stepA m c t h0 h1).2.2.2.2.2.2.2.1 = wtT (iblk m c 10 t) := by
  unfold stepA
  dsimp only
  rw [View.read_writes_junk_eq_canon]
  unfold runA kernelRun0_A
  dsimp only
  sl_unfold_words
  simp only [View.readAt_eq_ld, Memref.IsWhole.read_unread, View.ld_unit_zero (S := S1024x1024) hz2, View.ld_unit_zero (S := S256x1024) hz2, View.ld_unit_zero (S := S1x1024) hz2, View.ld_unit_zero (S := S8x128) hz2, shapeCast_self, readCov_ld, View.ld_unit_zero (S := S8x128x128) hz3, View.ld_unit_zero (S := S128x8) hz2, View.ld_unit_zero (S := S1x8x128) hz3, View.canon_cons_unit_zero (S := S256x1024) hz2, View.canon_cons_unit_zero (S := S1024x1024) hz2, View.canon_cons_unit_zero (S := S1x1024) hz2, View.canon_cons_unit_zero (S := S8x128) hz2, View.canon_cons_unit_zero (S := S128x8) hz2, View.canon_cons_unit_zero (S := S8x128x128) hz3, broadcast_at, wT, wtT, bsT, wslab, wtslab, k0_pay35, k0_pay36, k0_pay37, k0_pay79, zeroT]

set_option maxHeartbeats 8000000 in
theorem stepA_9 (c : Dev nD) (t : Fin cfg0.N) (h0 : t.val % 32 = 0) (h1 : ¬t.val % 32 = 31) :
    (stepA m c t h0 h1).2.2.2.2.2.2.2.2.1 = bsT (iblk m c 11 t) := by
  unfold stepA
  dsimp only
  rw [View.read_writes_junk_eq_canon]
  unfold runA kernelRun0_A
  dsimp only
  sl_unfold_words
  simp only [View.readAt_eq_ld, Memref.IsWhole.read_unread, View.ld_unit_zero (S := S1024x1024) hz2, View.ld_unit_zero (S := S256x1024) hz2, View.ld_unit_zero (S := S1x1024) hz2, View.ld_unit_zero (S := S8x128) hz2, shapeCast_self, readCov_ld, View.ld_unit_zero (S := S8x128x128) hz3, View.ld_unit_zero (S := S128x8) hz2, View.ld_unit_zero (S := S1x8x128) hz3, View.canon_cons_unit_zero (S := S256x1024) hz2, View.canon_cons_unit_zero (S := S1024x1024) hz2, View.canon_cons_unit_zero (S := S1x1024) hz2, View.canon_cons_unit_zero (S := S8x128) hz2, View.canon_cons_unit_zero (S := S128x8) hz2, View.canon_cons_unit_zero (S := S8x128x128) hz3, broadcast_at, wT, wtT, bsT, wslab, wtslab, k0_pay35, k0_pay36, k0_pay37, k0_pay79, zeroT]

end Cert.KernelIdeal.Whole

end
-- ==== Proof.Merge.B1.lean ====
module

public import proofs.«01_k».proof.Proof.Merge.Tiles

@[expose] public section

set_option maxRecDepth 16384

noncomputable section

namespace Cert.KernelIdeal.Whole

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

variable (m : (ℓ : Loc nD τ sig) → Buf (Elt F) ℓ) (ρ : Dev nD → PrngReg)

/-! What the steps leave, in the values of `Merge.Tiles`. -/

set_option maxHeartbeats 4000000 in
theorem stepB_1 (c : Dev nD) (t : Fin cfg0.N) (h0 : ¬t.val % 32 = 0) (h1 : ¬t.val % 32 = 31) (a : Held F c) :
    (stepB m c t h0 h1 a).1 = dyaT (iblk m c 0 t) (iblk m c 2 t) (iblk m c 12 t) (iblk m c 14 t) := by
  unfold stepB
  dsimp only
  rw [View.read_writes_eq_canon _ _ _ (coverB_15 m c t h0 h1 a)]
  unfold runB kernelRun0_B
  dsimp only
  sl_unfold_words
  rw [View.canon_unit_zero (S := S256x1024) hz2]
  simp only [kernelRun0_B.sl.r_4, View.readAt_eq_ld, Memref.IsWhole.read_unread, View.ld_unit_zero (S := S1024x1024) hz2, View.ld_unit_zero (S := S256x1024) hz2, View.ld_unit_zero (S := S1x1024) hz2, View.ld_unit_zero (S := S8x128) hz2, shapeCast_self, read_scratch, tile_4, dyaT, lo, hi]

set_option maxHeartbeats 4000000 in
theorem stepB_10 (c : Dev nD) (t : Fin cfg0.N) (h0 : ¬t.val % 32 = 0) (h1 : ¬t.val % 32 = 31) (a : Held F c) :
    (stepB m c t h0 h1 a).2.2.2.2.2.2.2.2.2.1 = accPaT (iblk m c 0 t) (iblk m c 2 t) (iblk m c 5 t) (iblk m c 14 t) (a.2.2.2.2.2.2.2.2.2.1) := by
  unfold stepB
  dsimp only
  rw [View.read_writes_eq_canon _ _ _ (scoverB_3 m c t h0 h1 a)]
  unfold runB kernelRun0_B
  dsimp only
  sl_unfold_words
  rw [View.canon_unit_zero (S := S1024x1024) hz2]
  simp only [kernelRun0_B.sl.r_6, View.readAt_eq_ld, Memref.IsWhole.read_unread, View.ld_unit_zero (S := S1024x1024) hz2, View.ld_unit_zero (S := S256x1024) hz2, View.ld_unit_zero (S := S1x1024) hz2, View.ld_unit_zero (S := S8x128) hz2, shapeCast_self, read_scratch, tile_6, accPaT, lo, hi]

set_option maxHeartbeats 4000000 in
theorem stepB_11 (c : Dev nD) (t : Fin cfg0.N) (h0 : ¬t.val % 32 = 0) (h1 : ¬t.val % 32 = 31) (a : Held F c) :
    (stepB m c t h0 h1 a).2.2.2.2.2.2.2.2.2.2.1 = accPbT (iblk m c 0 t) (iblk m c 2 t) (iblk m c 6 t) (iblk m c 14 t) (a.2.2.2.2.2.2.2.2.2.2.1) := by
  unfold stepB
  dsimp only
  rw [View.read_writes_eq_canon _ _ _ (scoverB_4 m c t h0 h1 a)]
  unfold runB kernelRun0_B
  dsimp only
  sl_unfold_words
  rw [View.canon_unit_zero (S := S1024x1024) hz2]
  simp only [kernelRun0_B.sl.r_5, View.readAt_eq_ld, Memref.IsWhole.read_unread, View.ld_unit_zero (S := S1024x1024) hz2, View.ld_unit_zero (S := S256x1024) hz2, View.ld_unit_zero (S := S1x1024) hz2, View.ld_unit_zero (S := S8x128) hz2, shapeCast_self, read_scratch, tile_5, accPbT, lo, hi]

set_option maxHeartbeats 4000000 in
theorem stepB_12 (c : Dev nD) (t : Fin cfg0.N) (h0 : ¬t.val % 32 = 0) (h1 : ¬t.val % 32 = 31) (a : Held F c) :
    (stepB m c t h0 h1 a).2.2.2.2.2.2.2.2.2.2.2.1 = accOutT (iblk m c 0 t) (iblk m c 7 t) (a.2.2.2.2.2.2.2.2.2.2.2.1) := by
  unfold stepB
  dsimp only
  rw [View.read_writes_eq_canon _ _ _ (scoverB_5 m c t h0 h1 a)]
  unfold runB kernelRun0_B
  dsimp only
  sl_unfold_words
  rw [View.canon_unit_zero (S := S1024x1024) hz2]
  simp only [View.readAt_eq_ld, Memref.IsWhole.read_unread, View.ld_unit_zero (S := S1024x1024) hz2, View.ld_unit_zero (S := S256x1024) hz2, View.ld_unit_zero (S := S1x1024) hz2, View.ld_unit_zero (S := S8x128) hz2, shapeCast_self, read_scratch, accOutT, lo, hi]

end Cert.KernelIdeal.Whole

end
-- ==== Proof.Merge.B2.lean ====
module

public import proofs.«01_k».proof.Proof.Merge.Tiles

@[expose] public section

set_option maxRecDepth 16384

noncomputable section

namespace Cert.KernelIdeal.Whole

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

variable (m : (ℓ : Loc nD τ sig) → Buf (Elt F) ℓ) (ρ : Dev nD → PrngReg)

/-! What the steps leave, in the values of `Merge.Tiles`. -/

set_option maxHeartbeats 4000000 in
theorem stepB_2 (c : Dev nD) (t : Fin cfg0.N) (h0 : ¬t.val % 32 = 0) (h1 : ¬t.val % 32 = 31) (a : Held F c) :
    (stepB m c t h0 h1 a).2.1 = View.canon (Val := Elt F) (e := .bf16) [⟨Rect.unit (s := S256x4096) ![0, 1024] S256x1024.size inb_S256x4096_S256x1024_0_1024, dvT (iblk m c 0 t) (iblk m c 1 t) (iblk m c 2 t) (iblk m c 8 t) (iblk m c 13 t) (iblk m c 14 t) (a.2.2.2.2.2.2.2.1)⟩, ⟨Rect.unit (s := S256x4096) ![0, 0] S256x1024.size inb_S256x4096_S256x1024_0_0, duT (iblk m c 0 t) (iblk m c 1 t) (iblk m c 2 t) (iblk m c 8 t) (iblk m c 9 t) (iblk m c 13 t) (iblk m c 14 t) (a.2.2.2.2.2.2.1) (a.2.2.2.2.2.2.2.2.1)⟩, ⟨Rect.unit (s := S256x4096) ![0, 3072] S256x1024.size inb_S256x4096_S256x1024_0_3072, dgbT (iblk m c 0 t) (iblk m c 2 t) (iblk m c 4 t) (iblk m c 14 t)⟩, ⟨Rect.unit (s := S256x4096) ![0, 2048] S256x1024.size inb_S256x4096_S256x1024_0_2048, dgaT (iblk m c 0 t) (iblk m c 2 t) (iblk m c 3 t) (iblk m c 14 t)⟩] := by
  unfold stepB
  dsimp only
  rw [View.read_writes_eq_canon _ _ _ (coverB_16 m c t h0 h1 a)]
  unfold runB kernelRun0_B
  dsimp only
  sl_unfold_words
  simp only [kernelRun0_B.sl.r_1, kernelRun0_B.sl.r_2, kernelRun0_B.sl.r_3, kernelRun0_B.sl.r_5, kernelRun0_B.sl.r_7, kernelRun0_B.sl.r_8, kernelRun0_B.sl.r_9, kernelRun0_B.sl.r_10, kernelRun0_B.sl.r_11, kernelRun0_B.sl.r_12, kernelRun0_B.sl.r_13, kernelRun0_B.sl.r_14, kernelRun0_B.sl.r_15, kernelRun0_B.sl.r_16, kernelRun0_B.sl.r_17, kernelRun0_B.sl.r_18, kernelRun0_B.sl.r_19, kernelRun0_B.sl.r_20, kernelRun0_B.sl.r_21, kernelRun0_B.sl.r_22, kernelRun0_B.sl.r_23, kernelRun0_B.sl.r_24, kernelRun0_B.sl.r_25, kernelRun0_B.sl.r_26, kernelRun0_B.sl.r_28, kernelRun0_B.sl.r_29, kernelRun0_B.sl.r_31, kernelRun0_B.sl.r_32, kernelRun0_B.sl.r_34, kernelRun0_B.sl.r_37, kernelRun0_B.sl.r_39, kernelRun0_B.sl.r_41, kernelRun0_B.sl.r_43, kernelRun0_B.sl.r_47, kernelRun0_B.sl.r_49, kernelRun0_B.sl.r_51, kernelRun0_B.sl.r_53, View.readAt_eq_ld, Memref.IsWhole.read_unread, View.ld_unit_zero (S := S1024x1024) hz2, View.ld_unit_zero (S := S256x1024) hz2, View.ld_unit_zero (S := S1x1024) hz2, View.ld_unit_zero (S := S8x128) hz2, shapeCast_self, read_scratch, tile_1, tile_2, tile_3, tile_5, tile_7, tile_8, tile_9, tile_10, tile_11, tile_12, tile_13, tile_14, tile_15, tile_16, tile_17, tile_18, tile_19, tile_20, tile_21, tile_22, tile_23, tile_24, tile_25, tile_26, tile_28, tile_29, tile_31, tile_32, tile_34, tile_37, tile_39, tile_41, tile_43, tile_47, tile_49, tile_51, tile_53, dvT, duT, dgbT, dgaT, lo, hi]

end Cert.KernelIdeal.Whole

end
-- ==== Proof.Merge.B3.lean ====
module

public import proofs.«01_k».proof.Proof.Merge.Tiles

@[expose] public section

set_option maxRecDepth 16384

noncomputable section

namespace Cert.KernelIdeal.Whole

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

variable (m : (ℓ : Loc nD τ sig) → Buf (Elt F) ℓ) (ρ : Dev nD → PrngReg)

/-! What the steps leave, in the values of `Merge.Tiles`. -/

set_option maxHeartbeats 4000000 in
theorem stepB_3 (c : Dev nD) (t : Fin cfg0.N) (h0 : ¬t.val % 32 = 0) (h1 : ¬t.val % 32 = 31) (a : Held F c) :
    (stepB m c t h0 h1 a).2.2.1 = View.canon (Val := Elt F) (e := .f32) [⟨Rect.unit (s := S8x128x128) ![7, 0, 0] S1x128x128.size inb_S8x128x128_S1x128x128_7_0_0, dw7T (iblk m c 0 t) (iblk m c 1 t) (iblk m c 2 t) (iblk m c 8 t) (iblk m c 9 t) (iblk m c 13 t) (iblk m c 14 t) (a.2.2.1)⟩, ⟨Rect.unit (s := S8x128x128) ![6, 0, 0] S1x128x128.size inb_S8x128x128_S1x128x128_6_0_0, dw6T (iblk m c 0 t) (iblk m c 1 t) (iblk m c 2 t) (iblk m c 8 t) (iblk m c 9 t) (iblk m c 13 t) (iblk m c 14 t) (a.2.2.1)⟩, ⟨Rect.unit (s := S8x128x128) ![5, 0, 0] S1x128x128.size inb_S8x128x128_S1x128x128_5_0_0, dw5T (iblk m c 0 t) (iblk m c 1 t) (iblk m c 2 t) (iblk m c 8 t) (iblk m c 9 t) (iblk m c 13 t) (iblk m c 14 t) (a.2.2.1)⟩, ⟨Rect.unit (s := S8x128x128) ![4, 0, 0] S1x128x128.size inb_S8x128x128_S1x128x128_4_0_0, dw4T (iblk m c 0 t) (iblk m c 1 t) (iblk m c 2 t) (iblk m c 8 t) (iblk m c 9 t) (iblk m c 13 t) (iblk m c 14 t) (a.2.2.1)⟩, ⟨Rect.unit (s := S8x128x128) ![3, 0, 0] S1x128x128.size inb_S8x128x128_S1x128x128_3_0_0, dw3T (iblk m c 0 t) (iblk m c 1 t) (iblk m c 2 t) (iblk m c 8 t) (iblk m c 9 t) (iblk m c 13 t) (iblk m c 14 t) (a.2.2.1)⟩, ⟨Rect.unit (s := S8x128x128) ![2, 0, 0] S1x128x128.size inb_S8x128x128_S1x128x128_2_0_0, dw2T (iblk m c 0 t) (iblk m c 1 t) (iblk m c 2 t) (iblk m c 8 t) (iblk m c 9 t) (iblk m c 13 t) (iblk m c 14 t) (a.2.2.1)⟩, ⟨Rect.unit (s := S8x128x128) ![1, 0, 0] S1x128x128.size inb_S8x128x128_S1x128x128_1_0_0, dw1T (iblk m c 0 t) (iblk m c 1 t) (iblk m c 2 t) (iblk m c 8 t) (iblk m c 9 t) (iblk m c 13 t) (iblk m c 14 t) (a.2.2.1)⟩, ⟨Rect.unit (s := S8x128x128) ![0, 0, 0] S1x128x128.size inb_S8x128x128_S1x128x128_0_0_0, dw0T (iblk m c 0 t) (iblk m c 1 t) (iblk m c 2 t) (iblk m c 8 t) (iblk m c 9 t) (iblk m c 13 t) (iblk m c 14 t) (a.2.2.1)⟩] := by
  unfold stepB
  dsimp only
  rw [View.read_writes_eq_canon _ _ _ (coverB_17 m c t h0 h1 a)]
  unfold runB kernelRun0_B
  dsimp only
  sl_unfold_words
  simp only [kernelRun0_B.sl.r_5, kernelRun0_B.sl.r_9, kernelRun0_B.sl.r_10, kernelRun0_B.sl.r_12, kernelRun0_B.sl.r_17, kernelRun0_B.sl.r_18, kernelRun0_B.sl.r_19, kernelRun0_B.sl.r_28, kernelRun0_B.sl.r_29, kernelRun0_B.sl.r_30, kernelRun0_B.sl.r_35, kernelRun0_B.sl.r_39, kernelRun0_B.sl.r_40, kernelRun0_B.sl.r_44, kernelRun0_B.sl.r_45, kernelRun0_B.sl.r_52, kernelRun0_B.sl.v302, kernelRun0_B.sl.v380, kernelRun0_B.sl.v458, kernelRun0_B.sl.v432, kernelRun0_B.sl.v406, kernelRun0_B.sl.v354, kernelRun0_B.sl.v328, View.readAt_eq_ld, Memref.IsWhole.read_unread, View.ld_unit_zero (S := S1024x1024) hz2, View.ld_unit_zero (S := S256x1024) hz2, View.ld_unit_zero (S := S1x1024) hz2, View.ld_unit_zero (S := S8x128) hz2, shapeCast_self, read_scratch, tile_5, tile_9, tile_10, tile_12, tile_17, tile_18, tile_19, tile_28, tile_29, tile_30, tile_35, tile_39, tile_40, tile_44, tile_45, tile_52, dw0T, dw1T, dw2T, dw3T, dw4T, dw5T, dw6T, dw7T, lo, hi]

end Cert.KernelIdeal.Whole

end
-- ==== Proof.Merge.B4.lean ====
module

public import proofs.«01_k».proof.Proof.Merge.Tiles

@[expose] public section

set_option maxRecDepth 16384

noncomputable section

namespace Cert.KernelIdeal.Whole

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

variable (m : (ℓ : Loc nD τ sig) → Buf (Elt F) ℓ) (ρ : Dev nD → PrngReg)

/-! What the steps leave, in the values of `Merge.Tiles`. -/

set_option maxHeartbeats 4000000 in
theorem stepB_4 (c : Dev nD) (t : Fin cfg0.N) (h0 : ¬t.val % 32 = 0) (h1 : ¬t.val % 32 = 31) (a : Held F c) :
    (stepB m c t h0 h1 a).2.2.2.1 = dbsT (iblk m c 0 t) (iblk m c 1 t) (iblk m c 2 t) (iblk m c 13 t) (iblk m c 14 t) (a.2.2.2.1) := by
  unfold stepB
  dsimp only
  rw [View.read_writes_eq_canon _ _ _ (coverB_18 m c t h0 h1 a)]
  unfold runB kernelRun0_B
  dsimp only
  sl_unfold_words
  rw [View.canon_unit_zero (S := S8x128) hz2]
  simp only [kernelRun0_B.sl.r_5, kernelRun0_B.sl.r_9, kernelRun0_B.sl.r_10, kernelRun0_B.sl.r_27, kernelRun0_B.sl.r_33, kernelRun0_B.sl.r_36, kernelRun0_B.sl.r_38, kernelRun0_B.sl.r_42, kernelRun0_B.sl.r_46, kernelRun0_B.sl.r_48, kernelRun0_B.sl.r_50, View.readAt_eq_ld, Memref.IsWhole.read_unread, View.ld_unit_zero (S := S1024x1024) hz2, View.ld_unit_zero (S := S256x1024) hz2, View.ld_unit_zero (S := S1x1024) hz2, View.ld_unit_zero (S := S8x128) hz2, shapeCast_self, read_scratch, tile_5, tile_9, tile_10, tile_27, tile_33, tile_36, tile_38, tile_42, tile_46, tile_48, tile_50, dbsT, lo, hi]

set_option maxHeartbeats 4000000 in
theorem stepB_5 (c : Dev nD) (t : Fin cfg0.N) (h0 : ¬t.val % 32 = 0) (h1 : ¬t.val % 32 = 31) (a : Held F c) :
    (stepB m c t h0 h1 a).2.2.2.2.1 = dlngT (iblk m c 0 t) (iblk m c 1 t) (iblk m c 2 t) (iblk m c 13 t) (iblk m c 14 t) (a.2.2.2.2.1) (a.2.2.2.2.2.2.2.1) := by
  unfold stepB
  dsimp only
  rw [View.read_writes_eq_canon _ _ _ (coverB_19 m c t h0 h1 a)]
  unfold runB kernelRun0_B
  dsimp only
  sl_unfold_words
  rw [View.canon_unit_zero (S := S1x1024) hz2]
  simp only [kernelRun0_B.sl.r_5, kernelRun0_B.sl.r_9, kernelRun0_B.sl.r_10, kernelRun0_B.sl.r_12, kernelRun0_B.sl.r_15, kernelRun0_B.sl.r_28, kernelRun0_B.sl.r_29, kernelRun0_B.sl.r_31, kernelRun0_B.sl.r_32, kernelRun0_B.sl.r_34, kernelRun0_B.sl.r_37, kernelRun0_B.sl.r_39, kernelRun0_B.sl.r_41, kernelRun0_B.sl.r_43, kernelRun0_B.sl.r_47, kernelRun0_B.sl.r_49, kernelRun0_B.sl.r_51, View.readAt_eq_ld, Memref.IsWhole.read_unread, View.ld_unit_zero (S := S1024x1024) hz2, View.ld_unit_zero (S := S256x1024) hz2, View.ld_unit_zero (S := S1x1024) hz2, View.ld_unit_zero (S := S8x128) hz2, shapeCast_self, read_scratch, tile_5, tile_9, tile_10, tile_12, tile_15, tile_28, tile_29, tile_31, tile_32, tile_34, tile_37, tile_39, tile_41, tile_43, tile_47, tile_49, tile_51, dlngT, lo, hi]

set_option maxHeartbeats 4000000 in
theorem stepB_6 (c : Dev nD) (t : Fin cfg0.N) (h0 : ¬t.val % 32 = 0) (h1 : ¬t.val % 32 = 31) (a : Held F c) :
    (stepB m c t h0 h1 a).2.2.2.2.2.1 = dlnbT (iblk m c 0 t) (iblk m c 1 t) (iblk m c 2 t) (iblk m c 13 t) (iblk m c 14 t) (a.2.2.2.2.2.1) (a.2.2.2.2.2.2.2.1) := by
  unfold stepB
  dsimp only
  rw [View.read_writes_eq_canon _ _ _ (coverB_20 m c t h0 h1 a)]
  unfold runB kernelRun0_B
  dsimp only
  sl_unfold_words
  rw [View.canon_unit_zero (S := S1x1024) hz2]
  simp only [kernelRun0_B.sl.r_5, kernelRun0_B.sl.r_9, kernelRun0_B.sl.r_10, kernelRun0_B.sl.r_28, kernelRun0_B.sl.r_29, kernelRun0_B.sl.r_31, kernelRun0_B.sl.r_32, kernelRun0_B.sl.r_34, kernelRun0_B.sl.r_37, kernelRun0_B.sl.r_39, kernelRun0_B.sl.r_41, kernelRun0_B.sl.r_43, kernelRun0_B.sl.r_47, kernelRun0_B.sl.r_49, kernelRun0_B.sl.r_51, View.readAt_eq_ld, Memref.IsWhole.read_unread, View.ld_unit_zero (S := S1024x1024) hz2, View.ld_unit_zero (S := S256x1024) hz2, View.ld_unit_zero (S := S1x1024) hz2, View.ld_unit_zero (S := S8x128) hz2, shapeCast_self, read_scratch, tile_5, tile_9, tile_10, tile_28, tile_29, tile_31, tile_32, tile_34, tile_37, tile_39, tile_41, tile_43, tile_47, tile_49, tile_51, dlnbT, lo, hi]

end Cert.KernelIdeal.Whole

end
-- ==== Proof.Merge.C1.lean ====
module

public import proofs.«01_k».proof.Proof.Merge.Tiles

@[expose] public section

set_option maxRecDepth 16384

noncomputable section

namespace Cert.KernelIdeal.Whole

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

variable (m : (ℓ : Loc nD τ sig) → Buf (Elt F) ℓ) (ρ : Dev nD → PrngReg)

/-! What the steps leave, in the values of `Merge.Tiles`. -/

set_option maxHeartbeats 4000000 in
theorem stepC_1 (c : Dev nD) (t : Fin cfg0.N) (h0 : ¬t.val % 32 = 0) (h1 : t.val % 32 = 31) (a : Held F c) :
    (stepC m c t h0 h1 a).1 = dyaT (iblk m c 0 t) (iblk m c 2 t) (iblk m c 12 t) (iblk m c 14 t) := by
  unfold stepC
  dsimp only
  rw [View.read_writes_eq_canon _ _ _ (coverC_15 m c t h0 h1 a)]
  unfold runC kernelRun0_C
  dsimp only
  sl_unfold_words
  rw [View.canon_unit_zero (S := S256x1024) hz2]
  simp only [kernelRun0_C.sl.r_4, View.readAt_eq_ld, Memref.IsWhole.read_unread, View.ld_unit_zero (S := S1024x1024) hz2, View.ld_unit_zero (S := S256x1024) hz2, View.ld_unit_zero (S := S1x1024) hz2, View.ld_unit_zero (S := S8x128) hz2, shapeCast_self, read_scratch, tile_4, dyaT, lo, hi]

set_option maxHeartbeats 4000000 in
theorem stepC_10 (c : Dev nD) (t : Fin cfg0.N) (h0 : ¬t.val % 32 = 0) (h1 : t.val % 32 = 31) (a : Held F c) :
    (stepC m c t h0 h1 a).2.2.2.2.2.2.2.2.2.1 = accPaT (iblk m c 0 t) (iblk m c 2 t) (iblk m c 5 t) (iblk m c 14 t) (a.2.2.2.2.2.2.2.2.2.1) := by
  unfold stepC
  dsimp only
  rw [View.read_writes_eq_canon _ _ _ (scoverC_3 m c t h0 h1 a)]
  unfold runC kernelRun0_C
  dsimp only
  sl_unfold_words
  rw [View.canon_unit_zero (S := S1024x1024) hz2]
  simp only [kernelRun0_C.sl.r_6, View.readAt_eq_ld, Memref.IsWhole.read_unread, View.ld_unit_zero (S := S1024x1024) hz2, View.ld_unit_zero (S := S256x1024) hz2, View.ld_unit_zero (S := S1x1024) hz2, View.ld_unit_zero (S := S8x128) hz2, shapeCast_self, read_scratch, tile_6, accPaT, lo, hi]

set_option maxHeartbeats 4000000 in
theorem stepC_11 (c : Dev nD) (t : Fin cfg0.N) (h0 : ¬t.val % 32 = 0) (h1 : t.val % 32 = 31) (a : Held F c) :
    (stepC m c t h0 h1 a).2.2.2.2.2.2.2.2.2.2.1 = accPbT (iblk m c 0 t) (iblk m c 2 t) (iblk m c 6 t) (iblk m c 14 t) (a.2.2.2.2.2.2.2.2.2.2.1) := by
  unfold stepC
  dsimp only
  rw [View.read_writes_eq_canon _ _ _ (scoverC_4 m c t h0 h1 a)]
  unfold runC kernelRun0_C
  dsimp only
  sl_unfold_words
  rw [View.canon_unit_zero (S := S1024x1024) hz2]
  simp only [kernelRun0_C.sl.r_5, View.readAt_eq_ld, Memref.IsWhole.read_unread, View.ld_unit_zero (S := S1024x1024) hz2, View.ld_unit_zero (S := S256x1024) hz2, View.ld_unit_zero (S := S1x1024) hz2, View.ld_unit_zero (S := S8x128) hz2, shapeCast_self, read_scratch, tile_5, accPbT, lo, hi]

set_option maxHeartbeats 4000000 in
theorem stepC_12 (c : Dev nD) (t : Fin cfg0.N) (h0 : ¬t.val % 32 = 0) (h1 : t.val % 32 = 31) (a : Held F c) :
    (stepC m c t h0 h1 a).2.2.2.2.2.2.2.2.2.2.2.1 = accOutT (iblk m c 0 t) (iblk m c 7 t) (a.2.2.2.2.2.2.2.2.2.2.2.1) := by
  unfold stepC
  dsimp only
  rw [View.read_writes_eq_canon _ _ _ (scoverC_5 m c t h0 h1 a)]
  unfold runC kernelRun0_C
  dsimp only
  sl_unfold_words
  rw [View.canon_unit_zero (S := S1024x1024) hz2]
  simp only [View.readAt_eq_ld, Memref.IsWhole.read_unread, View.ld_unit_zero (S := S1024x1024) hz2, View.ld_unit_zero (S := S256x1024) hz2, View.ld_unit_zero (S := S1x1024) hz2, View.ld_unit_zero (S := S8x128) hz2, shapeCast_self, read_scratch, accOutT, lo, hi]

end Cert.KernelIdeal.Whole

end
-- ==== Proof.Merge.C2.lean ====
module

public import proofs.«01_k».proof.Proof.Merge.Tiles

@[expose] public section

set_option maxRecDepth 16384

noncomputable section

namespace Cert.KernelIdeal.Whole

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

variable (m : (ℓ : Loc nD τ sig) → Buf (Elt F) ℓ) (ρ : Dev nD → PrngReg)

/-! What the steps leave, in the values of `Merge.Tiles`. -/

set_option maxHeartbeats 4000000 in
theorem stepC_2 (c : Dev nD) (t : Fin cfg0.N) (h0 : ¬t.val % 32 = 0) (h1 : t.val % 32 = 31) (a : Held F c) :
    (stepC m c t h0 h1 a).2.1 = View.canon (Val := Elt F) (e := .bf16) [⟨Rect.unit (s := S256x4096) ![0, 1024] S256x1024.size inb_S256x4096_S256x1024_0_1024, dvT (iblk m c 0 t) (iblk m c 1 t) (iblk m c 2 t) (iblk m c 8 t) (iblk m c 13 t) (iblk m c 14 t) (a.2.2.2.2.2.2.2.1)⟩, ⟨Rect.unit (s := S256x4096) ![0, 0] S256x1024.size inb_S256x4096_S256x1024_0_0, duT (iblk m c 0 t) (iblk m c 1 t) (iblk m c 2 t) (iblk m c 8 t) (iblk m c 9 t) (iblk m c 13 t) (iblk m c 14 t) (a.2.2.2.2.2.2.1) (a.2.2.2.2.2.2.2.2.1)⟩, ⟨Rect.unit (s := S256x4096) ![0, 3072] S256x1024.size inb_S256x4096_S256x1024_0_3072, dgbT (iblk m c 0 t) (iblk m c 2 t) (iblk m c 4 t) (iblk m c 14 t)⟩, ⟨Rect.unit (s := S256x4096) ![0, 2048] S256x1024.size inb_S256x4096_S256x1024_0_2048, dgaT (iblk m c 0 t) (iblk m c 2 t) (iblk m c 3 t) (iblk m c 14 t)⟩] := by
  unfold stepC
  dsimp only
  rw [View.read_writes_eq_canon _ _ _ (coverC_16 m c t h0 h1 a)]
  unfold runC kernelRun0_C
  dsimp only
  sl_unfold_words
  simp only [kernelRun0_C.sl.r_1, kernelRun0_C.sl.r_2, kernelRun0_C.sl.r_3, kernelRun0_C.sl.r_5, kernelRun0_C.sl.r_7, kernelRun0_C.sl.r_8, kernelRun0_C.sl.r_9, kernelRun0_C.sl.r_10, kernelRun0_C.sl.r_11, kernelRun0_C.sl.r_12, kernelRun0_C.sl.r_13, kernelRun0_C.sl.r_14, kernelRun0_C.sl.r_15, kernelRun0_C.sl.r_16, kernelRun0_C.sl.r_17, kernelRun0_C.sl.r_18, kernelRun0_C.sl.r_19, kernelRun0_C.sl.r_20, kernelRun0_C.sl.r_21, kernelRun0_C.sl.r_22, kernelRun0_C.sl.r_23, kernelRun0_C.sl.r_24, kernelRun0_C.sl.r_25, kernelRun0_C.sl.r_26, kernelRun0_C.sl.r_28, kernelRun0_C.sl.r_29, kernelRun0_C.sl.r_31, kernelRun0_C.sl.r_32, kernelRun0_C.sl.r_34, kernelRun0_C.sl.r_37, kernelRun0_C.sl.r_39, kernelRun0_C.sl.r_41, kernelRun0_C.sl.r_43, kernelRun0_C.sl.r_47, kernelRun0_C.sl.r_49, kernelRun0_C.sl.r_51, kernelRun0_C.sl.r_53, View.readAt_eq_ld, Memref.IsWhole.read_unread, View.ld_unit_zero (S := S1024x1024) hz2, View.ld_unit_zero (S := S256x1024) hz2, View.ld_unit_zero (S := S1x1024) hz2, View.ld_unit_zero (S := S8x128) hz2, shapeCast_self, read_scratch, tile_1, tile_2, tile_3, tile_5, tile_7, tile_8, tile_9, tile_10, tile_11, tile_12, tile_13, tile_14, tile_15, tile_16, tile_17, tile_18, tile_19, tile_20, tile_21, tile_22, tile_23, tile_24, tile_25, tile_26, tile_28, tile_29, tile_31, tile_32, tile_34, tile_37, tile_39, tile_41, tile_43, tile_47, tile_49, tile_51, tile_53, dvT, duT, dgbT, dgaT, lo, hi]

end Cert.KernelIdeal.Whole

end
-- ==== Proof.Merge.C3.lean ====
module

public import proofs.«01_k».proof.Proof.Merge.Tiles

@[expose] public section

set_option maxRecDepth 16384

noncomputable section

namespace Cert.KernelIdeal.Whole

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

variable (m : (ℓ : Loc nD τ sig) → Buf (Elt F) ℓ) (ρ : Dev nD → PrngReg)

/-! What the steps leave, in the values of `Merge.Tiles`. -/

set_option maxHeartbeats 4000000 in
theorem stepC_3 (c : Dev nD) (t : Fin cfg0.N) (h0 : ¬t.val % 32 = 0) (h1 : t.val % 32 = 31) (a : Held F c) :
    (stepC m c t h0 h1 a).2.2.1 = View.canon (Val := Elt F) (e := .f32) [⟨Rect.unit (s := S8x128x128) ![7, 0, 0] S1x128x128.size inb_S8x128x128_S1x128x128_7_0_0, dw7T (iblk m c 0 t) (iblk m c 1 t) (iblk m c 2 t) (iblk m c 8 t) (iblk m c 9 t) (iblk m c 13 t) (iblk m c 14 t) (a.2.2.1)⟩, ⟨Rect.unit (s := S8x128x128) ![6, 0, 0] S1x128x128.size inb_S8x128x128_S1x128x128_6_0_0, dw6T (iblk m c 0 t) (iblk m c 1 t) (iblk m c 2 t) (iblk m c 8 t) (iblk m c 9 t) (iblk m c 13 t) (iblk m c 14 t) (a.2.2.1)⟩, ⟨Rect.unit (s := S8x128x128) ![5, 0, 0] S1x128x128.size inb_S8x128x128_S1x128x128_5_0_0, dw5T (iblk m c 0 t) (iblk m c 1 t) (iblk m c 2 t) (iblk m c 8 t) (iblk m c 9 t) (iblk m c 13 t) (iblk m c 14 t) (a.2.2.1)⟩, ⟨Rect.unit (s := S8x128x128) ![4, 0, 0] S1x128x128.size inb_S8x128x128_S1x128x128_4_0_0, dw4T (iblk m c 0 t) (iblk m c 1 t) (iblk m c 2 t) (iblk m c 8 t) (iblk m c 9 t) (iblk m c 13 t) (iblk m c 14 t) (a.2.2.1)⟩, ⟨Rect.unit (s := S8x128x128) ![3, 0, 0] S1x128x128.size inb_S8x128x128_S1x128x128_3_0_0, dw3T (iblk m c 0 t) (iblk m c 1 t) (iblk m c 2 t) (iblk m c 8 t) (iblk m c 9 t) (iblk m c 13 t) (iblk m c 14 t) (a.2.2.1)⟩, ⟨Rect.unit (s := S8x128x128) ![2, 0, 0] S1x128x128.size inb_S8x128x128_S1x128x128_2_0_0, dw2T (iblk m c 0 t) (iblk m c 1 t) (iblk m c 2 t) (iblk m c 8 t) (iblk m c 9 t) (iblk m c 13 t) (iblk m c 14 t) (a.2.2.1)⟩, ⟨Rect.unit (s := S8x128x128) ![1, 0, 0] S1x128x128.size inb_S8x128x128_S1x128x128_1_0_0, dw1T (iblk m c 0 t) (iblk m c 1 t) (iblk m c 2 t) (iblk m c 8 t) (iblk m c 9 t) (iblk m c 13 t) (iblk m c 14 t) (a.2.2.1)⟩, ⟨Rect.unit (s := S8x128x128) ![0, 0, 0] S1x128x128.size inb_S8x128x128_S1x128x128_0_0_0, dw0T (iblk m c 0 t) (iblk m c 1 t) (iblk m c 2 t) (iblk m c 8 t) (iblk m c 9 t) (iblk m c 13 t) (iblk m c 14 t) (a.2.2.1)⟩] := by
  unfold stepC
  dsimp only
  rw [View.read_writes_eq_canon _ _ _ (coverC_17 m c t h0 h1 a)]
  unfold runC kernelRun0_C
  dsimp only
  sl_unfold_words
  simp only [kernelRun0_C.sl.r_5, kernelRun0_C.sl.r_9, kernelRun0_C.sl.r_10, kernelRun0_C.sl.r_12, kernelRun0_C.sl.r_17, kernelRun0_C.sl.r_18, kernelRun0_C.sl.r_19, kernelRun0_C.sl.r_28, kernelRun0_C.sl.r_29, kernelRun0_C.sl.r_30, kernelRun0_C.sl.r_35, kernelRun0_C.sl.r_39, kernelRun0_C.sl.r_40, kernelRun0_C.sl.r_44, kernelRun0_C.sl.r_45, kernelRun0_C.sl.r_52, kernelRun0_C.sl.v302, kernelRun0_C.sl.v380, kernelRun0_C.sl.v458, kernelRun0_C.sl.v432, kernelRun0_C.sl.v406, kernelRun0_C.sl.v354, kernelRun0_C.sl.v328, View.readAt_eq_ld, Memref.IsWhole.read_unread, View.ld_unit_zero (S := S1024x1024) hz2, View.ld_unit_zero (S := S256x1024) hz2, View.ld_unit_zero (S := S1x1024) hz2, View.ld_unit_zero (S := S8x128) hz2, shapeCast_self, read_scratch, tile_5, tile_9, tile_10, tile_12, tile_17, tile_18, tile_19, tile_28, tile_29, tile_30, tile_35, tile_39, tile_40, tile_44, tile_45, tile_52, dw0T, dw1T, dw2T, dw3T, dw4T, dw5T, dw6T, dw7T, lo, hi]

end Cert.KernelIdeal.Whole

end
-- ==== Proof.Merge.C4.lean ====
module

public import proofs.«01_k».proof.Proof.Merge.Tiles

@[expose] public section

set_option maxRecDepth 16384

noncomputable section

namespace Cert.KernelIdeal.Whole

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

variable (m : (ℓ : Loc nD τ sig) → Buf (Elt F) ℓ) (ρ : Dev nD → PrngReg)

/-! What the steps leave, in the values of `Merge.Tiles`. -/

set_option maxHeartbeats 4000000 in
theorem stepC_4 (c : Dev nD) (t : Fin cfg0.N) (h0 : ¬t.val % 32 = 0) (h1 : t.val % 32 = 31) (a : Held F c) :
    (stepC m c t h0 h1 a).2.2.2.1 = dbsT (iblk m c 0 t) (iblk m c 1 t) (iblk m c 2 t) (iblk m c 13 t) (iblk m c 14 t) (a.2.2.2.1) := by
  unfold stepC
  dsimp only
  rw [View.read_writes_eq_canon _ _ _ (coverC_18 m c t h0 h1 a)]
  unfold runC kernelRun0_C
  dsimp only
  sl_unfold_words
  rw [View.canon_unit_zero (S := S8x128) hz2]
  simp only [kernelRun0_C.sl.r_5, kernelRun0_C.sl.r_9, kernelRun0_C.sl.r_10, kernelRun0_C.sl.r_27, kernelRun0_C.sl.r_33, kernelRun0_C.sl.r_36, kernelRun0_C.sl.r_38, kernelRun0_C.sl.r_42, kernelRun0_C.sl.r_46, kernelRun0_C.sl.r_48, kernelRun0_C.sl.r_50, View.readAt_eq_ld, Memref.IsWhole.read_unread, View.ld_unit_zero (S := S1024x1024) hz2, View.ld_unit_zero (S := S256x1024) hz2, View.ld_unit_zero (S := S1x1024) hz2, View.ld_unit_zero (S := S8x128) hz2, shapeCast_self, read_scratch, tile_5, tile_9, tile_10, tile_27, tile_33, tile_36, tile_38, tile_42, tile_46, tile_48, tile_50, dbsT, lo, hi]

set_option maxHeartbeats 4000000 in
theorem stepC_5 (c : Dev nD) (t : Fin cfg0.N) (h0 : ¬t.val % 32 = 0) (h1 : t.val % 32 = 31) (a : Held F c) :
    (stepC m c t h0 h1 a).2.2.2.2.1 = dlngT (iblk m c 0 t) (iblk m c 1 t) (iblk m c 2 t) (iblk m c 13 t) (iblk m c 14 t) (a.2.2.2.2.1) (a.2.2.2.2.2.2.2.1) := by
  unfold stepC
  dsimp only
  rw [View.read_writes_eq_canon _ _ _ (coverC_19 m c t h0 h1 a)]
  unfold runC kernelRun0_C
  dsimp only
  sl_unfold_words
  rw [View.canon_unit_zero (S := S1x1024) hz2]
  simp only [kernelRun0_C.sl.r_5, kernelRun0_C.sl.r_9, kernelRun0_C.sl.r_10, kernelRun0_C.sl.r_12, kernelRun0_C.sl.r_15, kernelRun0_C.sl.r_28, kernelRun0_C.sl.r_29, kernelRun0_C.sl.r_31, kernelRun0_C.sl.r_32, kernelRun0_C.sl.r_34, kernelRun0_C.sl.r_37, kernelRun0_C.sl.r_39, kernelRun0_C.sl.r_41, kernelRun0_C.sl.r_43, kernelRun0_C.sl.r_47, kernelRun0_C.sl.r_49, kernelRun0_C.sl.r_51, View.readAt_eq_ld, Memref.IsWhole.read_unread, View.ld_unit_zero (S := S1024x1024) hz2, View.ld_unit_zero (S := S256x1024) hz2, View.ld_unit_zero (S := S1x1024) hz2, View.ld_unit_zero (S := S8x128) hz2, shapeCast_self, read_scratch, tile_5, tile_9, tile_10, tile_12, tile_15, tile_28, tile_29, tile_31, tile_32, tile_34, tile_37, tile_39, tile_41, tile_43, tile_47, tile_49, tile_51, dlngT, lo, hi]

set_option maxHeartbeats 4000000 in
theorem stepC_6 (c : Dev nD) (t : Fin cfg0.N) (h0 : ¬t.val % 32 = 0) (h1 : t.val % 32 = 31) (a : Held F c) :
    (stepC m c t h0 h1 a).2.2.2.2.2.1 = dlnbT (iblk m c 0 t) (iblk m c 1 t) (iblk m c 2 t) (iblk m c 13 t) (iblk m c 14 t) (a.2.2.2.2.2.1) (a.2.2.2.2.2.2.2.1) := by
  unfold stepC
  dsimp only
  rw [View.read_writes_eq_canon _ _ _ (coverC_20 m c t h0 h1 a)]
  unfold runC kernelRun0_C
  dsimp only
  sl_unfold_words
  rw [View.canon_unit_zero (S := S1x1024) hz2]
  simp only [kernelRun0_C.sl.r_5, kernelRun0_C.sl.r_9, kernelRun0_C.sl.r_10, kernelRun0_C.sl.r_28, kernelRun0_C.sl.r_29, kernelRun0_C.sl.r_31, kernelRun0_C.sl.r_32, kernelRun0_C.sl.r_34, kernelRun0_C.sl.r_37, kernelRun0_C.sl.r_39, kernelRun0_C.sl.r_41, kernelRun0_C.sl.r_43, kernelRun0_C.sl.r_47, kernelRun0_C.sl.r_49, kernelRun0_C.sl.r_51, View.readAt_eq_ld, Memref.IsWhole.read_unread, View.ld_unit_zero (S := S1024x1024) hz2, View.ld_unit_zero (S := S256x1024) hz2, View.ld_unit_zero (S := S1x1024) hz2, View.ld_unit_zero (S := S8x128) hz2, shapeCast_self, read_scratch, tile_5, tile_9, tile_10, tile_28, tile_29, tile_31, tile_32, tile_34, tile_37, tile_39, tile_41, tile_43, tile_47, tile_49, tile_51, dlnbT, lo, hi]

end Cert.KernelIdeal.Whole

end
-- ==== Proof.Merge.C5.lean ====
module

public import proofs.«01_k».proof.Proof.Merge.Tiles

@[expose] public section

set_option maxRecDepth 16384

noncomputable section

namespace Cert.KernelIdeal.Whole

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

variable (m : (ℓ : Loc nD τ sig) → Buf (Elt F) ℓ) (ρ : Dev nD → PrngReg)

/-! What the steps leave, in the values of `Merge.Tiles`. -/

/-- A whole buffer stored whole reads what was stored. -/
theorem read_writes_whole {sp : Space} {S : Shape} {e : EltTy} (v : View sig .tc sp S e) (f : v.ty.Contents (Elt F))
    {off : Fin S.rank → ℕ} (h : off = fun _ => 0) (inb : ∀ a, off a + S.size a ≤ S.size a) (w : S.Idx → Elt F e) :
    v.read (Elt F) (v.writes (Elt F) f [⟨Rect.unit (s := S) off S.size inb, w⟩]) = w := by
  rw [View.read_writes_eq_canon _ _ _ fun y => ⟨_, List.mem_singleton.mpr rfl, (Rect.mem_set_unit (inb := inb)).mpr fun a => by
    subst h; exact ⟨Nat.zero_le _, by rw [Nat.zero_add]; exact (y a).isLt⟩⟩]
  exact View.canon_unit_zero h _ _

set_option maxHeartbeats 4000000 in
theorem stepC_13 (c : Dev nD) (t : Fin cfg0.N) (h0 : ¬t.val % 32 = 0) (h1 : t.val % 32 = 31) (a : Held F c) :
    (stepC m c t h0 h1 a).2.2.2.2.2.2.2.2.2.2.2.2.1 = (accPaT (iblk m c 0 t) (iblk m c 2 t) (iblk m c 5 t) (iblk m c 14 t) (a.2.2.2.2.2.2.2.2.2.1) : S1024x1024.Idx → Elt F .f32) := by
  unfold stepC
  dsimp only
  unfold runC kernelRun0_C
  dsimp only
  sl_unfold_words
  refine (View.write_whole_univ _ _ _).trans ?_
  rw [ReadAs.apply_same, read_writes_whole (S := S1024x1024) _ _ hz2]
  simp only [kernelRun0_C.sl.r_6, View.readAt_eq_ld, Memref.IsWhole.read_unread, View.ld_unit_zero (S := S1024x1024) hz2, View.ld_unit_zero (S := S256x1024) hz2, View.ld_unit_zero (S := S1x1024) hz2, View.ld_unit_zero (S := S8x128) hz2, shapeCast_self, read_scratch, tile_6, accPaT, lo, hi]

set_option maxHeartbeats 4000000 in
theorem stepC_14 (c : Dev nD) (t : Fin cfg0.N) (h0 : ¬t.val % 32 = 0) (h1 : t.val % 32 = 31) (a : Held F c) :
    (stepC m c t h0 h1 a).2.2.2.2.2.2.2.2.2.2.2.2.2.1 = (accPbT (iblk m c 0 t) (iblk m c 2 t) (iblk m c 6 t) (iblk m c 14 t) (a.2.2.2.2.2.2.2.2.2.2.1) : S1024x1024.Idx → Elt F .f32) := by
  unfold stepC
  dsimp only
  unfold runC kernelRun0_C
  dsimp only
  sl_unfold_words
  refine (View.write_whole_univ _ _ _).trans ?_
  rw [ReadAs.apply_same, read_writes_whole (S := S1024x1024) _ _ hz2]
  simp only [kernelRun0_C.sl.r_5, View.readAt_eq_ld, Memref.IsWhole.read_unread, View.ld_unit_zero (S := S1024x1024) hz2, View.ld_unit_zero (S := S256x1024) hz2, View.ld_unit_zero (S := S1x1024) hz2, View.ld_unit_zero (S := S8x128) hz2, shapeCast_self, read_scratch, tile_5, accPbT, lo, hi]

set_option maxHeartbeats 4000000 in
theorem stepC_15 (c : Dev nD) (t : Fin cfg0.N) (h0 : ¬t.val % 32 = 0) (h1 : t.val % 32 = 31) (a : Held F c) :
    (stepC m c t h0 h1 a).2.2.2.2.2.2.2.2.2.2.2.2.2.2 = (accOutT (iblk m c 0 t) (iblk m c 7 t) (a.2.2.2.2.2.2.2.2.2.2.2.1) : S1024x1024.Idx → Elt F .f32) := by
  unfold stepC
  dsimp only
  unfold runC kernelRun0_C
  dsimp only
  sl_unfold_words
  refine (View.write_whole_univ _ _ _).trans ?_
  rw [ReadAs.apply_same, read_writes_whole (S := S1024x1024) _ _ hz2]
  simp only [View.readAt_eq_ld, Memref.IsWhole.read_unread, View.ld_unit_zero (S := S1024x1024) hz2, View.ld_unit_zero (S := S256x1024) hz2, View.ld_unit_zero (S := S1x1024) hz2, View.ld_unit_zero (S := S8x128) hz2, shapeCast_self, read_scratch, accOutT, lo, hi]

end Cert.KernelIdeal.Whole

end
-- ==== Proof.Merge.Sums.lean ====
module

public import proofs.«01_k».proof.Proof.Merge.Fill
public import proofs.«01_k».proof.Proof.Merge.A1
public import proofs.«01_k».proof.Proof.Merge.A2
public import proofs.«01_k».proof.Proof.Merge.A3
public import proofs.«01_k».proof.Proof.Merge.A4
public import proofs.«01_k».proof.Proof.Merge.A5
public import proofs.«01_k».proof.Proof.Merge.B1
public import proofs.«01_k».proof.Proof.Merge.B2
public import proofs.«01_k».proof.Proof.Merge.B3
public import proofs.«01_k».proof.Proof.Merge.B4
public import proofs.«01_k».proof.Proof.Merge.C1
public import proofs.«01_k».proof.Proof.Merge.C2
public import proofs.«01_k».proof.Proof.Merge.C3
public import proofs.«01_k».proof.Proof.Merge.C4
public import proofs.«01_k».proof.Proof.Merge.C5
public import proofs.«01_k».proof.Proof.Gen.ReferenceIdeal.Read
public import Idealize.ShloMosaic.Lib.Pointwise

@[expose] public section

set_option maxRecDepth 16384

noncomputable section

namespace Cert.KernelIdeal.Whole

open Cert.KernelIdeal.Gen Cert.ReferenceIdeal.Read
open Idealize.ShloMosaic Idealize.ShloMosaic.TcCoe Idealize.ShloMosaic.Tactic

variable (m : (ℓ : Loc nD τ sig) → Buf (Elt Ideal) ℓ)

attribute [local irreducible] stepA stepB stepC outsAt0

/-! ## What is held after every point -/

theorem N_lt {n : ℕ} (h : n + 1 < cfg0.N) : n + 1 < 32 := lt_of_lt_of_eq h N_0

theorem stepB_7 (c : Dev nD) (t : Fin cfg0.N) (h0 : ¬t.val % 32 = 0) (h1 : ¬t.val % 32 = 31) (a : Held Ideal c) :
    (stepB m c t h0 h1 a).2.2.2.2.2.2.1 = a.2.2.2.2.2.2.1 := by
  unfold stepB; rfl

theorem stepC_7 (c : Dev nD) (t : Fin cfg0.N) (h0 : ¬t.val % 32 = 0) (h1 : t.val % 32 = 31) (a : Held Ideal c) :
    (stepC m c t h0 h1 a).2.2.2.2.2.2.1 = a.2.2.2.2.2.2.1 := by
  unfold stepC; rfl

theorem held_7 (c : Dev nD) : ∀ (n : ℕ) (h : n < cfg0.N), (outsAt0 m c n h).2.2.2.2.2.2.1 = wT (F := Ideal) (V m c main_arg5)
  | 0, h => by
    rw [outsAt0_A m c ⟨0, h⟩ (Nat.zero_mod 32) (show ¬ 0 % 32 = 31 by decide), stepA_7, iblk_10]
  | n + 1, h => by
    have hN := N_lt h
    by_cases h1 : (n + 1) % 32 = 31
    · rw [outsAt0_last m c n h (by omega) h1, stepC_7]; exact held_7 c n _
    · rw [outsAt0_middle m c n h (by omega) h1, stepB_7]; exact held_7 c n _

theorem stepB_8 (c : Dev nD) (t : Fin cfg0.N) (h0 : ¬t.val % 32 = 0) (h1 : ¬t.val % 32 = 31) (a : Held Ideal c) :
    (stepB m c t h0 h1 a).2.2.2.2.2.2.2.1 = a.2.2.2.2.2.2.2.1 := by
  unfold stepB; rfl

theorem stepC_8 (c : Dev nD) (t : Fin cfg0.N) (h0 : ¬t.val % 32 = 0) (h1 : t.val % 32 = 31) (a : Held Ideal c) :
    (stepC m c t h0 h1 a).2.2.2.2.2.2.2.1 = a.2.2.2.2.2.2.2.1 := by
  unfold stepC; rfl

theorem held_8 (c : Dev nD) : ∀ (n : ℕ) (h : n < cfg0.N), (outsAt0 m c n h).2.2.2.2.2.2.2.1 = wtT (F := Ideal) (V m c main_arg5)
  | 0, h => by
    rw [outsAt0_A m c ⟨0, h⟩ (Nat.zero_mod 32) (show ¬ 0 % 32 = 31 by decide), stepA_8, iblk_10]
  | n + 1, h => by
    have hN := N_lt h
    by_cases h1 : (n + 1) % 32 = 31
    · rw [outsAt0_last m c n h (by omega) h1, stepC_8]; exact held_8 c n _
    · rw [outsAt0_middle m c n h (by omega) h1, stepB_8]; exact held_8 c n _

theorem stepB_9 (c : Dev nD) (t : Fin cfg0.N) (h0 : ¬t.val % 32 = 0) (h1 : ¬t.val % 32 = 31) (a : Held Ideal c) :
    (stepB m c t h0 h1 a).2.2.2.2.2.2.2.2.1 = a.2.2.2.2.2.2.2.2.1 := by
  unfold stepB; rfl

theorem stepC_9 (c : Dev nD) (t : Fin cfg0.N) (h0 : ¬t.val % 32 = 0) (h1 : t.val % 32 = 31) (a : Held Ideal c) :
    (stepC m c t h0 h1 a).2.2.2.2.2.2.2.2.1 = a.2.2.2.2.2.2.2.2.1 := by
  unfold stepC; rfl

theorem held_9 (c : Dev nD) : ∀ (n : ℕ) (h : n < cfg0.N), (outsAt0 m c n h).2.2.2.2.2.2.2.2.1 = bsT (F := Ideal) (V m c main_arg6)
  | 0, h => by
    rw [outsAt0_A m c ⟨0, h⟩ (Nat.zero_mod 32) (show ¬ 0 % 32 = 31 by decide), stepA_9, iblk_11]
  | n + 1, h => by
    have hN := N_lt h
    by_cases h1 : (n + 1) % 32 = 31
    · rw [outsAt0_last m c n h (by omega) h1, stepC_9]; exact held_9 c n _
    · rw [outsAt0_middle m c n h (by omega) h1, stepB_9]; exact held_9 c n _

theorem point_1 (c : Dev nD) (t : Fin cfg0.N) : (outsAt0 m c t.val t.isLt).1 = dyaT (F := Ideal) (iblk m c 0 t) (iblk m c 2 t) (iblk m c 12 t) (iblk m c 14 t) := by
  by_cases h0 : t.val % 32 = 0
  · rw [outsAt0_A m c t h0 (by omega), stepA_1]
  · by_cases h1 : t.val % 32 = 31
    · rw [outsAt0_C m c t h0 h1, stepC_1]
    · rw [outsAt0_B m c t h0 h1, stepB_1]

/-- Four arrays side by side, as they are stored. -/
def quarters (w0 w1 w2 w3 : S256x1024.Idx → Elt Ideal .bf16) : S256x4096.Idx → Elt Ideal .bf16 :=
  View.canon (Val := Elt Ideal) (e := .bf16) [⟨Rect.unit (s := S256x4096) ![0, 1024] S256x1024.size inb_S256x4096_S256x1024_0_1024, w1⟩, ⟨Rect.unit (s := S256x4096) ![0, 0] S256x1024.size inb_S256x4096_S256x1024_0_0, w0⟩, ⟨Rect.unit (s := S256x4096) ![0, 3072] S256x1024.size inb_S256x4096_S256x1024_0_3072, w3⟩, ⟨Rect.unit (s := S256x4096) ![0, 2048] S256x1024.size inb_S256x4096_S256x1024_0_2048, w2⟩]

theorem quarter_emb (o : ℕ) (inb : ∀ a, (![0, o] : Fin 2 → ℕ) a + S256x1024.size a ≤ S256x4096.size a) (r : Fin 256) (l : Fin 1024) (h : o + l.val < 4096) :
    (Rect.unit (s := S256x4096) ![0, o] S256x1024.size inb).emb (ix2 r l) = ix2 r (⟨o + l.val, h⟩ : Fin 4096) := by
  funext a; refine Fin.ext ?_
  match a with
  | ⟨0, _⟩ => show 0 + 1 * r.val = r.val; omega
  | ⟨1, _⟩ => show o + 1 * l.val = o + l.val; omega

theorem quarter_skip (o : ℕ) (inb : ∀ a, (![0, o] : Fin 2 → ℕ) a + S256x1024.size a ≤ S256x4096.size a) (w : S256x1024.Idx → Elt Ideal .bf16)
    (L : List (View.Piece (Elt Ideal) S256x4096 .bf16)) (r : Fin 256) (k : Fin 4096) (h : k.val < o ∨ o + 1024 ≤ k.val) :
    View.canon (⟨Rect.unit (s := S256x4096) ![0, o] S256x1024.size inb, w⟩ :: L) (ix2 r k) = View.canon L (ix2 r k) := by
  refine View.canon_cons_of_not_mem _ _ fun hm => ?_
  have h1 : o ≤ k.val ∧ k.val < o + 1024 := (Rect.mem_set_unit (inb := inb)).mp hm 1
  omega

theorem quarter_hit (o : ℕ) (inb : ∀ a, (![0, o] : Fin 2 → ℕ) a + S256x1024.size a ≤ S256x4096.size a) (w : S256x1024.Idx → Elt Ideal .bf16)
    (L : List (View.Piece (Elt Ideal) S256x4096 .bf16)) (r : Fin 256) (l : Fin 1024) (h : o + l.val < 4096) :
    View.canon (⟨Rect.unit (s := S256x4096) ![0, o] S256x1024.size inb, w⟩ :: L) (ix2 r (⟨o + l.val, h⟩ : Fin 4096)) = w (ix2 r l) := by
  rw [← quarter_emb o inb r l h]
  exact View.canon_cons_emb _ _ _ _

theorem quarters_0 (w0 w1 w2 w3 : S256x1024.Idx → Elt Ideal .bf16) (r : Fin 256) (l : Fin 1024) :
    quarters w0 w1 w2 w3 (ix2 r (⟨0 + l.val, by omega⟩ : Fin 4096)) = w0 (ix2 r l) := by
  have hl := l.isLt
  unfold quarters
  refine (quarter_skip 1024 _ _ _ r _ (by show 0 + l.val < 1024 ∨ 1024 + 1024 ≤ 0 + l.val; omega)).trans ?_
  exact quarter_hit 0 _ _ _ r l _

theorem quarters_1 (w0 w1 w2 w3 : S256x1024.Idx → Elt Ideal .bf16) (r : Fin 256) (l : Fin 1024) :
    quarters w0 w1 w2 w3 (ix2 r (⟨1024 + l.val, by omega⟩ : Fin 4096)) = w1 (ix2 r l) := by
  have hl := l.isLt
  unfold quarters
  exact quarter_hit 1024 _ _ _ r l _

theorem quarters_2 (w0 w1 w2 w3 : S256x1024.Idx → Elt Ideal .bf16) (r : Fin 256) (l : Fin 1024) :
    quarters w0 w1 w2 w3 (ix2 r (⟨2048 + l.val, by omega⟩ : Fin 4096)) = w2 (ix2 r l) := by
  have hl := l.isLt
  unfold quarters
  refine (quarter_skip 1024 _ _ _ r _ (by show 2048 + l.val < 1024 ∨ 1024 + 1024 ≤ 2048 + l.val; omega)).trans ?_
  refine (quarter_skip 0 _ _ _ r _ (by show 2048 + l.val < 0 ∨ 0 + 1024 ≤ 2048 + l.val; omega)).trans ?_
  refine (quarter_skip 3072 _ _ _ r _ (by show 2048 + l.val < 3072 ∨ 3072 + 1024 ≤ 2048 + l.val; omega)).trans ?_
  exact quarter_hit 2048 _ _ _ r l _

theorem quarters_3 (w0 w1 w2 w3 : S256x1024.Idx → Elt Ideal .bf16) (r : Fin 256) (l : Fin 1024) :
    quarters w0 w1 w2 w3 (ix2 r (⟨3072 + l.val, by omega⟩ : Fin 4096)) = w3 (ix2 r l) := by
  have hl := l.isLt
  unfold quarters
  refine (quarter_skip 1024 _ _ _ r _ (by show 3072 + l.val < 1024 ∨ 1024 + 1024 ≤ 3072 + l.val; omega)).trans ?_
  refine (quarter_skip 0 _ _ _ r _ (by show 3072 + l.val < 0 ∨ 0 + 1024 ≤ 3072 + l.val; omega)).trans ?_
  exact quarter_hit 3072 _ _ _ r l _

theorem point_2 (c : Dev nD) (t : Fin cfg0.N) : (outsAt0 m c t.val t.isLt).2.1
      = quarters (duT (F := Ideal) (iblk m c 0 t) (iblk m c 1 t) (iblk m c 2 t) (iblk m c 8 t) (iblk m c 9 t) (iblk m c 13 t) (iblk m c 14 t) (wT (V m c main_arg5)) (bsT (V m c main_arg6))) (dvT (F := Ideal) (iblk m c 0 t) (iblk m c 1 t) (iblk m c 2 t) (iblk m c 8 t) (iblk m c 13 t) (iblk m c 14 t) (wtT (V m c main_arg5))) (dgaT (F := Ideal) (iblk m c 0 t) (iblk m c 2 t) (iblk m c 3 t) (iblk m c 14 t)) (dgbT (F := Ideal) (iblk m c 0 t) (iblk m c 2 t) (iblk m c 4 t) (iblk m c 14 t)) := by
  by_cases h0 : t.val % 32 = 0
  · rw [outsAt0_A m c t h0 (by omega), stepA_2, iblk_10, iblk_11]; rfl
  · by_cases h1 : t.val % 32 = 31
    · rw [outsAt0_C m c t h0 h1, stepC_2, held_7, held_8, held_9]; rfl
    · rw [outsAt0_B m c t h0 h1, stepB_2, held_7, held_8, held_9]; rfl

/-! ## The running sums -/

/-- What starts as its first term and grows by one term a point ends as their sum. -/
theorem total {M : Type} [AddCommMonoid M] (g : Fin 32 → M) (a : (n : ℕ) → n < cfg0.N → M)
    (h0 : ∀ h, a 0 h = 0 + g ⟨0, by decide⟩) (hs : ∀ n h, a (n + 1) h = a n (Nat.lt_of_succ_lt h) + g ⟨n + 1, N_lt h⟩) (h : 31 < cfg0.N) :
    a 31 h = ∑ t : Fin 32, g t := by
  have key : ∀ n (hn : n < cfg0.N), a n hn = ∑ k ∈ Finset.range (n + 1), if hk : k < 32 then g ⟨k, hk⟩ else 0 := by
    intro n
    induction n with
    | zero => intro hn; rw [h0, Finset.sum_range_one, dif_pos (by decide), zero_add]
    | succ n ih => intro hn; rw [hs, ih, Finset.sum_range_succ _ (n + 1), dif_pos (N_lt hn)]
  rw [key, ← Fin.sum_univ_eq_sum_range (fun k => if hk : k < 32 then g ⟨k, hk⟩ else 0) 32]
  exact Finset.sum_congr rfl fun t _ => dif_pos t.isLt

/-- A sum over the tiles and their rows is a sum over the rows of the whole array. -/
theorem sum_rows {M : Type} [AddCommMonoid M] (f : Fin 8192 → M) : ∑ t : Fin 32, ∑ r : Fin 256, f (row t r) = ∑ k : Fin 8192, f k := by
  rw [← Fintype.sum_prod_type' (fun t r => f (row t r))]
  refine Fintype.sum_equiv (finProdFinEquiv (m := 32) (n := 256)) _ _ fun x => congrArg f (Fin.ext ?_)
  show 256 * x.1.val + x.2.val = x.2.val + 256 * x.1.val
  omega

/-- The sum that the last point copies out. -/
theorem held_13 (c : Dev nD) (h : 31 < cfg0.N) (i j : Fin 1024) :
    ((outsAt0 m c 31 h).2.2.2.2.2.2.2.2.2.2.2.2.1 : S1024x1024.Idx → Elt Ideal .f32) (ix2 i j) = ∑ k : Fin 8192, val_main_v5 (F := Ideal) (m ((c : Thread nD τ).loc main_arg2)) (ix2 k i) * val_main_v129 (F := Ideal) (m ((c : Thread nD τ).loc main_arg0)) (m ((c : Thread nD τ).loc main_arg1)) (m ((c : Thread nD τ).loc main_arg9)) (ix2 k j) := by
  have e : ((outsAt0 m c 31 h).2.2.2.2.2.2.2.2.2.2.2.2.1 : S1024x1024.Idx → Elt Ideal .f32) = (outsAt0 m c 31 h).2.2.2.2.2.2.2.2.2.1 := by
    rw [outsAt0_last m c 30 h (by decide) (by decide), stepC_13, stepC_10]
  rw [e, ← sum_rows fun k => val_main_v5 (F := Ideal) (m ((c : Thread nD τ).loc main_arg2)) (ix2 k i) * val_main_v129 (F := Ideal) (m ((c : Thread nD τ).loc main_arg0)) (m ((c : Thread nD τ).loc main_arg1)) (m ((c : Thread nD τ).loc main_arg9)) (ix2 k j)]
  refine total (fun t => ∑ r : Fin 256, val_main_v5 (F := Ideal) (m ((c : Thread nD τ).loc main_arg2)) (ix2 (row t r) i) * val_main_v129 (F := Ideal) (m ((c : Thread nD τ).loc main_arg0)) (m ((c : Thread nD τ).loc main_arg1)) (m ((c : Thread nD τ).loc main_arg9)) (ix2 (row t r) j)) (fun n h => (outsAt0 m c n h).2.2.2.2.2.2.2.2.2.1 (ix2 i j)) ?_ ?_ h
  · intro h
    show (outsAt0 m c 0 h).2.2.2.2.2.2.2.2.2.1 (ix2 i j) = _
    rw [outsAt0_A m c ⟨0, h⟩ (Nat.zero_mod 32) (show ¬ 0 % 32 = 31 by decide), stepA_10, accPa_at (blocks m c ⟨0, h⟩)]
    exact congrArg (· + _) Ideal.ofBits_zero_f32
  · intro n h
    have hN := N_lt h
    show (outsAt0 m c (n + 1) h).2.2.2.2.2.2.2.2.2.1 (ix2 i j) = _
    by_cases h1 : (n + 1) % 32 = 31
    · rw [outsAt0_last m c n h (by omega) h1, stepC_10, accPa_at (blocks m c ⟨n + 1, h⟩)]; rfl
    · rw [outsAt0_middle m c n h (by omega) h1, stepB_10, accPa_at (blocks m c ⟨n + 1, h⟩)]; rfl

/-- The sum that the last point copies out. -/
theorem held_14 (c : Dev nD) (h : 31 < cfg0.N) (i j : Fin 1024) :
    ((outsAt0 m c 31 h).2.2.2.2.2.2.2.2.2.2.2.2.2.1 : S1024x1024.Idx → Elt Ideal .f32) (ix2 i j) = ∑ k : Fin 8192, val_main_v94 (F := Ideal) (m ((c : Thread nD τ).loc main_arg1)) (m ((c : Thread nD τ).loc main_arg3)) (m ((c : Thread nD τ).loc main_arg4)) (m ((c : Thread nD τ).loc main_arg5)) (m ((c : Thread nD τ).loc main_arg6)) (ix2 k i) * val_main_v123 (F := Ideal) (m ((c : Thread nD τ).loc main_arg0)) (m ((c : Thread nD τ).loc main_arg1)) (m ((c : Thread nD τ).loc main_arg9)) (ix2 k j) := by
  have e : ((outsAt0 m c 31 h).2.2.2.2.2.2.2.2.2.2.2.2.2.1 : S1024x1024.Idx → Elt Ideal .f32) = (outsAt0 m c 31 h).2.2.2.2.2.2.2.2.2.2.1 := by
    rw [outsAt0_last m c 30 h (by decide) (by decide), stepC_14, stepC_11]
  rw [e, ← sum_rows fun k => val_main_v94 (F := Ideal) (m ((c : Thread nD τ).loc main_arg1)) (m ((c : Thread nD τ).loc main_arg3)) (m ((c : Thread nD τ).loc main_arg4)) (m ((c : Thread nD τ).loc main_arg5)) (m ((c : Thread nD τ).loc main_arg6)) (ix2 k i) * val_main_v123 (F := Ideal) (m ((c : Thread nD τ).loc main_arg0)) (m ((c : Thread nD τ).loc main_arg1)) (m ((c : Thread nD τ).loc main_arg9)) (ix2 k j)]
  refine total (fun t => ∑ r : Fin 256, val_main_v94 (F := Ideal) (m ((c : Thread nD τ).loc main_arg1)) (m ((c : Thread nD τ).loc main_arg3)) (m ((c : Thread nD τ).loc main_arg4)) (m ((c : Thread nD τ).loc main_arg5)) (m ((c : Thread nD τ).loc main_arg6)) (ix2 (row t r) i) * val_main_v123 (F := Ideal) (m ((c : Thread nD τ).loc main_arg0)) (m ((c : Thread nD τ).loc main_arg1)) (m ((c : Thread nD τ).loc main_arg9)) (ix2 (row t r) j)) (fun n h => (outsAt0 m c n h).2.2.2.2.2.2.2.2.2.2.1 (ix2 i j)) ?_ ?_ h
  · intro h
    show (outsAt0 m c 0 h).2.2.2.2.2.2.2.2.2.2.1 (ix2 i j) = _
    rw [outsAt0_A m c ⟨0, h⟩ (Nat.zero_mod 32) (show ¬ 0 % 32 = 31 by decide), stepA_11, accPb_at (blocks m c ⟨0, h⟩)]
    exact congrArg (· + _) Ideal.ofBits_zero_f32
  · intro n h
    have hN := N_lt h
    show (outsAt0 m c (n + 1) h).2.2.2.2.2.2.2.2.2.2.1 (ix2 i j) = _
    by_cases h1 : (n + 1) % 32 = 31
    · rw [outsAt0_last m c n h (by omega) h1, stepC_11, accPb_at (blocks m c ⟨n + 1, h⟩)]; rfl
    · rw [outsAt0_middle m c n h (by omega) h1, stepB_11, accPb_at (blocks m c ⟨n + 1, h⟩)]; rfl

/-- The sum that the last point copies out. -/
theorem held_15 (c : Dev nD) (h : 31 < cfg0.N) (i j : Fin 1024) :
    ((outsAt0 m c 31 h).2.2.2.2.2.2.2.2.2.2.2.2.2.2 : S1024x1024.Idx → Elt Ideal .f32) (ix2 i j) = ∑ k : Fin 8192, val_main_v117 (F := Ideal) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (ix2 k i) * val_main_v119 (F := Ideal) (m ((c : Thread nD τ).loc main_arg0)) (ix2 k j) := by
  have e : ((outsAt0 m c 31 h).2.2.2.2.2.2.2.2.2.2.2.2.2.2 : S1024x1024.Idx → Elt Ideal .f32) = (outsAt0 m c 31 h).2.2.2.2.2.2.2.2.2.2.2.1 := by
    rw [outsAt0_last m c 30 h (by decide) (by decide), stepC_15, stepC_12]
  rw [e, ← sum_rows fun k => val_main_v117 (F := Ideal) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (ix2 k i) * val_main_v119 (F := Ideal) (m ((c : Thread nD τ).loc main_arg0)) (ix2 k j)]
  refine total (fun t => ∑ r : Fin 256, val_main_v117 (F := Ideal) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (ix2 (row t r) i) * val_main_v119 (F := Ideal) (m ((c : Thread nD τ).loc main_arg0)) (ix2 (row t r) j)) (fun n h => (outsAt0 m c n h).2.2.2.2.2.2.2.2.2.2.2.1 (ix2 i j)) ?_ ?_ h
  · intro h
    show (outsAt0 m c 0 h).2.2.2.2.2.2.2.2.2.2.2.1 (ix2 i j) = _
    rw [outsAt0_A m c ⟨0, h⟩ (Nat.zero_mod 32) (show ¬ 0 % 32 = 31 by decide), stepA_12, accOut_at (blocks m c ⟨0, h⟩)]
    exact congrArg (· + _) Ideal.ofBits_zero_f32
  · intro n h
    have hN := N_lt h
    show (outsAt0 m c (n + 1) h).2.2.2.2.2.2.2.2.2.2.2.1 (ix2 i j) = _
    by_cases h1 : (n + 1) % 32 = 31
    · rw [outsAt0_last m c n h (by omega) h1, stepC_12, accOut_at (blocks m c ⟨n + 1, h⟩)]; rfl
    · rw [outsAt0_middle m c n h (by omega) h1, stepB_12, accOut_at (blocks m c ⟨n + 1, h⟩)]; rfl

end Cert.KernelIdeal.Whole

end
-- ==== Proof.Merge.Dats.lean ====
module

public import proofs.«01_k».proof.Proof.Merge.Points
public import Idealize.ShloMosaic.Lib.Claim

@[expose] public section

set_option maxRecDepth 16384

noncomputable section

namespace Cert.KernelIdeal.Whole

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

variable (m : (ℓ : Loc nD τ sig) → Buf (Elt F) ℓ) (ρ : Dev nD → PrngReg)

/-! The frame of the whole launch, and what its final state holds. -/
def PhiS (c : Dev nD) : (n : ℕ) → n ≤ cfg0.N → sProp 𝕄
  | 0, _ => Pipeline.ΦDRG osem0 spec0 H0 R0 (V m) (V m) c
  | n + 1, hn => iprop(iprop(owns (c : Thread nD τ) scM0_0 fullShare ((outsAt0 m c n hn).2.2.2.2.2.2.1) ∗ owns (c : Thread nD τ) scM0_1 fullShare ((outsAt0 m c n hn).2.2.2.2.2.2.2.1) ∗ owns (c : Thread nD τ) scM0_2 fullShare ((outsAt0 m c n hn).2.2.2.2.2.2.2.2.1) ∗ owns (c : Thread nD τ) scM0_3 fullShare ((outsAt0 m c n hn).2.2.2.2.2.2.2.2.2.1) ∗ owns (c : Thread nD τ) scM0_4 fullShare ((outsAt0 m c n hn).2.2.2.2.2.2.2.2.2.2.1) ∗ owns (c : Thread nD τ) scM0_5 fullShare ((outsAt0 m c n hn).2.2.2.2.2.2.2.2.2.2.2.1)) ∗ (∃ r, prngReg c r) ∗ iprop(semVal ((c : Thread nD τ), SemLoc.dma 31) 0 ∗ semVal ((c : Thread nD τ), SemLoc.dma 32) 0 ∗ semVal ((c : Thread nD τ), SemLoc.dma 33) 0) ∗ iprop(emp) ∗ iprop(hbPt0 c hbM0_0 ((outsAt0 m c n hn).2.2.2.2.2.2.2.2.2.2.2.2.1) ∗ hbPt0 c hbM0_1 ((outsAt0 m c n hn).2.2.2.2.2.2.2.2.2.2.2.2.2.1) ∗ hbPt0 c hbM0_2 ((outsAt0 m c n hn).2.2.2.2.2.2.2.2.2.2.2.2.2.2)))

theorem PhiS_zero (c : Dev nD) (n : ℕ) (h : n ≤ cfg0.N) (hz : n = 0) : PhiS m c n h = Pipeline.ΦDRG osem0 spec0 H0 R0 (V m) (V m) c := by
  subst hz; rfl

theorem PhiS_succ (c : Dev nD) (n : ℕ) (hn : n < cfg0.N) :
    PhiS m c (n + 1) hn = iprop(iprop(owns (c : Thread nD τ) scM0_0 fullShare ((outsAt0 m c n hn).2.2.2.2.2.2.1) ∗ owns (c : Thread nD τ) scM0_1 fullShare ((outsAt0 m c n hn).2.2.2.2.2.2.2.1) ∗ owns (c : Thread nD τ) scM0_2 fullShare ((outsAt0 m c n hn).2.2.2.2.2.2.2.2.1) ∗ owns (c : Thread nD τ) scM0_3 fullShare ((outsAt0 m c n hn).2.2.2.2.2.2.2.2.2.1) ∗ owns (c : Thread nD τ) scM0_4 fullShare ((outsAt0 m c n hn).2.2.2.2.2.2.2.2.2.2.1) ∗ owns (c : Thread nD τ) scM0_5 fullShare ((outsAt0 m c n hn).2.2.2.2.2.2.2.2.2.2.2.1)) ∗ (∃ r, prngReg c r) ∗ iprop(semVal ((c : Thread nD τ), SemLoc.dma 31) 0 ∗ semVal ((c : Thread nD τ), SemLoc.dma 32) 0 ∗ semVal ((c : Thread nD τ), SemLoc.dma 33) 0) ∗ iprop(emp) ∗ iprop(hbPt0 c hbM0_0 ((outsAt0 m c n hn).2.2.2.2.2.2.2.2.2.2.2.2.1) ∗ hbPt0 c hbM0_1 ((outsAt0 m c n hn).2.2.2.2.2.2.2.2.2.2.2.2.2.1) ∗ hbPt0 c hbM0_2 ((outsAt0 m c n hn).2.2.2.2.2.2.2.2.2.2.2.2.2.2))) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.2.2.2.2.2.1) ∗ owns (c : Thread nD τ) scM0_1 fullShare ((outsAt0 m c (n - 1) (by omega)).2.2.2.2.2.2.2.1) ∗ owns (c : Thread nD τ) scM0_2 fullShare ((outsAt0 m c (n - 1) (by omega)).2.2.2.2.2.2.2.2.1) ∗ owns (c : Thread nD τ) scM0_3 fullShare ((outsAt0 m c (n - 1) (by omega)).2.2.2.2.2.2.2.2.2.1) ∗ owns (c : Thread nD τ) scM0_4 fullShare ((outsAt0 m c (n - 1) (by omega)).2.2.2.2.2.2.2.2.2.2.1) ∗ owns (c : Thread nD τ) scM0_5 fullShare ((outsAt0 m c (n - 1) (by omega)).2.2.2.2.2.2.2.2.2.2.2.1)) ∗ (∃ r, prngReg c r) ∗ iprop(semVal ((c : Thread nD τ), SemLoc.dma 31) 0 ∗ semVal ((c : Thread nD τ), SemLoc.dma 32) 0 ∗ semVal ((c : Thread nD τ), SemLoc.dma 33) 0) ∗ iprop(emp) ∗ iprop(hbPt0 c hbM0_0 ((outsAt0 m c (n - 1) (by omega)).2.2.2.2.2.2.2.2.2.2.2.2.1) ∗ hbPt0 c hbM0_1 ((outsAt0 m c (n - 1) (by omega)).2.2.2.2.2.2.2.2.2.2.2.2.2.1) ∗ hbPt0 c hbM0_2 ((outsAt0 m c (n - 1) (by omega)).2.2.2.2.2.2.2.2.2.2.2.2.2.2))) := by
  cases n with
  | zero => exact absurd rfl hz
  | succ n => rfl

/-! ## The pipeline's proof data -/

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => (outsAt0 m c t.val t.isLt).1
    | ⟨16, _⟩ => (outsAt0 m c t.val t.isLt).2.1
    | ⟨17, _⟩ => (outsAt0 m c t.val t.isLt).2.2.1
    | ⟨18, _⟩ => (outsAt0 m c t.val t.isLt).2.2.2.1
    | ⟨19, _⟩ => (outsAt0 m c t.val t.isLt).2.2.2.2.1
    | ⟨20, _⟩ => (outsAt0 m c t.val t.isLt).2.2.2.2.2.1
    | ⟨_ + 21, h⟩ => absurd h (Nat.not_lt.2 (Nat.le_add_left _ _))
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = (outsAt0 m c t.val t.isLt).1 := by dsimp only [dats]
theorem after0_16 (c : Dev nD) (t : Fin cfg0.N) : (dats m 0 c).after 16 t = (outsAt0 m c t.val t.isLt).2.1 := by dsimp only [dats]
theorem after0_17 (c : Dev nD) (t : Fin cfg0.N) : (dats m 0 c).after 17 t = (outsAt0 m c t.val t.isLt).2.2.1 := by dsimp only [dats]
theorem after0_18 (c : Dev nD) (t : Fin cfg0.N) : (dats m 0 c).after 18 t = (outsAt0 m c t.val t.isLt).2.2.2.1 := by dsimp only [dats]
theorem after0_19 (c : Dev nD) (t : Fin cfg0.N) : (dats m 0 c).after 19 t = (outsAt0 m c t.val t.isLt).2.2.2.2.1 := by dsimp only [dats]
theorem after0_20 (c : Dev nD) (t : Fin cfg0.N) : (dats m 0 c).after 20 t = (outsAt0 m c t.val t.isLt).2.2.2.2.2.1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_17_B (c : Dev nD) (t : Fin cfg0.N) (h0 : ¬t.val % 32 = 0) (h1 : ¬t.val % 32 = 31) (d) :
    (dats m 0 c).before 17 t d = (outsAt0 m c (t.val - 1) (Nat.lt_of_le_of_lt (Nat.sub_le _ _) t.isLt)).2.2.1 := by
  have hN : t.val < 32 := lt_of_lt_of_eq t.isLt (show cfg0.N = 32 from N_0)
  rw [Dat.before_out_kept _ 17 rfl t (by omega) (Bool.eq_false_iff.mpr fun h => by have := (flush0_17 _).mp h; dsimp only at this; omega)
    (fun _ => rfl) (fun _ _ => rfl)]
  dsimp only [dats]
theorem before0_18_B (c : Dev nD) (t : Fin cfg0.N) (h0 : ¬t.val % 32 = 0) (h1 : ¬t.val % 32 = 31) (d) :
    (dats m 0 c).before 18 t d = (outsAt0 m c (t.val - 1) (Nat.lt_of_le_of_lt (Nat.sub_le _ _) t.isLt)).2.2.2.1 := by
  have hN : t.val < 32 := lt_of_lt_of_eq t.isLt (show cfg0.N = 32 from N_0)
  rw [Dat.before_out_kept _ 18 rfl t (by omega) (Bool.eq_false_iff.mpr fun h => by have := (flush0_18 _).mp h; dsimp only at this; omega)
    (fun _ => rfl) (fun _ _ => rfl)]
  dsimp only [dats]
theorem before0_19_B (c : Dev nD) (t : Fin cfg0.N) (h0 : ¬t.val % 32 = 0) (h1 : ¬t.val % 32 = 31) (d) :
    (dats m 0 c).before 19 t d = (outsAt0 m c (t.val - 1) (Nat.lt_of_le_of_lt (Nat.sub_le _ _) t.isLt)).2.2.2.2.1 := by
  have hN : t.val < 32 := lt_of_lt_of_eq t.isLt (show cfg0.N = 32 from N_0)
  rw [Dat.before_out_kept _ 19 rfl t (by omega) (Bool.eq_false_iff.mpr fun h => by have := (flush0_19 _).mp h; dsimp only at this; omega)
    (fun _ => rfl) (fun _ _ => rfl)]
  dsimp only [dats]
theorem before0_20_B (c : Dev nD) (t : Fin cfg0.N) (h0 : ¬t.val % 32 = 0) (h1 : ¬t.val % 32 = 31) (d) :
    (dats m 0 c).before 20 t d = (outsAt0 m c (t.val - 1) (Nat.lt_of_le_of_lt (Nat.sub_le _ _) t.isLt)).2.2.2.2.2.1 := by
  have hN : t.val < 32 := lt_of_lt_of_eq t.isLt (show cfg0.N = 32 from N_0)
  rw [Dat.before_out_kept _ 20 rfl t (by omega) (Bool.eq_false_iff.mpr fun h => by have := (flush0_20 _).mp h; dsimp only at this; omega)
    (fun _ => rfl) (fun _ _ => rfl)]
  dsimp only [dats]
theorem before0_17_C (c : Dev nD) (t : Fin cfg0.N) (h0 : ¬t.val % 32 = 0) (h1 : t.val % 32 = 31) (d) :
    (dats m 0 c).before 17 t d = (outsAt0 m c (t.val - 1) (Nat.lt_of_le_of_lt (Nat.sub_le _ _) t.isLt)).2.2.1 := by
  have hN : t.val < 32 := lt_of_lt_of_eq t.isLt (show cfg0.N = 32 from N_0)
  rw [Dat.before_out_kept _ 17 rfl t (by omega) (Bool.eq_false_iff.mpr fun h => by have := (flush0_17 _).mp h; dsimp only at this; omega)
    (fun _ => rfl) (fun _ _ => rfl)]
  dsimp only [dats]
theorem before0_18_C (c : Dev nD) (t : Fin cfg0.N) (h0 : ¬t.val % 32 = 0) (h1 : t.val % 32 = 31) (d) :
    (dats m 0 c).before 18 t d = (outsAt0 m c (t.val - 1) (Nat.lt_of_le_of_lt (Nat.sub_le _ _) t.isLt)).2.2.2.1 := by
  have hN : t.val < 32 := lt_of_lt_of_eq t.isLt (show cfg0.N = 32 from N_0)
  rw [Dat.before_out_kept _ 18 rfl t (by omega) (Bool.eq_false_iff.mpr fun h => by have := (flush0_18 _).mp h; dsimp only at this; omega)
    (fun _ => rfl) (fun _ _ => rfl)]
  dsimp only [dats]
theorem before0_19_C (c : Dev nD) (t : Fin cfg0.N) (h0 : ¬t.val % 32 = 0) (h1 : t.val % 32 = 31) (d) :
    (dats m 0 c).before 19 t d = (outsAt0 m c (t.val - 1) (Nat.lt_of_le_of_lt (Nat.sub_le _ _) t.isLt)).2.2.2.2.1 := by
  have hN : t.val < 32 := lt_of_lt_of_eq t.isLt (show cfg0.N = 32 from N_0)
  rw [Dat.before_out_kept _ 19 rfl t (by omega) (Bool.eq_false_iff.mpr fun h => by have := (flush0_19 _).mp h; dsimp only at this; omega)
    (fun _ => rfl) (fun _ _ => rfl)]
  dsimp only [dats]
theorem before0_20_C (c : Dev nD) (t : Fin cfg0.N) (h0 : ¬t.val % 32 = 0) (h1 : t.val % 32 = 31) (d) :
    (dats m 0 c).before 20 t d = (outsAt0 m c (t.val - 1) (Nat.lt_of_le_of_lt (Nat.sub_le _ _) t.isLt)).2.2.2.2.2.1 := by
  have hN : t.val < 32 := lt_of_lt_of_eq t.isLt (show cfg0.N = 32 from N_0)
  rw [Dat.before_out_kept _ 20 rfl t (by omega) (Bool.eq_false_iff.mpr fun h => by have := (flush0_20 _).mp h; dsimp only at this; omega)
    (fun _ => rfl) (fun _ _ => rfl)]
  dsimp only [dats]

theorem Phi_eq (c : Dev nD) (k : Fin (cfg0.N + 1)) : (dats m 0 c).Φ k = PhiS m c k.val (Nat.le_of_lt_succ k.isLt) := by
  dsimp only [dats]

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t))

end Cert.KernelIdeal.Whole

end
-- ==== Proof.Merge.Body.lean ====
module

public import proofs.«01_k».proof.Proof.Merge.Dats

@[expose] public section

set_option maxRecDepth 16384

noncomputable section

namespace Cert.KernelIdeal.Whole

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

variable (m : (ℓ : Loc nD τ sig) → Buf (Elt F) ℓ) (ρ : Dev nD → PrngReg)

attribute [local irreducible] outsAt0

set_option maxHeartbeats 28800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14]
  rw [show (dats m 0 c).Φ t.succ = PhiS m c (t.val + 1) t.isLt from rfl, PhiS_succ,
    after0_0, after0_1, after0_2, after0_3, after0_4, after0_5, after0_6, after0_7, after0_8, after0_9, after0_10, after0_11, after0_12, after0_13, after0_14, after0_15, after0_16, after0_17, after0_18, after0_19, after0_20]
  unfold Dat.owesAt Pipeline.owesWithin
  rw [show (dats m 0 c).owed t.castSucc = 0 from rfl, show (dats m 0 c).owed t.succ = 0 from rfl]
  have hN : t.val < 32 := lt_of_lt_of_eq t.isLt (show cfg0.N = 32 from N_0)
  by_cases h0 : t.val % 32 = 0
  · by_cases h1 : t.val % 32 = 31
    · exfalso; omega
    · by_cases hz : t.val = 0
      · rw [PhiS_castSucc m c t, PhiS_zero m c _ _ hz, PhiDRG0_in_eq]
        rw [outsAt0_A m c t h0 h1]
        unfold stepA; (try dsimp only)
        iintro ⟨⟨⟨HS0, HS1, HS2, HS3, HS4, HS5⟩, Hg, ⟨Hq0, Hq1, Hq2⟩, -, ⟨Hh0, Hh1, Hh2⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩⟩
        iapply ((runA m c t h0 h1).2.2.2.2.2.2.2.2.2.2.2.2.2.2.2 W _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexists _; iexact H15
        isplitl [H16]; · iexists _; iexact H16
        isplitl [H17]; · iexists _; iexact H17
        isplitl [H18]; · iexists _; iexact H18
        isplitl [H19]; · iexists _; iexact H19
        isplitl [H20]; · iexists _; iexact H20
        isplitl [HS0]; · iexact HS0
        isplitl [HS1]; · iexact HS1
        isplitl [HS2]; · iexact HS2
        isplitl [HS3]; · iexact HS3
        isplitl [HS4]; · iexact HS4
        isplitl [HS5]; · iexact HS5
        isplitl [Hq0]; · iexact Hq0
        isplitl [Hq1]; · iexact Hq1
        isplitl [Hq2]; · iexact Hq2
        isplitl [Hh0]; · iexact Hh0
        isplitl [Hh1]; · iexact Hh1
        isplitl [Hh2]; · iexact Hh2
        isplitl [HW]; · iexact HW
        iintro ⟨H0, H1, H2, H3, H4, H5, H6, H7, H8, H9, H10, H11, H12, H13, H14, ⟨%e15, H15⟩, ⟨%e16, H16⟩, ⟨%e17, H17⟩, ⟨%e18, H18⟩, ⟨%e19, H19⟩, ⟨%e20, H20⟩, ⟨%es0, HS0⟩, ⟨%es1, HS1⟩, ⟨%es2, HS2⟩, ⟨%es3, HS3⟩, ⟨%es4, HS4⟩, ⟨%es5, HS5⟩, Hq0, Hq1, Hq2, Hh0, Hh1, Hh2, ⟨%W', HW'⟩⟩
        isplitl [HS0 HS1 HS2 HS3 HS4 HS5 Hg Hq0 Hq1 Hq2 Hh0 Hh1 Hh2]
        · isplitl [HS0 HS1 HS2 HS3 HS4 HS5]
          · isplitl [HS0]
            · unfold owns; iexists _; isplitr
              swap; · iexact HS0
              ipureintro; exact View.read_writes_of_cover _ _ _ _ _ (scoverA_0 m c t h0 h1)
            isplitl [HS1]
            · unfold owns; iexists _; isplitr
              swap; · iexact HS1
              ipureintro; exact View.read_writes_of_cover _ _ _ _ _ (scoverA_1 m c t h0 h1)
            isplitl [HS2]
            · unfold owns; iexists _; isplitr
              swap; · iexact HS2
              ipureintro; exact View.read_writes_of_cover _ _ _ _ _ (scoverA_2 m c t h0 h1)
            isplitl [HS3]
            · unfold owns; iexists _; isplitr
              swap; · iexact HS3
              ipureintro; exact View.read_writes_of_cover _ _ _ _ _ (scoverA_3 m c t h0 h1)
            isplitl [HS4]
            · unfold owns; iexists _; isplitr
              swap; · iexact HS4
              ipureintro; exact View.read_writes_of_cover _ _ _ _ _ (scoverA_4 m c t h0 h1)
            unfold owns; iexists _; isplitr
            swap; · iexact HS5
            ipureintro; exact View.read_writes_of_cover _ _ _ _ _ (scoverA_5 m c t h0 h1)
          isplitl [Hg]
          · iexact Hg
          isplitl [Hq0 Hq1 Hq2]
          · isplitl [Hq0]; · iexact Hq0
            isplitl [Hq1]; · iexact Hq1
            iexact Hq2
          isplitr; · iempintro
          isplitl [Hh0]; · iexact Hh0
          isplitl [Hh1]; · iexact Hh1
          iexact Hh2
        isplitl [HW']
        · iexists W'; isplitr; · ipureintro; exact fun _ _ => Or.inl trivial
          iexact HW'
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]
        · unfold owns; iexists _; isplitr
          swap; · iexact H15
          ipureintro; exact View.read_writes_of_cover _ _ _ _ _ (coverA_15 m c t h0 h1)
        isplitl [H16]
        · unfold owns; iexists _; isplitr
          swap; · iexact H16
          ipureintro; exact View.read_writes_of_cover _ _ _ _ _ (coverA_16 m c t h0 h1)
        isplitl [H17]
        · unfold owns; iexists _; isplitr
          swap; · iexact H17
          ipureintro; exact View.read_writes_of_cover _ _ _ _ _ (coverA_17 m c t h0 h1)
        isplitl [H18]
        · unfold owns; iexists _; isplitr
          swap; · iexact H18
          ipureintro; exact View.read_writes_of_cover _ _ _ _ _ (coverA_18 m c t h0 h1)
        isplitl [H19]
        · unfold owns; iexists _; isplitr
          swap; · iexact H19
          ipureintro; exact View.read_writes_of_cover _ _ _ _ _ (coverA_19 m c t h0 h1)
        unfold owns; iexists _; isplitr
        swap; · iexact H20
        ipureintro; exact View.read_writes_of_cover _ _ _ _ _ (coverA_20 m c t h0 h1)
      · exfalso; have hN : t.val < 32 := lt_of_lt_of_eq t.isLt (show cfg0.N = 32 from N_0); omega
  · by_cases h1 : t.val % 32 = 31
    · by_cases hz : t.val = 0
      · exfalso; have hN : t.val < 32 := lt_of_lt_of_eq t.isLt (show cfg0.N = 32 from N_0); omega
      · rw [PhiS_castSucc m c t, PhiS_pos m c _ _ hz]
        rw [outsAt0_C m c t h0 h1]
        simp only [before0_17_C m c t h0 h1, before0_18_C m c t h0 h1, before0_19_C m c t h0 h1, before0_20_C m c t h0 h1]
        unfold stepC; (try dsimp only)
        iintro ⟨⟨⟨HS0, HS1, HS2, HS3, HS4, HS5⟩, Hg, ⟨Hq0, Hq1, Hq2⟩, -, ⟨Hh0, Hh1, Hh2⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩⟩
        iapply ((runC m c t h0 h1 (prev0 m c t)).2.2.2.2.2.2.2.2.2.2.2.2.2.2.2 W _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexists _; iexact H15
        isplitl [H16]; · iexists _; iexact H16
        isplitl [H17]; · iexact H17
        isplitl [H18]; · iexact H18
        isplitl [H19]; · iexact H19
        isplitl [H20]; · iexact H20
        isplitl [HS0]; · iexact HS0
        isplitl [HS1]; · iexact HS1
        isplitl [HS2]; · iexact HS2
        isplitl [HS3]; · iexact HS3
        isplitl [HS4]; · iexact HS4
        isplitl [HS5]; · iexact HS5
        isplitl [Hq0]; · iexact Hq0
        isplitl [Hq1]; · iexact Hq1
        isplitl [Hq2]; · iexact Hq2
        isplitl [Hh0]; · iexact Hh0
        isplitl [Hh1]; · iexact Hh1
        isplitl [Hh2]; · iexact Hh2
        isplitl [HW]; · iexact HW
        iintro ⟨H0, H1, H2, H3, H4, H5, H6, H7, H8, H9, H10, H11, H12, H13, H14, ⟨%e15, H15⟩, ⟨%e16, H16⟩, ⟨%e17, H17⟩, ⟨%e18, H18⟩, ⟨%e19, H19⟩, ⟨%e20, H20⟩, HS0, HS1, HS2, ⟨%es3, HS3⟩, ⟨%es4, HS4⟩, ⟨%es5, HS5⟩, Hq0, Hq1, Hq2, Hh0, Hh1, Hh2, ⟨%W', HW'⟩⟩
        isplitl [HS0 HS1 HS2 HS3 HS4 HS5 Hg Hq0 Hq1 Hq2 Hh0 Hh1 Hh2]
        · isplitl [HS0 HS1 HS2 HS3 HS4 HS5]
          · isplitl [HS0]; · iexact HS0
            isplitl [HS1]; · iexact HS1
            isplitl [HS2]; · iexact HS2
            isplitl [HS3]
            · unfold owns; iexists _; isplitr
              swap; · iexact HS3
              ipureintro; exact View.read_writes_of_cover _ _ _ _ _ (scoverC_3 m c t h0 h1 _)
            isplitl [HS4]
            · unfold owns; iexists _; isplitr
              swap; · iexact HS4
              ipureintro; exact View.read_writes_of_cover _ _ _ _ _ (scoverC_4 m c t h0 h1 _)
            unfold owns; iexists _; isplitr
            swap; · iexact HS5
            ipureintro; exact View.read_writes_of_cover _ _ _ _ _ (scoverC_5 m c t h0 h1 _)
          isplitl [Hg]
          · iexact Hg
          isplitl [Hq0 Hq1 Hq2]
          · isplitl [Hq0]; · iexact Hq0
            isplitl [Hq1]; · iexact Hq1
            iexact Hq2
          isplitr; · iempintro
          isplitl [Hh0]; · iexact Hh0
          isplitl [Hh1]; · iexact Hh1
          iexact Hh2
        isplitl [HW']
        · iexists W'; isplitr; · ipureintro; exact fun _ _ => Or.inl trivial
          iexact HW'
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]
        · unfold owns; iexists _; isplitr
          swap; · iexact H15
          ipureintro; exact View.read_writes_of_cover _ _ _ _ _ (coverC_15 m c t h0 h1 _)
        isplitl [H16]
        · unfold owns; iexists _; isplitr
          swap; · iexact H16
          ipureintro; exact View.read_writes_of_cover _ _ _ _ _ (coverC_16 m c t h0 h1 _)
        isplitl [H17]
        · unfold owns; iexists _; isplitr
          swap; · iexact H17
          ipureintro; exact View.read_writes_of_cover _ _ _ _ _ (coverC_17 m c t h0 h1 _)
        isplitl [H18]
        · unfold owns; iexists _; isplitr
          swap; · iexact H18
          ipureintro; exact View.read_writes_of_cover _ _ _ _ _ (coverC_18 m c t h0 h1 _)
        isplitl [H19]
        · unfold owns; iexists _; isplitr
          swap; · iexact H19
          ipureintro; exact View.read_writes_of_cover _ _ _ _ _ (coverC_19 m c t h0 h1 _)
        unfold owns; iexists _; isplitr
        swap; · iexact H20
        ipureintro; exact View.read_writes_of_cover _ _ _ _ _ (coverC_20 m c t h0 h1 _)
    · by_cases hz : t.val = 0
      · exfalso; have hN : t.val < 32 := lt_of_lt_of_eq t.isLt (show cfg0.N = 32 from N_0); omega
      · rw [PhiS_castSucc m c t, PhiS_pos m c _ _ hz]
        rw [outsAt0_B m c t h0 h1]
        simp only [before0_17_B m c t h0 h1, before0_18_B m c t h0 h1, before0_19_B m c t h0 h1, before0_20_B m c t h0 h1]
        unfold stepB; (try dsimp only)
        iintro ⟨⟨⟨HS0, HS1, HS2, HS3, HS4, HS5⟩, Hg, ⟨Hq0, Hq1, Hq2⟩, -, ⟨Hh0, Hh1, Hh2⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩⟩
        iapply ((runB m c t h0 h1 (prev0 m c t)).2.2.2.2.2.2.2.2.2.2.2.2.2.2.2 W _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexists _; iexact H15
        isplitl [H16]; · iexists _; iexact H16
        isplitl [H17]; · iexact H17
        isplitl [H18]; · iexact H18
        isplitl [H19]; · iexact H19
        isplitl [H20]; · iexact H20
        isplitl [HS0]; · iexact HS0
        isplitl [HS1]; · iexact HS1
        isplitl [HS2]; · iexact HS2
        isplitl [HS3]; · iexact HS3
        isplitl [HS4]; · iexact HS4
        isplitl [HS5]; · iexact HS5
        isplitl [Hq0]; · iexact Hq0
        isplitl [Hq1]; · iexact Hq1
        isplitl [Hq2]; · iexact Hq2
        isplitl [Hh0]; · iexact Hh0
        isplitl [Hh1]; · iexact Hh1
        isplitl [Hh2]; · iexact Hh2
        isplitl [HW]; · iexact HW
        iintro ⟨H0, H1, H2, H3, H4, H5, H6, H7, H8, H9, H10, H11, H12, H13, H14, ⟨%e15, H15⟩, ⟨%e16, H16⟩, ⟨%e17, H17⟩, ⟨%e18, H18⟩, ⟨%e19, H19⟩, ⟨%e20, H20⟩, HS0, HS1, HS2, ⟨%es3, HS3⟩, ⟨%es4, HS4⟩, ⟨%es5, HS5⟩, Hq0, Hq1, Hq2, Hh0, Hh1, Hh2, ⟨%W', HW'⟩⟩
        isplitl [HS0 HS1 HS2 HS3 HS4 HS5 Hg Hq0 Hq1 Hq2 Hh0 Hh1 Hh2]
        · isplitl [HS0 HS1 HS2 HS3 HS4 HS5]
          · isplitl [HS0]; · iexact HS0
            isplitl [HS1]; · iexact HS1
            isplitl [HS2]; · iexact HS2
            isplitl [HS3]
            · unfold owns; iexists _; isplitr
              swap; · iexact HS3
              ipureintro; exact View.read_writes_of_cover _ _ _ _ _ (scoverB_3 m c t h0 h1 _)
            isplitl [HS4]
            · unfold owns; iexists _; isplitr
              swap; · iexact HS4
              ipureintro; exact View.read_writes_of_cover _ _ _ _ _ (scoverB_4 m c t h0 h1 _)
            unfold owns; iexists _; isplitr
            swap; · iexact HS5
            ipureintro; exact View.read_writes_of_cover _ _ _ _ _ (scoverB_5 m c t h0 h1 _)
          isplitl [Hg]
          · iexact Hg
          isplitl [Hq0 Hq1 Hq2]
          · isplitl [Hq0]; · iexact Hq0
            isplitl [Hq1]; · iexact Hq1
            iexact Hq2
          isplitr; · iempintro
          isplitl [Hh0]; · iexact Hh0
          isplitl [Hh1]; · iexact Hh1
          iexact Hh2
        isplitl [HW']
        · iexists W'; isplitr; · ipureintro; exact fun _ _ => Or.inl trivial
          iexact HW'
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]
        · unfold owns; iexists _; isplitr
          swap; · iexact H15
          ipureintro; exact View.read_writes_of_cover _ _ _ _ _ (coverB_15 m c t h0 h1 _)
        isplitl [H16]
        · unfold owns; iexists _; isplitr
          swap; · iexact H16
          ipureintro; exact View.read_writes_of_cover _ _ _ _ _ (coverB_16 m c t h0 h1 _)
        isplitl [H17]
        · unfold owns; iexists _; isplitr
          swap; · iexact H17
          ipureintro; exact View.read_writes_of_cover _ _ _ _ _ (coverB_17 m c t h0 h1 _)
        isplitl [H18]
        · unfold owns; iexists _; isplitr
          swap; · iexact H18
          ipureintro; exact View.read_writes_of_cover _ _ _ _ _ (coverB_18 m c t h0 h1 _)
        isplitl [H19]
        · unfold owns; iexists _; isplitr
          swap; · iexact H19
          ipureintro; exact View.read_writes_of_cover _ _ _ _ _ (coverB_19 m c t h0 h1 _)
        unfold owns; iexists _; isplitr
        swap; · iexact H20
        ipureintro; exact View.read_writes_of_cover _ _ _ _ _ (coverB_20 m c t h0 h1 _)

end Cert.KernelIdeal.Whole

end
-- ==== Proof.Merge.Frame.lean ====
module

public import proofs.«01_k».proof.Proof.Merge.Body

@[expose] public section

set_option maxRecDepth 16384

noncomputable section

namespace Cert.KernelIdeal.Whole

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

variable (m : (ℓ : Loc nD τ sig) → Buf (Elt F) ℓ) (ρ : Dev nD → PrngReg)

attribute [local irreducible] outsAt0

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

def hbG0 (c : Dev nD) : (b : Ref sig .tc) → Buf (Elt F) ((c : Thread nD τ).loc b) :=
  Function.update (Function.update (Function.update ((V m) c) main_v94_6 (outsAt0 m c ((Fin.last cfg0.N).val - 1) (by rw [Fin.val_last]; have : cfg0.N = 32 := N_0; omega)).2.2.2.2.2.2.2.2.2.2.2.2.1) main_v94_7 (outsAt0 m c ((Fin.last cfg0.N).val - 1) (by rw [Fin.val_last]; have : cfg0.N = 32 := N_0; omega)).2.2.2.2.2.2.2.2.2.2.2.2.2.1) main_v94_8 (outsAt0 m c ((Fin.last cfg0.N).val - 1) (by rw [Fin.val_last]; have : cfg0.N = 32 := N_0; omega)).2.2.2.2.2.2.2.2.2.2.2.2.2.2
theorem hbG0_0 (c : Dev nD) : hbG0 m c main_v94_6 = (outsAt0 m c ((Fin.last cfg0.N).val - 1) (by rw [Fin.val_last]; have : cfg0.N = 32 := N_0; omega)).2.2.2.2.2.2.2.2.2.2.2.2.1 := by
  unfold hbG0; simp only [Function.update_of_ne (show (main_v94_6 : Ref sig .tc) ≠ main_v94_7 by decide), Function.update_of_ne (show (main_v94_6 : Ref sig .tc) ≠ main_v94_8 by decide), Function.update_self]
theorem hbG0_1 (c : Dev nD) : hbG0 m c main_v94_7 = (outsAt0 m c ((Fin.last cfg0.N).val - 1) (by rw [Fin.val_last]; have : cfg0.N = 32 := N_0; omega)).2.2.2.2.2.2.2.2.2.2.2.2.2.1 := by
  unfold hbG0; simp only [Function.update_of_ne (show (main_v94_7 : Ref sig .tc) ≠ main_v94_8 by decide), Function.update_self]
theorem hbG0_2 (c : Dev nD) : hbG0 m c main_v94_8 = (outsAt0 m c ((Fin.last cfg0.N).val - 1) (by rw [Fin.val_last]; have : cfg0.N = 32 := N_0; omega)).2.2.2.2.2.2.2.2.2.2.2.2.2.2 := by
  unfold hbG0; simp only [Function.update_self]
theorem heldG0_eq (c : Dev nD) :
    (Pipeline.routed R0 c (hbG0 m c) : sProp 𝕄) = iprop(hbPt0 c hbM0_0 ((outsAt0 m c ((Fin.last cfg0.N).val - 1) (by rw [Fin.val_last]; have : cfg0.N = 32 := N_0; omega)).2.2.2.2.2.2.2.2.2.2.2.2.1) ∗ hbPt0 c hbM0_1 ((outsAt0 m c ((Fin.last cfg0.N).val - 1) (by rw [Fin.val_last]; have : cfg0.N = 32 := N_0; omega)).2.2.2.2.2.2.2.2.2.2.2.2.2.1) ∗ hbPt0 c hbM0_2 ((outsAt0 m c ((Fin.last cfg0.N).val - 1) (by rw [Fin.val_last]; have : cfg0.N = 32 := N_0; omega)).2.2.2.2.2.2.2.2.2.2.2.2.2.2)) := by
  unfold Pipeline.routed; rw [BI.bigSep_eq_bigSepL_of_eq [main_v94_6, main_v94_7, main_v94_8] (by decide) (by decide)]
  simp only [BI.bigSepL_cons_cons, BI.bigSepL_singleton, hbG0_0, hbG0_1, hbG0_2]; try rfl
theorem PhiDRG0_out_eq (c : Dev nD) :
    (Pipeline.ΦDRG osem0 spec0 H0 R0 (V m) (hbG0 m) c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d)) ∗ (∃ r, prngReg c r) ∗ iprop(semVal ((c : Thread nD τ), SemLoc.dma 31) 0 ∗ semVal ((c : Thread nD τ), SemLoc.dma 32) 0 ∗ semVal ((c : Thread nD τ), SemLoc.dma 33) 0) ∗ iprop(emp) ∗ iprop(hbPt0 c hbM0_0 ((outsAt0 m c ((Fin.last cfg0.N).val - 1) (by rw [Fin.val_last]; have : cfg0.N = 32 := N_0; omega)).2.2.2.2.2.2.2.2.2.2.2.2.1) ∗ hbPt0 c hbM0_1 ((outsAt0 m c ((Fin.last cfg0.N).val - 1) (by rw [Fin.val_last]; have : cfg0.N = 32 := N_0; omega)).2.2.2.2.2.2.2.2.2.2.2.2.2.1) ∗ hbPt0 c hbM0_2 ((outsAt0 m c ((Fin.last cfg0.N).val - 1) (by rw [Fin.val_last]; have : cfg0.N = 32 := N_0; omega)).2.2.2.2.2.2.2.2.2.2.2.2.2.2))) := by
  rw [Pipeline.ΦDRG_eq, scopedRest0_eq, ownSems00_eq, hbmPts0_eq, heldG0_eq]; simp only [scM0_0, scM0_1, scM0_2, scM0_3, scM0_4, scM0_5, owns_whole]; try rfl

theorem hin (c : Dev nD) : Pipeline.ΦDRG osem0 spec0 H0 R0 (V m) (V m) c ⊢ (dats m 0 c).Φ 0 := by
  rw [Phi_eq m c 0, PhiS_zero m c _ _ (by rfl)]
  try exact Idealize.SL.BI.Entails.refl _

theorem hout (c : Dev nD) : (dats m 0 c).Φ (Fin.last cfg0.N) ⊢ Pipeline.ΦDRG osem0 spec0 H0 R0 (V m) (hbG0 m) c := by
  rw [Phi_eq m c (Fin.last cfg0.N), PhiS_pos m c _ _ (by rw [Fin.val_last]; have : cfg0.N = 32 := N_0; omega), PhiDRG0_out_eq]
  iintro ⟨⟨HS0, HS1, HS2, HS3, HS4, HS5⟩, Hg, ⟨Hq0, Hq1, Hq2⟩, ⟨Hh0, Hh1, Hh2⟩⟩
  isplitl [HS0 HS1 HS2 HS3 HS4 HS5]
  · isplitl [HS0]
    · iexists _; iexact HS0
    isplitl [HS1]
    · iexists _; iexact HS1
    isplitl [HS2]
    · iexists _; iexact HS2
    isplitl [HS3]
    · iexists _; iexact HS3
    isplitl [HS4]
    · iexists _; iexact HS4
    iexists _; iexact HS5
  isplitl [Hg]; · iexact Hg
  isplitl [Hq0 Hq1 Hq2]
  · isplitl [Hq0]; · iexact Hq0
    isplitl [Hq1]; · iexact Hq1
    iexact Hq2
  isplitl [Hh0]; · iexact Hh0
  isplitl [Hh1]; · iexact Hh1
  iexact Hh2

/-! ## The run and the frame -/

set_option backward.isDefEq.respectTransparency.types false in
theorem run_main_quiescent : θ_run defs (onTc (τ := τ) (main (F := F))) (s₀ m ρ) (fun r => (Pipeline.FramePostRG cfgs (dats m) 0 R0 (V m) (hbG0 m)) r ∧ r.2.sem = fun _ => 0) :=
  Pipeline.θ_run_frame_dmaRG_shared (Q' := _) cfgs (dats m) (0 : Fin 1) launch₀0 osem0 defs₀ Variants.none ownSemFacts0 H0 R0 H0_sub R0_sub m ρ main
    (hbody := fun c => (body_obligation m c).loose) (hq := fun _ _ _ => rfl)
    (howed := fun _ _ => rfl) (V := V m) (hmain := hmain m Variants.none) (hA := A_eq m) (G := hbG0 m)
    (hin := hin m) (hout := hout m)

theorem run_main : θ_run defs (onTc (τ := τ) (main (F := F))) (s₀ m ρ) (Pipeline.FramePostRG cfgs (dats m) 0 R0 (V m) (hbG0 m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_of m ρ (dats m) (A_eq m) ((θ_run defs _ _).mono (fun _ h => h.toR) (run_main m ρ))

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_and (unchanged m ρ) ((θ_run defs _ _).mono (fun _ h => h.2) (run_main_quiescent m ρ))

end Cert.KernelIdeal.Whole

end
-- ==== Proof.Merge.Arrays.lean ====
module

public import proofs.«01_k».proof.Proof.Merge.Frame
public import Idealize.ShloMosaic.Lib.Pipeline.Value

@[expose] public section

set_option maxRecDepth 16384

noncomputable section

namespace Cert.KernelIdeal.Whole

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

variable (m : (ℓ : Loc nD τ sig) → Buf (Elt F) ℓ) (ρ : Dev nD → PrngReg)

attribute [local irreducible] outsAt0

/-! ## The arrays after the run -/

theorem last_lt : 31 < cfg0.N := by rw [show cfg0.N = 32 from N_0]; decide

/-- After the run the results that are written block by block are their windows' arrays, the three that stay in HBM
are what the last point left in them, and the arguments are as launched. -/
theorem run_arrays : θ_run defs (onTc (τ := τ) (main (F := F))) ⟨m, fun _ => 0, ρ⟩ fun r => ∀ c : Dev nD,
      r.2.mem ((c : Thread nD τ).loc main_v94_0) = (dats m 0 c).arrAt 15 cfg0.N
      ∧ r.2.mem ((c : Thread nD τ).loc main_v94_1) = (dats m 0 c).arrAt 16 cfg0.N
      ∧ r.2.mem ((c : Thread nD τ).loc main_v94_2) = (dats m 0 c).arrAt 17 cfg0.N
      ∧ r.2.mem ((c : Thread nD τ).loc main_v94_3) = (dats m 0 c).arrAt 18 cfg0.N
      ∧ r.2.mem ((c : Thread nD τ).loc main_v94_4) = (dats m 0 c).arrAt 19 cfg0.N
      ∧ r.2.mem ((c : Thread nD τ).loc main_v94_5) = (dats m 0 c).arrAt 20 cfg0.N
      ∧ r.2.mem ((c : Thread nD τ).loc main_v94_6) = (outsAt0 m c 31 last_lt).2.2.2.2.2.2.2.2.2.2.2.2.1
      ∧ r.2.mem ((c : Thread nD τ).loc main_v94_7) = (outsAt0 m c 31 last_lt).2.2.2.2.2.2.2.2.2.2.2.2.2.1
      ∧ r.2.mem ((c : Thread nD τ).loc main_v94_8) = (outsAt0 m c 31 last_lt).2.2.2.2.2.2.2.2.2.2.2.2.2.2 := by
  refine (θ_run defs _ _).mono (fun r h c => ⟨(h.toR c).1 15, (h.toR c).1 16, (h.toR c).1 17, (h.toR c).1 18, (h.toR c).1 19, (h.toR c).1 20, (h.written c (by decide : main_v94_6 ∈ R0)).trans (hbG0_0 m c), (h.written c (by decide : main_v94_7 ∈ R0)).trans (hbG0_1 m c), (h.written c (by decide : main_v94_8 ∈ R0)).trans (hbG0_2 m c)⟩)
    (run_main m ρ)

end Cert.KernelIdeal.Whole

end
-- ==== Proof.Merge.Results.lean ====
module

public import proofs.«01_k».proof.Proof.Merge.Sums
public import proofs.«01_k».proof.Proof.Merge.Arrays

@[expose] public section

set_option maxRecDepth 16384

noncomputable section

namespace Cert.KernelIdeal.Whole

open Cert.KernelIdeal.Gen Cert.ReferenceIdeal.Read
open Idealize.ShloMosaic Idealize.ShloMosaic.TcCoe Idealize.ShloMosaic.Tactic

variable (m : (ℓ : Loc nD τ sig) → Buf (Elt Ideal) ℓ)

attribute [local irreducible] outsAt0

/-! ## The results that are written tile by tile -/

theorem index_15 : ∀ t : Fin cfg0.N, win0_15.index t = ![t.val, 0] := (by decide +kernel : ∀ t : Fin grid0.N, _)

theorem apart_15 (t t' : Fin cfg0.N) (hne : t ≠ t') : Disjoint ((cfg0.win 15).blk t).view.set ((cfg0.win 15).blk t').view.set :=
  (cfg0.win 15).disjoint_blk fun h => hne ((by decide +kernel : ∀ t t' : Fin grid0.N, win0_15.index t = win0_15.index t' → t = t') t t' h)

theorem flushes_15 : ∀ t : Fin cfg0.N, (cfg0.win 15).flush t = true := (by decide +kernel : ∀ t : Fin grid0.N, _)

theorem place_15 (t : Fin cfg0.N) (r : Fin 256) (l : Fin 1024) :
    ((cfg0.win 15).blk t).view.emb (ix2 r l) = ix2 (row (t.cast N_0) r) (⟨l.val, by have := l.isLt; omega⟩ : Fin 1024) := by
  have e := index_15 t
  refine funext fun a => Fin.ext ?_
  match a with
  | ⟨0, _⟩ => show win0_15.index t (0 : Fin 2) * 256 + 1 * r.val = 256 * t.val + r.val; rw [e]; show t.val * 256 + 1 * r.val = _; omega
  | ⟨1, _⟩ => show win0_15.index t (1 : Fin 2) * 1024 + 1 * l.val = l.val; rw [e]; show 0 * 1024 + 1 * l.val = _; omega

/-- What the array holds at the end is what the point of that tile wrote. -/
theorem array_15 (c : Dev nD) (t : Fin cfg0.N) (r : Fin 256) (l : Fin 1024) :
    (dats m 0 c).arrAt 15 cfg0.N (ix2 (row (t.cast N_0) r) (⟨l.val, by have := l.isLt; omega⟩ : Fin 1024))
      = (outsAt0 m c t.val t.isLt).1 (ix2 r l) := by
  have h := (dats m 0 c).read_blk_arrAt_eq_flushed 15 (fun t t' _ _ hne => apart_15 t t' hne) cfg0.N t t.isLt (flushes_15 t)
  have h2 : (dats m 0 c).flushed 15 t = (cfg0.win 15).cut (grid0.coords t) ((outsAt0 m c t.val t.isLt).1) := by
    show (cfg0.win 15).cut (grid0.coords t) ((dats m 0 c).after 15 t) = _
    rw [after0_15]
  rw [← place_15 t r l]
  exact (congrFun (h.trans h2) (ix2 r l)).trans (congrArg (outsAt0 m c t.val t.isLt).1 (funext fun a => Fin.ext rfl))

theorem index_16 : ∀ t : Fin cfg0.N, win0_16.index t = ![t.val, 0] := (by decide +kernel : ∀ t : Fin grid0.N, _)

theorem apart_16 (t t' : Fin cfg0.N) (hne : t ≠ t') : Disjoint ((cfg0.win 16).blk t).view.set ((cfg0.win 16).blk t').view.set :=
  (cfg0.win 16).disjoint_blk fun h => hne ((by decide +kernel : ∀ t t' : Fin grid0.N, win0_16.index t = win0_16.index t' → t = t') t t' h)

theorem flushes_16 : ∀ t : Fin cfg0.N, (cfg0.win 16).flush t = true := (by decide +kernel : ∀ t : Fin grid0.N, _)

/-- No block of this window sticks out of the array. -/
theorem whole_16 : ∀ (t : Fin cfg0.N) (a : Fin 2), (cfg0.win 16).xsize (cfg0.grid.coords t) a = S256x4096.size a :=
  (by decide +kernel : ∀ (t : Fin grid0.N) (a : Fin 2), win0_16.xsize (grid0.coords t) a = S256x4096.size a)

/-- An index of the block, as an index of the part that is written back. -/
def within (t : Fin cfg0.N) (r : Fin 256) (l : Fin 4096) : ((cfg0.win 16).xblock (cfg0.grid.coords t)).Idx :=
  fun a => ⟨((ix2 r l : S256x4096.Idx) a).val, lt_of_lt_of_eq ((ix2 r l : S256x4096.Idx) a).isLt (whole_16 t a).symm⟩

theorem place_16 (t : Fin cfg0.N) (r : Fin 256) (l : Fin 4096) :
    ((cfg0.win 16).blk t).view.emb (within t r l) = ix2 (row (t.cast N_0) r) (⟨l.val, by have := l.isLt; omega⟩ : Fin 6144) := by
  have e := index_16 t
  refine funext fun a => Fin.ext ?_
  match a with
  | ⟨0, _⟩ => show win0_16.index t (0 : Fin 2) * 256 + 1 * r.val = 256 * t.val + r.val; rw [e]; show t.val * 256 + 1 * r.val = _; omega
  | ⟨1, _⟩ => show win0_16.index t (1 : Fin 2) * 4096 + 1 * l.val = l.val; rw [e]; show 0 * 4096 + 1 * l.val = _; omega

/-- What the array holds at the end is what the point of that tile wrote. -/
theorem array_16 (c : Dev nD) (t : Fin cfg0.N) (r : Fin 256) (l : Fin 4096) :
    (dats m 0 c).arrAt 16 cfg0.N (ix2 (row (t.cast N_0) r) (⟨l.val, by have := l.isLt; omega⟩ : Fin 6144))
      = (outsAt0 m c t.val t.isLt).2.1 (ix2 r l) := by
  have h := (dats m 0 c).read_blk_arrAt_eq_flushed 16 (fun t t' _ _ hne => apart_16 t t' hne) cfg0.N t t.isLt (flushes_16 t)
  have h2 : (dats m 0 c).flushed 16 t = (cfg0.win 16).cut (grid0.coords t) ((outsAt0 m c t.val t.isLt).2.1) := by
    show (cfg0.win 16).cut (grid0.coords t) ((dats m 0 c).after 16 t) = _
    rw [after0_16]
  rw [← place_16 t r l]
  exact (congrFun (h.trans h2) (within t r l)).trans (congrArg (outsAt0 m c t.val t.isLt).2.1 (funext fun a => Fin.ext rfl))

theorem val_15 (c : Dev nD) (t : Fin 32) (r : Fin 256) (l : Fin 1024) :
    (dats m 0 c).arrAt 15 cfg0.N (ix2 (row t r) l) = val_main_v207 (F := Ideal) (m ((c : Thread nD τ).loc main_arg0)) (m ((c : Thread nD τ).loc main_arg1)) (m ((c : Thread nD τ).loc main_arg7)) (m ((c : Thread nD τ).loc main_arg9)) (ix2 (row t r) l) := by
  refine (array_15 m c (t.cast N_0.symm) r l).trans ?_
  rw [point_1]
  exact dya_at (blocks m c (t.cast N_0.symm)) r l

theorem val_16_2 (c : Dev nD) (t : Fin 32) (r : Fin 256) (l : Fin 1024) :
    (dats m 0 c).arrAt 16 cfg0.N (ix2 (row t r) (⟨2048 + l.val, by have := l.isLt; omega⟩ : Fin 6144)) = val_main_v134 (F := Ideal) (m ((c : Thread nD τ).loc main_arg0)) (m ((c : Thread nD τ).loc main_arg1)) (m ((c : Thread nD τ).loc main_arg2)) (m ((c : Thread nD τ).loc main_arg7)) (m ((c : Thread nD τ).loc main_arg9)) (ix2 (row t r) l) := by
  refine (array_16 m c (t.cast N_0.symm) r (⟨2048 + l.val, by have := l.isLt; omega⟩ : Fin 4096)).trans ?_
  rw [point_2]
  exact (quarters_2 _ _ _ _ r l).trans (dga_at (blocks m c (t.cast N_0.symm)) r l)

theorem val_16_3 (c : Dev nD) (t : Fin 32) (r : Fin 256) (l : Fin 1024) :
    (dats m 0 c).arrAt 16 cfg0.N (ix2 (row t r) (⟨3072 + l.val, by have := l.isLt; omega⟩ : Fin 6144)) = val_main_v128 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg8)) (m ((c : Thread nD τ).loc main_arg9)) (ix2 (row t r) l) := by
  refine (array_16 m c (t.cast N_0.symm) r (⟨3072 + l.val, by have := l.isLt; omega⟩ : Fin 4096)).trans ?_
  rw [point_2]
  exact (quarters_3 _ _ _ _ r l).trans (dgb_at (blocks m c (t.cast N_0.symm)) r l)

/-! ## The columns of the reference's gradient -/

theorem ref_col_0 (x0 : FVec Ideal S8192x1024 .bf16) (x1 : FVec Ideal S8192x6144 .bf16) (x2 : FVec Ideal S8192x1024 .bf16) (x3 : FVec Ideal S1x1024 .f32) (x4 : FVec Ideal S1x1024 .f32) (x5 : FVec Ideal S1x8x128x128 .f32) (x6 : FVec Ideal S1x8x128 .f32) (x7 : FVec Ideal S1024x1024 .bf16) (x8 : FVec Ideal S1024x1024 .bf16) (x9 : FVec Ideal S1024x1024 .bf16) (i : Fin 8192) (l : Fin 1024) :
    val_main_v208 (F := Ideal) x0 x1 x2 x3 x4 x5 x6 x7 x8 x9 (ix2 i (⟨0 + l.val, by have := l.isLt; omega⟩ : Fin 6144)) = val_main_v204 (F := Ideal) x0 x1 x3 x4 x5 x6 x8 x9 (ix2 i l) := by
  have hl := l.isLt
  pointwise [val_main_v208, val_main_v206]

theorem ref_col_1 (x0 : FVec Ideal S8192x1024 .bf16) (x1 : FVec Ideal S8192x6144 .bf16) (x2 : FVec Ideal S8192x1024 .bf16) (x3 : FVec Ideal S1x1024 .f32) (x4 : FVec Ideal S1x1024 .f32) (x5 : FVec Ideal S1x8x128x128 .f32) (x6 : FVec Ideal S1x8x128 .f32) (x7 : FVec Ideal S1024x1024 .bf16) (x8 : FVec Ideal S1024x1024 .bf16) (x9 : FVec Ideal S1024x1024 .bf16) (i : Fin 8192) (l : Fin 1024) :
    val_main_v208 (F := Ideal) x0 x1 x2 x3 x4 x5 x6 x7 x8 x9 (ix2 i (⟨1024 + l.val, by have := l.isLt; omega⟩ : Fin 6144)) = val_main_v192 (F := Ideal) x0 x1 x3 x5 x8 x9 (ix2 i l) := by
  have hl := l.isLt
  pointwise [val_main_v208, val_main_v206]

theorem ref_col_2 (x0 : FVec Ideal S8192x1024 .bf16) (x1 : FVec Ideal S8192x6144 .bf16) (x2 : FVec Ideal S8192x1024 .bf16) (x3 : FVec Ideal S1x1024 .f32) (x4 : FVec Ideal S1x1024 .f32) (x5 : FVec Ideal S1x8x128x128 .f32) (x6 : FVec Ideal S1x8x128 .f32) (x7 : FVec Ideal S1024x1024 .bf16) (x8 : FVec Ideal S1024x1024 .bf16) (x9 : FVec Ideal S1024x1024 .bf16) (i : Fin 8192) (l : Fin 1024) :
    val_main_v208 (F := Ideal) x0 x1 x2 x3 x4 x5 x6 x7 x8 x9 (ix2 i (⟨2048 + l.val, by have := l.isLt; omega⟩ : Fin 6144)) = val_main_v134 (F := Ideal) x0 x1 x2 x7 x9 (ix2 i l) := by
  have hl := l.isLt
  pointwise [val_main_v208, val_main_v206]
  rw [dif_neg (by omega), dif_neg (by omega), dif_pos (by omega)]
  exact congrArg (fun z => val_main_v134 (F := Ideal) x0 x1 x2 x7 x9 (ix2 i z)) (Fin.ext (by show 2048 + l.val - 1024 - 1024 = l.val; omega))

theorem ref_col_3 (x0 : FVec Ideal S8192x1024 .bf16) (x1 : FVec Ideal S8192x6144 .bf16) (x2 : FVec Ideal S8192x1024 .bf16) (x3 : FVec Ideal S1x1024 .f32) (x4 : FVec Ideal S1x1024 .f32) (x5 : FVec Ideal S1x8x128x128 .f32) (x6 : FVec Ideal S1x8x128 .f32) (x7 : FVec Ideal S1024x1024 .bf16) (x8 : FVec Ideal S1024x1024 .bf16) (x9 : FVec Ideal S1024x1024 .bf16) (i : Fin 8192) (l : Fin 1024) :
    val_main_v208 (F := Ideal) x0 x1 x2 x3 x4 x5 x6 x7 x8 x9 (ix2 i (⟨3072 + l.val, by have := l.isLt; omega⟩ : Fin 6144)) = val_main_v128 (F := Ideal) x0 x1 x3 x4 x5 x6 x8 x9 (ix2 i l) := by
  have hl := l.isLt
  pointwise [val_main_v208, val_main_v206]
  rw [dif_neg (by omega), dif_neg (by omega), dif_neg (by omega), dif_pos (by omega)]
  exact congrArg (fun z => val_main_v128 (F := Ideal) x0 x1 x3 x4 x5 x6 x8 x9 (ix2 i z)) (Fin.ext (by show 3072 + l.val - 1024 - 1024 - 1024 = l.val; omega))

theorem ref_132 (x0 : FVec Ideal S8192x1024 .bf16) (x1 : FVec Ideal S8192x6144 .bf16) (x2 : FVec Ideal S8192x1024 .bf16) (x9 : FVec Ideal S1024x1024 .bf16) (i j : Fin 1024) :
    val_main_v132 (F := Ideal) x0 x1 x2 x9 (ix2 i j) = ∑ k : Fin 8192, val_main_v5 (F := Ideal) x2 (ix2 k i) * val_main_v129 (F := Ideal) x0 x1 x9 (ix2 k j) := by
  pointwise [val_main_v132, val_main_v131]
  exact Finset.sum_congr rfl fun k _ => mul_comm _ _

theorem ref_126 (x0 : FVec Ideal S8192x1024 .bf16) (x1 : FVec Ideal S8192x6144 .bf16) (x3 : FVec Ideal S1x1024 .f32) (x4 : FVec Ideal S1x1024 .f32) (x5 : FVec Ideal S1x8x128x128 .f32) (x6 : FVec Ideal S1x8x128 .f32) (x9 : FVec Ideal S1024x1024 .bf16) (i j : Fin 1024) :
    val_main_v126 (F := Ideal) x0 x1 x3 x4 x5 x6 x9 (ix2 i j) = ∑ k : Fin 8192, val_main_v94 (F := Ideal) x1 x3 x4 x5 x6 (ix2 k i) * val_main_v123 (F := Ideal) x0 x1 x9 (ix2 k j) := by
  pointwise [val_main_v126, val_main_v125]
  exact Finset.sum_congr rfl fun k _ => mul_comm _ _

theorem ref_121 (x0 : FVec Ideal S8192x1024 .bf16) (x1 : FVec Ideal S8192x6144 .bf16) (x2 : FVec Ideal S8192x1024 .bf16) (x3 : FVec Ideal S1x1024 .f32) (x4 : FVec Ideal S1x1024 .f32) (x5 : FVec Ideal S1x8x128x128 .f32) (x6 : FVec Ideal S1x8x128 .f32) (x7 : FVec Ideal S1024x1024 .bf16) (x8 : FVec Ideal S1024x1024 .bf16) (i j : Fin 1024) :
    val_main_v121 (F := Ideal) x0 x1 x2 x3 x4 x5 x6 x7 x8 (ix2 i j) = ∑ k : Fin 8192, val_main_v117 (F := Ideal) x1 x2 x3 x4 x5 x6 x7 x8 (ix2 k i) * val_main_v119 (F := Ideal) x0 (ix2 k j) := by
  pointwise [val_main_v121, val_main_v120]
  exact Finset.sum_congr rfl fun k _ => mul_comm _ _

end Cert.KernelIdeal.Whole

end
-- ==== Proof.Merge.Mask.lean ====
module

public import proofs.«01_k».proof.On_written
public import Idealize.ShloMosaic.Lib.Pointwise
public import Idealize.ShloMosaic.PureOps.Ideal

@[expose] public section

set_option maxRecDepth 16384

noncomputable section

namespace Cert.On_written

open Idealize.ShloMosaic Idealize.ShloMosaic.TcCoe Idealize.ShloMosaic.Tactic

/-! ## Where the two programs are compared -/

theorem facts : Cert.On_written.Facts where
  bcast_S6144_S1x6144_1 := by decide
  bcast_S_S1x6144 := by decide
  bcast_S1x6144_S8192x6144_0_1 := by decide
  bcast_S_S8192x1024 := by decide
  bcast_S_S8x128x128 := by decide
  bcast_S_S8x128 := by decide
  bcast_S_S1x1024 := by decide
  bcast_S_S1024x1024 := by decide

variable [Facts] (x0 : FVec Ideal S8192x1024 .bf16) (x1 : FVec Ideal S8192x6144 .bf16) (x2 : FVec Ideal S8192x1024 .bf16) (x3 x4 : FVec Ideal S1x1024 .f32)
    (x5 : FVec Ideal S1x8x128x128 .f32) (x6 : FVec Ideal S1x8x128 .f32) (x7 x8 x9 : FVec Ideal S1024x1024 .bf16)

theorem cols (i : Fin 8192) (j : Fin 6144) (h : (fn (F := Ideal) x0 x1 x2 x3 x4 x5 x6 x7 x8 x9).2.1 (ix2 i j) = 1#1) :
    2048 ≤ j.val ∧ j.val < 4096 := by
  revert h
  pointwise [fn, fn_part1]
  exact (by decide +kernel : ∀ j : Fin 6144, IntOp.andi (IntOp.cmpi .sge (BitVec.ofNat 32 j.val) 2048#32) (IntOp.cmpi .slt (BitVec.ofNat 32 j.val) 4096#32) = 1#1 → 2048 ≤ j.val ∧ j.val < 4096) j

theorem no_2 (i : S8x128x128.Idx) (h : (fn (F := Ideal) x0 x1 x2 x3 x4 x5 x6 x7 x8 x9).2.2.1 i = 1#1) : False :=
  absurd (show (0#1 : BitVec 1) = 1#1 from h) (by decide)
theorem no_3 (i : S8x128.Idx) (h : (fn (F := Ideal) x0 x1 x2 x3 x4 x5 x6 x7 x8 x9).2.2.2.1 i = 1#1) : False :=
  absurd (show (0#1 : BitVec 1) = 1#1 from h) (by decide)
theorem no_4 (i : S1x1024.Idx) (h : (fn (F := Ideal) x0 x1 x2 x3 x4 x5 x6 x7 x8 x9).2.2.2.2.1 i = 1#1) : False :=
  absurd (show (0#1 : BitVec 1) = 1#1 from h) (by decide)
theorem no_5 (i : S1x1024.Idx) (h : (fn (F := Ideal) x0 x1 x2 x3 x4 x5 x6 x7 x8 x9).2.2.2.2.2.1 i = 1#1) : False :=
  absurd (show (0#1 : BitVec 1) = 1#1 from h) (by decide)

end Cert.On_written

end
-- ==== Proof.Merge.Claims.lean ====
module

public import proofs.«01_k».proof.Defs
public import proofs.«01_k».proof.Proof.Merge.Results
public import proofs.«01_k».proof.Proof.Merge.Mask
public import proofs.«01_k».proof.Proof.Gen.ReferenceIdeal.Read
public import Idealize.ShloMosaic.Lib.Quiescent

@[expose] public section

set_option maxRecDepth 16384

noncomputable section

namespace Cert.KernelIdeal.Whole

open Cert.KernelIdeal.Gen Cert.ReferenceIdeal.Read
open Idealize.ShloMosaic Idealize.ShloMosaic.TcCoe Idealize.ShloMosaic.Tactic Idealize.SL.Sem

variable (m : (ℓ : Loc nD τ sig) → Buf (Elt Ideal) ℓ)

attribute [local irreducible] outsAt0

/-! ## The kernel's results are the reference's -/

theorem row_split (i : Fin 8192) : ∃ t r, i = row t r :=
  ⟨⟨i.val / 256, by have := i.isLt; omega⟩, ⟨i.val % 256, Nat.mod_lt _ (by decide)⟩, Fin.ext (by show i.val = 256 * (i.val / 256) + i.val % 256; omega)⟩

theorem result_0 (c : Dev nD) : (dats m 0 c).arrAt 15 cfg0.N = val_main_v207 (F := Ideal) (m ((c : Thread nD τ).loc main_arg0)) (m ((c : Thread nD τ).loc main_arg1)) (m ((c : Thread nD τ).loc main_arg7)) (m ((c : Thread nD τ).loc main_arg9)) := by
  funext i
  rw [eq_ix2 (n0 := 8192) (n1 := 1024) i]
  obtain ⟨t, r, h⟩ := row_split (i 0)
  rw [h]
  exact val_15 m c t r (i 1)

theorem result_1 (c : Dev nD) (i : Fin 8192) (j : Fin 6144) (h1 : 2048 ≤ j.val) (h2 : j.val < 4096) :
    (dats m 0 c).arrAt 16 cfg0.N (ix2 i j) = val_main_v208 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (ix2 i j) := by
  obtain ⟨t, r, h⟩ := row_split i
  rw [h]
  by_cases h3 : j.val < 3072
  · have e : j = (⟨2048 + (⟨j.val - 2048, by omega⟩ : Fin 1024).val, by show 2048 + (j.val - 2048) < 6144; omega⟩ : Fin 6144) := Fin.ext (by show j.val = 2048 + (j.val - 2048); omega)
    rw [e]
    exact (val_16_2 m c t r _).trans (ref_col_2 _ _ _ _ _ _ _ _ _ _ _ _).symm
  · have e : j = (⟨3072 + (⟨j.val - 3072, by omega⟩ : Fin 1024).val, by show 3072 + (j.val - 3072) < 6144; omega⟩ : Fin 6144) := Fin.ext (by show j.val = 3072 + (j.val - 3072); omega)
    rw [e]
    exact (val_16_3 m c t r _).trans (ref_col_3 _ _ _ _ _ _ _ _ _ _ _ _).symm

theorem result_13 (c : Dev nD) : (outsAt0 m c 31 last_lt).2.2.2.2.2.2.2.2.2.2.2.2.1 = val_main_v132 (F := Ideal) (m ((c : Thread nD τ).loc main_arg0)) (m ((c : Thread nD τ).loc main_arg1)) (m ((c : Thread nD τ).loc main_arg2)) (m ((c : Thread nD τ).loc main_arg9)) := by
  funext i
  rw [eq_ix2 (n0 := 1024) (n1 := 1024) i]
  exact (held_13 m c last_lt (i 0) (i 1)).trans (ref_132 _ _ _ _ (i 0) (i 1)).symm

theorem result_14 (c : Dev nD) : (outsAt0 m c 31 last_lt).2.2.2.2.2.2.2.2.2.2.2.2.2.1 = val_main_v126 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg9)) := by
  funext i
  rw [eq_ix2 (n0 := 1024) (n1 := 1024) i]
  exact (held_14 m c last_lt (i 0) (i 1)).trans (ref_126 _ _ _ _ _ _ _ (i 0) (i 1)).symm

theorem result_15 (c : Dev nD) : (outsAt0 m c 31 last_lt).2.2.2.2.2.2.2.2.2.2.2.2.2.2 = val_main_v121 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  funext i
  rw [eq_ix2 (n0 := 1024) (n1 := 1024) i]
  exact (held_15 m c last_lt (i 0) (i 1)).trans (ref_121 _ _ _ _ _ _ _ _ _ (i 0) (i 1)).symm

end Cert.KernelIdeal.Whole

namespace Cert.Proof

open Idealize.ShloMosaic Idealize.ShloMosaic.TcCoe Idealize.SL.Sem
open Cert.ReferenceIdeal.Read Cert.KernelIdeal.Whole

attribute [local irreducible] outsAt0

/-! ## The claims -/

theorem frame_ideal : Cert.quiescent_KernelIdeal := fun m ρ _ => Cert.KernelIdeal.Whole.frame (F := Ideal) m ρ

theorem frame_reference : Cert.quiescent_ReferenceIdeal := fun m ρ _ =>
  (θ_run Cert.ReferenceIdeal.defs _ _).mono (fun r h => ⟨fun c => (h c).2.2.2.2.2.2.2.2.2,
      Idealize.ShloMosaic.sem_eq_zero_of_no_sems (by decide) r.2⟩)
    (Cert.ReferenceIdeal.Value.run (F := Ideal) m ρ)

theorem preserves : Cert.preserves_Kernel_KernelIdeal :=
  ⟨IdealRules.named_const.statement Cert.KernelIdeal.κ "gelu_cubic" .f32 0x3D922279#32 ((80338380498831 / 1125899906842624 : ℝ) : EReal) rfl,
   IdealRules.named_const.statement Cert.KernelIdeal.κ "gelu_cubic_slope" .f32 0x3E5B33B6#32 ((241015141496493 / 1125899906842624 : ℝ) : EReal) rfl⟩

theorem algebraic : @Cert.algebraic_KernelIdeal_ReferenceIdeal_on_written Cert.KernelIdeal.Gen.facts Cert.ReferenceIdeal.Gen.facts Cert.On_written.facts := by
  haveI := Cert.On_written.facts
  intro m g m' g' _ hagree
  refine ⟨fun c => val_main_v207 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg7)) (m ((c.tc : Thread Cert.KernelIdeal.nD Cert.KernelIdeal.τ).loc Cert.KernelIdeal.main_arg9)), fun c => val_main_v208 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), fun c => val_main_v209 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), fun c => val_main_v210 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), fun c => val_main_v154 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg5)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), fun c => val_main_v151 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg5)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), fun c => val_main_v132 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg9)), fun c => val_main_v126 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg9)), fun c => val_main_v121 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · refine (θ_run Cert.KernelIdeal.defs _ _).mono (fun r hr c => ?_) (θ_run_and (run_arrays (F := Ideal) m g) (unchanged (F := Ideal) m g))
    have h := hr.1 c
    refine ⟨fun i _ => congrFun (h.1.trans (result_0 m c)) i, fun i hi => by
        rw [eq_ix2 (n0 := 8192) (n1 := 6144) i] at hi ⊢
        have b := Cert.On_written.cols _ _ _ _ _ _ _ _ _ _ _ _ hi
        exact (congrFun h.2.1 _).trans (result_1 m c _ _ b.1 b.2), fun i hi => (Cert.On_written.no_2 _ _ _ _ _ _ _ _ _ _ i hi).elim, fun i hi => (Cert.On_written.no_3 _ _ _ _ _ _ _ _ _ _ i hi).elim, fun i hi => (Cert.On_written.no_4 _ _ _ _ _ _ _ _ _ _ i hi).elim, fun i hi => (Cert.On_written.no_5 _ _ _ _ _ _ _ _ _ _ i hi).elim, fun i _ => congrFun (h.2.2.2.2.2.2.1.trans (result_13 m c)) i, fun i _ => congrFun (h.2.2.2.2.2.2.2.1.trans (result_14 m c)) i, fun i _ => congrFun (h.2.2.2.2.2.2.2.2.trans (result_15 m c)) i, hr.2 c⟩
  · refine (θ_run Cert.ReferenceIdeal.defs _ _).mono (fun r hr c => ?_) (Cert.ReferenceIdeal.Value.run (F := Ideal) m' g')
    have h := hr c
    have a := hagree c
    refine ⟨fun i _ => ?_, fun i _ => ?_, fun i _ => ?_, fun i _ => ?_, fun i _ => ?_, fun i _ => ?_, fun i _ => ?_, fun i _ => ?_, fun i _ => ?_, h.2.2.2.2.2.2.2.2.2⟩
    · have e : val_main_v207 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg9)) = val_main_v207 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg7)) (m ((c.tc : Thread Cert.KernelIdeal.nD Cert.KernelIdeal.τ).loc Cert.KernelIdeal.main_arg9)) := by
        rw [a.1, a.2.1, a.2.2.2.2.2.2.2.1, a.2.2.2.2.2.2.2.2.2]
      exact congrFun ((h.1.trans (val_main_v207_eq _)).trans e) i
    · have e : val_main_v208 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) = val_main_v208 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) := by
        rw [a.1, a.2.1, a.2.2.1, a.2.2.2.1, a.2.2.2.2.1, a.2.2.2.2.2.1, a.2.2.2.2.2.2.1, a.2.2.2.2.2.2.2.1, a.2.2.2.2.2.2.2.2.1, a.2.2.2.2.2.2.2.2.2]
      exact congrFun ((h.2.1.trans (val_main_v208_eq _)).trans e) i
    · have e : val_main_v209 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) = val_main_v209 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) := by
        rw [a.1, a.2.1, a.2.2.2.1, a.2.2.2.2.1, a.2.2.2.2.2.2.2.2.1, a.2.2.2.2.2.2.2.2.2]
      exact congrFun ((h.2.2.1.trans (val_main_v209_eq _)).trans e) i
    · have e : val_main_v210 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) = val_main_v210 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) := by
        rw [a.1, a.2.1, a.2.2.2.2.2.2.2.2.1, a.2.2.2.2.2.2.2.2.2]
      exact congrFun ((h.2.2.2.1.trans (val_main_v210_eq _)).trans e) i
    · have e : val_main_v154 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) = val_main_v154 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg5)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) := by
        rw [a.1, a.2.1, a.2.2.2.2.2.1, a.2.2.2.2.2.2.2.2.1, a.2.2.2.2.2.2.2.2.2]
      exact congrFun ((h.2.2.2.2.1.trans (val_main_v154_eq _)).trans e) i
    · have e : val_main_v151 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) = val_main_v151 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg5)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) := by
        rw [a.1, a.2.1, a.2.2.2.2.2.1, a.2.2.2.2.2.2.2.2.1, a.2.2.2.2.2.2.2.2.2]
      exact congrFun ((h.2.2.2.2.2.1.trans (val_main_v151_eq _)).trans e) i
    · have e : val_main_v132 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg9)) = val_main_v132 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg9)) := by
        rw [a.1, a.2.1, a.2.2.1, a.2.2.2.2.2.2.2.2.2]
      exact congrFun ((h.2.2.2.2.2.2.1.trans (val_main_v132_eq _)).trans e) i
    · have e : val_main_v126 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg9)) = val_main_v126 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg9)) := by
        rw [a.1, a.2.1, a.2.2.2.1, a.2.2.2.2.1, a.2.2.2.2.2.1, a.2.2.2.2.2.2.1, a.2.2.2.2.2.2.2.2.2]
      exact congrFun ((h.2.2.2.2.2.2.2.1.trans (val_main_v126_eq _)).trans e) i
    · have e : val_main_v121 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) = val_main_v121 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) := by
        rw [a.1, a.2.1, a.2.2.1, a.2.2.2.1, a.2.2.2.2.1, a.2.2.2.2.2.1, a.2.2.2.2.2.2.1, a.2.2.2.2.2.2.2.1, a.2.2.2.2.2.2.2.2.1]
      exact congrFun ((h.2.2.2.2.2.2.2.2.1.trans (val_main_v121_eq _)).trans e) i

end Cert.Proof

end
-- ==== Proof.Prod.Rows.lean ====
module

public import Idealize.ShloMosaic.Lib.ValueIdx

@[expose] public section

noncomputable section

namespace Cert.Prod

/-! ## A sum over rows, cut into equal blocks -/

/-- Row `q` of block `k`, of four blocks of 2048 rows. -/
def row (k : Fin 4) (q : Fin 2048) : Fin 8192 := ⟨2048 * k.val + q.val, by omega⟩

/-- Adding the four blocks' sums one after another, from zero, is the sum over all rows. -/
theorem sum_blocks {M : Type} [AddCommMonoid M] (f : Fin 8192 → M) :
    (((0 + ∑ q, f (row 0 q)) + ∑ q, f (row 1 q)) + ∑ q, f (row 2 q)) + ∑ q, f (row 3 q) = ∑ k : Fin 8192, f k := by
  have e : ∑ t : Fin 4, ∑ r : Fin 2048, f (row t r) = ∑ k : Fin 8192, f k := by
    rw [← Fintype.sum_prod_type' (fun t r => f (row t r))]
    refine Fintype.sum_equiv (finProdFinEquiv (m := 4) (n := 2048)) _ _ fun x => congrArg f (Fin.ext ?_)
    show 2048 * x.1.val + x.2.val = x.2.val + 2048 * x.1.val
    omega
  rw [← e, Fin.sum_univ_four, zero_add]

/-- Column `j` of the array is column `j % 512` of its column block `j / 512`, of twelve blocks of 512 columns: adding the
blocks' sums one after another, from zero, is the sum over all columns. -/
theorem sum_columns {M : Type} [AddCommMonoid M] (g : Fin 12 → Fin 512 → M) (f : Fin 6144 → M)
    (h : ∀ (b : Fin 12) (q : Fin 512), g b q = f ⟨512 * b.val + q.val, by omega⟩) :
    (((((((((((0 + ∑ q, g 0 q) + ∑ q, g 1 q) + ∑ q, g 2 q) + ∑ q, g 3 q) + ∑ q, g 4 q) + ∑ q, g 5 q) + ∑ q, g 6 q) + ∑ q, g 7 q) + ∑ q, g 8 q)
      + ∑ q, g 9 q) + ∑ q, g 10 q) + ∑ q, g 11 q = ∑ k : Fin 6144, f k := by
  have e : ∑ t : Fin 12, ∑ r : Fin 512, g t r = ∑ k : Fin 6144, f k := by
    rw [← Fintype.sum_prod_type' (fun t r => g t r)]
    refine Fintype.sum_equiv (finProdFinEquiv (m := 12) (n := 512)) _ _ fun x => (h x.1 x.2).trans (congrArg f (Fin.ext ?_))
    show 512 * x.1.val + x.2.val = x.2.val + 512 * x.1.val
    omega
  rw [← e]
  have k : ∀ s : Fin 12 → M, (((((((((((0 + s 0) + s 1) + s 2) + s 3) + s 4) + s 5) + s 6) + s 7) + s 8) + s 9) + s 10) + s 11 = ∑ t, s t := fun s => by
    rw [Fin.sum_univ_castSucc, Fin.sum_univ_castSucc, Fin.sum_univ_castSucc, Fin.sum_univ_castSucc, Fin.sum_univ_eight, zero_add]
    rfl
  exact k fun b => ∑ q, g b q

/-! ## Columns stored in another order -/

/-- Column `c` of the gradient, in the order of the weights, is stored at column `c + 4096` (counted round the end). -/
def rot (c : Fin 6144) : Fin 6144 := ⟨(c.val + 4096) % 6144, Nat.mod_lt _ (by decide)⟩

end Cert.Prod

end
-- ==== Proof.Prod.GateUp.lean ====
module

public import proofs.«01_k».proof.Defs
public import proofs.«01_k».proof.Proof.Prod.Rows
public import proofs.«01_k».proof.Proof.Gen.Kernel2Ideal.Value
public import proofs.«01_k».proof.Proof.Gen.Reference2Ideal.Run
public import proofs.«01_k».proof.Proof.Gen.Reference2Ideal.Read
public import Idealize.ShloMosaic.Lib.Pointwise
public import Idealize.ShloMosaic.Lib.Quiescent

@[expose] public section

set_option maxRecDepth 16384

noncomputable section

namespace Cert.GateUp

open Cert.Kernel2Ideal Cert.Kernel2Ideal.Gen Cert.Kernel2Ideal.Value Cert.Reference2Ideal.Read
open Idealize.ShloMosaic Idealize.ShloMosaic.TcCoe Idealize.ShloMosaic.Tactic Idealize.SL.Sem

variable (m : (ℓ : Loc Cert.Kernel2Ideal.nD Cert.Kernel2Ideal.τ Cert.Kernel2Ideal.sig) → Buf (Elt Ideal) ℓ)

/-- The two arguments, as arrays of extended reals. -/
def x (c : Dev nD) : S8192x1024.Idx → EReal := m ((c : Thread nD τ).loc main_arg0)
def y (c : Dev nD) : S8192x5632.Idx → EReal := m ((c : Thread nD τ).loc main_arg1)

/-! ## One point: the block's product is added to what the buffer holds -/

theorem zero_at (r : Fin 1024) (l : Fin 1408) : (k0_pay1 (F := Ideal)) (ix3 (0 : Fin 1) r l) = 0 := by
  pointwise [k0_pay1]

theorem add_at (x0 : Vec Ideal S2048x1024 .bf16) (x1 : Vec Ideal S2048x1408 .bf16) (acc : Vec Ideal S1x1024x1408 .f32) (r : Fin 1024) (l : Fin 1408) :
    k0_pay2 (F := Ideal) x0 x1 acc (ix3 (0 : Fin 1) r l) = acc (ix3 (0 : Fin 1) r l) + ∑ q : Fin 2048, x0 (ix2 q r) * x1 (ix2 q l) := by
  pointwise [k0_pay2]

/-! ## The blocks that a point reads -/

theorem index_0 : ∀ t : Fin cfg0.N, win0_0.index t = ![t.val % 4, 0] := (by decide +kernel : ∀ t : Fin grid0.N, _)

theorem index_1 : ∀ t : Fin cfg0.N, win0_1.index t = ![t.val % 4, t.val / 4] := (by decide +kernel : ∀ t : Fin grid0.N, _)

theorem iblk_0 (c : Dev nD) (j k : Fin 4) (h : 4 * j.val + k.val < cfg0.N) (q : Fin 2048) (r : Fin 1024) :
    iblk m c 0 ⟨4 * j.val + k.val, h⟩ (ix2 q r) = x m c (ix2 (Prod.row k q) r) := by
  have e := index_0 ⟨4 * j.val + k.val, h⟩
  have hk : (4 * j.val + k.val) % 4 = k.val := by omega
  unfold iblk
  show x m c (((cfg0.win 0).blk ⟨4 * j.val + k.val, h⟩).view.emb (ix2 q r)) = _
  refine congrArg _ (funext fun a => Fin.ext ?_)
  match a with
  | ⟨0, _⟩ => show win0_0.index ⟨4 * j.val + k.val, h⟩ (0 : Fin 2) * 2048 + 1 * q.val = 2048 * k.val + q.val; rw [e]; show (4 * j.val + k.val) % 4 * 2048 + 1 * q.val = _; omega
  | ⟨1, _⟩ => show win0_0.index ⟨4 * j.val + k.val, h⟩ (1 : Fin 2) * 1024 + 1 * r.val = r.val; rw [e]; show 0 * 1024 + 1 * r.val = _; omega

theorem iblk_1 (c : Dev nD) (j k : Fin 4) (h : 4 * j.val + k.val < cfg0.N) (q : Fin 2048) (l : Fin 1408) :
    iblk m c 1 ⟨4 * j.val + k.val, h⟩ (ix2 q l) = y m c (ix2 (Prod.row k q) (⟨1408 * j.val + l.val, by omega⟩ : Fin 5632)) := by
  have e := index_1 ⟨4 * j.val + k.val, h⟩
  have hk : (4 * j.val + k.val) % 4 = k.val := by omega
  have hj : (4 * j.val + k.val) / 4 = j.val := by omega
  unfold iblk
  show y m c (((cfg0.win 1).blk ⟨4 * j.val + k.val, h⟩).view.emb (ix2 q l)) = _
  refine congrArg _ (funext fun a => Fin.ext ?_)
  match a with
  | ⟨0, _⟩ => show win0_1.index ⟨4 * j.val + k.val, h⟩ (0 : Fin 2) * 2048 + 1 * q.val = 2048 * k.val + q.val; rw [e]; show (4 * j.val + k.val) % 4 * 2048 + 1 * q.val = _; omega
  | ⟨1, _⟩ => show win0_1.index ⟨4 * j.val + k.val, h⟩ (1 : Fin 2) * 1408 + 1 * l.val = 1408 * j.val + l.val; rw [e]; show (4 * j.val + k.val) / 4 * 1408 + 1 * l.val = _; omega

/-- A point's addend, over the arguments. -/
theorem addend (c : Dev nD) (j k : Fin 4) (h : 4 * j.val + k.val < cfg0.N) (acc : Vec Ideal S1x1024x1408 .f32) (r : Fin 1024) (l : Fin 1408) :
    k0_pay2 (F := Ideal) (iblk m c 0 ⟨4 * j.val + k.val, h⟩) (iblk m c 1 ⟨4 * j.val + k.val, h⟩) acc (ix3 (0 : Fin 1) r l)
      = acc (ix3 (0 : Fin 1) r l) + ∑ q : Fin 2048, (fun p : Fin 8192 => x m c (ix2 p r) * y m c (ix2 p (⟨1408 * j.val + l.val, by omega⟩ : Fin 5632))) (Prod.row k q) := by
  rw [add_at]
  refine congrArg _ (Finset.sum_congr rfl fun q _ => ?_)
  rw [iblk_0 m c j k h q r, iblk_1 m c j k h q l]

/-! ## The array after the run -/

theorem array_at (c : Dev nD) (j : Fin 4) (r : Fin 1024) (l : Fin 1408) :
    (G2 m c : S4x1024x1408.Idx → EReal) (ix3 j r l) = ∑ p : Fin 8192, x m c (ix2 p r) * y m c (ix2 p (⟨1408 * j.val + l.val, by omega⟩ : Fin 5632)) := by
  have hN : cfg0.N = 16 := N_0
  have hr : run2Of (ix3 j r l) = j.val := by
    show 1 * (j.val / 1 - 0) + 1 * (r.val / 1024 - 0) + 1 * (l.val / 1408 - 0) = j.val
    omega
  have hl : loc2Of (ix3 j r l) = ix3 (0 : Fin 1) r l := by
    funext a; apply Fin.ext
    match a with
    | ⟨0, _⟩ => show j.val % 1 = 0; omega
    | ⟨1, _⟩ => show r.val % 1024 = r.val; omega
    | ⟨2, _⟩ => show l.val % 1408 = l.val; omega
  unfold G2
  rw [dif_pos (by rw [hr, hN]; omega), hl]
  have key : ∀ n (h : 4 * n + 3 < cfg0.N), n = j.val → (Pipeline.accAt (reset2 m c) (step2 m c) (4 * n) 3 h : S1x1024x1408.Idx → EReal) (ix3 (0 : Fin 1) r l)
      = ∑ p : Fin 8192, x m c (ix2 p r) * y m c (ix2 p (⟨1408 * j.val + l.val, by omega⟩ : Fin 5632)) := by
    intro n h e
    subst e
    rw [Pipeline.accAt_succ, Pipeline.accAt_succ, Pipeline.accAt_succ, Pipeline.accAt_zero]
    unfold step2 reset2
    refine (addend m c j 3 _ _ r l).trans ?_
    rw [← Prod.sum_blocks]
    refine congrArg (· + _) ((addend m c j 2 _ _ r l).trans ?_)
    refine congrArg (· + _) ((addend m c j 1 _ _ r l).trans ?_)
    refine congrArg (· + _) ((addend m c j 0 _ _ r l).trans ?_)
    exact congrArg (· + _) (zero_at r l)
  exact key _ _ hr

/-! ## The reference -/

theorem reference_at (a0 : (⟨S8192x1024, .bf16⟩ : BufTy).Contents (Elt Ideal)) (a1 : (⟨S8192x5632, .bf16⟩ : BufTy).Contents (Elt Ideal)) (j : Fin 4) (r : Fin 1024) (l : Fin 1408) :
    val_main_v7 (F := Ideal) a0 a1 (ix3 j r l) = ∑ p : Fin 8192, (a0 (ix2 p r) : EReal) * a1 (ix2 p (⟨1408 * j.val + l.val, by omega⟩ : Fin 5632)) := by
  rw [val_main_v7_apply, val_main_v6_apply, val_main_v5_apply, val_main_v4_apply]
  refine Finset.sum_congr rfl fun p _ => ?_
  rw [val_main_v3_apply, val_main_v1_apply]
  refine (mul_comm _ _).trans (congrArg₂ (· * ·) (congrArg a0 ?_) (congrArg a1 ?_))
  · funext a; apply Fin.ext
    match a with
    | ⟨0, _⟩ => rfl
    | ⟨1, _⟩ => show ((r.val * 4 + j.val) * 1408 + l.val) / 5632 = r.val; omega
  · funext a; apply Fin.ext
    match a with
    | ⟨0, _⟩ => rfl
    | ⟨1, _⟩ => show ((r.val * 4 + j.val) * 1408 + l.val) % 5632 = 1408 * j.val + l.val; omega

theorem result (c : Dev nD) : G2 m c = val_main_v7 (F := Ideal) (m ((c : Thread nD τ).loc main_arg0)) (m ((c : Thread nD τ).loc main_arg1)) := by
  funext i
  rw [eq_ix3 (n0 := 4) (n1 := 1024) (n2 := 1408) i]
  exact (array_at m c (i 0) (i 1) (i 2)).trans (reference_at _ _ (i 0) (i 1) (i 2)).symm

/-! ## The claims -/

theorem frame_reference : Cert.quiescent_Reference2Ideal := fun m ρ _ =>
  (θ_run Cert.Reference2Ideal.defs _ _).mono (fun r h => ⟨fun c => (h c).2, Idealize.ShloMosaic.sem_eq_zero_of_no_sems (by decide) r.2⟩)
    (Cert.Reference2Ideal.Value.run (F := Ideal) m ρ)

theorem algebraic : @Cert.algebraic_Kernel2Ideal_Reference2Ideal Cert.Kernel2Ideal.Gen.facts Cert.Reference2Ideal.Gen.facts := by
  intro m g m' g' _ hagree
  refine ⟨fun c => val_main_v7 (F := Ideal) (m ((c.tc : Thread nD τ).loc main_arg0)) (m ((c.tc : Thread nD τ).loc main_arg1)), ?_, ?_⟩
  · exact (θ_run Cert.Kernel2Ideal.defs _ _).mono (fun r h c => ⟨(h c).1.trans (result m c), (h c).2⟩) (Cert.Kernel2Ideal.Value.run (F := Ideal) m g)
  · refine (θ_run Cert.Reference2Ideal.defs _ _).mono (fun r h c => ⟨?_, (h c).2⟩) (Cert.Reference2Ideal.Value.run (F := Ideal) m' g')
    refine ((h c).1.trans (val_main_v7_eq _ _)).trans ?_
    rw [(hagree c).1, (hagree c).2]

end Cert.GateUp

end
-- ==== Proof.Prod.Down.lean ====
module

public import proofs.«01_k».proof.Defs
public import proofs.«01_k».proof.Proof.Prod.Rows
public import proofs.«01_k».proof.Proof.Gen.Kernel3Ideal.Value
public import proofs.«01_k».proof.Proof.Gen.Reference3Ideal.Run
public import proofs.«01_k».proof.Proof.Gen.Reference3Ideal.Read
public import Idealize.ShloMosaic.Lib.Pointwise
public import Idealize.ShloMosaic.Lib.Quiescent

@[expose] public section

set_option maxRecDepth 16384

noncomputable section

namespace Cert.Down

open Cert.Kernel3Ideal Cert.Kernel3Ideal.Gen Cert.Kernel3Ideal.Value Cert.Reference3Ideal.Read
open Idealize.ShloMosaic Idealize.ShloMosaic.TcCoe Idealize.ShloMosaic.Tactic Idealize.SL.Sem

variable (m : (ℓ : Loc Cert.Kernel3Ideal.nD Cert.Kernel3Ideal.τ Cert.Kernel3Ideal.sig) → Buf (Elt Ideal) ℓ)

/-- The two arguments, as arrays of extended reals. -/
def x (c : Dev nD) : S8192x2816.Idx → EReal := m ((c : Thread nD τ).loc main_arg0)
def y (c : Dev nD) : S8192x1024.Idx → EReal := m ((c : Thread nD τ).loc main_arg1)

/-! ## One point: the block's product is added to what the buffer holds -/

theorem zero_at (r : Fin 2816) (l : Fin 512) : (k0_pay1 (F := Ideal)) (ix2 r l) = 0 := by
  pointwise [k0_pay1]

theorem add_at (x0 : Vec Ideal S2048x2816 .bf16) (x1 : Vec Ideal S2048x512 .bf16) (acc : Vec Ideal S2816x512 .f32) (r : Fin 2816) (l : Fin 512) :
    k0_pay2 (F := Ideal) x0 x1 acc (ix2 r l) = acc (ix2 r l) + ∑ q : Fin 2048, x0 (ix2 q r) * x1 (ix2 q l) := by
  pointwise [k0_pay2]

/-! ## The blocks that a point reads -/

theorem index_0 : ∀ t : Fin cfg0.N, win0_0.index t = ![t.val % 4, 0] := (by decide +kernel : ∀ t : Fin grid0.N, _)

theorem index_1 : ∀ t : Fin cfg0.N, win0_1.index t = ![t.val % 4, t.val / 4] := (by decide +kernel : ∀ t : Fin grid0.N, _)

theorem iblk_0 (c : Dev nD) (j : Fin 2) (k : Fin 4) (h : 4 * j.val + k.val < cfg0.N) (q : Fin 2048) (r : Fin 2816) :
    iblk m c 0 ⟨4 * j.val + k.val, h⟩ (ix2 q r) = x m c (ix2 (Prod.row k q) r) := by
  have e := index_0 ⟨4 * j.val + k.val, h⟩
  have hk : (4 * j.val + k.val) % 4 = k.val := by omega
  unfold iblk
  show x m c (((cfg0.win 0).blk ⟨4 * j.val + k.val, h⟩).view.emb (ix2 q r)) = _
  refine congrArg _ (funext fun a => Fin.ext ?_)
  match a with
  | ⟨0, _⟩ => show win0_0.index ⟨4 * j.val + k.val, h⟩ (0 : Fin 2) * 2048 + 1 * q.val = 2048 * k.val + q.val; rw [e]; show (4 * j.val + k.val) % 4 * 2048 + 1 * q.val = _; omega
  | ⟨1, _⟩ => show win0_0.index ⟨4 * j.val + k.val, h⟩ (1 : Fin 2) * 2816 + 1 * r.val = r.val; rw [e]; show 0 * 2816 + 1 * r.val = _; omega

theorem iblk_1 (c : Dev nD) (j : Fin 2) (k : Fin 4) (h : 4 * j.val + k.val < cfg0.N) (q : Fin 2048) (l : Fin 512) :
    iblk m c 1 ⟨4 * j.val + k.val, h⟩ (ix2 q l) = y m c (ix2 (Prod.row k q) (⟨512 * j.val + l.val, by omega⟩ : Fin 1024)) := by
  have e := index_1 ⟨4 * j.val + k.val, h⟩
  have hk : (4 * j.val + k.val) % 4 = k.val := by omega
  have hj : (4 * j.val + k.val) / 4 = j.val := by omega
  unfold iblk
  show y m c (((cfg0.win 1).blk ⟨4 * j.val + k.val, h⟩).view.emb (ix2 q l)) = _
  refine congrArg _ (funext fun a => Fin.ext ?_)
  match a with
  | ⟨0, _⟩ => show win0_1.index ⟨4 * j.val + k.val, h⟩ (0 : Fin 2) * 2048 + 1 * q.val = 2048 * k.val + q.val; rw [e]; show (4 * j.val + k.val) % 4 * 2048 + 1 * q.val = _; omega
  | ⟨1, _⟩ => show win0_1.index ⟨4 * j.val + k.val, h⟩ (1 : Fin 2) * 512 + 1 * l.val = 512 * j.val + l.val; rw [e]; show (4 * j.val + k.val) / 4 * 512 + 1 * l.val = _; omega

/-- A point's addend, over the arguments. -/
theorem addend (c : Dev nD) (j : Fin 2) (k : Fin 4) (h : 4 * j.val + k.val < cfg0.N) (acc : Vec Ideal S2816x512 .f32) (r : Fin 2816) (l : Fin 512) :
    k0_pay2 (F := Ideal) (iblk m c 0 ⟨4 * j.val + k.val, h⟩) (iblk m c 1 ⟨4 * j.val + k.val, h⟩) acc (ix2 r l)
      = acc (ix2 r l) + ∑ q : Fin 2048, (fun p : Fin 8192 => x m c (ix2 p r) * y m c (ix2 p (⟨512 * j.val + l.val, by omega⟩ : Fin 1024))) (Prod.row k q) := by
  rw [add_at]
  refine congrArg _ (Finset.sum_congr rfl fun q _ => ?_)
  rw [iblk_0 m c j k h q r, iblk_1 m c j k h q l]

/-! ## The array after the run -/

theorem array_at (c : Dev nD) (j : Fin 2) (r : Fin 2816) (l : Fin 512) :
    (G2 m c : S2816x1024.Idx → EReal) (ix2 r (⟨512 * j.val + l.val, by omega⟩ : Fin 1024)) = ∑ p : Fin 8192, x m c (ix2 p r) * y m c (ix2 p (⟨512 * j.val + l.val, by omega⟩ : Fin 1024)) := by
  have hN : cfg0.N = 8 := N_0
  have hr : run2Of (ix2 r (⟨512 * j.val + l.val, by omega⟩ : Fin 1024)) = j.val := by
    show 2 * (r.val / 2816 - 0) + 1 * ((512 * j.val + l.val) / 512 - 0) = j.val
    omega
  have hl : loc2Of (ix2 r (⟨512 * j.val + l.val, by omega⟩ : Fin 1024)) = ix2 r l := by
    funext a; apply Fin.ext
    match a with
    | ⟨0, _⟩ => show r.val % 2816 = r.val; omega
    | ⟨1, _⟩ => show (512 * j.val + l.val) % 512 = l.val; omega
  unfold G2
  rw [dif_pos (by rw [hr, hN]; omega), hl]
  have key : ∀ n (h : 4 * n + 3 < cfg0.N), n = j.val → (Pipeline.accAt (reset2 m c) (step2 m c) (4 * n) 3 h : S2816x512.Idx → EReal) (ix2 r l)
      = ∑ p : Fin 8192, x m c (ix2 p r) * y m c (ix2 p (⟨512 * j.val + l.val, by omega⟩ : Fin 1024)) := by
    intro n h e
    subst e
    rw [Pipeline.accAt_succ, Pipeline.accAt_succ, Pipeline.accAt_succ, Pipeline.accAt_zero]
    unfold step2 reset2
    refine (addend m c j 3 _ _ r l).trans ?_
    rw [← Prod.sum_blocks]
    refine congrArg (· + _) ((addend m c j 2 _ _ r l).trans ?_)
    refine congrArg (· + _) ((addend m c j 1 _ _ r l).trans ?_)
    refine congrArg (· + _) ((addend m c j 0 _ _ r l).trans ?_)
    exact congrArg (· + _) (zero_at r l)
  exact key _ _ hr

/-! ## The reference -/

theorem reference_at (a0 : (⟨S8192x2816, .bf16⟩ : BufTy).Contents (Elt Ideal)) (a1 : (⟨S8192x1024, .bf16⟩ : BufTy).Contents (Elt Ideal)) (j : Fin 2) (r : Fin 2816) (l : Fin 512) :
    val_main_v5 (F := Ideal) a0 a1 (ix2 r (⟨512 * j.val + l.val, by omega⟩ : Fin 1024)) = ∑ p : Fin 8192, (a0 (ix2 p r) : EReal) * a1 (ix2 p (⟨512 * j.val + l.val, by omega⟩ : Fin 1024)) := by
  rw [val_main_v5_apply, val_main_v4_apply]
  refine Finset.sum_congr rfl fun p _ => ?_
  rw [val_main_v3_apply, val_main_v1_apply]
  refine (mul_comm _ _).trans (congrArg₂ (· * ·) (congrArg a0 ?_) (congrArg a1 ?_))
  · funext a; apply Fin.ext
    match a with
    | ⟨0, _⟩ => rfl
    | ⟨1, _⟩ => rfl
  · funext a; apply Fin.ext
    match a with
    | ⟨0, _⟩ => rfl
    | ⟨1, _⟩ => rfl

theorem column_split (i : Fin 1024) : ∃ (j : Fin 2) (l : Fin 512), i = ⟨512 * j.val + l.val, by omega⟩ :=
  ⟨⟨i.val / 512, by have := i.isLt; omega⟩, ⟨i.val % 512, Nat.mod_lt _ (by decide)⟩, Fin.ext (by show i.val = 512 * (i.val / 512) + i.val % 512; omega)⟩

theorem result (c : Dev nD) : G2 m c = val_main_v5 (F := Ideal) (m ((c : Thread nD τ).loc main_arg0)) (m ((c : Thread nD τ).loc main_arg1)) := by
  funext i
  rw [eq_ix2 (n0 := 2816) (n1 := 1024) i]
  obtain ⟨j, l, h⟩ := column_split (i 1)
  rw [h]
  exact (array_at m c j (i 0) l).trans (reference_at _ _ j (i 0) l).symm

/-! ## The claims -/

theorem frame_reference : Cert.quiescent_Reference3Ideal := fun m ρ _ =>
  (θ_run Cert.Reference3Ideal.defs _ _).mono (fun r h => ⟨fun c => (h c).2, Idealize.ShloMosaic.sem_eq_zero_of_no_sems (by decide) r.2⟩)
    (Cert.Reference3Ideal.Value.run (F := Ideal) m ρ)

theorem algebraic : @Cert.algebraic_Kernel3Ideal_Reference3Ideal Cert.Kernel3Ideal.Gen.facts Cert.Reference3Ideal.Gen.facts := by
  intro m g m' g' _ hagree
  refine ⟨fun c => val_main_v5 (F := Ideal) (m ((c.tc : Thread nD τ).loc main_arg0)) (m ((c.tc : Thread nD τ).loc main_arg1)), ?_, ?_⟩
  · exact (θ_run Cert.Kernel3Ideal.defs _ _).mono (fun r h c => ⟨(h c).1.trans (result m c), (h c).2⟩) (Cert.Kernel3Ideal.Value.run (F := Ideal) m g)
  · refine (θ_run Cert.Reference3Ideal.defs _ _).mono (fun r h c => ⟨?_, (h c).2⟩) (Cert.Reference3Ideal.Value.run (F := Ideal) m' g')
    refine ((h c).1.trans (val_main_v5_eq _ _)).trans ?_
    rw [(hagree c).1, (hagree c).2]

end Cert.Down

end
-- ==== Proof.Prod.InWgrad.lean ====
module

public import proofs.«01_k».proof.Defs
public import proofs.«01_k».proof.Proof.Prod.Rows
public import proofs.«01_k».proof.Proof.Gen.Kernel4Ideal.Value
public import proofs.«01_k».proof.Proof.Gen.Reference4Ideal.Run
public import proofs.«01_k».proof.Proof.Gen.Reference4Ideal.Read
public import Idealize.ShloMosaic.Lib.Pointwise
public import Idealize.ShloMosaic.Lib.Quiescent

@[expose] public section

set_option maxRecDepth 16384

noncomputable section

namespace Cert.InWgrad

open Cert.Kernel4Ideal Cert.Kernel4Ideal.Gen Cert.Kernel4Ideal.Value Cert.Reference4Ideal.Read
open Idealize.ShloMosaic Idealize.ShloMosaic.TcCoe Idealize.ShloMosaic.Tactic Idealize.SL.Sem

variable (m : (ℓ : Loc Cert.Kernel4Ideal.nD Cert.Kernel4Ideal.τ Cert.Kernel4Ideal.sig) → Buf (Elt Ideal) ℓ)

/-- The two arguments, as arrays of extended reals. -/
def x (c : Dev nD) : S8192x1024.Idx → EReal := m ((c : Thread nD τ).loc main_arg0)
def y (c : Dev nD) : S8192x6144.Idx → EReal := m ((c : Thread nD τ).loc main_arg1)

/-! ## One point: the block's product is added to what the buffer holds -/

theorem zero_at (r : Fin 1024) (l : Fin 1536) : (k0_pay1 (F := Ideal)) (ix3 (0 : Fin 1) r l) = 0 := by
  pointwise [k0_pay1]

/-- The three column blocks, side by side. -/
def joined (x1 x2 x3 : Vec Ideal S2048x512 .bf16) : FVec Ideal S2048x1536 .bf16 :=
  concatenate S2048x1536 1 [⟨S2048x512, x1⟩, ⟨S2048x512, x2⟩, ⟨S2048x512, x3⟩] concatenates_S2048x512_S2048x512_S2048x512_S2048x1536_d1

def added (acc : Vec Ideal S1x1024x1536 .f32) (x0 : Vec Ideal S2048x1024 .bf16) (w : FVec Ideal S2048x1536 .bf16) : FVec Ideal S1x1024x1536 .f32 :=
  shapeCast S1x1024x1536 (addf (φ := .f32) (shapeCast S1024x1536 acc shapeCasts_S1x1024x1536_S1024x1536)
    (matmul (φ₁ := .bf16) dot_S2048x1024_S2048x1536_S1024x1536_0_0_1_1_n_n none x0 w (constant S1024x1536 .f32 0x00000000#32))) shapeCasts_S1024x1536_S1x1024x1536

theorem added_at (acc : Vec Ideal S1x1024x1536 .f32) (x0 : Vec Ideal S2048x1024 .bf16) (w : FVec Ideal S2048x1536 .bf16) (r : Fin 1024) (l : Fin 1536) :
    added acc x0 w (ix3 (0 : Fin 1) r l) = acc (ix3 (0 : Fin 1) r l) + ∑ q : Fin 2048, x0 (ix2 q r) * w (ix2 q l) := by
  pointwise [added]

theorem joined_at (x1 x2 x3 : Vec Ideal S2048x512 .bf16) (f : Fin 1536 → EReal) (q : Fin 2048)
    (h1 : ∀ l : Fin 512, x1 (ix2 q l) = f ⟨l.val, by omega⟩) (h2 : ∀ l : Fin 512, x2 (ix2 q l) = f ⟨512 + l.val, by omega⟩)
    (h3 : ∀ l : Fin 512, x3 (ix2 q l) = f ⟨1024 + l.val, by omega⟩) (l : Fin 1536) : joined x1 x2 x3 (ix2 q l) = f l := by
  unfold joined
  by_cases a : l.val < 512
  · refine (concatenate_apply_piece 1 _ _ (ix2 q l) 0 (by simp) S2048x512 x1 rfl rfl 0 rfl (ix2 q (⟨l.val, a⟩ : Fin 512)) ?_ ?_).trans (h1 ⟨l.val, a⟩)
    · intro b hb; match b with
      | ⟨0, _⟩ => rfl
      | ⟨1, _⟩ => exact absurd rfl hb
    · exact Nat.zero_add _
  · by_cases a2 : l.val < 1024
    · refine (concatenate_apply_piece 1 _ _ (ix2 q l) 1 (by simp) S2048x512 x2 rfl rfl 512 rfl (ix2 q (⟨l.val - 512, by omega⟩ : Fin 512)) ?_ ?_).trans ((h2 ⟨l.val - 512, by omega⟩).trans (congrArg f (Fin.ext ?_)))
      · intro b hb; match b with
        | ⟨0, _⟩ => rfl
        | ⟨1, _⟩ => exact absurd rfl hb
      · show 512 + (l.val - 512) = l.val; omega
      · show 512 + (l.val - 512) = l.val; omega
    · refine (concatenate_apply_piece 1 _ _ (ix2 q l) 2 (by simp) S2048x512 x3 rfl rfl 1024 rfl (ix2 q (⟨l.val - 1024, by omega⟩ : Fin 512)) ?_ ?_).trans ((h3 ⟨l.val - 1024, by omega⟩).trans (congrArg f (Fin.ext ?_)))
      · intro b hb; match b with
        | ⟨0, _⟩ => rfl
        | ⟨1, _⟩ => exact absurd rfl hb
      · show 1024 + (l.val - 1024) = l.val; omega
      · show 1024 + (l.val - 1024) = l.val; omega

/-! ## The blocks that a point reads -/

theorem index_0 : ∀ t : Fin cfg0.N, win0_0.index t = ![t.val % 4, 0] := (by decide +kernel : ∀ t : Fin grid0.N, _)

theorem index_1 : ∀ t : Fin cfg0.N, win0_1.index t = ![t.val % 4, (3 * (t.val / 4) + 8) % 12] := (by decide +kernel : ∀ t : Fin grid0.N, _)

theorem index_2 : ∀ t : Fin cfg0.N, win0_2.index t = ![t.val % 4, (3 * (t.val / 4) + 9) % 12] := (by decide +kernel : ∀ t : Fin grid0.N, _)

theorem index_3 : ∀ t : Fin cfg0.N, win0_3.index t = ![t.val % 4, (3 * (t.val / 4) + 10) % 12] := (by decide +kernel : ∀ t : Fin grid0.N, _)

theorem iblk_0 (c : Dev nD) (j k : Fin 4) (h : 4 * j.val + k.val < cfg0.N) (q : Fin 2048) (r : Fin 1024) :
    iblk m c 0 ⟨4 * j.val + k.val, h⟩ (ix2 q r) = x m c (ix2 (Prod.row k q) r) := by
  have e := index_0 ⟨4 * j.val + k.val, h⟩
  have hk : (4 * j.val + k.val) % 4 = k.val := by omega
  unfold iblk
  show x m c (((cfg0.win 0).blk ⟨4 * j.val + k.val, h⟩).view.emb (ix2 q r)) = _
  refine congrArg _ (funext fun a => Fin.ext ?_)
  match a with
  | ⟨0, _⟩ => show win0_0.index ⟨4 * j.val + k.val, h⟩ (0 : Fin 2) * 2048 + 1 * q.val = 2048 * k.val + q.val; rw [e]; show (4 * j.val + k.val) % 4 * 2048 + 1 * q.val = _; omega
  | ⟨1, _⟩ => show win0_0.index ⟨4 * j.val + k.val, h⟩ (1 : Fin 2) * 1024 + 1 * r.val = r.val; rw [e]; show 0 * 1024 + 1 * r.val = _; omega

theorem iblk_1 (c : Dev nD) (j k : Fin 4) (h : 4 * j.val + k.val < cfg0.N) (q : Fin 2048) (l : Fin 512) :
    iblk m c 1 ⟨4 * j.val + k.val, h⟩ (ix2 q l) = y m c (ix2 (Prod.row k q) (Prod.rot ⟨1536 * j.val + (l.val), by omega⟩)) := by
  have e := index_1 ⟨4 * j.val + k.val, h⟩
  have hk : (4 * j.val + k.val) % 4 = k.val := by omega
  have hj : (4 * j.val + k.val) / 4 = j.val := by omega
  unfold iblk
  show y m c (((cfg0.win 1).blk ⟨4 * j.val + k.val, h⟩).view.emb (ix2 q l)) = _
  refine congrArg _ (funext fun a => Fin.ext ?_)
  match a with
  | ⟨0, _⟩ => show win0_1.index ⟨4 * j.val + k.val, h⟩ (0 : Fin 2) * 2048 + 1 * q.val = 2048 * k.val + q.val; rw [e]; show (4 * j.val + k.val) % 4 * 2048 + 1 * q.val = _; omega
  | ⟨1, _⟩ => show win0_1.index ⟨4 * j.val + k.val, h⟩ (1 : Fin 2) * 512 + 1 * l.val = (1536 * j.val + (l.val) + 4096) % 6144; rw [e]; show (3 * ((4 * j.val + k.val) / 4) + 8) % 12 * 512 + 1 * l.val = _; omega

theorem iblk_2 (c : Dev nD) (j k : Fin 4) (h : 4 * j.val + k.val < cfg0.N) (q : Fin 2048) (l : Fin 512) :
    iblk m c 2 ⟨4 * j.val + k.val, h⟩ (ix2 q l) = y m c (ix2 (Prod.row k q) (Prod.rot ⟨1536 * j.val + (512 + l.val), by omega⟩)) := by
  have e := index_2 ⟨4 * j.val + k.val, h⟩
  have hk : (4 * j.val + k.val) % 4 = k.val := by omega
  have hj : (4 * j.val + k.val) / 4 = j.val := by omega
  unfold iblk
  show y m c (((cfg0.win 2).blk ⟨4 * j.val + k.val, h⟩).view.emb (ix2 q l)) = _
  refine congrArg _ (funext fun a => Fin.ext ?_)
  match a with
  | ⟨0, _⟩ => show win0_2.index ⟨4 * j.val + k.val, h⟩ (0 : Fin 2) * 2048 + 1 * q.val = 2048 * k.val + q.val; rw [e]; show (4 * j.val + k.val) % 4 * 2048 + 1 * q.val = _; omega
  | ⟨1, _⟩ => show win0_2.index ⟨4 * j.val + k.val, h⟩ (1 : Fin 2) * 512 + 1 * l.val = (1536 * j.val + (512 + l.val) + 4096) % 6144; rw [e]; show (3 * ((4 * j.val + k.val) / 4) + 9) % 12 * 512 + 1 * l.val = _; omega

theorem iblk_3 (c : Dev nD) (j k : Fin 4) (h : 4 * j.val + k.val < cfg0.N) (q : Fin 2048) (l : Fin 512) :
    iblk m c 3 ⟨4 * j.val + k.val, h⟩ (ix2 q l) = y m c (ix2 (Prod.row k q) (Prod.rot ⟨1536 * j.val + (1024 + l.val), by omega⟩)) := by
  have e := index_3 ⟨4 * j.val + k.val, h⟩
  have hk : (4 * j.val + k.val) % 4 = k.val := by omega
  have hj : (4 * j.val + k.val) / 4 = j.val := by omega
  unfold iblk
  show y m c (((cfg0.win 3).blk ⟨4 * j.val + k.val, h⟩).view.emb (ix2 q l)) = _
  refine congrArg _ (funext fun a => Fin.ext ?_)
  match a with
  | ⟨0, _⟩ => show win0_3.index ⟨4 * j.val + k.val, h⟩ (0 : Fin 2) * 2048 + 1 * q.val = 2048 * k.val + q.val; rw [e]; show (4 * j.val + k.val) % 4 * 2048 + 1 * q.val = _; omega
  | ⟨1, _⟩ => show win0_3.index ⟨4 * j.val + k.val, h⟩ (1 : Fin 2) * 512 + 1 * l.val = (1536 * j.val + (1024 + l.val) + 4096) % 6144; rw [e]; show (3 * ((4 * j.val + k.val) / 4) + 10) % 12 * 512 + 1 * l.val = _; omega

/-- A point's addend, over the arguments. -/
theorem addend (c : Dev nD) (j k : Fin 4) (h : 4 * j.val + k.val < cfg0.N) (acc : Vec Ideal S1x1024x1536 .f32) (r : Fin 1024) (l : Fin 1536) :
    k0_pay2 (F := Ideal) acc (iblk m c 0 ⟨4 * j.val + k.val, h⟩) (iblk m c 1 ⟨4 * j.val + k.val, h⟩) (iblk m c 2 ⟨4 * j.val + k.val, h⟩) (iblk m c 3 ⟨4 * j.val + k.val, h⟩) (ix3 (0 : Fin 1) r l)
      = acc (ix3 (0 : Fin 1) r l) + ∑ q : Fin 2048, (fun p : Fin 8192 => x m c (ix2 p r) * y m c (ix2 p (Prod.rot ⟨1536 * j.val + l.val, by omega⟩))) (Prod.row k q) := by
  refine (added_at acc (iblk m c 0 ⟨4 * j.val + k.val, h⟩) (joined (iblk m c 1 ⟨4 * j.val + k.val, h⟩) (iblk m c 2 ⟨4 * j.val + k.val, h⟩) (iblk m c 3 ⟨4 * j.val + k.val, h⟩)) r l).trans ?_
  refine congrArg _ (Finset.sum_congr rfl fun q _ => ?_)
  rw [iblk_0 m c j k h q r, joined_at _ _ _ (fun l => y m c (ix2 (Prod.row k q) (Prod.rot ⟨1536 * j.val + l.val, by omega⟩))) q (iblk_1 m c j k h q) (iblk_2 m c j k h q) (iblk_3 m c j k h q)]

/-! ## The array after the run -/

theorem array_at (c : Dev nD) (j : Fin 4) (r : Fin 1024) (l : Fin 1536) :
    (G4 m c : S4x1024x1536.Idx → EReal) (ix3 j r l) = ∑ p : Fin 8192, x m c (ix2 p r) * y m c (ix2 p (Prod.rot ⟨1536 * j.val + l.val, by omega⟩)) := by
  have hN : cfg0.N = 16 := N_0
  have hr : run4Of (ix3 j r l) = j.val := by
    show 1 * (j.val / 1 - 0) + 1 * (r.val / 1024 - 0) + 1 * (l.val / 1536 - 0) = j.val
    omega
  have hl : loc4Of (ix3 j r l) = ix3 (0 : Fin 1) r l := by
    funext a; apply Fin.ext
    match a with
    | ⟨0, _⟩ => show j.val % 1 = 0; omega
    | ⟨1, _⟩ => show r.val % 1024 = r.val; omega
    | ⟨2, _⟩ => show l.val % 1536 = l.val; omega
  unfold G4
  rw [dif_pos (by rw [hr, hN]; omega), hl]
  have key : ∀ n (h : 4 * n + 3 < cfg0.N), n = j.val → (Pipeline.accAt (reset4 m c) (step4 m c) (4 * n) 3 h : S1x1024x1536.Idx → EReal) (ix3 (0 : Fin 1) r l)
      = ∑ p : Fin 8192, x m c (ix2 p r) * y m c (ix2 p (Prod.rot ⟨1536 * j.val + l.val, by omega⟩)) := by
    intro n h e
    subst e
    rw [Pipeline.accAt_succ, Pipeline.accAt_succ, Pipeline.accAt_succ, Pipeline.accAt_zero]
    unfold step4 reset4
    refine (addend m c j 3 _ _ r l).trans ?_
    rw [← Prod.sum_blocks]
    refine congrArg (· + _) ((addend m c j 2 _ _ r l).trans ?_)
    refine congrArg (· + _) ((addend m c j 1 _ _ r l).trans ?_)
    refine congrArg (· + _) ((addend m c j 0 _ _ r l).trans ?_)
    exact congrArg (· + _) (zero_at r l)
  exact key _ _ hr

/-! ## The reference -/

theorem rotated_at (a1 : (⟨S8192x6144, .bf16⟩ : BufTy).Contents (Elt Ideal)) (p : Fin 8192) (l : Fin 6144) :
    val_main_v2 (F := Ideal) a1 (ix2 p l) = a1 (ix2 p (Prod.rot l)) := by
  unfold val_main_v2
  by_cases a : l.val < 2048
  · refine (concatenate_apply_piece 1 _ _ (ix2 p l) 0 (by simp) Cert.Reference4Ideal.S8192x2048 (val_main_v0 (F := Ideal) a1) rfl rfl 0 rfl (ix2 p (⟨l.val, a⟩ : Fin 2048)) ?_ ?_).trans ?_
    · intro b hb; match b with
      | ⟨0, _⟩ => rfl
      | ⟨1, _⟩ => exact absurd rfl hb
    · exact Nat.zero_add _
    · rw [val_main_v0_apply]
      refine congrArg a1 (funext fun b => Fin.ext ?_)
      match b with
      | ⟨0, _⟩ => rfl
      | ⟨1, _⟩ => show 4096 + l.val = (l.val + 4096) % 6144; omega
  · refine (concatenate_apply_piece 1 _ _ (ix2 p l) 1 (by simp) Cert.Reference4Ideal.S8192x4096 (val_main_v1 (F := Ideal) a1) rfl rfl 2048 rfl (ix2 p (⟨l.val - 2048, by omega⟩ : Fin 4096)) ?_ ?_).trans ?_
    · intro b hb; match b with
      | ⟨0, _⟩ => rfl
      | ⟨1, _⟩ => exact absurd rfl hb
    · show 2048 + (l.val - 2048) = l.val; omega
    · rw [val_main_v1_apply]
      refine congrArg a1 (funext fun b => Fin.ext ?_)
      match b with
      | ⟨0, _⟩ => rfl
      | ⟨1, _⟩ => show l.val - 2048 = (l.val + 4096) % 6144; omega

theorem reference_at (a0 : (⟨S8192x1024, .bf16⟩ : BufTy).Contents (Elt Ideal)) (a1 : (⟨S8192x6144, .bf16⟩ : BufTy).Contents (Elt Ideal)) (j : Fin 4) (r : Fin 1024) (l : Fin 1536) :
    val_main_v10 (F := Ideal) a0 a1 (ix3 j r l) = ∑ p : Fin 8192, (a0 (ix2 p r) : EReal) * a1 (ix2 p (Prod.rot ⟨1536 * j.val + l.val, by omega⟩)) := by
  rw [val_main_v10_apply, val_main_v9_apply, val_main_v8_apply, val_main_v7_apply]
  refine Finset.sum_congr rfl fun p _ => ?_
  rw [val_main_v6_apply, val_main_v4_apply]
  refine (mul_comm _ _).trans (congrArg₂ (· * ·) (congrArg a0 ?_) ?_)
  · funext a; apply Fin.ext
    match a with
    | ⟨0, _⟩ => rfl
    | ⟨1, _⟩ => show ((r.val * 4 + j.val) * 1536 + l.val) / 6144 = r.val; omega
  · refine Eq.trans (congrArg (val_main_v2 (F := Ideal) a1) ?_) (rotated_at a1 p ⟨1536 * j.val + l.val, by omega⟩)
    funext a; apply Fin.ext
    match a with
    | ⟨0, _⟩ => rfl
    | ⟨1, _⟩ => show ((r.val * 4 + j.val) * 1536 + l.val) % 6144 = 1536 * j.val + l.val; omega

theorem result (c : Dev nD) : G4 m c = val_main_v10 (F := Ideal) (m ((c : Thread nD τ).loc main_arg0)) (m ((c : Thread nD τ).loc main_arg1)) := by
  funext i
  rw [eq_ix3 (n0 := 4) (n1 := 1024) (n2 := 1536) i]
  exact (array_at m c (i 0) (i 1) (i 2)).trans (reference_at _ _ (i 0) (i 1) (i 2)).symm

/-! ## The claims -/

theorem frame_reference : Cert.quiescent_Reference4Ideal := fun m ρ _ =>
  (θ_run Cert.Reference4Ideal.defs _ _).mono (fun r h => ⟨fun c => (h c).2, Idealize.ShloMosaic.sem_eq_zero_of_no_sems (by decide) r.2⟩)
    (Cert.Reference4Ideal.Value.run (F := Ideal) m ρ)

theorem algebraic : @Cert.algebraic_Kernel4Ideal_Reference4Ideal Cert.Kernel4Ideal.Gen.facts Cert.Reference4Ideal.Gen.facts := by
  intro m g m' g' _ hagree
  refine ⟨fun c => val_main_v10 (F := Ideal) (m ((c.tc : Thread nD τ).loc main_arg0)) (m ((c.tc : Thread nD τ).loc main_arg1)), ?_, ?_⟩
  · exact (θ_run Cert.Kernel4Ideal.defs _ _).mono (fun r h c => ⟨(h c).1.trans (result m c), (h c).2⟩) (Cert.Kernel4Ideal.Value.run (F := Ideal) m g)
  · refine (θ_run Cert.Reference4Ideal.defs _ _).mono (fun r h c => ⟨?_, (h c).2⟩) (Cert.Reference4Ideal.Value.run (F := Ideal) m' g')
    refine ((h c).1.trans (val_main_v10_eq _ _)).trans ?_
    rw [(hagree c).1, (hagree c).2]

end Cert.InWgrad

end
-- ==== Proof.Prod.InDh.lean ====
module

public import proofs.«01_k».proof.Defs
public import proofs.«01_k».proof.Proof.Prod.Rows
public import proofs.«01_k».proof.Proof.Gen.Kernel5Ideal.Value
public import proofs.«01_k».proof.Proof.Gen.Reference5Ideal.Run
public import proofs.«01_k».proof.Proof.Gen.Reference5Ideal.Read
public import Idealize.ShloMosaic.Lib.Pointwise
public import Idealize.ShloMosaic.Lib.Quiescent

@[expose] public section

set_option maxRecDepth 16384

noncomputable section

namespace Cert.InDh

open Cert.Kernel5Ideal Cert.Kernel5Ideal.Gen Cert.Kernel5Ideal.Value Cert.Reference5Ideal.Read
open Idealize.ShloMosaic Idealize.ShloMosaic.TcCoe Idealize.ShloMosaic.Tactic Idealize.SL.Sem

variable (m : (ℓ : Loc Cert.Kernel5Ideal.nD Cert.Kernel5Ideal.τ Cert.Kernel5Ideal.sig) → Buf (Elt Ideal) ℓ)

/-- The two arguments, as arrays of extended reals. -/
def x (c : Dev nD) : S8192x6144.Idx → EReal := m ((c : Thread nD τ).loc main_arg0)
def y (c : Dev nD) : S4x1024x1536.Idx → EReal := m ((c : Thread nD τ).loc main_arg1)

/-! ## One point: twelve products, one per column block -/

theorem sum_at (p0 p1 p2 p3 p4 p5 p6 p7 p8 p9 p10 p11 : Vec Ideal S512x512 .bf16) (w0 w1 w2 w3 w4 w5 w6 w7 w8 w9 w10 w11 : Vec Ideal S1x1024x512 .bf16) (r : Fin 512) (l : Fin 1024) :
    k0_pay1 (F := Ideal) (k0_pay3 (k0_pay2 p0 w0 p1 w1 p2 w2 p3 w3 p4 w4) p5 w5 p6 w6 p7 w7 p8 w8 p9 w9) p10 w10 p11 w11 (ix2 r l)
      = ((((((((((((0 + ∑ q : Fin 512, p0 (ix2 r q) * w0 (ix3 (0 : Fin 1) l q)) + ∑ q : Fin 512, p1 (ix2 r q) * w1 (ix3 (0 : Fin 1) l q)) + ∑ q : Fin 512, p2 (ix2 r q) * w2 (ix3 (0 : Fin 1) l q)) + ∑ q : Fin 512, p3 (ix2 r q) * w3 (ix3 (0 : Fin 1) l q)) + ∑ q : Fin 512, p4 (ix2 r q) * w4 (ix3 (0 : Fin 1) l q)) + ∑ q : Fin 512, p5 (ix2 r q) * w5 (ix3 (0 : Fin 1) l q)) + ∑ q : Fin 512, p6 (ix2 r q) * w6 (ix3 (0 : Fin 1) l q)) + ∑ q : Fin 512, p7 (ix2 r q) * w7 (ix3 (0 : Fin 1) l q)) + ∑ q : Fin 512, p8 (ix2 r q) * w8 (ix3 (0 : Fin 1) l q)) + ∑ q : Fin 512, p9 (ix2 r q) * w9 (ix3 (0 : Fin 1) l q)) + ∑ q : Fin 512, p10 (ix2 r q) * w10 (ix3 (0 : Fin 1) l q)) + ∑ q : Fin 512, p11 (ix2 r q) * w11 (ix3 (0 : Fin 1) l q)) := by
  pointwise [k0_pay1, k0_pay2, k0_pay3]

/-- The weights' column that a stored column of the gradient belongs to. -/
def back (d : Fin 6144) : Fin 6144 := ⟨(d.val + 2048) % 6144, Nat.mod_lt _ (by decide)⟩

/-- Column `k` of the weights, which are stored as four arrays of 1536 columns. -/
def weight (w : S4x1024x1536.Idx → EReal) (l : Fin 1024) (k : Fin 6144) : EReal :=
  w (ix3 (⟨k.val / 1536, by omega⟩ : Fin 4) l (⟨k.val % 1536, Nat.mod_lt _ (by decide)⟩ : Fin 1536))

theorem piece_0 (x0 : Vec Ideal S512x6144 .bf16) (x1 : Vec Ideal S4x1024x1536 .bf16) (r : Fin 512) (l : Fin 1024) (q : Fin 512) :
    (View.ld x0 r0_0 (ix2 r q) : EReal) * View.ld x1 r0_1 (ix3 (0 : Fin 1) l q)
      = (fun d : Fin 6144 => (x0 (ix2 r d) : EReal) * weight x1 l (back d)) ⟨512 * (0 : Fin 12).val + q.val, by omega⟩ := by
  refine congrArg₂ (· * ·) (congrArg x0 (funext fun a => Fin.ext ?_)) (congrArg x1 (funext fun a => Fin.ext ?_))
  · match a with
    | ⟨0, _⟩ => show 0 + 1 * r.val = r.val; omega
    | ⟨1, _⟩ => show 0 + 1 * q.val = 512 * 0 + q.val; omega
  · match a with
    | ⟨0, _⟩ => show 1 + 1 * 0 = (512 * 0 + q.val + 2048) % 6144 / 1536; omega
    | ⟨1, _⟩ => show 0 + 1 * l.val = l.val; omega
    | ⟨2, _⟩ => show 512 + 1 * q.val = (512 * 0 + q.val + 2048) % 6144 % 1536; omega

theorem piece_1 (x0 : Vec Ideal S512x6144 .bf16) (x1 : Vec Ideal S4x1024x1536 .bf16) (r : Fin 512) (l : Fin 1024) (q : Fin 512) :
    (View.ld x0 r0_2 (ix2 r q) : EReal) * View.ld x1 r0_3 (ix3 (0 : Fin 1) l q)
      = (fun d : Fin 6144 => (x0 (ix2 r d) : EReal) * weight x1 l (back d)) ⟨512 * (1 : Fin 12).val + q.val, by omega⟩ := by
  refine congrArg₂ (· * ·) (congrArg x0 (funext fun a => Fin.ext ?_)) (congrArg x1 (funext fun a => Fin.ext ?_))
  · match a with
    | ⟨0, _⟩ => show 0 + 1 * r.val = r.val; omega
    | ⟨1, _⟩ => show 512 + 1 * q.val = 512 * 1 + q.val; omega
  · match a with
    | ⟨0, _⟩ => show 1 + 1 * 0 = (512 * 1 + q.val + 2048) % 6144 / 1536; omega
    | ⟨1, _⟩ => show 0 + 1 * l.val = l.val; omega
    | ⟨2, _⟩ => show 1024 + 1 * q.val = (512 * 1 + q.val + 2048) % 6144 % 1536; omega

theorem piece_2 (x0 : Vec Ideal S512x6144 .bf16) (x1 : Vec Ideal S4x1024x1536 .bf16) (r : Fin 512) (l : Fin 1024) (q : Fin 512) :
    (View.ld x0 r0_4 (ix2 r q) : EReal) * View.ld x1 r0_5 (ix3 (0 : Fin 1) l q)
      = (fun d : Fin 6144 => (x0 (ix2 r d) : EReal) * weight x1 l (back d)) ⟨512 * (2 : Fin 12).val + q.val, by omega⟩ := by
  refine congrArg₂ (· * ·) (congrArg x0 (funext fun a => Fin.ext ?_)) (congrArg x1 (funext fun a => Fin.ext ?_))
  · match a with
    | ⟨0, _⟩ => show 0 + 1 * r.val = r.val; omega
    | ⟨1, _⟩ => show 1024 + 1 * q.val = 512 * 2 + q.val; omega
  · match a with
    | ⟨0, _⟩ => show 2 + 1 * 0 = (512 * 2 + q.val + 2048) % 6144 / 1536; omega
    | ⟨1, _⟩ => show 0 + 1 * l.val = l.val; omega
    | ⟨2, _⟩ => show 0 + 1 * q.val = (512 * 2 + q.val + 2048) % 6144 % 1536; omega

theorem piece_3 (x0 : Vec Ideal S512x6144 .bf16) (x1 : Vec Ideal S4x1024x1536 .bf16) (r : Fin 512) (l : Fin 1024) (q : Fin 512) :
    (View.ld x0 r0_6 (ix2 r q) : EReal) * View.ld x1 r0_7 (ix3 (0 : Fin 1) l q)
      = (fun d : Fin 6144 => (x0 (ix2 r d) : EReal) * weight x1 l (back d)) ⟨512 * (3 : Fin 12).val + q.val, by omega⟩ := by
  refine congrArg₂ (· * ·) (congrArg x0 (funext fun a => Fin.ext ?_)) (congrArg x1 (funext fun a => Fin.ext ?_))
  · match a with
    | ⟨0, _⟩ => show 0 + 1 * r.val = r.val; omega
    | ⟨1, _⟩ => show 1536 + 1 * q.val = 512 * 3 + q.val; omega
  · match a with
    | ⟨0, _⟩ => show 2 + 1 * 0 = (512 * 3 + q.val + 2048) % 6144 / 1536; omega
    | ⟨1, _⟩ => show 0 + 1 * l.val = l.val; omega
    | ⟨2, _⟩ => show 512 + 1 * q.val = (512 * 3 + q.val + 2048) % 6144 % 1536; omega

theorem piece_4 (x0 : Vec Ideal S512x6144 .bf16) (x1 : Vec Ideal S4x1024x1536 .bf16) (r : Fin 512) (l : Fin 1024) (q : Fin 512) :
    (View.ld x0 r0_8 (ix2 r q) : EReal) * View.ld x1 r0_9 (ix3 (0 : Fin 1) l q)
      = (fun d : Fin 6144 => (x0 (ix2 r d) : EReal) * weight x1 l (back d)) ⟨512 * (4 : Fin 12).val + q.val, by omega⟩ := by
  refine congrArg₂ (· * ·) (congrArg x0 (funext fun a => Fin.ext ?_)) (congrArg x1 (funext fun a => Fin.ext ?_))
  · match a with
    | ⟨0, _⟩ => show 0 + 1 * r.val = r.val; omega
    | ⟨1, _⟩ => show 2048 + 1 * q.val = 512 * 4 + q.val; omega
  · match a with
    | ⟨0, _⟩ => show 2 + 1 * 0 = (512 * 4 + q.val + 2048) % 6144 / 1536; omega
    | ⟨1, _⟩ => show 0 + 1 * l.val = l.val; omega
    | ⟨2, _⟩ => show 1024 + 1 * q.val = (512 * 4 + q.val + 2048) % 6144 % 1536; omega

theorem piece_5 (x0 : Vec Ideal S512x6144 .bf16) (x1 : Vec Ideal S4x1024x1536 .bf16) (r : Fin 512) (l : Fin 1024) (q : Fin 512) :
    (View.ld x0 r0_10 (ix2 r q) : EReal) * View.ld x1 r0_11 (ix3 (0 : Fin 1) l q)
      = (fun d : Fin 6144 => (x0 (ix2 r d) : EReal) * weight x1 l (back d)) ⟨512 * (5 : Fin 12).val + q.val, by omega⟩ := by
  refine congrArg₂ (· * ·) (congrArg x0 (funext fun a => Fin.ext ?_)) (congrArg x1 (funext fun a => Fin.ext ?_))
  · match a with
    | ⟨0, _⟩ => show 0 + 1 * r.val = r.val; omega
    | ⟨1, _⟩ => show 2560 + 1 * q.val = 512 * 5 + q.val; omega
  · match a with
    | ⟨0, _⟩ => show 3 + 1 * 0 = (512 * 5 + q.val + 2048) % 6144 / 1536; omega
    | ⟨1, _⟩ => show 0 + 1 * l.val = l.val; omega
    | ⟨2, _⟩ => show 0 + 1 * q.val = (512 * 5 + q.val + 2048) % 6144 % 1536; omega

theorem piece_6 (x0 : Vec Ideal S512x6144 .bf16) (x1 : Vec Ideal S4x1024x1536 .bf16) (r : Fin 512) (l : Fin 1024) (q : Fin 512) :
    (View.ld x0 r0_12 (ix2 r q) : EReal) * View.ld x1 r0_13 (ix3 (0 : Fin 1) l q)
      = (fun d : Fin 6144 => (x0 (ix2 r d) : EReal) * weight x1 l (back d)) ⟨512 * (6 : Fin 12).val + q.val, by omega⟩ := by
  refine congrArg₂ (· * ·) (congrArg x0 (funext fun a => Fin.ext ?_)) (congrArg x1 (funext fun a => Fin.ext ?_))
  · match a with
    | ⟨0, _⟩ => show 0 + 1 * r.val = r.val; omega
    | ⟨1, _⟩ => show 3072 + 1 * q.val = 512 * 6 + q.val; omega
  · match a with
    | ⟨0, _⟩ => show 3 + 1 * 0 = (512 * 6 + q.val + 2048) % 6144 / 1536; omega
    | ⟨1, _⟩ => show 0 + 1 * l.val = l.val; omega
    | ⟨2, _⟩ => show 512 + 1 * q.val = (512 * 6 + q.val + 2048) % 6144 % 1536; omega

theorem piece_7 (x0 : Vec Ideal S512x6144 .bf16) (x1 : Vec Ideal S4x1024x1536 .bf16) (r : Fin 512) (l : Fin 1024) (q : Fin 512) :
    (View.ld x0 r0_14 (ix2 r q) : EReal) * View.ld x1 r0_15 (ix3 (0 : Fin 1) l q)
      = (fun d : Fin 6144 => (x0 (ix2 r d) : EReal) * weight x1 l (back d)) ⟨512 * (7 : Fin 12).val + q.val, by omega⟩ := by
  refine congrArg₂ (· * ·) (congrArg x0 (funext fun a => Fin.ext ?_)) (congrArg x1 (funext fun a => Fin.ext ?_))
  · match a with
    | ⟨0, _⟩ => show 0 + 1 * r.val = r.val; omega
    | ⟨1, _⟩ => show 3584 + 1 * q.val = 512 * 7 + q.val; omega
  · match a with
    | ⟨0, _⟩ => show 3 + 1 * 0 = (512 * 7 + q.val + 2048) % 6144 / 1536; omega
    | ⟨1, _⟩ => show 0 + 1 * l.val = l.val; omega
    | ⟨2, _⟩ => show 1024 + 1 * q.val = (512 * 7 + q.val + 2048) % 6144 % 1536; omega

theorem piece_8 (x0 : Vec Ideal S512x6144 .bf16) (x1 : Vec Ideal S4x1024x1536 .bf16) (r : Fin 512) (l : Fin 1024) (q : Fin 512) :
    (View.ld x0 r0_16 (ix2 r q) : EReal) * View.ld x1 r0_17 (ix3 (0 : Fin 1) l q)
      = (fun d : Fin 6144 => (x0 (ix2 r d) : EReal) * weight x1 l (back d)) ⟨512 * (8 : Fin 12).val + q.val, by omega⟩ := by
  refine congrArg₂ (· * ·) (congrArg x0 (funext fun a => Fin.ext ?_)) (congrArg x1 (funext fun a => Fin.ext ?_))
  · match a with
    | ⟨0, _⟩ => show 0 + 1 * r.val = r.val; omega
    | ⟨1, _⟩ => show 4096 + 1 * q.val = 512 * 8 + q.val; omega
  · match a with
    | ⟨0, _⟩ => show 0 + 1 * 0 = (512 * 8 + q.val + 2048) % 6144 / 1536; omega
    | ⟨1, _⟩ => show 0 + 1 * l.val = l.val; omega
    | ⟨2, _⟩ => show 0 + 1 * q.val = (512 * 8 + q.val + 2048) % 6144 % 1536; omega

theorem piece_9 (x0 : Vec Ideal S512x6144 .bf16) (x1 : Vec Ideal S4x1024x1536 .bf16) (r : Fin 512) (l : Fin 1024) (q : Fin 512) :
    (View.ld x0 r0_18 (ix2 r q) : EReal) * View.ld x1 r0_19 (ix3 (0 : Fin 1) l q)
      = (fun d : Fin 6144 => (x0 (ix2 r d) : EReal) * weight x1 l (back d)) ⟨512 * (9 : Fin 12).val + q.val, by omega⟩ := by
  refine congrArg₂ (· * ·) (congrArg x0 (funext fun a => Fin.ext ?_)) (congrArg x1 (funext fun a => Fin.ext ?_))
  · match a with
    | ⟨0, _⟩ => show 0 + 1 * r.val = r.val; omega
    | ⟨1, _⟩ => show 4608 + 1 * q.val = 512 * 9 + q.val; omega
  · match a with
    | ⟨0, _⟩ => show 0 + 1 * 0 = (512 * 9 + q.val + 2048) % 6144 / 1536; omega
    | ⟨1, _⟩ => show 0 + 1 * l.val = l.val; omega
    | ⟨2, _⟩ => show 512 + 1 * q.val = (512 * 9 + q.val + 2048) % 6144 % 1536; omega

theorem piece_10 (x0 : Vec Ideal S512x6144 .bf16) (x1 : Vec Ideal S4x1024x1536 .bf16) (r : Fin 512) (l : Fin 1024) (q : Fin 512) :
    (View.ld x0 r0_20 (ix2 r q) : EReal) * View.ld x1 r0_21 (ix3 (0 : Fin 1) l q)
      = (fun d : Fin 6144 => (x0 (ix2 r d) : EReal) * weight x1 l (back d)) ⟨512 * (10 : Fin 12).val + q.val, by omega⟩ := by
  refine congrArg₂ (· * ·) (congrArg x0 (funext fun a => Fin.ext ?_)) (congrArg x1 (funext fun a => Fin.ext ?_))
  · match a with
    | ⟨0, _⟩ => show 0 + 1 * r.val = r.val; omega
    | ⟨1, _⟩ => show 5120 + 1 * q.val = 512 * 10 + q.val; omega
  · match a with
    | ⟨0, _⟩ => show 0 + 1 * 0 = (512 * 10 + q.val + 2048) % 6144 / 1536; omega
    | ⟨1, _⟩ => show 0 + 1 * l.val = l.val; omega
    | ⟨2, _⟩ => show 1024 + 1 * q.val = (512 * 10 + q.val + 2048) % 6144 % 1536; omega

theorem piece_11 (x0 : Vec Ideal S512x6144 .bf16) (x1 : Vec Ideal S4x1024x1536 .bf16) (r : Fin 512) (l : Fin 1024) (q : Fin 512) :
    (View.ld x0 r0_22 (ix2 r q) : EReal) * View.ld x1 r0_23 (ix3 (0 : Fin 1) l q)
      = (fun d : Fin 6144 => (x0 (ix2 r d) : EReal) * weight x1 l (back d)) ⟨512 * (11 : Fin 12).val + q.val, by omega⟩ := by
  refine congrArg₂ (· * ·) (congrArg x0 (funext fun a => Fin.ext ?_)) (congrArg x1 (funext fun a => Fin.ext ?_))
  · match a with
    | ⟨0, _⟩ => show 0 + 1 * r.val = r.val; omega
    | ⟨1, _⟩ => show 5632 + 1 * q.val = 512 * 11 + q.val; omega
  · match a with
    | ⟨0, _⟩ => show 1 + 1 * 0 = (512 * 11 + q.val + 2048) % 6144 / 1536; omega
    | ⟨1, _⟩ => show 0 + 1 * l.val = l.val; omega
    | ⟨2, _⟩ => show 0 + 1 * q.val = (512 * 11 + q.val + 2048) % 6144 % 1536; omega

/-- What a point leaves in its block: the sum over all columns. -/
theorem out_at (x0 : Vec Ideal S512x6144 .bf16) (x1 : Vec Ideal S4x1024x1536 .bf16) (r : Fin 512) (l : Fin 1024) :
    out0_2 (F := Ideal) x0 x1 (ix2 r l) = ∑ d : Fin 6144, (x0 (ix2 r d) : EReal) * weight x1 l (back d) := by
  unfold out0_2
  rw [View.canon_unit_zero (show (![0, 0] : Fin 2 → Nat) = fun _ => 0 from funext fun a => by fin_cases a <;> rfl)]
  refine (sum_at _ _ _ _ _ _ _ _ _ _ _ _ _ _ _ _ _ _ _ _ _ _ _ _ r l).trans ?_
  rw [← Prod.sum_columns (fun b q => (fun d : Fin 6144 => (x0 (ix2 r d) : EReal) * weight x1 l (back d)) ⟨512 * b.val + q.val, by omega⟩) _ (fun _ _ => rfl)]
  exact congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (rfl) (Finset.sum_congr rfl fun q _ => piece_0 x0 x1 r l q)) (Finset.sum_congr rfl fun q _ => piece_1 x0 x1 r l q)) (Finset.sum_congr rfl fun q _ => piece_2 x0 x1 r l q)) (Finset.sum_congr rfl fun q _ => piece_3 x0 x1 r l q)) (Finset.sum_congr rfl fun q _ => piece_4 x0 x1 r l q)) (Finset.sum_congr rfl fun q _ => piece_5 x0 x1 r l q)) (Finset.sum_congr rfl fun q _ => piece_6 x0 x1 r l q)) (Finset.sum_congr rfl fun q _ => piece_7 x0 x1 r l q)) (Finset.sum_congr rfl fun q _ => piece_8 x0 x1 r l q)) (Finset.sum_congr rfl fun q _ => piece_9 x0 x1 r l q)) (Finset.sum_congr rfl fun q _ => piece_10 x0 x1 r l q)) (Finset.sum_congr rfl fun q _ => piece_11 x0 x1 r l q)

/-! ## The blocks that a point reads and writes -/

/-- Row `r` of block `t`, of sixteen blocks of 512 rows. -/
def row (t : Fin 16) (r : Fin 512) : Fin 8192 := ⟨512 * t.val + r.val, by omega⟩

theorem index_0 : ∀ t : Fin cfg0.N, win0_0.index t = ![t.val, 0] := (by decide +kernel : ∀ t : Fin grid0.N, _)

theorem index_1 : ∀ t : Fin cfg0.N, win0_1.index t = ![0, 0, 0] := (by decide +kernel : ∀ t : Fin grid0.N, _)

theorem index_2 : ∀ t : Fin cfg0.N, win0_2.index t = ![t.val, 0] := (by decide +kernel : ∀ t : Fin grid0.N, _)

theorem flushes_2 : ∀ t : Fin cfg0.N, (cfg0.win 2).flush t = true := (by decide +kernel : ∀ t : Fin grid0.N, _)

theorem iblk_0 (c : Dev nD) (t : Fin cfg0.N) (r : Fin 512) (d : Fin 6144) :
    iblk m c 0 t (ix2 r d) = x m c (ix2 (row (t.cast N_0) r) d) := by
  have e := index_0 t
  unfold iblk
  show x m c (((cfg0.win 0).blk t).view.emb (ix2 r d)) = _
  refine congrArg _ (funext fun a => Fin.ext ?_)
  match a with
  | ⟨0, _⟩ => show win0_0.index t (0 : Fin 2) * 512 + 1 * r.val = 512 * t.val + r.val; rw [e]; show t.val * 512 + 1 * r.val = _; omega
  | ⟨1, _⟩ => show win0_0.index t (1 : Fin 2) * 6144 + 1 * d.val = d.val; rw [e]; show 0 * 6144 + 1 * d.val = _; omega

theorem iblk_1 (c : Dev nD) (t : Fin cfg0.N) : (iblk m c 1 t : S4x1024x1536.Idx → EReal) = y m c := by
  have e := index_1 t
  unfold iblk
  funext i
  show y m c (((cfg0.win 1).blk t).view.emb i) = _
  refine congrArg _ (funext fun a => Fin.ext ?_)
  match a with
  | ⟨0, _⟩ => show win0_1.index t (0 : Fin 3) * 4 + 1 * (i 0).val = (i 0).val; rw [e]; show 0 * 4 + 1 * (i 0).val = _; omega
  | ⟨1, _⟩ => show win0_1.index t (1 : Fin 3) * 1024 + 1 * (i 1).val = (i 1).val; rw [e]; show 0 * 1024 + 1 * (i 1).val = _; omega
  | ⟨2, _⟩ => show win0_1.index t (2 : Fin 3) * 1536 + 1 * (i 2).val = (i 2).val; rw [e]; show 0 * 1536 + 1 * (i 2).val = _; omega

theorem place_2 (t : Fin cfg0.N) (r : Fin 512) (l : Fin 1024) : ((cfg0.win 2).blk t).view.emb (ix2 r l) = ix2 (row (t.cast N_0) r) l := by
  have e := index_2 t
  refine funext fun a => Fin.ext ?_
  match a with
  | ⟨0, _⟩ => show win0_2.index t (0 : Fin 2) * 512 + 1 * r.val = 512 * t.val + r.val; rw [e]; show t.val * 512 + 1 * r.val = _; omega
  | ⟨1, _⟩ => show win0_2.index t (1 : Fin 2) * 1024 + 1 * l.val = l.val; rw [e]; show 0 * 1024 + 1 * l.val = _; omega

/-- What the array holds at the end is what the point of that block wrote. -/
theorem array_at (c : Dev nD) (t : Fin cfg0.N) (r : Fin 512) (l : Fin 1024) :
    ((dats m 0 c).arrAt 2 cfg0.N : S8192x1024.Idx → EReal) (ix2 (row (t.cast N_0) r) l)
      = ∑ d : Fin 6144, x m c (ix2 (row (t.cast N_0) r) d) * weight (y m c) l (back d) := by
  have h := (blocks2 m c t (flushes_2 t)).trans (flushed2 m c t)
  rw [← place_2 t r l]
  refine (congrFun h (ix2 r l)).trans ((congrArg (out0_2 (iblk m c 0 t) (iblk m c 1 t)) (funext fun a => Fin.ext rfl)).trans ((out_at (iblk m c 0 t) (iblk m c 1 t) r l).trans ?_))
  refine Finset.sum_congr rfl fun d _ => ?_
  rw [iblk_0 m c t r d, iblk_1 m c t]

/-! ## The reference -/

theorem rotated_at (a1 : (⟨S8192x6144, .bf16⟩ : BufTy).Contents (Elt Ideal)) (p : Fin 8192) (l : Fin 6144) :
    val_main_v7 (F := Ideal) a1 (ix2 p l) = a1 (ix2 p (Prod.rot l)) := by
  unfold val_main_v7
  by_cases a : l.val < 2048
  · refine (concatenate_apply_piece 1 _ _ (ix2 p l) 0 (by simp) Cert.Reference5Ideal.S8192x2048 (val_main_v5 (F := Ideal) a1) rfl rfl 0 rfl (ix2 p (⟨l.val, a⟩ : Fin 2048)) ?_ ?_).trans ?_
    · intro b hb; match b with
      | ⟨0, _⟩ => rfl
      | ⟨1, _⟩ => exact absurd rfl hb
    · exact Nat.zero_add _
    · rw [val_main_v5_apply]
      refine congrArg a1 (funext fun b => Fin.ext ?_)
      match b with
      | ⟨0, _⟩ => rfl
      | ⟨1, _⟩ => show 4096 + l.val = (l.val + 4096) % 6144; omega
  · refine (concatenate_apply_piece 1 _ _ (ix2 p l) 1 (by simp) Cert.Reference5Ideal.S8192x4096 (val_main_v6 (F := Ideal) a1) rfl rfl 2048 rfl (ix2 p (⟨l.val - 2048, by omega⟩ : Fin 4096)) ?_ ?_).trans ?_
    · intro b hb; match b with
      | ⟨0, _⟩ => rfl
      | ⟨1, _⟩ => exact absurd rfl hb
    · show 2048 + (l.val - 2048) = l.val; omega
    · rw [val_main_v6_apply]
      refine congrArg a1 (funext fun b => Fin.ext ?_)
      match b with
      | ⟨0, _⟩ => rfl
      | ⟨1, _⟩ => show l.val - 2048 = (l.val + 4096) % 6144; omega

/-- Every column of the weights is met once. -/
theorem sum_rotated (f : Fin 6144 → Fin 6144 → EReal) : ∑ d : Fin 6144, f d (back d) = ∑ k : Fin 6144, f (Prod.rot k) k := by
  refine Fintype.sum_equiv ⟨back, Prod.rot, fun d => Fin.ext ?_, fun k => Fin.ext ?_⟩ _ _ fun d => congrArg (f · (back d)) (Fin.ext ?_)
  · show ((d.val + 2048) % 6144 + 4096) % 6144 = d.val; omega
  · show ((k.val + 4096) % 6144 + 2048) % 6144 = k.val; omega
  · show d.val = ((d.val + 2048) % 6144 + 4096) % 6144; omega

theorem reference_at (a0 : (⟨S8192x6144, .bf16⟩ : BufTy).Contents (Elt Ideal)) (a1 : (⟨S4x1024x1536, .bf16⟩ : BufTy).Contents (Elt Ideal)) (r : Fin 8192) (l : Fin 1024) :
    val_main_v9 (F := Ideal) a0 a1 (ix2 r l) = ∑ d : Fin 6144, (a0 (ix2 r d) : EReal) * weight a1 l (back d) := by
  rw [val_main_v9_apply, sum_rotated fun d k => (a0 (ix2 r d) : EReal) * weight a1 l k]
  refine Finset.sum_congr rfl fun k _ => ?_
  rw [val_main_v8_apply, val_main_v2_apply, val_main_v1_apply, val_main_v0_apply]
  refine congrArg₂ (· * ·) ?_ (congrArg a1 ?_)
  · refine Eq.trans (congrArg (val_main_v7 (F := Ideal) a0) ?_) (rotated_at a0 r k)
    funext a; apply Fin.ext
    match a with
    | ⟨0, _⟩ => rfl
    | ⟨1, _⟩ => rfl
  · funext a; apply Fin.ext
    match a with
    | ⟨0, _⟩ => show (l.val * 6144 + k.val) / 1536 % 4 = k.val / 1536; omega
    | ⟨1, _⟩ => show (l.val * 6144 + k.val) / 6144 = l.val; omega
    | ⟨2, _⟩ => show (l.val * 6144 + k.val) % 1536 = k.val % 1536; omega

theorem row_split (i : Fin 8192) : ∃ (t : Fin cfg0.N) (r : Fin 512), i = row (t.cast N_0) r :=
  ⟨⟨i.val / 512, by rw [show cfg0.N = 16 from N_0]; omega⟩, ⟨i.val % 512, Nat.mod_lt _ (by decide)⟩, Fin.ext (by show i.val = 512 * (i.val / 512) + i.val % 512; omega)⟩

theorem result (c : Dev nD) : (dats m 0 c).arrAt 2 cfg0.N = val_main_v9 (F := Ideal) (m ((c : Thread nD τ).loc main_arg0)) (m ((c : Thread nD τ).loc main_arg1)) := by
  funext i
  rw [eq_ix2 (n0 := 8192) (n1 := 1024) i]
  obtain ⟨t, r, h⟩ := row_split (i 0)
  rw [h]
  exact (array_at m c t r (i 1)).trans (reference_at _ _ (row (t.cast N_0) r) (i 1)).symm

/-! ## The claims -/

theorem frame_reference : Cert.quiescent_Reference5Ideal := fun m ρ _ =>
  (θ_run Cert.Reference5Ideal.defs _ _).mono (fun r h => ⟨fun c => (h c).2, Idealize.ShloMosaic.sem_eq_zero_of_no_sems (by decide) r.2⟩)
    (Cert.Reference5Ideal.Value.run (F := Ideal) m ρ)

theorem algebraic : @Cert.algebraic_Kernel5Ideal_Reference5Ideal Cert.Kernel5Ideal.Gen.facts Cert.Reference5Ideal.Gen.facts := by
  intro m g m' g' _ hagree
  refine ⟨fun c => val_main_v9 (F := Ideal) (m ((c.tc : Thread nD τ).loc main_arg0)) (m ((c.tc : Thread nD τ).loc main_arg1)), ?_, ?_⟩
  · exact (θ_run Cert.Kernel5Ideal.defs _ _).mono (fun r h c => ⟨(h c).1.trans (result m c), (h c).2⟩) (Cert.Kernel5Ideal.Value.run_blocks (F := Ideal) m g)
  · refine (θ_run Cert.Reference5Ideal.defs _ _).mono (fun r h c => ⟨?_, (h c).2⟩) (Cert.Reference5Ideal.Value.run (F := Ideal) m' g')
    refine ((h c).1.trans (val_main_v9_eq _ _)).trans ?_
    rw [(hagree c).1, (hagree c).2]

end Cert.InDh

end
-- ==== Proof.Ffn.Tools.lean ====
module

public import Idealize.ShloMosaic.Lib.Pointwise
public import Idealize.ShloMosaic.Lib.Pipeline.Value
public import Idealize.ShloMosaic.Lib.Quiescent

@[expose] public section

set_option maxRecDepth 16384

noncomputable section

namespace Cert.Ffn

open Idealize.ShloMosaic Idealize.ShloMosaic.TcCoe Idealize.ShloMosaic.Tactic

/-! What the proofs of the two feed-forward calls share: tiles of 256 rows, sums over them, and stores of column blocks. -/

theorem hz2 : (![0, 0] : Fin 2 → ℕ) = fun _ => 0 := by funext a; fin_cases a <;> rfl

/-- Row `r` of tile `t`, as a row of the whole array. -/
def row (t : Fin 32) (r : Fin 256) : Fin 8192 := ⟨256 * t.val + r.val, by omega⟩

/-- What starts as its first term and grows by one term a point ends as their sum. -/
theorem total {M : Type} [AddCommMonoid M] {N : ℕ} (hN : N = 32) (g : Fin 32 → M) (a : (n : ℕ) → n < N → M)
    (h0 : ∀ h, a 0 h = 0 + g ⟨0, by decide⟩) (hs : ∀ n h, a (n + 1) h = a n (Nat.lt_of_succ_lt h) + g ⟨n + 1, lt_of_lt_of_eq h hN⟩) (h : 31 < N) :
    a 31 h = ∑ t : Fin 32, g t := by
  subst hN
  have key : ∀ n (hn : n < 32), a n hn = ∑ k ∈ Finset.range (n + 1), if hk : k < 32 then g ⟨k, hk⟩ else 0 := by
    intro n
    induction n with
    | zero => intro hn; rw [h0, Finset.sum_range_one, dif_pos (by decide), zero_add]
    | succ n ih => intro hn; rw [hs, ih, Finset.sum_range_succ _ (n + 1), dif_pos hn]
  rw [key, ← Fin.sum_univ_eq_sum_range (fun k => if hk : k < 32 then g ⟨k, hk⟩ else 0) 32]
  exact Finset.sum_congr rfl fun t _ => dif_pos t.isLt

/-- A sum over the tiles and their rows is a sum over the rows of the whole array. -/
theorem sum_rows {M : Type} [AddCommMonoid M] (f : Fin 8192 → M) : ∑ t : Fin 32, ∑ r : Fin 256, f (row t r) = ∑ k : Fin 8192, f k := by
  rw [← Fintype.sum_prod_type' (fun t r => f (row t r))]
  refine Fintype.sum_equiv (finProdFinEquiv (m := 32) (n := 256)) _ _ fun x => congrArg f (Fin.ext ?_)
  show 256 * x.1.val + x.2.val = x.2.val + 256 * x.1.val
  omega

/-- A sum over 2816 columns is the sum over the first half and that over the second. -/
theorem sum_halves {M : Type} [AddCommMonoid M] (f : Fin 2816 → M) :
    ∑ k : Fin 2816, f k = ∑ q : Fin 1408, f ⟨0 + q.val, by omega⟩ + ∑ q : Fin 1408, f ⟨1408 + q.val, by omega⟩ := by
  refine (Fin.sum_univ_add (a := 1408) (b := 1408) f).trans (congrArg₂ (· + ·) ?_ ?_)
  · exact Finset.sum_congr rfl fun q _ => congrArg f (Fin.ext (show q.val = 0 + q.val by omega))
  · exact Finset.sum_congr rfl fun q _ => congrArg f (Fin.ext rfl)

/-! ## Reading a store of some columns -/

variable {e : EltTy} {W w : ℕ}

theorem block_emb (o : ℕ) (inb : ∀ a, (![0, o] : Fin 2 → ℕ) a + (![256, w] : Fin 2 → ℕ) a ≤ (⟨2, ![256, W]⟩ : Shape).size a) (r : Fin 256) (l : Fin w) (h : o + l.val < W) :
    (Rect.unit (s := (⟨2, ![256, W]⟩ : Shape)) ![0, o] ![256, w] inb).emb (ix2 r l) = ix2 r (⟨o + l.val, h⟩ : Fin W) := by
  funext a; refine Fin.ext ?_
  match a with
  | ⟨0, _⟩ => show 0 + 1 * r.val = r.val; omega
  | ⟨1, _⟩ => show o + 1 * l.val = o + l.val; omega

theorem block_skip (o : ℕ) (inb : ∀ a, (![0, o] : Fin 2 → ℕ) a + (![256, w] : Fin 2 → ℕ) a ≤ (⟨2, ![256, W]⟩ : Shape).size a)
    (v : (⟨2, ![256, w]⟩ : Shape).Idx → Elt Ideal e) (L : List (View.Piece (Elt Ideal) (⟨2, ![256, W]⟩ : Shape) e)) (r : Fin 256) (k : Fin W) (h : k.val < o ∨ o + w ≤ k.val) :
    View.canon (⟨Rect.unit (s := (⟨2, ![256, W]⟩ : Shape)) ![0, o] ![256, w] inb, v⟩ :: L) (ix2 r k) = View.canon L (ix2 r k) := by
  refine View.canon_cons_of_not_mem _ _ fun hm => ?_
  have h1 : o ≤ k.val ∧ k.val < o + w := (Rect.mem_set_unit (inb := inb)).mp hm 1
  omega

theorem block_hit (o : ℕ) (inb : ∀ a, (![0, o] : Fin 2 → ℕ) a + (![256, w] : Fin 2 → ℕ) a ≤ (⟨2, ![256, W]⟩ : Shape).size a)
    (v : (⟨2, ![256, w]⟩ : Shape).Idx → Elt Ideal e) (L : List (View.Piece (Elt Ideal) (⟨2, ![256, W]⟩ : Shape) e)) (r : Fin 256) (l : Fin w) (h : o + l.val < W) :
    View.canon (⟨Rect.unit (s := (⟨2, ![256, W]⟩ : Shape)) ![0, o] ![256, w] inb, v⟩ :: L) (ix2 r (⟨o + l.val, h⟩ : Fin W)) = v (ix2 r l) := by
  rw [← block_emb o inb r l h]
  exact View.canon_cons_emb _ _ _ _

end Cert.Ffn

end
-- ==== Proof.Ffn.FwdPoints.lean ====
module

public import proofs.«01_k».proof.Proof.Ffn.Tools
public import proofs.«01_k».proof.Proof.Gen.Kernel6Ideal.Value

@[expose] public section

set_option maxRecDepth 16384

noncomputable section

namespace Cert.FfnFwd

open Cert.Kernel6Ideal Cert.Kernel6Ideal.Gen Cert.Ffn
open Idealize.ShloMosaic Idealize.ShloMosaic.TcCoe Idealize.ShloMosaic.Tactic
open Idealize.SL Idealize.SL.RA Idealize.SL.BI
open Idealize.SL.ProofMode Idealize.SL.Sem
open Idealize.ShloMosaic.Pipeline (Dat Cfg Window cellOf)

variable {F : FTy → Type} [FloatOps F]

/-! ## What one point computes from its blocks

`x0` is the tile of the residual stream, `x1` and `x4` the two norms' scales, `x2` the four arrays of the gate and up
weights, `x3` the down weights, `x5` the tile of the target. -/

theorem readCov_ld {sp : Space} {s : Shape} {e : EltTy} (v : View sig .tc sp s e) (L : List (View.Piece (Elt F) s e)) (r : Rect s) :
    v.readCov L r.toLoadRect = View.ld (View.canon L) r := View.readCov_eq_canon' v L _

variable (x0 : Vec F S256x1024 .f32) (x1 : Vec F S1x1024 .f32) (x2 : Vec F S4x1024x1408 .bf16) (x3 : Vec F S2816x1024 .bf16) (x4 : Vec F S1x1024 .f32) (x5 : Vec F S256x1024 .f32)

def shard0 : Vec F S1x1024x1408 .bf16 := View.ld x2 (Rect.unit ![0, 0, 0] ![1, 1024, 1408] inb_S4x1024x1408_S1x1024x1408_0_0_0)
def shard1 : Vec F S1x1024x1408 .bf16 := View.ld x2 (Rect.unit ![1, 0, 0] ![1, 1024, 1408] inb_S4x1024x1408_S1x1024x1408_1_0_0)
def shard2 : Vec F S1x1024x1408 .bf16 := View.ld x2 (Rect.unit ![2, 0, 0] ![1, 1024, 1408] inb_S4x1024x1408_S1x1024x1408_2_0_0)
def shard3 : Vec F S1x1024x1408 .bf16 := View.ld x2 (Rect.unit ![3, 0, 0] ![1, 1024, 1408] inb_S4x1024x1408_S1x1024x1408_3_0_0)
def down0 : Vec F S1408x1024 .bf16 := View.ld x3 (Rect.unit ![0, 0] ![1408, 1024] inb_S2816x1024_S1408x1024_0_0)
def down1 : Vec F S1408x1024 .bf16 := View.ld x3 (Rect.unit ![1408, 0] ![1408, 1024] inb_S2816x1024_S1408x1024_1408_0)

/-- The normed tile, rounded. -/
def hT : FVec F S256x1024 .bf16 := k0_pay8 x0 x1

/-- The two halves of the activations. -/
def actA : FVec F S256x1408 .bf16 := k0_pay14 (k0_pay9 x0 x1 (shard0 x2)) (k0_pay10 x0 x1 (shard2 x2)) (k0_pay13 x0 x1 (shard0 x2))
def actB : FVec F S256x1408 .bf16 := k0_pay20 (hT x0 x1) (shard1 x2) (shard3 x2)

/-- The residual stream with the first half of the down product added. -/
def midT : FVec F S256x1024 .f32 := k0_pay15 x0 (k0_pay9 x0 x1 (shard0 x2)) (k0_pay10 x0 x1 (shard2 x2)) (k0_pay13 x0 x1 (shard0 x2)) (down0 x3)

/-- The gates and ups: four column blocks. -/
def guT : Vec F S256x5632 .bf16 := View.canon
  [⟨Rect.unit ![0, 4224] ![256, 1408] inb_S256x5632_S256x1408_0_4224, k0_pay19 (hT x0 x1) (shard3 x2)⟩,
    ⟨Rect.unit ![0, 1408] ![256, 1408] inb_S256x5632_S256x1408_0_1408, k0_pay18 (hT x0 x1) (shard1 x2)⟩,
    ⟨Rect.unit ![0, 2816] ![256, 1408] inb_S256x5632_S256x1408_0_2816, k0_pay12 x0 x1 (shard2 x2)⟩,
    ⟨Rect.unit ![0, 0] ![256, 1408] inb_S256x5632_S256x1408_0_0, k0_pay11 x0 x1 (shard0 x2)⟩]

/-- The activations: two column blocks. -/
def actT : Vec F S256x2816 .bf16 := View.canon
  [⟨Rect.unit ![0, 1408] ![256, 1408] inb_S256x2816_S256x1408_0_1408, actB x0 x1 x2⟩,
    ⟨Rect.unit ![0, 0] ![256, 1408] inb_S256x2816_S256x1408_0_0, actA x0 x1 x2⟩]

/-- The running loss with this tile's part added. -/
def lossT (a : Vec F S1x1 .f32) : FVec F S1x1 .f32 := k0_pay23 (midT x0 x1 x2 x3) (actB x0 x1 x2) (down1 x3) x4 x5 a

/-- The running gradient of the last norm's scale with this tile's part added. -/
def dgT (a : Vec F S1x1024 .f32) : FVec F S1x1024 .f32 :=
  k0_pay4 (k0_pay21 (midT x0 x1 x2 x3) (actB x0 x1 x2) (down1 x3)) (k0_pay24 (midT x0 x1 x2 x3) (actB x0 x1 x2) (down1 x3) x4 x5)
    (k0_pay25 (midT x0 x1 x2 x3) (actB x0 x1 x2) (down1 x3)) k0_pay26 a

/-! ## What a point leaves in each result it is read from -/

variable (m : (ℓ : Loc nD τ sig) → Buf (Elt F) ℓ)

set_option maxHeartbeats 4000000 in
theorem pointA_6 (c : Dev nD) (t : Fin cfg0.N) (h0 : t.val % 32 = 0) :
    (outsAt0 m c t.val t.isLt).1 = hT (iblk m c 0 t) (iblk m c 1 t) := by
  rw [outsAt0_A m c t h0]
  dsimp only
  unfold out0_A_6
  rw [View.read_writes_junk_eq_canon]
  unfold kernelRun0_A
  dsimp only
  sl_unfold_words
  simp only [View.readAt_eq_ld, Memref.IsWhole.read_unread, readCov_ld, View.ld_unit_zero (S := S256x1024) hz2, View.ld_unit_zero (S := S1x1024) hz2, View.ld_unit_zero (S := S1x1) hz2, View.canon_cons_unit_zero (S := S256x1024) hz2, View.canon_cons_unit_zero (S := S1x1024) hz2, View.canon_cons_unit_zero (S := S1x1) hz2]
  rfl

set_option maxHeartbeats 4000000 in
theorem pointB_6 (c : Dev nD) (t : Fin cfg0.N) (h0 : ¬t.val % 32 = 0) :
    (outsAt0 m c t.val t.isLt).1 = hT (iblk m c 0 t) (iblk m c 1 t) := by
  rw [outsAt0_B m c t h0]
  dsimp only
  unfold out0_B_6
  rw [View.read_writes_junk_eq_canon]
  unfold kernelRun0_B
  dsimp only
  sl_unfold_words
  simp only [View.readAt_eq_ld, Memref.IsWhole.read_unread, readCov_ld, View.ld_unit_zero (S := S256x1024) hz2, View.ld_unit_zero (S := S1x1024) hz2, View.ld_unit_zero (S := S1x1) hz2, View.canon_cons_unit_zero (S := S256x1024) hz2, View.canon_cons_unit_zero (S := S1x1024) hz2, View.canon_cons_unit_zero (S := S1x1) hz2]
  rfl

set_option maxHeartbeats 4000000 in
theorem pointA_7 (c : Dev nD) (t : Fin cfg0.N) (h0 : t.val % 32 = 0) :
    (outsAt0 m c t.val t.isLt).2.1 = guT (iblk m c 0 t) (iblk m c 1 t) (iblk m c 2 t) := by
  rw [outsAt0_A m c t h0]
  dsimp only
  unfold out0_A_7
  rw [View.read_writes_junk_eq_canon]
  unfold kernelRun0_A
  dsimp only
  sl_unfold_words
  simp only [View.readAt_eq_ld, Memref.IsWhole.read_unread, readCov_ld, View.ld_unit_zero (S := S256x1024) hz2, View.ld_unit_zero (S := S1x1024) hz2, View.ld_unit_zero (S := S1x1) hz2, View.canon_cons_unit_zero (S := S256x1024) hz2, View.canon_cons_unit_zero (S := S1x1024) hz2, View.canon_cons_unit_zero (S := S1x1) hz2]
  rfl

set_option maxHeartbeats 4000000 in
theorem pointB_7 (c : Dev nD) (t : Fin cfg0.N) (h0 : ¬t.val % 32 = 0) :
    (outsAt0 m c t.val t.isLt).2.1 = guT (iblk m c 0 t) (iblk m c 1 t) (iblk m c 2 t) := by
  rw [outsAt0_B m c t h0]
  dsimp only
  unfold out0_B_7
  rw [View.read_writes_junk_eq_canon]
  unfold kernelRun0_B
  dsimp only
  sl_unfold_words
  simp only [View.readAt_eq_ld, Memref.IsWhole.read_unread, readCov_ld, View.ld_unit_zero (S := S256x1024) hz2, View.ld_unit_zero (S := S1x1024) hz2, View.ld_unit_zero (S := S1x1) hz2, View.canon_cons_unit_zero (S := S256x1024) hz2, View.canon_cons_unit_zero (S := S1x1024) hz2, View.canon_cons_unit_zero (S := S1x1) hz2]
  rfl

set_option maxHeartbeats 4000000 in
theorem pointA_8 (c : Dev nD) (t : Fin cfg0.N) (h0 : t.val % 32 = 0) :
    (outsAt0 m c t.val t.isLt).2.2.1 = actT (iblk m c 0 t) (iblk m c 1 t) (iblk m c 2 t) := by
  rw [outsAt0_A m c t h0]
  dsimp only
  unfold out0_A_8
  rw [View.read_writes_junk_eq_canon]
  unfold kernelRun0_A
  dsimp only
  sl_unfold_words
  simp only [View.readAt_eq_ld, Memref.IsWhole.read_unread, readCov_ld, View.ld_unit_zero (S := S256x1024) hz2, View.ld_unit_zero (S := S1x1024) hz2, View.ld_unit_zero (S := S1x1) hz2, View.canon_cons_unit_zero (S := S256x1024) hz2, View.canon_cons_unit_zero (S := S1x1024) hz2, View.canon_cons_unit_zero (S := S1x1) hz2]
  rfl

set_option maxHeartbeats 4000000 in
theorem pointB_8 (c : Dev nD) (t : Fin cfg0.N) (h0 : ¬t.val % 32 = 0) :
    (outsAt0 m c t.val t.isLt).2.2.1 = actT (iblk m c 0 t) (iblk m c 1 t) (iblk m c 2 t) := by
  rw [outsAt0_B m c t h0]
  dsimp only
  unfold out0_B_8
  rw [View.read_writes_junk_eq_canon]
  unfold kernelRun0_B
  dsimp only
  sl_unfold_words
  simp only [View.readAt_eq_ld, Memref.IsWhole.read_unread, readCov_ld, View.ld_unit_zero (S := S256x1024) hz2, View.ld_unit_zero (S := S1x1024) hz2, View.ld_unit_zero (S := S1x1) hz2, View.canon_cons_unit_zero (S := S256x1024) hz2, View.canon_cons_unit_zero (S := S1x1024) hz2, View.canon_cons_unit_zero (S := S1x1) hz2]
  rfl

set_option maxHeartbeats 4000000 in
theorem pointA_11 (c : Dev nD) (t : Fin cfg0.N) (h0 : t.val % 32 = 0) :
    (outsAt0 m c t.val t.isLt).2.2.2.2.2.1 = lossT (iblk m c 0 t) (iblk m c 1 t) (iblk m c 2 t) (iblk m c 3 t) (iblk m c 4 t) (iblk m c 5 t) k0_pay6 := by
  rw [outsAt0_A m c t h0]
  dsimp only
  unfold out0_A_11
  rw [View.read_writes_junk_eq_canon]
  unfold kernelRun0_A
  dsimp only
  sl_unfold_words
  simp only [View.readAt_eq_ld, Memref.IsWhole.read_unread, readCov_ld, View.ld_unit_zero (S := S256x1024) hz2, View.ld_unit_zero (S := S1x1024) hz2, View.ld_unit_zero (S := S1x1) hz2, View.canon_cons_unit_zero (S := S256x1024) hz2, View.canon_cons_unit_zero (S := S1x1024) hz2, View.canon_cons_unit_zero (S := S1x1) hz2]
  rfl

set_option maxHeartbeats 4000000 in
theorem pointB_11 (c : Dev nD) (t : Fin cfg0.N) (h0 : ¬t.val % 32 = 0) :
    (outsAt0 m c t.val t.isLt).2.2.2.2.2.1 = lossT (iblk m c 0 t) (iblk m c 1 t) (iblk m c 2 t) (iblk m c 3 t) (iblk m c 4 t) (iblk m c 5 t) ((outsAt0 m c (t.val - 1) (Nat.lt_of_le_of_lt (Nat.sub_le _ _) t.isLt)).2.2.2.2.2.1) := by
  rw [outsAt0_B m c t h0]
  dsimp only
  unfold out0_B_11
  rw [View.read_writes_junk_eq_canon]
  unfold kernelRun0_B
  dsimp only
  sl_unfold_words
  simp only [View.readAt_eq_ld, Memref.IsWhole.read_unread, readCov_ld, View.ld_unit_zero (S := S256x1024) hz2, View.ld_unit_zero (S := S1x1024) hz2, View.ld_unit_zero (S := S1x1) hz2, View.canon_cons_unit_zero (S := S256x1024) hz2, View.canon_cons_unit_zero (S := S1x1024) hz2, View.canon_cons_unit_zero (S := S1x1) hz2]
  rfl

set_option maxHeartbeats 4000000 in
theorem pointA_12 (c : Dev nD) (t : Fin cfg0.N) (h0 : t.val % 32 = 0) :
    (outsAt0 m c t.val t.isLt).2.2.2.2.2.2 = dgT (iblk m c 0 t) (iblk m c 1 t) (iblk m c 2 t) (iblk m c 3 t) (iblk m c 4 t) (iblk m c 5 t) k0_pay7 := by
  rw [outsAt0_A m c t h0]
  dsimp only
  unfold out0_A_12
  rw [View.read_writes_junk_eq_canon]
  unfold kernelRun0_A
  dsimp only
  sl_unfold_words
  simp only [View.readAt_eq_ld, Memref.IsWhole.read_unread, readCov_ld, View.ld_unit_zero (S := S256x1024) hz2, View.ld_unit_zero (S := S1x1024) hz2, View.ld_unit_zero (S := S1x1) hz2, View.canon_cons_unit_zero (S := S256x1024) hz2, View.canon_cons_unit_zero (S := S1x1024) hz2, View.canon_cons_unit_zero (S := S1x1) hz2]
  rfl

set_option maxHeartbeats 4000000 in
theorem pointB_12 (c : Dev nD) (t : Fin cfg0.N) (h0 : ¬t.val % 32 = 0) :
    (outsAt0 m c t.val t.isLt).2.2.2.2.2.2 = dgT (iblk m c 0 t) (iblk m c 1 t) (iblk m c 2 t) (iblk m c 3 t) (iblk m c 4 t) (iblk m c 5 t) ((outsAt0 m c (t.val - 1) (Nat.lt_of_le_of_lt (Nat.sub_le _ _) t.isLt)).2.2.2.2.2.2) := by
  rw [outsAt0_B m c t h0]
  dsimp only
  unfold out0_B_12
  rw [View.read_writes_junk_eq_canon]
  unfold kernelRun0_B
  dsimp only
  sl_unfold_words
  simp only [View.readAt_eq_ld, Memref.IsWhole.read_unread, readCov_ld, View.ld_unit_zero (S := S256x1024) hz2, View.ld_unit_zero (S := S1x1024) hz2, View.ld_unit_zero (S := S1x1) hz2, View.canon_cons_unit_zero (S := S256x1024) hz2, View.canon_cons_unit_zero (S := S1x1024) hz2, View.canon_cons_unit_zero (S := S1x1) hz2]
  rfl

theorem point_6 (c : Dev nD) (t : Fin cfg0.N) : (outsAt0 m c t.val t.isLt).1 = hT (iblk m c 0 t) (iblk m c 1 t) := by
  by_cases h0 : t.val % 32 = 0
  · exact pointA_6 m c t h0
  · exact pointB_6 m c t h0

theorem point_7 (c : Dev nD) (t : Fin cfg0.N) : (outsAt0 m c t.val t.isLt).2.1 = guT (iblk m c 0 t) (iblk m c 1 t) (iblk m c 2 t) := by
  by_cases h0 : t.val % 32 = 0
  · exact pointA_7 m c t h0
  · exact pointB_7 m c t h0

theorem point_8 (c : Dev nD) (t : Fin cfg0.N) : (outsAt0 m c t.val t.isLt).2.2.1 = actT (iblk m c 0 t) (iblk m c 1 t) (iblk m c 2 t) := by
  by_cases h0 : t.val % 32 = 0
  · exact pointA_8 m c t h0
  · exact pointB_8 m c t h0

end Cert.FfnFwd

end
-- ==== Proof.Ffn.FwdRows.lean ====
module

public import proofs.«01_k».proof.Proof.Ffn.FwdPoints
public import proofs.«01_k».proof.Proof.Gen.Reference6Ideal.Read

@[expose] public section

set_option maxRecDepth 16384

noncomputable section

namespace Cert.FfnFwd

open Cert.Kernel6Ideal Cert.Kernel6Ideal.Gen Cert.Reference6Ideal.Read Cert.Ffn
open Idealize.ShloMosaic Idealize.ShloMosaic.TcCoe Idealize.ShloMosaic.Tactic

/-! ## The tiles of the reference's values

A point computes from its tile of 256 rows the reference's values on those rows. -/

variable {t : Fin 32} {x0 x5 : FVec Ideal S256x1024 .f32} {a0 a5 : FVec Ideal S8192x1024 .f32}
  (a1 : FVec Ideal S1x1024 .f32) (a2 : FVec Ideal S4x1024x1408 .bf16) (a3 : FVec Ideal S2816x1024 .bf16) (a4 : FVec Ideal S1x1024 .f32)

/-- Tile `t` of an array. -/
def Tile (t : Fin 32) (x : FVec Ideal S256x1024 .f32) (a : FVec Ideal S8192x1024 .f32) : Prop := ∀ r l, x (ix2 r l) = a (ix2 (row t r) l)

theorem h_at (h : Tile t x0 a0) (r : Fin 256) (l : Fin 1024) :
    (hT (F := Ideal) x0 a1 (ix2 r l) : EReal) = val_main_v11 (F := Ideal) a0 a1 (ix2 (row t r) l) := by
  pointwise [hT, k0_pay8, val_main_v11, val_main_v10, val_main_v9, val_main_v8, val_main_v7, val_main_v6, val_main_v5, val_main_v4, val_main_v3, val_main_v2, val_main_v1, val_main_v0, val_main_cst, val_main_cst_0, val_main_cst_1]
  simp only [h r]

theorem shard0_at (d : Fin 1024) (l : Fin 1408) : (shard0 (F := Ideal) a2 (ix3 (0 : Fin 1) d l) : EReal) = val_main_v14 (F := Ideal) a2 (ix2 d (⟨0 + l.val, by omega⟩ : Fin 5632)) := by
  rw [val_main_v14_apply, val_main_v13_apply, val_main_v12_apply]
  refine congrArg a2 (funext fun a => Fin.ext ?_)
  match a with
  | ⟨0, _⟩ => show 0 + 1 * 0 = (d.val * 5632 + (0 + l.val)) / 1408 % 4; omega
  | ⟨1, _⟩ => show 0 + 1 * d.val = (d.val * 5632 + (0 + l.val)) / 5632; omega
  | ⟨2, _⟩ => show 0 + 1 * l.val = (d.val * 5632 + (0 + l.val)) % 1408; omega

theorem shard1_at (d : Fin 1024) (l : Fin 1408) : (shard1 (F := Ideal) a2 (ix3 (0 : Fin 1) d l) : EReal) = val_main_v14 (F := Ideal) a2 (ix2 d (⟨1408 + l.val, by omega⟩ : Fin 5632)) := by
  rw [val_main_v14_apply, val_main_v13_apply, val_main_v12_apply]
  refine congrArg a2 (funext fun a => Fin.ext ?_)
  match a with
  | ⟨0, _⟩ => show 1 + 1 * 0 = (d.val * 5632 + (1408 + l.val)) / 1408 % 4; omega
  | ⟨1, _⟩ => show 0 + 1 * d.val = (d.val * 5632 + (1408 + l.val)) / 5632; omega
  | ⟨2, _⟩ => show 0 + 1 * l.val = (d.val * 5632 + (1408 + l.val)) % 1408; omega

theorem shard2_at (d : Fin 1024) (l : Fin 1408) : (shard2 (F := Ideal) a2 (ix3 (0 : Fin 1) d l) : EReal) = val_main_v14 (F := Ideal) a2 (ix2 d (⟨2816 + l.val, by omega⟩ : Fin 5632)) := by
  rw [val_main_v14_apply, val_main_v13_apply, val_main_v12_apply]
  refine congrArg a2 (funext fun a => Fin.ext ?_)
  match a with
  | ⟨0, _⟩ => show 2 + 1 * 0 = (d.val * 5632 + (2816 + l.val)) / 1408 % 4; omega
  | ⟨1, _⟩ => show 0 + 1 * d.val = (d.val * 5632 + (2816 + l.val)) / 5632; omega
  | ⟨2, _⟩ => show 0 + 1 * l.val = (d.val * 5632 + (2816 + l.val)) % 1408; omega

theorem shard3_at (d : Fin 1024) (l : Fin 1408) : (shard3 (F := Ideal) a2 (ix3 (0 : Fin 1) d l) : EReal) = val_main_v14 (F := Ideal) a2 (ix2 d (⟨4224 + l.val, by omega⟩ : Fin 5632)) := by
  rw [val_main_v14_apply, val_main_v13_apply, val_main_v12_apply]
  refine congrArg a2 (funext fun a => Fin.ext ?_)
  match a with
  | ⟨0, _⟩ => show 3 + 1 * 0 = (d.val * 5632 + (4224 + l.val)) / 1408 % 4; omega
  | ⟨1, _⟩ => show 0 + 1 * d.val = (d.val * 5632 + (4224 + l.val)) / 5632; omega
  | ⟨2, _⟩ => show 0 + 1 * l.val = (d.val * 5632 + (4224 + l.val)) % 1408; omega

theorem down0_at (q : Fin 1408) (l : Fin 1024) : (down0 (F := Ideal) a3 (ix2 q l) : EReal) = val_main_v20 (F := Ideal) a3 (ix2 (⟨0 + q.val, by omega⟩ : Fin 2816) l) := by
  rw [val_main_v20_apply]
  refine congrArg a3 (funext fun a => Fin.ext ?_)
  match a with
  | ⟨0, _⟩ => show 0 + 1 * q.val = 0 + q.val; omega
  | ⟨1, _⟩ => show 0 + 1 * l.val = l.val; omega

theorem down1_at (q : Fin 1408) (l : Fin 1024) : (down1 (F := Ideal) a3 (ix2 q l) : EReal) = val_main_v20 (F := Ideal) a3 (ix2 (⟨1408 + q.val, by omega⟩ : Fin 2816) l) := by
  rw [val_main_v20_apply]
  refine congrArg a3 (funext fun a => Fin.ext ?_)
  match a with
  | ⟨0, _⟩ => show 1408 + 1 * q.val = 1408 + q.val; omega
  | ⟨1, _⟩ => show 0 + 1 * l.val = l.val; omega

theorem gu0_at (h : Tile t x0 a0) (r : Fin 256) (l : Fin 1408) :
    (k0_pay9 (F := Ideal) x0 a1 (shard0 a2) (ix2 r l) : EReal) = val_main_v15 (F := Ideal) a0 a1 a2 (ix2 (row t r) (⟨0 + l.val, by omega⟩ : Fin 5632)) := by
  have e := h_at a1 h r
  have e2 := fun d => shard0_at a2 d l
  revert e e2
  unfold k0_pay9 hT
  generalize k0_pay8 (F := Ideal) x0 a1 = y
  generalize shard0 (F := Ideal) a2 = z
  intro e e2
  pointwise [val_main_v15]
  try simp only [Nat.zero_add] at e e2 ⊢
  simp only [e, e2]

theorem gu2_at (h : Tile t x0 a0) (r : Fin 256) (l : Fin 1408) :
    (k0_pay10 (F := Ideal) x0 a1 (shard2 a2) (ix2 r l) : EReal) = val_main_v15 (F := Ideal) a0 a1 a2 (ix2 (row t r) (⟨2816 + l.val, by omega⟩ : Fin 5632)) := by
  have e := h_at a1 h r
  have e2 := fun d => shard2_at a2 d l
  revert e e2
  unfold k0_pay10 hT
  generalize k0_pay8 (F := Ideal) x0 a1 = y
  generalize shard2 (F := Ideal) a2 = z
  intro e e2
  pointwise [val_main_v15]
  try simp only [Nat.zero_add] at e e2 ⊢
  simp only [e, e2]

theorem gu1_at (h : Tile t x0 a0) (r : Fin 256) (l : Fin 1408) :
    (k0_pay16 (F := Ideal) (hT x0 a1) (shard1 a2) (ix2 r l) : EReal) = val_main_v15 (F := Ideal) a0 a1 a2 (ix2 (row t r) (⟨1408 + l.val, by omega⟩ : Fin 5632)) := by
  have e := h_at a1 h r
  have e2 := fun d => shard1_at a2 d l
  revert e e2
  unfold k0_pay16 hT
  generalize k0_pay8 (F := Ideal) x0 a1 = y
  generalize shard1 (F := Ideal) a2 = z
  intro e e2
  pointwise [val_main_v15]
  try simp only [Nat.zero_add] at e e2 ⊢
  simp only [e, e2]

theorem gu3_at (h : Tile t x0 a0) (r : Fin 256) (l : Fin 1408) :
    (k0_pay17 (F := Ideal) (hT x0 a1) (shard3 a2) (ix2 r l) : EReal) = val_main_v15 (F := Ideal) a0 a1 a2 (ix2 (row t r) (⟨4224 + l.val, by omega⟩ : Fin 5632)) := by
  have e := h_at a1 h r
  have e2 := fun d => shard3_at a2 d l
  revert e e2
  unfold k0_pay17 hT
  generalize k0_pay8 (F := Ideal) x0 a1 = y
  generalize shard3 (F := Ideal) a2 = z
  intro e e2
  pointwise [val_main_v15]
  try simp only [Nat.zero_add] at e e2 ⊢
  simp only [e, e2]

theorem actA_at (h : Tile t x0 a0) (r : Fin 256) (l : Fin 1408) :
    (actA (F := Ideal) x0 a1 a2 (ix2 r l) : EReal) = val_main_v19 (F := Ideal) a0 a1 a2 (ix2 (row t r) (⟨0 + l.val, by omega⟩ : Fin 2816)) := by
  have e := gu0_at a1 a2 h r l
  have e2 := gu2_at a1 a2 h r l
  have s : val_main_v16 (F := Ideal) a0 a1 a2 (ix2 (row t r) (⟨0 + l.val, by omega⟩ : Fin 2816)) = val_main_v15 (F := Ideal) a0 a1 a2 (ix2 (row t r) (⟨0 + l.val, by omega⟩ : Fin 5632)) := by
    rw [val_main_v16_apply]
    refine congrArg (val_main_v15 (F := Ideal) a0 a1 a2) (funext fun a => Fin.ext ?_)
    match a with
    | ⟨0, _⟩ => rfl
    | ⟨1, _⟩ => rfl
  have s2 : val_main_v17 (F := Ideal) a0 a1 a2 (ix2 (row t r) (⟨0 + l.val, by omega⟩ : Fin 2816)) = val_main_v15 (F := Ideal) a0 a1 a2 (ix2 (row t r) (⟨2816 + l.val, by omega⟩ : Fin 5632)) := by
    rw [val_main_v17_apply]
    refine congrArg (val_main_v15 (F := Ideal) a0 a1 a2) (funext fun a => Fin.ext ?_)
    match a with
    | ⟨0, _⟩ => rfl
    | ⟨1, _⟩ => show 2816 + (0 + l.val) = 2816 + l.val; omega
  unfold actA k0_pay14 k0_pay13
  pointwise [val_main_v19, val_main_v18, val_main_call0_v5, val_main_call0_v4, val_main_call0_v3, val_main_call0_v2, val_main_call0_v1, val_main_call0_v0, val_main_call0_cst, val_main_call0_cst_0]
  try simp only [Nat.zero_add] at e e2 s s2 ⊢
  simp only [e, e2, s, s2, zero_sub]

theorem actB_at (h : Tile t x0 a0) (r : Fin 256) (l : Fin 1408) :
    (actB (F := Ideal) x0 a1 a2 (ix2 r l) : EReal) = val_main_v19 (F := Ideal) a0 a1 a2 (ix2 (row t r) (⟨1408 + l.val, by omega⟩ : Fin 2816)) := by
  have e := gu1_at a1 a2 h r l
  have e2 := gu3_at a1 a2 h r l
  have s : val_main_v16 (F := Ideal) a0 a1 a2 (ix2 (row t r) (⟨1408 + l.val, by omega⟩ : Fin 2816)) = val_main_v15 (F := Ideal) a0 a1 a2 (ix2 (row t r) (⟨1408 + l.val, by omega⟩ : Fin 5632)) := by
    rw [val_main_v16_apply]
    refine congrArg (val_main_v15 (F := Ideal) a0 a1 a2) (funext fun a => Fin.ext ?_)
    match a with
    | ⟨0, _⟩ => rfl
    | ⟨1, _⟩ => rfl
  have s2 : val_main_v17 (F := Ideal) a0 a1 a2 (ix2 (row t r) (⟨1408 + l.val, by omega⟩ : Fin 2816)) = val_main_v15 (F := Ideal) a0 a1 a2 (ix2 (row t r) (⟨4224 + l.val, by omega⟩ : Fin 5632)) := by
    rw [val_main_v17_apply]
    refine congrArg (val_main_v15 (F := Ideal) a0 a1 a2) (funext fun a => Fin.ext ?_)
    match a with
    | ⟨0, _⟩ => rfl
    | ⟨1, _⟩ => show 2816 + (1408 + l.val) = 4224 + l.val; omega
  unfold actB k0_pay20
  pointwise [val_main_v19, val_main_v18, val_main_call0_v5, val_main_call0_v4, val_main_call0_v3, val_main_call0_v2, val_main_call0_v1, val_main_call0_v0, val_main_call0_cst, val_main_call0_cst_0]
  try simp only [Nat.zero_add] at e e2 s s2 ⊢
  simp only [e, e2, s, s2, zero_sub]

/-- The residual stream after the down product: the two halves are added one after the other. -/
theorem x2_at (h : Tile t x0 a0) (r : Fin 256) (l : Fin 1024) :
    (k0_pay21 (F := Ideal) (midT x0 a1 a2 a3) (actB x0 a1 a2) (down1 a3) (ix2 r l) : EReal) = val_main_v22 (F := Ideal) a0 a1 a2 a3 (ix2 (row t r) l) := by
  have e := actA_at a1 a2 h r
  have e2 := actB_at a1 a2 h r
  have d := fun q => down0_at a3 q l
  have d2 := fun q => down1_at a3 q l
  have s := sum_halves (fun k => val_main_v19 (F := Ideal) a0 a1 a2 (ix2 (row t r) k) * val_main_v20 (F := Ideal) a3 (ix2 k l))
  revert e e2 d d2
  unfold midT k0_pay15 actA
  generalize k0_pay14 (F := Ideal) _ _ _ = y
  generalize actB (F := Ideal) x0 a1 a2 = y2
  generalize down0 (F := Ideal) a3 = z
  generalize down1 (F := Ideal) a3 = z2
  intro e e2 d d2
  pointwise [k0_pay21, val_main_v22, val_main_v21]
  simp only [e, e2, d, d2, h r l]
  refine (add_assoc _ _ _).trans (congrArg (_ + ·) s.symm)

/-- The error of the normed rows. -/
theorem err_at (h : Tile t x0 a0) (h5 : Tile t x5 a5) (r : Fin 256) (l : Fin 1024) :
    (k0_pay22 (F := Ideal) (midT x0 a1 a2 a3) (actB x0 a1 a2) (down1 a3) a4 x5 (ix2 r l) : EReal) = val_main_v38 (F := Ideal) a0 a1 a2 a3 a4 a5 (ix2 (row t r) l) := by
  have e := x2_at a1 a2 a3 h r
  revert e
  generalize midT (F := Ideal) x0 a1 a2 a3 = y
  generalize actB (F := Ideal) x0 a1 a2 = y2
  generalize down1 (F := Ideal) a3 = y3
  intro e
  pointwise [k0_pay22, val_main_v38, val_main_v37, val_main_v36, val_main_v35, val_main_v34, val_main_v30, val_main_v29, val_main_v28, val_main_v27, val_main_v26, val_main_v25, val_main_v24, val_main_v23, val_main_cst_2, val_main_cst_3, val_main_cst_4]
  simp only [e, h5 r l]

theorem half_real : (Ideal.ofBits .f32 0x3F000000#32 : EReal) = (((1 : ℝ) / 2 : ℝ) : EReal) := by
  simp [Ideal.ofBits, Ideal.ieee]
  rw [← EReal.coe_mul]
  norm_num

theorem scale_real : (Ideal.ofBits .f32 0x3A800000#32 : EReal) = (((1 : ℝ) / 1024 : ℝ) : EReal) := by
  simp [Ideal.ofBits, Ideal.ieee]
  rw [← EReal.coe_mul]
  norm_num

theorem two_real : (Ideal.ofBits .f32 0x40000000#32 : EReal) = ((2 : ℝ) : EReal) := by
  simp [Ideal.ofBits, Ideal.ieee]
  rw [← EReal.coe_mul]
  norm_num

theorem width_real : (Ideal.ofBits .f32 0x44800000#32 : EReal) = ((1024 : ℝ) : EReal) := by
  simp [Ideal.ofBits, Ideal.ieee]
  rw [← EReal.coe_mul]
  norm_num

/-- The kernel scales the error by 1/1024 where the reference halves, divides by 1024 and doubles. -/
theorem scales (e z : EReal) :
    e * Ideal.ofBits .f32 0x3A800000#32 * z
      = z * (Ideal.div (Ideal.ofBits .f32 0x3F000000#32) (Ideal.ofBits .f32 0x44800000#32) * (Ideal.ofBits .f32 0x40000000#32 * e)) := by
  have k : Ideal.div (Ideal.ofBits .f32 0x3F000000#32) (Ideal.ofBits .f32 0x44800000#32) * Ideal.ofBits .f32 0x40000000#32 = Ideal.ofBits .f32 0x3A800000#32 := by
    rw [half_real, scale_real, two_real, width_real]
    unfold Ideal.div
    rw [if_neg (by norm_num), ← EReal.coe_inv, ← EReal.coe_mul, ← EReal.coe_mul]
    norm_num
  rw [← mul_assoc (Ideal.div _ _), k, mul_comm z, mul_comm e]

/-- The tile's part of the loss. -/
theorem loss_at (h : Tile t x0 a0) (h5 : Tile t x5 a5) (s : FVec Ideal S1x1 .f32) :
    (lossT (F := Ideal) x0 a1 a2 a3 a4 x5 s (ix2 (0 : Fin 1) (0 : Fin 1)) : EReal)
      = s (ix2 (0 : Fin 1) (0 : Fin 1)) + Ideal.ofBits .f32 0x3F000000#32 * ∑ r : Fin 256, (val_main_v44 (F := Ideal) a0 a1 a2 a3 a4 a5 (ix1 (row t r)) : EReal) := by
  have e := err_at a1 a2 a3 a4 h h5
  revert e
  unfold lossT
  generalize midT (F := Ideal) x0 a1 a2 a3 = y
  generalize actB (F := Ideal) x0 a1 a2 = y2
  generalize down1 (F := Ideal) a3 = y3
  intro e
  pointwise [k0_pay23, val_main_v44, val_main_v43, val_main_v42, val_main_v39, val_main_cst_7, val_main_cst_8]
  simp only [e]

/-- The tile's part of the gradient of the last norm's scale. -/
theorem dg_at (h : Tile t x0 a0) (h5 : Tile t x5 a5) (s : FVec Ideal S1x1024 .f32) (l : Fin 1024) :
    (dgT (F := Ideal) x0 a1 a2 a3 a4 x5 s (ix2 (0 : Fin 1) l) : EReal)
      = s (ix2 (0 : Fin 1) l) + ∑ r : Fin 256, (val_main_v53 (F := Ideal) a0 a1 a2 a3 a4 a5 (ix2 (row t r) l) : EReal) := by
  have e := err_at a1 a2 a3 a4 h h5
  have e2 := x2_at a1 a2 a3 h
  revert e e2
  unfold dgT
  generalize midT (F := Ideal) x0 a1 a2 a3 = y
  generalize actB (F := Ideal) x0 a1 a2 = y2
  generalize down1 (F := Ideal) a3 = y3
  intro e e2
  pointwise [k0_pay4, k0_pay2, k0_pay1, k0_pay24, k0_pay25, k0_pay26, val_main_v53, val_main_v52, val_main_v51, val_main_v50, val_main_v49, val_main_v48, val_main_v47, val_main_v41, val_main_v40, val_main_cst_6, val_main_cst_11, val_main_cst_12, val_main_cst_13,
    val_main_v35, val_main_v34, val_main_v30, val_main_v29, val_main_v28, val_main_v27, val_main_v26, val_main_v25, val_main_v24, val_main_v23, val_main_cst_2, val_main_cst_3, val_main_cst_4]
  simp only [e, e2]
  exact congrArg (_ + ·) (Finset.sum_congr rfl fun r _ => scales _ _)

end Cert.FfnFwd

end
-- ==== Proof.Ffn.FwdResults.lean ====
module

public import proofs.«01_k».proof.Proof.Ffn.FwdRows

@[expose] public section

set_option maxRecDepth 16384

noncomputable section

namespace Cert.FfnFwd

open Cert.Kernel6Ideal Cert.Kernel6Ideal.Gen Cert.Kernel6Ideal.Value Cert.Reference6Ideal.Read Cert.Ffn
open Idealize.ShloMosaic Idealize.ShloMosaic.TcCoe Idealize.ShloMosaic.Tactic

variable {t : Fin 32} {x0 x5 : FVec Ideal S256x1024 .f32} {a0 a5 : FVec Ideal S8192x1024 .f32}
  (a1 : FVec Ideal S1x1024 .f32) (a2 : FVec Ideal S4x1024x1408 .bf16) (a3 : FVec Ideal S2816x1024 .bf16) (a4 : FVec Ideal S1x1024 .f32)

/-! ## The results that are stored as column blocks -/

theorem gates0_at (h : Tile t x0 a0) (r : Fin 256) (l : Fin 1408) :
    (k0_pay11 (F := Ideal) x0 a1 (shard0 a2) (ix2 r l) : EReal) = val_main_v15 (F := Ideal) a0 a1 a2 (ix2 (row t r) (⟨0 + l.val, by omega⟩ : Fin 5632)) :=
  gu0_at a1 a2 h r l

theorem gates1_at (h : Tile t x0 a0) (r : Fin 256) (l : Fin 1408) :
    (k0_pay18 (F := Ideal) (hT x0 a1) (shard1 a2) (ix2 r l) : EReal) = val_main_v15 (F := Ideal) a0 a1 a2 (ix2 (row t r) (⟨1408 + l.val, by omega⟩ : Fin 5632)) :=
  gu1_at a1 a2 h r l

theorem gates2_at (h : Tile t x0 a0) (r : Fin 256) (l : Fin 1408) :
    (k0_pay12 (F := Ideal) x0 a1 (shard2 a2) (ix2 r l) : EReal) = val_main_v15 (F := Ideal) a0 a1 a2 (ix2 (row t r) (⟨2816 + l.val, by omega⟩ : Fin 5632)) :=
  gu2_at a1 a2 h r l

theorem gates3_at (h : Tile t x0 a0) (r : Fin 256) (l : Fin 1408) :
    (k0_pay19 (F := Ideal) (hT x0 a1) (shard3 a2) (ix2 r l) : EReal) = val_main_v15 (F := Ideal) a0 a1 a2 (ix2 (row t r) (⟨4224 + l.val, by omega⟩ : Fin 5632)) :=
  gu3_at a1 a2 h r l

/-- The column blocks of the gates and ups are the reference's columns. -/
theorem gates_at (h : Tile t x0 a0) (r : Fin 256) (j : Fin 5632) :
    (guT (F := Ideal) x0 a1 a2 (ix2 r j) : EReal) = val_main_v15 (F := Ideal) a0 a1 a2 (ix2 (row t r) j) := by
  have hj := j.isLt
  have key : ∃ q, q < 1408 ∧ (j.val = 0 + q ∨ j.val = 1408 + q ∨ j.val = 2816 + q ∨ j.val = 4224 + q) :=
    ⟨j.val % 1408, Nat.mod_lt _ (by decide), by omega⟩
  obtain ⟨q, hq, e⟩ := key
  unfold guT
  rcases e with e | e | e | e
  · have b : 0 + q < 5632 := by omega
    obtain rfl : j = (⟨0 + (⟨q, hq⟩ : Fin 1408).val, b⟩ : Fin 5632) := Fin.ext e
    exact ((block_skip 4224 _ _ _ r _ (by show 0 + q < 4224 ∨ 4224 + 1408 ≤ 0 + q; omega)).trans ((block_skip 1408 _ _ _ r _ (by show 0 + q < 1408 ∨ 1408 + 1408 ≤ 0 + q; omega)).trans ((block_skip 2816 _ _ _ r _ (by show 0 + q < 2816 ∨ 2816 + 1408 ≤ 0 + q; omega)).trans (block_hit 0 _ _ _ r _ _)))).trans (gates0_at a1 a2 h r ⟨q, hq⟩)
  · have b : 1408 + q < 5632 := by omega
    obtain rfl : j = (⟨1408 + (⟨q, hq⟩ : Fin 1408).val, b⟩ : Fin 5632) := Fin.ext e
    exact ((block_skip 4224 _ _ _ r _ (by show 1408 + q < 4224 ∨ 4224 + 1408 ≤ 1408 + q; omega)).trans (block_hit 1408 _ _ _ r _ _)).trans (gates1_at a1 a2 h r ⟨q, hq⟩)
  · have b : 2816 + q < 5632 := by omega
    obtain rfl : j = (⟨2816 + (⟨q, hq⟩ : Fin 1408).val, b⟩ : Fin 5632) := Fin.ext e
    exact ((block_skip 4224 _ _ _ r _ (by show 2816 + q < 4224 ∨ 4224 + 1408 ≤ 2816 + q; omega)).trans ((block_skip 1408 _ _ _ r _ (by show 2816 + q < 1408 ∨ 1408 + 1408 ≤ 2816 + q; omega)).trans (block_hit 2816 _ _ _ r _ _))).trans (gates2_at a1 a2 h r ⟨q, hq⟩)
  · have b : 4224 + q < 5632 := by omega
    obtain rfl : j = (⟨4224 + (⟨q, hq⟩ : Fin 1408).val, b⟩ : Fin 5632) := Fin.ext e
    exact (block_hit 4224 _ _ _ r _ _).trans (gates3_at a1 a2 h r ⟨q, hq⟩)

theorem act_at (h : Tile t x0 a0) (r : Fin 256) (j : Fin 2816) :
    (actT (F := Ideal) x0 a1 a2 (ix2 r j) : EReal) = val_main_v19 (F := Ideal) a0 a1 a2 (ix2 (row t r) j) := by
  have hj := j.isLt
  have key : ∃ q, q < 1408 ∧ (j.val = 0 + q ∨ j.val = 1408 + q) := ⟨j.val % 1408, Nat.mod_lt _ (by decide), by omega⟩
  obtain ⟨q, hq, e⟩ := key
  unfold actT
  rcases e with e | e
  · have b : 0 + q < 2816 := by omega
    obtain rfl : j = (⟨0 + (⟨q, hq⟩ : Fin 1408).val, b⟩ : Fin 2816) := Fin.ext e
    exact ((block_skip 1408 _ _ _ r _ (by show 0 + q < 1408 ∨ 1408 + 1408 ≤ 0 + q; omega)).trans (block_hit 0 _ _ _ r _ _)).trans (actA_at a1 a2 h r ⟨q, hq⟩)
  · have b : 1408 + q < 2816 := by omega
    obtain rfl : j = (⟨1408 + (⟨q, hq⟩ : Fin 1408).val, b⟩ : Fin 2816) := Fin.ext e
    exact (block_hit 1408 _ _ _ r _ _).trans (actB_at a1 a2 h r ⟨q, hq⟩)

/-! ## The blocks that a point reads -/

variable (m : (ℓ : Loc Cert.Kernel6Ideal.nD Cert.Kernel6Ideal.τ Cert.Kernel6Ideal.sig) → Buf (Elt Ideal) ℓ)

attribute [local irreducible] outsAt0

/-- Argument 0. -/
def arg0 (c : Dev nD) : FVec Ideal S8192x1024 .f32 := m ((c : Thread nD τ).loc main_arg0)
/-- Argument 1. -/
def arg1 (c : Dev nD) : FVec Ideal S1x1024 .f32 := m ((c : Thread nD τ).loc main_arg1)
/-- Argument 2. -/
def arg2 (c : Dev nD) : FVec Ideal S4x1024x1408 .bf16 := m ((c : Thread nD τ).loc main_arg2)
/-- Argument 3. -/
def arg3 (c : Dev nD) : FVec Ideal S2816x1024 .bf16 := m ((c : Thread nD τ).loc main_arg3)
/-- Argument 4. -/
def arg4 (c : Dev nD) : FVec Ideal S1x1024 .f32 := m ((c : Thread nD τ).loc main_arg4)
/-- Argument 5. -/
def arg5 (c : Dev nD) : FVec Ideal S8192x1024 .f32 := m ((c : Thread nD τ).loc main_arg5)

theorem index_0 : ∀ t : Fin cfg0.N, win0_0.index t = ![t.val, 0] := (by decide +kernel : ∀ t : Fin grid0.N, _)

theorem tile_0 (c : Dev nD) (t : Fin cfg0.N) : Tile (t.cast N_0) (iblk m c 0 t) (arg0 m c) := by
  intro r d
  have e := index_0 t
  unfold iblk
  show arg0 m c (((cfg0.win 0).blk t).view.emb (ix2 r d)) = _
  refine congrArg _ (funext fun a => Fin.ext ?_)
  match a with
  | ⟨0, _⟩ => show win0_0.index t (0 : Fin 2) * 256 + 1 * r.val = 256 * t.val + r.val; rw [e]; show t.val * 256 + 1 * r.val = _; omega
  | ⟨1, _⟩ => show win0_0.index t (1 : Fin 2) * 1024 + 1 * d.val = d.val; rw [e]; show 0 * 1024 + 1 * d.val = _; omega

theorem index_1 : ∀ t : Fin cfg0.N, win0_1.index t = ![0, 0] := (by decide +kernel : ∀ t : Fin grid0.N, _)

theorem whole_1 (c : Dev nD) (t : Fin cfg0.N) : (iblk m c 1 t : S1x1024.Idx → EReal) = arg1 m c := by
  have e := index_1 t
  unfold iblk
  funext i
  show arg1 m c (((cfg0.win 1).blk t).view.emb i) = _
  refine congrArg _ (funext fun a => Fin.ext ?_)
  match a with
  | ⟨0, _⟩ => show win0_1.index t (0 : Fin 2) * 1 + 1 * (i 0).val = (i 0).val; rw [e]; show 0 * 1 + 1 * (i 0).val = _; omega
  | ⟨1, _⟩ => show win0_1.index t (1 : Fin 2) * 1024 + 1 * (i 1).val = (i 1).val; rw [e]; show 0 * 1024 + 1 * (i 1).val = _; omega

theorem index_2 : ∀ t : Fin cfg0.N, win0_2.index t = ![0, 0, 0] := (by decide +kernel : ∀ t : Fin grid0.N, _)

theorem whole_2 (c : Dev nD) (t : Fin cfg0.N) : (iblk m c 2 t : S4x1024x1408.Idx → EReal) = arg2 m c := by
  have e := index_2 t
  unfold iblk
  funext i
  show arg2 m c (((cfg0.win 2).blk t).view.emb i) = _
  refine congrArg _ (funext fun a => Fin.ext ?_)
  match a with
  | ⟨0, _⟩ => show win0_2.index t (0 : Fin 3) * 4 + 1 * (i 0).val = (i 0).val; rw [e]; show 0 * 4 + 1 * (i 0).val = _; omega
  | ⟨1, _⟩ => show win0_2.index t (1 : Fin 3) * 1024 + 1 * (i 1).val = (i 1).val; rw [e]; show 0 * 1024 + 1 * (i 1).val = _; omega
  | ⟨2, _⟩ => show win0_2.index t (2 : Fin 3) * 1408 + 1 * (i 2).val = (i 2).val; rw [e]; show 0 * 1408 + 1 * (i 2).val = _; omega

theorem index_3 : ∀ t : Fin cfg0.N, win0_3.index t = ![0, 0] := (by decide +kernel : ∀ t : Fin grid0.N, _)

theorem whole_3 (c : Dev nD) (t : Fin cfg0.N) : (iblk m c 3 t : S2816x1024.Idx → EReal) = arg3 m c := by
  have e := index_3 t
  unfold iblk
  funext i
  show arg3 m c (((cfg0.win 3).blk t).view.emb i) = _
  refine congrArg _ (funext fun a => Fin.ext ?_)
  match a with
  | ⟨0, _⟩ => show win0_3.index t (0 : Fin 2) * 2816 + 1 * (i 0).val = (i 0).val; rw [e]; show 0 * 2816 + 1 * (i 0).val = _; omega
  | ⟨1, _⟩ => show win0_3.index t (1 : Fin 2) * 1024 + 1 * (i 1).val = (i 1).val; rw [e]; show 0 * 1024 + 1 * (i 1).val = _; omega

theorem index_4 : ∀ t : Fin cfg0.N, win0_4.index t = ![0, 0] := (by decide +kernel : ∀ t : Fin grid0.N, _)

theorem whole_4 (c : Dev nD) (t : Fin cfg0.N) : (iblk m c 4 t : S1x1024.Idx → EReal) = arg4 m c := by
  have e := index_4 t
  unfold iblk
  funext i
  show arg4 m c (((cfg0.win 4).blk t).view.emb i) = _
  refine congrArg _ (funext fun a => Fin.ext ?_)
  match a with
  | ⟨0, _⟩ => show win0_4.index t (0 : Fin 2) * 1 + 1 * (i 0).val = (i 0).val; rw [e]; show 0 * 1 + 1 * (i 0).val = _; omega
  | ⟨1, _⟩ => show win0_4.index t (1 : Fin 2) * 1024 + 1 * (i 1).val = (i 1).val; rw [e]; show 0 * 1024 + 1 * (i 1).val = _; omega

theorem index_5 : ∀ t : Fin cfg0.N, win0_5.index t = ![t.val, 0] := (by decide +kernel : ∀ t : Fin grid0.N, _)

theorem tile_5 (c : Dev nD) (t : Fin cfg0.N) : Tile (t.cast N_0) (iblk m c 5 t) (arg5 m c) := by
  intro r d
  have e := index_5 t
  unfold iblk
  show arg5 m c (((cfg0.win 5).blk t).view.emb (ix2 r d)) = _
  refine congrArg _ (funext fun a => Fin.ext ?_)
  match a with
  | ⟨0, _⟩ => show win0_5.index t (0 : Fin 2) * 256 + 1 * r.val = 256 * t.val + r.val; rw [e]; show t.val * 256 + 1 * r.val = _; omega
  | ⟨1, _⟩ => show win0_5.index t (1 : Fin 2) * 1024 + 1 * d.val = d.val; rw [e]; show 0 * 1024 + 1 * d.val = _; omega

/-! ## The results that are written tile by tile -/

theorem index_6 : ∀ t : Fin cfg0.N, win0_6.index t = ![t.val, 0] := (by decide +kernel : ∀ t : Fin grid0.N, _)

theorem flushes_6 : ∀ t : Fin cfg0.N, (cfg0.win 6).flush t = true := (by decide +kernel : ∀ t : Fin grid0.N, _)

theorem place_6 (t : Fin cfg0.N) (r : Fin 256) (l : Fin 1024) : ((cfg0.win 6).blk t).view.emb (ix2 r l) = ix2 (row (t.cast N_0) r) l := by
  have e := index_6 t
  refine funext fun a => Fin.ext ?_
  match a with
  | ⟨0, _⟩ => show win0_6.index t (0 : Fin 2) * 256 + 1 * r.val = 256 * t.val + r.val; rw [e]; show t.val * 256 + 1 * r.val = _; omega
  | ⟨1, _⟩ => show win0_6.index t (1 : Fin 2) * 1024 + 1 * l.val = l.val; rw [e]; show 0 * 1024 + 1 * l.val = _; omega

theorem array_6 (c : Dev nD) (t : Fin cfg0.N) (r : Fin 256) (l : Fin 1024) :
    ((dats m 0 c).arrAt 6 cfg0.N : S8192x1024.Idx → EReal) (ix2 (row (t.cast N_0) r) l) = val_main_v11 (F := Ideal) (arg0 m c) (arg1 m c) (ix2 (row (t.cast N_0) r) l) := by
  have h := (blocks6 m c t (flushes_6 t)).trans (flushed6 m c t)
  rw [← place_6 t r l]
  refine (congrFun h (ix2 r l)).trans ?_
  rw [place_6 t r l]
  refine (congrArg (outsAt0 m c t.val t.isLt).1 (show _ = ix2 r l from funext fun a => Fin.ext rfl)).trans ?_
  refine (congrFun (point_6 m c t) (ix2 r l)).trans ?_
  rw [whole_1 m c t]
  exact h_at _ (tile_0 m c t) r l

theorem index_7 : ∀ t : Fin cfg0.N, win0_7.index t = ![t.val, 0] := (by decide +kernel : ∀ t : Fin grid0.N, _)

theorem flushes_7 : ∀ t : Fin cfg0.N, (cfg0.win 7).flush t = true := (by decide +kernel : ∀ t : Fin grid0.N, _)

theorem place_7 (t : Fin cfg0.N) (r : Fin 256) (l : Fin 5632) : ((cfg0.win 7).blk t).view.emb (ix2 r l) = ix2 (row (t.cast N_0) r) l := by
  have e := index_7 t
  refine funext fun a => Fin.ext ?_
  match a with
  | ⟨0, _⟩ => show win0_7.index t (0 : Fin 2) * 256 + 1 * r.val = 256 * t.val + r.val; rw [e]; show t.val * 256 + 1 * r.val = _; omega
  | ⟨1, _⟩ => show win0_7.index t (1 : Fin 2) * 5632 + 1 * l.val = l.val; rw [e]; show 0 * 5632 + 1 * l.val = _; omega

theorem array_7 (c : Dev nD) (t : Fin cfg0.N) (r : Fin 256) (l : Fin 5632) :
    ((dats m 0 c).arrAt 7 cfg0.N : S8192x5632.Idx → EReal) (ix2 (row (t.cast N_0) r) l) = val_main_v15 (F := Ideal) (arg0 m c) (arg1 m c) (arg2 m c) (ix2 (row (t.cast N_0) r) l) := by
  have h := (blocks7 m c t (flushes_7 t)).trans (flushed7 m c t)
  rw [← place_7 t r l]
  refine (congrFun h (ix2 r l)).trans ?_
  rw [place_7 t r l]
  refine (congrArg (outsAt0 m c t.val t.isLt).2.1 (show _ = ix2 r l from funext fun a => Fin.ext rfl)).trans ?_
  refine (congrFun (point_7 m c t) (ix2 r l)).trans ?_
  rw [whole_1 m c t, whole_2 m c t]
  exact gates_at _ _ (tile_0 m c t) r l

theorem index_8 : ∀ t : Fin cfg0.N, win0_8.index t = ![t.val, 0] := (by decide +kernel : ∀ t : Fin grid0.N, _)

theorem flushes_8 : ∀ t : Fin cfg0.N, (cfg0.win 8).flush t = true := (by decide +kernel : ∀ t : Fin grid0.N, _)

theorem place_8 (t : Fin cfg0.N) (r : Fin 256) (l : Fin 2816) : ((cfg0.win 8).blk t).view.emb (ix2 r l) = ix2 (row (t.cast N_0) r) l := by
  have e := index_8 t
  refine funext fun a => Fin.ext ?_
  match a with
  | ⟨0, _⟩ => show win0_8.index t (0 : Fin 2) * 256 + 1 * r.val = 256 * t.val + r.val; rw [e]; show t.val * 256 + 1 * r.val = _; omega
  | ⟨1, _⟩ => show win0_8.index t (1 : Fin 2) * 2816 + 1 * l.val = l.val; rw [e]; show 0 * 2816 + 1 * l.val = _; omega

theorem array_8 (c : Dev nD) (t : Fin cfg0.N) (r : Fin 256) (l : Fin 2816) :
    ((dats m 0 c).arrAt 8 cfg0.N : S8192x2816.Idx → EReal) (ix2 (row (t.cast N_0) r) l) = val_main_v19 (F := Ideal) (arg0 m c) (arg1 m c) (arg2 m c) (ix2 (row (t.cast N_0) r) l) := by
  have h := (blocks8 m c t (flushes_8 t)).trans (flushed8 m c t)
  rw [← place_8 t r l]
  refine (congrFun h (ix2 r l)).trans ?_
  rw [place_8 t r l]
  refine (congrArg (outsAt0 m c t.val t.isLt).2.2.1 (show _ = ix2 r l from funext fun a => Fin.ext rfl)).trans ?_
  refine (congrFun (point_8 m c t) (ix2 r l)).trans ?_
  rw [whole_1 m c t, whole_2 m c t]
  exact act_at _ _ (tile_0 m c t) r l

theorem row_split (i : Fin 8192) : ∃ (t : Fin cfg0.N) (r : Fin 256), i = row (t.cast N_0) r :=
  ⟨(⟨i.val / 256, by omega⟩ : Fin 32).cast N_0.symm, ⟨i.val % 256, Nat.mod_lt _ (by decide)⟩, Fin.ext (by show i.val = 256 * (i.val / 256) + i.val % 256; omega)⟩

theorem result_6 (c : Dev nD) : (dats m 0 c).arrAt 6 cfg0.N = val_main_v72 (F := Ideal) (arg0 m c) (arg1 m c) := by
  funext i
  rw [eq_ix2 (n0 := 8192) (n1 := 1024) i]
  obtain ⟨t, r, h⟩ := row_split (i 0)
  rw [h]
  exact array_6 m c t r (i 1)

theorem result_7 (c : Dev nD) : (dats m 0 c).arrAt 7 cfg0.N = val_main_v73 (F := Ideal) (arg0 m c) (arg1 m c) (arg2 m c) := by
  funext i
  rw [eq_ix2 (n0 := 8192) (n1 := 5632) i]
  obtain ⟨t, r, h⟩ := row_split (i 0)
  rw [h]
  exact array_7 m c t r (i 1)

theorem result_8 (c : Dev nD) : (dats m 0 c).arrAt 8 cfg0.N = val_main_v74 (F := Ideal) (arg0 m c) (arg1 m c) (arg2 m c) := by
  funext i
  rw [eq_ix2 (n0 := 8192) (n1 := 2816) i]
  obtain ⟨t, r, h⟩ := row_split (i 0)
  rw [h]
  exact array_8 m c t r (i 1)

/-! ## The results that grow from point to point -/

theorem last_lt : 31 < cfg0.N := by rw [show cfg0.N = 32 from N_0]; decide

def part_11 (c : Dev nD) (t : Fin 32) : EReal := Ideal.ofBits .f32 0x3F000000#32 * ∑ r : Fin 256, (val_main_v44 (F := Ideal) (arg0 m c) (arg1 m c) (arg2 m c) (arg3 m c) (arg4 m c) (arg5 m c) (ix1 (row t r)) : EReal)

theorem step_11 (c : Dev nD) (t : Fin cfg0.N) (s : FVec Ideal S1x1 .f32) :
    (lossT (F := Ideal) (iblk m c 0 t) (iblk m c 1 t) (iblk m c 2 t) (iblk m c 3 t) (iblk m c 4 t) (iblk m c 5 t) s (ix2 (0 : Fin 1) (0 : Fin 1)) : EReal) = s (ix2 (0 : Fin 1) (0 : Fin 1)) + part_11 m c (t.cast N_0) := by
  rw [whole_1 m c t, whole_2 m c t, whole_3 m c t, whole_4 m c t]
  exact loss_at _ _ _ _ (tile_0 m c t) (tile_5 m c t) s

/-- What the last point leaves is the sum of all parts. -/
theorem held_11 (c : Dev nD) : ((outsAt0 m c 31 last_lt).2.2.2.2.2.1 (ix2 (0 : Fin 1) (0 : Fin 1)) : EReal) = ∑ t : Fin 32, part_11 m c t := by
  refine total N_0 (part_11 m c) (fun n hn => ((outsAt0 m c n hn).2.2.2.2.2.1 (ix2 (0 : Fin 1) (0 : Fin 1)) : EReal)) ?_ ?_ last_lt
  · intro hn
    refine (congrFun (pointA_11 m c ⟨0, hn⟩ rfl) _).trans ((step_11 m c ⟨0, hn⟩ _).trans (congrArg (· + _) ?_))
    pointwise [k0_pay6]
  · intro n hn
    have hN : n + 1 < 32 := lt_of_lt_of_eq hn N_0
    exact (congrFun (pointB_11 m c ⟨n + 1, hn⟩ (by show ¬(n + 1) % 32 = 0; omega)) _).trans (step_11 m c ⟨n + 1, hn⟩ _)

theorem index_11 : ∀ t : Fin cfg0.N, win0_11.index t = ![0, 0] := (by decide +kernel : ∀ t : Fin grid0.N, _)

theorem flushes_11 : ∀ t : Fin cfg0.N, (cfg0.win 11).flush t = true ↔ t.val = 31 := (by decide +kernel : ∀ t : Fin grid0.N, _)

theorem place_11 (t : Fin cfg0.N) (r : Fin 1) (l : Fin 1) : ((cfg0.win 11).blk t).view.emb (ix2 r l) = ix2 r l := by
  have e := index_11 t
  refine funext fun a => Fin.ext ?_
  match a with
  | ⟨0, _⟩ => show win0_11.index t (0 : Fin 2) * 1 + 1 * r.val = r.val; rw [e]; show 0 * 1 + 1 * r.val = _; omega
  | ⟨1, _⟩ => show win0_11.index t (1 : Fin 2) * 1 + 1 * l.val = l.val; rw [e]; show 0 * 1 + 1 * l.val = _; omega

/-- The array is written once, after the last point. -/
theorem array_11 (c : Dev nD) (l : Fin 1) :
    ((dats m 0 c).arrAt 11 cfg0.N : S1x1.Idx → EReal) (ix2 (0 : Fin 1) l) = (outsAt0 m c 31 last_lt).2.2.2.2.2.1 (ix2 (0 : Fin 1) l) := by
  have h := (dats m 0 c).read_blk_arrAt_eq_flushed 11
    (fun t t' hf hf' hne => absurd (Fin.ext (((flushes_11 t).mp hf).trans ((flushes_11 t').mp hf').symm)) hne) cfg0.N ⟨31, last_lt⟩ last_lt ((flushes_11 ⟨31, last_lt⟩).mpr rfl)
  have h2 := h.trans (flushed11 m c ⟨31, last_lt⟩)
  rw [← place_11 ⟨31, last_lt⟩ 0 l]
  refine (congrFun h2 (ix2 0 l)).trans ?_
  rw [place_11 ⟨31, last_lt⟩ 0 l]
  exact congrArg (outsAt0 m c 31 last_lt).2.2.2.2.2.1 (show _ = ix2 0 l from funext fun a => Fin.ext rfl)

def part_12 (c : Dev nD) (l : Fin 1024) (t : Fin 32) : EReal := ∑ r : Fin 256, (val_main_v53 (F := Ideal) (arg0 m c) (arg1 m c) (arg2 m c) (arg3 m c) (arg4 m c) (arg5 m c) (ix2 (row t r) l) : EReal)

theorem step_12 (c : Dev nD) (l : Fin 1024) (t : Fin cfg0.N) (s : FVec Ideal S1x1024 .f32) :
    (dgT (F := Ideal) (iblk m c 0 t) (iblk m c 1 t) (iblk m c 2 t) (iblk m c 3 t) (iblk m c 4 t) (iblk m c 5 t) s (ix2 (0 : Fin 1) l) : EReal) = s (ix2 (0 : Fin 1) l) + part_12 m c l (t.cast N_0) := by
  rw [whole_1 m c t, whole_2 m c t, whole_3 m c t, whole_4 m c t]
  exact dg_at _ _ _ _ (tile_0 m c t) (tile_5 m c t) s l

/-- What the last point leaves is the sum of all parts. -/
theorem held_12 (c : Dev nD) (l : Fin 1024) : ((outsAt0 m c 31 last_lt).2.2.2.2.2.2 (ix2 (0 : Fin 1) l) : EReal) = ∑ t : Fin 32, part_12 m c l t := by
  refine total N_0 (part_12 m c l) (fun n hn => ((outsAt0 m c n hn).2.2.2.2.2.2 (ix2 (0 : Fin 1) l) : EReal)) ?_ ?_ last_lt
  · intro hn
    refine (congrFun (pointA_12 m c ⟨0, hn⟩ rfl) _).trans ((step_12 m c l ⟨0, hn⟩ _).trans (congrArg (· + _) ?_))
    pointwise [k0_pay7]
  · intro n hn
    have hN : n + 1 < 32 := lt_of_lt_of_eq hn N_0
    exact (congrFun (pointB_12 m c ⟨n + 1, hn⟩ (by show ¬(n + 1) % 32 = 0; omega)) _).trans (step_12 m c l ⟨n + 1, hn⟩ _)

theorem index_12 : ∀ t : Fin cfg0.N, win0_12.index t = ![0, 0] := (by decide +kernel : ∀ t : Fin grid0.N, _)

theorem flushes_12 : ∀ t : Fin cfg0.N, (cfg0.win 12).flush t = true ↔ t.val = 31 := (by decide +kernel : ∀ t : Fin grid0.N, _)

theorem place_12 (t : Fin cfg0.N) (r : Fin 1) (l : Fin 1024) : ((cfg0.win 12).blk t).view.emb (ix2 r l) = ix2 r l := by
  have e := index_12 t
  refine funext fun a => Fin.ext ?_
  match a with
  | ⟨0, _⟩ => show win0_12.index t (0 : Fin 2) * 1 + 1 * r.val = r.val; rw [e]; show 0 * 1 + 1 * r.val = _; omega
  | ⟨1, _⟩ => show win0_12.index t (1 : Fin 2) * 1024 + 1 * l.val = l.val; rw [e]; show 0 * 1024 + 1 * l.val = _; omega

/-- The array is written once, after the last point. -/
theorem array_12 (c : Dev nD) (l : Fin 1024) :
    ((dats m 0 c).arrAt 12 cfg0.N : S1x1024.Idx → EReal) (ix2 (0 : Fin 1) l) = (outsAt0 m c 31 last_lt).2.2.2.2.2.2 (ix2 (0 : Fin 1) l) := by
  have h := (dats m 0 c).read_blk_arrAt_eq_flushed 12
    (fun t t' hf hf' hne => absurd (Fin.ext (((flushes_12 t).mp hf).trans ((flushes_12 t').mp hf').symm)) hne) cfg0.N ⟨31, last_lt⟩ last_lt ((flushes_12 ⟨31, last_lt⟩).mpr rfl)
  have h2 := h.trans (flushed12 m c ⟨31, last_lt⟩)
  rw [← place_12 ⟨31, last_lt⟩ 0 l]
  refine (congrFun h2 (ix2 0 l)).trans ?_
  rw [place_12 ⟨31, last_lt⟩ 0 l]
  exact congrArg (outsAt0 m c 31 last_lt).2.2.2.2.2.2 (show _ = ix2 0 l from funext fun a => Fin.ext rfl)

/-- Halving the parts of a sum halves the sum. -/
theorem half_sum {n : ℕ} (f : Fin n → EReal) :
    ∑ t, Ideal.ofBits .f32 0x3F000000#32 * f t = Ideal.ofBits .f32 0x3F000000#32 * ∑ t, f t := by
  rw [half_real]
  induction n with
  | zero => simp
  | succ n ih =>
    rw [Fin.sum_univ_succ, Fin.sum_univ_succ, ih]
    exact (EReal.left_distrib_of_nonneg_of_ne_top (EReal.coe_nonneg.mpr (by norm_num)) (EReal.coe_ne_top _) _ _).symm

theorem one_index (i : S1x1.Idx) : i = ix2 (0 : Fin 1) (0 : Fin 1) :=
  (eq_ix2 (n0 := 1) (n1 := 1) i).trans (congrArg₂ ix2 (Subsingleton.elim (α := Fin 1) _ _) (Subsingleton.elim (α := Fin 1) _ _))

theorem row_index (i : S1x1024.Idx) : ∃ l : Fin 1024, i = ix2 (0 : Fin 1) l :=
  ⟨i 1, (eq_ix2 (n0 := 1) (n1 := 1024) i).trans (congrArg (fun z : Fin 1 => ix2 z (i 1 : Fin 1024)) (Subsingleton.elim (α := Fin 1) _ _))⟩

theorem result_11 (c : Dev nD) : (dats m 0 c).arrAt 11 cfg0.N = val_main_v76 (F := Ideal) (arg0 m c) (arg1 m c) (arg2 m c) (arg3 m c) (arg4 m c) (arg5 m c) := by
  funext i
  obtain rfl := one_index i
  refine (array_11 m c 0).trans ((held_11 m c).trans ?_)
  unfold part_11
  rw [half_sum, sum_rows (fun k => (val_main_v44 (F := Ideal) (arg0 m c) (arg1 m c) (arg2 m c) (arg3 m c) (arg4 m c) (arg5 m c) (ix1 k) : EReal))]
  rw [val_main_v76_apply, val_main_v46_apply, val_main_v45_apply]
  generalize val_main_v44 (F := Ideal) (arg0 m c) (arg1 m c) (arg2 m c) (arg3 m c) (arg4 m c) (arg5 m c) = f
  have z : ∀ j, (val_main_cst_9 (F := Ideal) j : EReal) = 0 := fun j => by pointwise [val_main_cst_9]
  show _ = (Ideal.ofBits .f32 0x3F000000#32 : EReal) * (_ + ∑ j : Cert.Reference6Ideal.S8192.Idx, f j)
  rw [z, zero_add]
  refine congrArg (_ * ·) (Fintype.sum_equiv ⟨fun k => ix1 k, fun j => j 0, fun k => rfl, fun j => funext fun a => ?_⟩ _ _ fun k => rfl)
  match a with
  | ⟨0, _⟩ => rfl

theorem result_12 (c : Dev nD) : (dats m 0 c).arrAt 12 cfg0.N = val_main_v55 (F := Ideal) (arg0 m c) (arg1 m c) (arg2 m c) (arg3 m c) (arg4 m c) (arg5 m c) := by
  funext i
  obtain ⟨l, rfl⟩ := row_index i
  refine (array_12 m c l).trans ((held_12 m c l).trans ?_)
  unfold part_12
  rw [sum_rows (fun k => (val_main_v53 (F := Ideal) (arg0 m c) (arg1 m c) (arg2 m c) (arg3 m c) (arg4 m c) (arg5 m c) (ix2 k l) : EReal))]
  pointwise [val_main_v55, val_main_v54, val_main_cst_14]

end Cert.FfnFwd

end
-- ==== Proof.Ffn.FwdClaims.lean ====
module

public import proofs.«01_k».proof.Defs
public import proofs.«01_k».proof.Proof.Ffn.FwdResults
public import proofs.«01_k».proof.Proof.Gen.On_written6
public import proofs.«01_k».proof.Proof.Gen.Reference6Ideal.Run

@[expose] public section

set_option maxRecDepth 16384

noncomputable section

namespace Cert.FfnFwd

open Cert.Kernel6Ideal.Gen Cert.Kernel6Ideal.Value Cert.Reference6Ideal.Read
open Idealize.ShloMosaic Idealize.ShloMosaic.TcCoe Idealize.SL.Sem

/-! ## The claims

Two results, the gradient into the block's output and its rounded copy, are not compared. -/

theorem frame_reference : Cert.quiescent_Reference6Ideal := fun m ρ _ =>
  (θ_run Cert.Reference6Ideal.defs _ _).mono (fun r h => ⟨fun c => (h c).2.2.2.2.2.2.2, Idealize.ShloMosaic.sem_eq_zero_of_no_sems (by decide) r.2⟩)
    (Cert.Reference6Ideal.Value.run (F := Ideal) m ρ)

theorem algebraic : @Cert.algebraic_Kernel6Ideal_Reference6Ideal_on_written6 Cert.Kernel6Ideal.Gen.facts Cert.Reference6Ideal.Gen.facts Cert.On_written6.Gen.facts := by
  haveI := Cert.On_written6.Gen.facts
  intro m g m' g' _ hagree
  refine ⟨fun c => val_main_v72 (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)),
    fun c => val_main_v73 (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)),
    fun c => val_main_v74 (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)),
    fun c => val_main_v71 (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)),
    fun c => val_main_v75 (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)),
    fun c => val_main_v76 (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)),
    fun c => val_main_v55 (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)), ?_, ?_⟩
  · refine (θ_run Cert.Kernel6Ideal.defs _ _).mono (fun r hr c => ?_) (Cert.Kernel6Ideal.Value.run_blocks (F := Ideal) m g)
    have h := hr c
    exact ⟨fun i _ => congrFun (h.1.trans (result_6 m c)) i,
      fun i _ => congrFun (h.2.1.trans (result_7 m c)) i,
      fun i _ => congrFun (h.2.2.1.trans (result_8 m c)) i,
      fun i hi => absurd (show (0#1 : BitVec 1) = 1#1 from hi) (by decide),
      fun i hi => absurd (show (0#1 : BitVec 1) = 1#1 from hi) (by decide),
      fun i _ => congrFun (h.2.2.2.2.2.1.trans (result_11 m c)) i,
      fun i _ => congrFun (h.2.2.2.2.2.2.1.trans (result_12 m c)) i,
      h.2.2.2.2.2.2.2⟩
  · refine (θ_run Cert.Reference6Ideal.defs _ _).mono (fun r hr c => ?_) (Cert.Reference6Ideal.Value.run (F := Ideal) m' g')
    have h := hr c
    have a := hagree c
    refine ⟨fun i _ => ?_, fun i _ => ?_, fun i _ => ?_, fun i _ => ?_, fun i _ => ?_, fun i _ => ?_, fun i _ => ?_, h.2.2.2.2.2.2.2⟩
    · have e : val_main_v72 (F := Ideal) (m' ((c.tc : Thread Cert.Reference6Ideal.nD Cert.Reference6Ideal.τ).loc Cert.Reference6Ideal.main_arg0)) (m' ((c.tc : Thread Cert.Reference6Ideal.nD Cert.Reference6Ideal.τ).loc Cert.Reference6Ideal.main_arg1)) = val_main_v72 (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) := by
        rw [a.1, a.2.1]
      exact congrFun ((h.1.trans (val_main_v72_eq _ _)).trans e) i
    · have e : val_main_v73 (F := Ideal) (m' ((c.tc : Thread Cert.Reference6Ideal.nD Cert.Reference6Ideal.τ).loc Cert.Reference6Ideal.main_arg0)) (m' ((c.tc : Thread Cert.Reference6Ideal.nD Cert.Reference6Ideal.τ).loc Cert.Reference6Ideal.main_arg1)) (m' ((c.tc : Thread Cert.Reference6Ideal.nD Cert.Reference6Ideal.τ).loc Cert.Reference6Ideal.main_arg2)) = val_main_v73 (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) := by
        rw [a.1, a.2.1, a.2.2.1]
      exact congrFun ((h.2.1.trans (val_main_v73_eq _ _ _)).trans e) i
    · have e : val_main_v74 (F := Ideal) (m' ((c.tc : Thread Cert.Reference6Ideal.nD Cert.Reference6Ideal.τ).loc Cert.Reference6Ideal.main_arg0)) (m' ((c.tc : Thread Cert.Reference6Ideal.nD Cert.Reference6Ideal.τ).loc Cert.Reference6Ideal.main_arg1)) (m' ((c.tc : Thread Cert.Reference6Ideal.nD Cert.Reference6Ideal.τ).loc Cert.Reference6Ideal.main_arg2)) = val_main_v74 (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) := by
        rw [a.1, a.2.1, a.2.2.1]
      exact congrFun ((h.2.2.1.trans (val_main_v74_eq _ _ _)).trans e) i
    · have e : val_main_v71 (F := Ideal) (m' ((c.tc : Thread Cert.Reference6Ideal.nD Cert.Reference6Ideal.τ).loc Cert.Reference6Ideal.main_arg0)) (m' ((c.tc : Thread Cert.Reference6Ideal.nD Cert.Reference6Ideal.τ).loc Cert.Reference6Ideal.main_arg1)) (m' ((c.tc : Thread Cert.Reference6Ideal.nD Cert.Reference6Ideal.τ).loc Cert.Reference6Ideal.main_arg2)) (m' ((c.tc : Thread Cert.Reference6Ideal.nD Cert.Reference6Ideal.τ).loc Cert.Reference6Ideal.main_arg3)) (m' ((c.tc : Thread Cert.Reference6Ideal.nD Cert.Reference6Ideal.τ).loc Cert.Reference6Ideal.main_arg4)) (m' ((c.tc : Thread Cert.Reference6Ideal.nD Cert.Reference6Ideal.τ).loc Cert.Reference6Ideal.main_arg5)) = val_main_v71 (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) := by
        rw [a.1, a.2.1, a.2.2.1, a.2.2.2.1, a.2.2.2.2.1, a.2.2.2.2.2]
      exact congrFun ((h.2.2.2.1.trans (val_main_v71_eq _ _)).trans e) i
    · have e : val_main_v75 (F := Ideal) (m' ((c.tc : Thread Cert.Reference6Ideal.nD Cert.Reference6Ideal.τ).loc Cert.Reference6Ideal.main_arg0)) (m' ((c.tc : Thread Cert.Reference6Ideal.nD Cert.Reference6Ideal.τ).loc Cert.Reference6Ideal.main_arg1)) (m' ((c.tc : Thread Cert.Reference6Ideal.nD Cert.Reference6Ideal.τ).loc Cert.Reference6Ideal.main_arg2)) (m' ((c.tc : Thread Cert.Reference6Ideal.nD Cert.Reference6Ideal.τ).loc Cert.Reference6Ideal.main_arg3)) (m' ((c.tc : Thread Cert.Reference6Ideal.nD Cert.Reference6Ideal.τ).loc Cert.Reference6Ideal.main_arg4)) (m' ((c.tc : Thread Cert.Reference6Ideal.nD Cert.Reference6Ideal.τ).loc Cert.Reference6Ideal.main_arg5)) = val_main_v75 (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) := by
        rw [a.1, a.2.1, a.2.2.1, a.2.2.2.1, a.2.2.2.2.1, a.2.2.2.2.2]
      exact congrFun ((h.2.2.2.2.1.trans (val_main_v75_eq _ _)).trans e) i
    · have e : val_main_v76 (F := Ideal) (m' ((c.tc : Thread Cert.Reference6Ideal.nD Cert.Reference6Ideal.τ).loc Cert.Reference6Ideal.main_arg0)) (m' ((c.tc : Thread Cert.Reference6Ideal.nD Cert.Reference6Ideal.τ).loc Cert.Reference6Ideal.main_arg1)) (m' ((c.tc : Thread Cert.Reference6Ideal.nD Cert.Reference6Ideal.τ).loc Cert.Reference6Ideal.main_arg2)) (m' ((c.tc : Thread Cert.Reference6Ideal.nD Cert.Reference6Ideal.τ).loc Cert.Reference6Ideal.main_arg3)) (m' ((c.tc : Thread Cert.Reference6Ideal.nD Cert.Reference6Ideal.τ).loc Cert.Reference6Ideal.main_arg4)) (m' ((c.tc : Thread Cert.Reference6Ideal.nD Cert.Reference6Ideal.τ).loc Cert.Reference6Ideal.main_arg5)) = val_main_v76 (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) := by
        rw [a.1, a.2.1, a.2.2.1, a.2.2.2.1, a.2.2.2.2.1, a.2.2.2.2.2]
      exact congrFun ((h.2.2.2.2.2.1.trans (val_main_v76_eq _ _)).trans e) i
    · have e : val_main_v55 (F := Ideal) (m' ((c.tc : Thread Cert.Reference6Ideal.nD Cert.Reference6Ideal.τ).loc Cert.Reference6Ideal.main_arg0)) (m' ((c.tc : Thread Cert.Reference6Ideal.nD Cert.Reference6Ideal.τ).loc Cert.Reference6Ideal.main_arg1)) (m' ((c.tc : Thread Cert.Reference6Ideal.nD Cert.Reference6Ideal.τ).loc Cert.Reference6Ideal.main_arg2)) (m' ((c.tc : Thread Cert.Reference6Ideal.nD Cert.Reference6Ideal.τ).loc Cert.Reference6Ideal.main_arg3)) (m' ((c.tc : Thread Cert.Reference6Ideal.nD Cert.Reference6Ideal.τ).loc Cert.Reference6Ideal.main_arg4)) (m' ((c.tc : Thread Cert.Reference6Ideal.nD Cert.Reference6Ideal.τ).loc Cert.Reference6Ideal.main_arg5)) = val_main_v55 (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) := by
        rw [a.1, a.2.1, a.2.2.1, a.2.2.2.1, a.2.2.2.2.1, a.2.2.2.2.2]
      exact congrFun ((h.2.2.2.2.2.2.1.trans (val_main_v55_eq _ _)).trans e) i

end Cert.FfnFwd

end
-- ==== Proof.Ffn.BwdPoints.lean ====
module

public import proofs.«01_k».proof.Proof.Ffn.Tools
public import proofs.«01_k».proof.Proof.Gen.Kernel7Ideal.Value

@[expose] public section

set_option maxRecDepth 16384

noncomputable section

namespace Cert.FfnBwd

open Cert.Kernel7Ideal Cert.Kernel7Ideal.Gen Cert.Ffn
open Idealize.ShloMosaic Idealize.ShloMosaic.TcCoe Idealize.ShloMosaic.Tactic
open Idealize.SL Idealize.SL.RA Idealize.SL.BI
open Idealize.SL.ProofMode Idealize.SL.Sem
open Idealize.ShloMosaic.Pipeline (Dat Cfg Window cellOf)

variable {F : FTy → Type} [FloatOps F]

/-! ## What one point computes from its blocks

`x1` is the tile of the rounded incoming gradient, `x2` that of the saved gates and ups, `x3` the down weights, `x4` the
four arrays of the gate and up weights, `x5` the tile of the block's input. -/

theorem readCov_ld {sp : Space} {s : Shape} {e : EltTy} (v : View sig .tc sp s e) (L : List (View.Piece (Elt F) s e)) (r : Rect s) :
    v.readCov L r.toLoadRect = View.ld (View.canon L) r := View.readCov_eq_canon' v L _

variable (x1 : Vec F S256x1024 .bf16) (x2 : Vec F S256x5632 .bf16) (x3 : Vec F S2816x1024 .bf16) (x4 : Vec F S4x1024x1408 .bf16) (x5 : Vec F S256x1024 .f32)

def shard0 : Vec F S1x1024x1408 .bf16 := View.ld x4 (Rect.unit ![0, 0, 0] ![1, 1024, 1408] inb_S4x1024x1408_S1x1024x1408_0_0_0)
def shard1 : Vec F S1x1024x1408 .bf16 := View.ld x4 (Rect.unit ![1, 0, 0] ![1, 1024, 1408] inb_S4x1024x1408_S1x1024x1408_1_0_0)
def shard2 : Vec F S1x1024x1408 .bf16 := View.ld x4 (Rect.unit ![2, 0, 0] ![1, 1024, 1408] inb_S4x1024x1408_S1x1024x1408_2_0_0)
def shard3 : Vec F S1x1024x1408 .bf16 := View.ld x4 (Rect.unit ![3, 0, 0] ![1, 1024, 1408] inb_S4x1024x1408_S1x1024x1408_3_0_0)
def down0 : Vec F S1408x1024 .bf16 := View.ld x3 (Rect.unit ![0, 0] ![1408, 1024] inb_S2816x1024_S1408x1024_0_0)
def down1 : Vec F S1408x1024 .bf16 := View.ld x3 (Rect.unit ![1408, 0] ![1408, 1024] inb_S2816x1024_S1408x1024_1408_0)
def cols0 : Vec F S256x1408 .bf16 := View.ld x2 (Rect.unit ![0, 0] ![256, 1408] inb_S256x5632_S256x1408_0_0)
def cols1 : Vec F S256x1408 .bf16 := View.ld x2 (Rect.unit ![0, 1408] ![256, 1408] inb_S256x5632_S256x1408_0_1408)
def cols2 : Vec F S256x1408 .bf16 := View.ld x2 (Rect.unit ![0, 2816] ![256, 1408] inb_S256x5632_S256x1408_0_2816)
def cols3 : Vec F S256x1408 .bf16 := View.ld x2 (Rect.unit ![0, 4224] ![256, 1408] inb_S256x5632_S256x1408_0_4224)

/-- The gradients of the two halves of the gates, and of the ups. -/
def gateA : FVec F S256x1408 .bf16 := k0_pay9 x1 (down0 x3) (cols0 x2) (cols2 x2)
def gateB : FVec F S256x1408 .bf16 := k0_pay15 (k0_pay4 x1) (down1 x3) (cols1 x2) (cols3 x2)
def upA : FVec F S256x1408 .bf16 := k0_pay10 x1 (down0 x3) (cols0 x2)
def upB : FVec F S256x1408 .bf16 := k0_pay16 (k0_pay4 x1) (down1 x3) (cols1 x2)

/-- The gradient of the normed input, of which the first halves are added. -/
def midT : FVec F S256x1024 .f32 := k0_pay11 k0_pay5 (gateA x1 x2 x3) (upA x1 x2 x3) (shard0 x4) (shard2 x4)

/-- The gradient of the gates and ups: four column blocks. -/
def dguT : Vec F S256x5632 .bf16 := View.canon
  [⟨Rect.unit ![0, 4224] ![256, 1408] inb_S256x5632_S256x1408_0_4224, upB x1 x2 x3⟩,
    ⟨Rect.unit ![0, 1408] ![256, 1408] inb_S256x5632_S256x1408_0_1408, gateB x1 x2 x3⟩,
    ⟨Rect.unit ![0, 2816] ![256, 1408] inb_S256x5632_S256x1408_0_2816, upA x1 x2 x3⟩,
    ⟨Rect.unit ![0, 0] ![256, 1408] inb_S256x5632_S256x1408_0_0, gateA x1 x2 x3⟩]

/-- The running gradient of the norm's scale with this tile's part added. -/
def dgT (a : Vec F S1x1024 .f32) : FVec F S1x1024 .f32 :=
  k0_pay21 (midT x1 x2 x3 x4) (gateB x1 x2 x3) (upB x1 x2 x3) (shard1 x4) (shard3 x4) x5 a

/-! ## What a point leaves in each result it is read from -/

variable (m : (ℓ : Loc nD τ sig) → Buf (Elt F) ℓ)

set_option maxHeartbeats 4000000 in
theorem pointA_7 (c : Dev nD) (t : Fin cfg0.N) (h0 : t.val % 32 = 0) :
    (outsAt0 m c t.val t.isLt).1 = dguT (iblk m c 1 t) (iblk m c 2 t) (iblk m c 3 t) := by
  rw [outsAt0_A m c t h0]
  dsimp only
  unfold out0_A_7
  rw [View.read_writes_junk_eq_canon]
  unfold kernelRun0_A
  dsimp only
  sl_unfold_words
  simp only [View.readAt_eq_ld, Memref.IsWhole.read_unread, readCov_ld, View.ld_unit_zero (S := S256x1024) hz2, View.ld_unit_zero (S := S1x1024) hz2, View.canon_cons_unit_zero (S := S256x1024) hz2, View.canon_cons_unit_zero (S := S1x1024) hz2]
  rfl

set_option maxHeartbeats 4000000 in
theorem pointB_7 (c : Dev nD) (t : Fin cfg0.N) (h0 : ¬t.val % 32 = 0) :
    (outsAt0 m c t.val t.isLt).1 = dguT (iblk m c 1 t) (iblk m c 2 t) (iblk m c 3 t) := by
  rw [outsAt0_B m c t h0]
  dsimp only
  unfold out0_B_7
  rw [View.read_writes_junk_eq_canon]
  unfold kernelRun0_B
  dsimp only
  sl_unfold_words
  simp only [View.readAt_eq_ld, Memref.IsWhole.read_unread, readCov_ld, View.ld_unit_zero (S := S256x1024) hz2, View.ld_unit_zero (S := S1x1024) hz2, View.canon_cons_unit_zero (S := S256x1024) hz2, View.canon_cons_unit_zero (S := S1x1024) hz2]
  rfl

set_option maxHeartbeats 4000000 in
theorem pointA_10 (c : Dev nD) (t : Fin cfg0.N) (h0 : t.val % 32 = 0) :
    (outsAt0 m c t.val t.isLt).2.2.2 = dgT (iblk m c 1 t) (iblk m c 2 t) (iblk m c 3 t) (iblk m c 4 t) (iblk m c 5 t) k0_pay3 := by
  rw [outsAt0_A m c t h0]
  dsimp only
  unfold out0_A_10
  rw [View.read_writes_junk_eq_canon]
  unfold kernelRun0_A
  dsimp only
  sl_unfold_words
  simp only [View.readAt_eq_ld, Memref.IsWhole.read_unread, readCov_ld, View.ld_unit_zero (S := S256x1024) hz2, View.ld_unit_zero (S := S1x1024) hz2, View.canon_cons_unit_zero (S := S256x1024) hz2, View.canon_cons_unit_zero (S := S1x1024) hz2]
  rfl

set_option maxHeartbeats 4000000 in
theorem pointB_10 (c : Dev nD) (t : Fin cfg0.N) (h0 : ¬t.val % 32 = 0) :
    (outsAt0 m c t.val t.isLt).2.2.2 = dgT (iblk m c 1 t) (iblk m c 2 t) (iblk m c 3 t) (iblk m c 4 t) (iblk m c 5 t) ((outsAt0 m c (t.val - 1) (Nat.lt_of_le_of_lt (Nat.sub_le _ _) t.isLt)).2.2.2) := by
  rw [outsAt0_B m c t h0]
  dsimp only
  unfold out0_B_10
  rw [View.read_writes_junk_eq_canon]
  unfold kernelRun0_B
  dsimp only
  sl_unfold_words
  simp only [View.readAt_eq_ld, Memref.IsWhole.read_unread, readCov_ld, View.ld_unit_zero (S := S256x1024) hz2, View.ld_unit_zero (S := S1x1024) hz2, View.canon_cons_unit_zero (S := S256x1024) hz2, View.canon_cons_unit_zero (S := S1x1024) hz2]
  rfl

theorem point_7 (c : Dev nD) (t : Fin cfg0.N) : (outsAt0 m c t.val t.isLt).1 = dguT (iblk m c 1 t) (iblk m c 2 t) (iblk m c 3 t) := by
  by_cases h0 : t.val % 32 = 0
  · exact pointA_7 m c t h0
  · exact pointB_7 m c t h0

end Cert.FfnBwd

end
-- ==== Proof.Ffn.BwdRows.lean ====
module

public import proofs.«01_k».proof.Proof.Ffn.BwdPoints
public import proofs.«01_k».proof.Proof.Gen.Reference7Ideal.Read

@[expose] public section

set_option maxRecDepth 16384

noncomputable section

namespace Cert.FfnBwd

open Cert.Kernel7Ideal Cert.Kernel7Ideal.Gen Cert.Reference7Ideal.Read Cert.Ffn
open Idealize.ShloMosaic Idealize.ShloMosaic.TcCoe Idealize.ShloMosaic.Tactic

/-! ## Finite values -/

/-- A value that is a real number. -/
def Finite (a : EReal) : Prop := ∃ x : ℝ, a = (x : EReal)

theorem Finite.mul {a b : EReal} : Finite a → Finite b → Finite (a * b)
  | ⟨x, hx⟩, ⟨y, hy⟩ => ⟨x * y, by rw [hx, hy, EReal.coe_mul]⟩

theorem Finite.add {a b : EReal} : Finite a → Finite b → Finite (a + b)
  | ⟨x, hx⟩, ⟨y, hy⟩ => ⟨x + y, by rw [hx, hy, EReal.coe_add]⟩

theorem Finite.sum {n : ℕ} (f : Fin n → EReal) (h : ∀ k, Finite (f k)) : Finite (∑ k : Fin n, f k) :=
  Finset.sum_induction f Finite (fun _ _ => Finite.add) ⟨0, rfl⟩ fun k _ => h k

/-- The logistic function is 1 at `⊤`, 0 at `⊥`, and a real number elsewhere. -/
theorem logistic_top : Ideal.div 1 (1 + Ideal.exp (-⊤)) = 1 := by
  have e : Ideal.exp (-⊤) = 0 := rfl
  rw [e, add_zero]
  unfold Ideal.div
  rw [if_neg one_ne_zero, one_mul]
  exact EReal.coe_inv 1 |>.symm.trans (by norm_num)

theorem logistic_bot : Ideal.div 1 (1 + Ideal.exp (-⊥)) = 0 := by
  have e : Ideal.exp (-⊥) = ⊤ := rfl
  have e2 : (1 : EReal) + ⊤ = ⊤ := rfl
  rw [e, e2]
  unfold Ideal.div
  rw [if_neg EReal.top_ne_zero, EReal.inv_top, mul_zero]

theorem logistic_real (g : ℝ) : Finite (Ideal.div 1 (1 + Ideal.exp (-(g : EReal)))) := by
  have e : Ideal.exp (-(g : EReal)) = ((Real.exp (-g) : ℝ) : EReal) := rfl
  have p : (1 : ℝ) + Real.exp (-g) ≠ 0 := by positivity
  rw [e, ← EReal.coe_one, ← EReal.coe_add]
  unfold Ideal.div
  rw [if_neg (by exact_mod_cast p), ← EReal.coe_inv, ← EReal.coe_mul]
  exact ⟨_, rfl⟩

/-- The derivative of the gate's activation, factored and expanded. Only what it is multiplied by has to be finite. -/
theorem slope {a u : EReal} (ha : Finite a) (hu : Finite u) (g s : EReal) (hs : s = Ideal.div 1 (1 + Ideal.exp (-g))) :
    a * u * (s * (1 + g * (1 - s))) = a * u * s + g * (a * u) * (s * (1 - s)) := by
  induction g using EReal.rec with
  | bot =>
    rw [hs, logistic_bot]
    simp only [zero_mul, mul_zero, add_zero]
  | top =>
    have z : (1 : EReal) - 1 = 0 := by rw [← EReal.coe_one, ← EReal.coe_sub, sub_self, EReal.coe_zero]
    rw [hs, logistic_top, z]
    simp only [mul_zero, add_zero, mul_one]
  | coe g =>
    obtain ⟨s', e⟩ := logistic_real g
    rw [e] at hs
    obtain ⟨a, rfl⟩ := ha
    obtain ⟨u, rfl⟩ := hu
    rw [hs]
    norm_cast
    ring

/-- A sum over 5632 columns is the sum of those over its four quarters, in the kernel's order. -/
theorem sum_quarters (f : Fin 5632 → EReal) :
    ∑ k : Fin 5632, f k = ∑ q : Fin 1408, f ⟨0 + q.val, by omega⟩ + ∑ q : Fin 1408, f ⟨2816 + q.val, by omega⟩ + ∑ q : Fin 1408, f ⟨1408 + q.val, by omega⟩ + ∑ q : Fin 1408, f ⟨4224 + q.val, by omega⟩ := by
  have e := Fin.sum_univ_add (a := 2816) (b := 2816) f
  have e1 := sum_halves fun k : Fin 2816 => f (Fin.castAdd 2816 k)
  have e2 := sum_halves fun k : Fin 2816 => f (Fin.natAdd 2816 k)
  have p1 : ∑ q : Fin 1408, f (Fin.natAdd 2816 (⟨0 + q.val, by omega⟩ : Fin 2816)) = ∑ q : Fin 1408, f ⟨2816 + q.val, by omega⟩ :=
    Finset.sum_congr rfl fun q _ => congrArg f (Fin.ext (show 2816 + (0 + q.val) = 2816 + q.val by omega))
  have p2 : ∑ q : Fin 1408, f (Fin.natAdd 2816 (⟨1408 + q.val, by omega⟩ : Fin 2816)) = ∑ q : Fin 1408, f ⟨4224 + q.val, by omega⟩ :=
    Finset.sum_congr rfl fun q _ => congrArg f (Fin.ext (show 2816 + (1408 + q.val) = 4224 + q.val by omega))
  rw [p1, p2] at e2
  refine (e.trans (congrArg₂ (· + ·) e1 e2)).trans ?_
  show ∑ q : Fin 1408, f ⟨0 + q.val, by omega⟩ + ∑ q : Fin 1408, f ⟨1408 + q.val, by omega⟩ + (∑ q : Fin 1408, f ⟨2816 + q.val, by omega⟩ + ∑ q : Fin 1408, f ⟨4224 + q.val, by omega⟩) = _
  rw [← add_assoc, add_right_comm (∑ q : Fin 1408, f ⟨0 + q.val, by omega⟩)]

/-! ## The tiles of the reference's values

A point computes from its tile of 256 rows the reference's values on those rows. -/

variable {t : Fin 32} {x1 : FVec Ideal S256x1024 .bf16} {x2 : FVec Ideal S256x5632 .bf16} {x5 : FVec Ideal S256x1024 .f32}
  {a0 : FVec Ideal S8192x1024 .f32} {a1 : FVec Ideal S8192x5632 .bf16} {a4 : FVec Ideal S8192x1024 .f32}
  (a2 : FVec Ideal S2816x1024 .bf16) (a3 : FVec Ideal S4x1024x1408 .bf16)

/-- Tile `t` of an array. -/
def Tile {e e' : FTy} {W : ℕ} (t : Fin 32) (x : FVec Ideal (⟨2, ![256, W]⟩ : Shape) e) (a : FVec Ideal (⟨2, ![8192, W]⟩ : Shape) e') : Prop :=
  ∀ r l, (x (ix2 r l) : EReal) = a (ix2 (row t r) l)

theorem shard0_at (d : Fin 1024) (l : Fin 1408) : (shard0 (F := Ideal) a3 (ix3 (0 : Fin 1) d l) : EReal) = val_main_v29 (F := Ideal) a3 (ix2 d (⟨0 + l.val, by omega⟩ : Fin 5632)) := by
  rw [val_main_v29_apply, val_main_v28_apply, val_main_v27_apply]
  refine congrArg a3 (funext fun a => Fin.ext ?_)
  match a with
  | ⟨0, _⟩ => show 0 + 1 * 0 = (d.val * 5632 + (0 + l.val)) / 1408 % 4; omega
  | ⟨1, _⟩ => show 0 + 1 * d.val = (d.val * 5632 + (0 + l.val)) / 5632; omega
  | ⟨2, _⟩ => show 0 + 1 * l.val = (d.val * 5632 + (0 + l.val)) % 1408; omega

theorem cols0_at (h : Tile t x2 a1) (r : Fin 256) (l : Fin 1408) : (cols0 (F := Ideal) x2 (ix2 r l) : EReal) = a1 (ix2 (row t r) (⟨0 + l.val, by omega⟩ : Fin 5632)) := by
  rw [← h]
  refine congrArg x2 (funext fun a => Fin.ext ?_)
  match a with
  | ⟨0, _⟩ => show 0 + 1 * r.val = r.val; omega
  | ⟨1, _⟩ => show 0 + 1 * l.val = 0 + l.val; omega

theorem shard1_at (d : Fin 1024) (l : Fin 1408) : (shard1 (F := Ideal) a3 (ix3 (0 : Fin 1) d l) : EReal) = val_main_v29 (F := Ideal) a3 (ix2 d (⟨1408 + l.val, by omega⟩ : Fin 5632)) := by
  rw [val_main_v29_apply, val_main_v28_apply, val_main_v27_apply]
  refine congrArg a3 (funext fun a => Fin.ext ?_)
  match a with
  | ⟨0, _⟩ => show 1 + 1 * 0 = (d.val * 5632 + (1408 + l.val)) / 1408 % 4; omega
  | ⟨1, _⟩ => show 0 + 1 * d.val = (d.val * 5632 + (1408 + l.val)) / 5632; omega
  | ⟨2, _⟩ => show 0 + 1 * l.val = (d.val * 5632 + (1408 + l.val)) % 1408; omega

theorem cols1_at (h : Tile t x2 a1) (r : Fin 256) (l : Fin 1408) : (cols1 (F := Ideal) x2 (ix2 r l) : EReal) = a1 (ix2 (row t r) (⟨1408 + l.val, by omega⟩ : Fin 5632)) := by
  rw [← h]
  refine congrArg x2 (funext fun a => Fin.ext ?_)
  match a with
  | ⟨0, _⟩ => show 0 + 1 * r.val = r.val; omega
  | ⟨1, _⟩ => show 1408 + 1 * l.val = 1408 + l.val; omega

theorem shard2_at (d : Fin 1024) (l : Fin 1408) : (shard2 (F := Ideal) a3 (ix3 (0 : Fin 1) d l) : EReal) = val_main_v29 (F := Ideal) a3 (ix2 d (⟨2816 + l.val, by omega⟩ : Fin 5632)) := by
  rw [val_main_v29_apply, val_main_v28_apply, val_main_v27_apply]
  refine congrArg a3 (funext fun a => Fin.ext ?_)
  match a with
  | ⟨0, _⟩ => show 2 + 1 * 0 = (d.val * 5632 + (2816 + l.val)) / 1408 % 4; omega
  | ⟨1, _⟩ => show 0 + 1 * d.val = (d.val * 5632 + (2816 + l.val)) / 5632; omega
  | ⟨2, _⟩ => show 0 + 1 * l.val = (d.val * 5632 + (2816 + l.val)) % 1408; omega

theorem cols2_at (h : Tile t x2 a1) (r : Fin 256) (l : Fin 1408) : (cols2 (F := Ideal) x2 (ix2 r l) : EReal) = a1 (ix2 (row t r) (⟨2816 + l.val, by omega⟩ : Fin 5632)) := by
  rw [← h]
  refine congrArg x2 (funext fun a => Fin.ext ?_)
  match a with
  | ⟨0, _⟩ => show 0 + 1 * r.val = r.val; omega
  | ⟨1, _⟩ => show 2816 + 1 * l.val = 2816 + l.val; omega

theorem shard3_at (d : Fin 1024) (l : Fin 1408) : (shard3 (F := Ideal) a3 (ix3 (0 : Fin 1) d l) : EReal) = val_main_v29 (F := Ideal) a3 (ix2 d (⟨4224 + l.val, by omega⟩ : Fin 5632)) := by
  rw [val_main_v29_apply, val_main_v28_apply, val_main_v27_apply]
  refine congrArg a3 (funext fun a => Fin.ext ?_)
  match a with
  | ⟨0, _⟩ => show 3 + 1 * 0 = (d.val * 5632 + (4224 + l.val)) / 1408 % 4; omega
  | ⟨1, _⟩ => show 0 + 1 * d.val = (d.val * 5632 + (4224 + l.val)) / 5632; omega
  | ⟨2, _⟩ => show 0 + 1 * l.val = (d.val * 5632 + (4224 + l.val)) % 1408; omega

theorem cols3_at (h : Tile t x2 a1) (r : Fin 256) (l : Fin 1408) : (cols3 (F := Ideal) x2 (ix2 r l) : EReal) = a1 (ix2 (row t r) (⟨4224 + l.val, by omega⟩ : Fin 5632)) := by
  rw [← h]
  refine congrArg x2 (funext fun a => Fin.ext ?_)
  match a with
  | ⟨0, _⟩ => show 0 + 1 * r.val = r.val; omega
  | ⟨1, _⟩ => show 4224 + 1 * l.val = 4224 + l.val; omega

theorem down0_at (q : Fin 1408) (l : Fin 1024) : (down0 (F := Ideal) a2 (ix2 q l) : EReal) = a2 (ix2 (⟨0 + q.val, by omega⟩ : Fin 2816) l) := by
  refine congrArg a2 (funext fun a => Fin.ext ?_)
  match a with
  | ⟨0, _⟩ => show 0 + 1 * q.val = 0 + q.val; omega
  | ⟨1, _⟩ => show 0 + 1 * l.val = l.val; omega

theorem down1_at (q : Fin 1408) (l : Fin 1024) : (down1 (F := Ideal) a2 (ix2 q l) : EReal) = a2 (ix2 (⟨1408 + q.val, by omega⟩ : Fin 2816) l) := by
  refine congrArg a2 (funext fun a => Fin.ext ?_)
  match a with
  | ⟨0, _⟩ => show 1408 + 1 * q.val = 1408 + q.val; omega
  | ⟨1, _⟩ => show 0 + 1 * l.val = l.val; omega

theorem dact0_at (h : Tile t x1 a0) (r : Fin 256) (q : Fin 1408) :
    (k0_pay6 (F := Ideal) x1 (down0 a2) (ix2 r q) : EReal) = val_main_v7 (F := Ideal) a0 a2 (ix2 (row t r) (⟨0 + q.val, by omega⟩ : Fin 2816)) := by
  have d := fun l => down0_at a2 q l
  revert d
  generalize down0 (F := Ideal) a2 = z
  intro d
  pointwise [k0_pay6, k0_pay4, val_main_v7, val_main_v5]
  try simp only [Nat.zero_add] at d ⊢
  simp only [d, h r _]

theorem gcol0_at (h : Tile t x2 a1) (r : Fin 256) (q : Fin 1408) :
    (cols0 (F := Ideal) x2 (ix2 r q) : EReal) = val_main_v1 (F := Ideal) a1 (ix2 (row t r) (⟨0 + q.val, by omega⟩ : Fin 2816)) := by
  rw [cols0_at h, val_main_v1_apply]
  refine congrArg a1 (funext fun a => Fin.ext ?_)
  match a with
  | ⟨0, _⟩ => rfl
  | ⟨1, _⟩ => rfl

theorem ucol0_at (h : Tile t x2 a1) (r : Fin 256) (q : Fin 1408) :
    (cols2 (F := Ideal) x2 (ix2 r q) : EReal) = val_main_v2 (F := Ideal) a1 (ix2 (row t r) (⟨0 + q.val, by omega⟩ : Fin 2816)) := by
  rw [cols2_at h, val_main_v2_apply]
  refine congrArg a1 (funext fun a => Fin.ext ?_)
  match a with
  | ⟨0, _⟩ => rfl
  | ⟨1, _⟩ => show 2816 + q.val = 2816 + (0 + q.val); omega

theorem sig0_at (h : Tile t x2 a1) (r : Fin 256) (q : Fin 1408) :
    (k0_pay8 (F := Ideal) (cols0 x2) (ix2 r q) : EReal) = val_main_v3_2 (F := Ideal) a1 (ix2 (row t r) (⟨0 + q.val, by omega⟩ : Fin 2816)) := by
  have e := gcol0_at h r q
  revert e
  generalize cols0 (F := Ideal) x2 = y
  intro e
  rw [val_main_v3_2_apply, val_main_call0_v3_apply, val_main_call0_v1_apply, val_main_call0_v0_apply]
  revert e
  generalize val_main_v1 (F := Ideal) a1 _ = w
  intro e
  pointwise [k0_pay8, k0_pay7, val_main_call0_v4, val_main_call0_v2, val_main_call0_cst, val_main_call0_cst_0]
  rw [e, zero_sub]

theorem dact1_at (h : Tile t x1 a0) (r : Fin 256) (q : Fin 1408) :
    (k0_pay12 (F := Ideal) (k0_pay4 x1) (down1 a2) (ix2 r q) : EReal) = val_main_v7 (F := Ideal) a0 a2 (ix2 (row t r) (⟨1408 + q.val, by omega⟩ : Fin 2816)) := by
  have d := fun l => down1_at a2 q l
  revert d
  generalize down1 (F := Ideal) a2 = z
  intro d
  pointwise [k0_pay12, k0_pay4, val_main_v7, val_main_v5]
  try simp only [Nat.zero_add] at d ⊢
  simp only [d, h r _]

theorem gcol1_at (h : Tile t x2 a1) (r : Fin 256) (q : Fin 1408) :
    (cols1 (F := Ideal) x2 (ix2 r q) : EReal) = val_main_v1 (F := Ideal) a1 (ix2 (row t r) (⟨1408 + q.val, by omega⟩ : Fin 2816)) := by
  rw [cols1_at h, val_main_v1_apply]
  refine congrArg a1 (funext fun a => Fin.ext ?_)
  match a with
  | ⟨0, _⟩ => rfl
  | ⟨1, _⟩ => rfl

theorem ucol1_at (h : Tile t x2 a1) (r : Fin 256) (q : Fin 1408) :
    (cols3 (F := Ideal) x2 (ix2 r q) : EReal) = val_main_v2 (F := Ideal) a1 (ix2 (row t r) (⟨1408 + q.val, by omega⟩ : Fin 2816)) := by
  rw [cols3_at h, val_main_v2_apply]
  refine congrArg a1 (funext fun a => Fin.ext ?_)
  match a with
  | ⟨0, _⟩ => rfl
  | ⟨1, _⟩ => show 4224 + q.val = 2816 + (1408 + q.val); omega

theorem sig1_at (h : Tile t x2 a1) (r : Fin 256) (q : Fin 1408) :
    (k0_pay14 (F := Ideal) (cols1 x2) (ix2 r q) : EReal) = val_main_v3_2 (F := Ideal) a1 (ix2 (row t r) (⟨1408 + q.val, by omega⟩ : Fin 2816)) := by
  have e := gcol1_at h r q
  revert e
  generalize cols1 (F := Ideal) x2 = y
  intro e
  rw [val_main_v3_2_apply, val_main_call0_v3_apply, val_main_call0_v1_apply, val_main_call0_v0_apply]
  revert e
  generalize val_main_v1 (F := Ideal) a1 _ = w
  intro e
  pointwise [k0_pay14, k0_pay13, val_main_call0_v4, val_main_call0_v2, val_main_call0_cst, val_main_call0_cst_0]
  rw [e, zero_sub]

theorem dact_finite (h0 : ∀ i, Finite (a0 i)) (h2 : ∀ i, Finite (a2 i)) (i : Fin 8192) (k : Fin 2816) : Finite (val_main_v7 (F := Ideal) a0 a2 (ix2 i k)) := by
  pointwise [val_main_v7, val_main_v5]
  exact Finite.sum _ fun l => (h0 _).mul (h2 _)

theorem sig_eq (i : Fin 8192) (k : Fin 2816) : (val_main_v3_2 (F := Ideal) a1 (ix2 i k) : EReal) = Ideal.div 1 (1 + Ideal.exp (-(val_main_v1 (F := Ideal) a1 (ix2 i k)))) := by
  rw [val_main_v3_2_apply, val_main_call0_v3_apply, val_main_call0_v1_apply, val_main_call0_v0_apply]
  generalize val_main_v1 (F := Ideal) a1 (ix2 i k) = x
  pointwise [val_main_call0_v4, val_main_call0_v2, val_main_call0_cst, val_main_call0_cst_0]

theorem gateA_at (h1 : Tile t x1 a0) (h2 : Tile t x2 a1) (f0 : ∀ i, Finite (a0 i)) (f1 : ∀ i, Finite (val_main_v2 (F := Ideal) a1 i)) (f2 : ∀ i, Finite (a2 i)) (r : Fin 256) (q : Fin 1408) :
    (gateA (F := Ideal) x1 x2 a2 (ix2 r q) : EReal) = val_main_v10 (F := Ideal) a0 a1 a2 (ix2 (row t r) (⟨0 + q.val, by omega⟩ : Fin 2816)) := by
  have e := dact0_at a2 h1 r q
  have g := gcol0_at h2 r q
  have u := ucol0_at h2 r q
  have s := sig0_at h2 r q
  unfold gateA k0_pay9
  revert e s
  generalize k0_pay6 (F := Ideal) x1 (down0 a2) = y
  generalize k0_pay8 (F := Ideal) (cols0 x2) = z
  intro e s
  rw [val_main_v10_apply, val_main_call1_v1_apply, val_main_call1_v2_apply, val_main_call1_v0_apply, val_main_v3_1_apply, val_main_v9_apply, val_main_call0_v7_apply]
  have w := slope (dact_finite a2 f0 f2 (row t r) (⟨0 + q.val, by omega⟩ : Fin 2816)) (f1 (ix2 (row t r) (⟨0 + q.val, by omega⟩ : Fin 2816))) _ _ (sig_eq (a1 := a1) (row t r) (⟨0 + q.val, by omega⟩ : Fin 2816))
  rw [← e, ← g, ← u, ← s] at w ⊢
  pointwise [k0_pay7, val_main_call0_v6, val_main_call0_cst_1]
  exact w

theorem upA_at (h1 : Tile t x1 a0) (h2 : Tile t x2 a1) (r : Fin 256) (q : Fin 1408) :
    (upA (F := Ideal) x1 x2 a2 (ix2 r q) : EReal) = val_main_v8 (F := Ideal) a0 a1 a2 (ix2 (row t r) (⟨0 + q.val, by omega⟩ : Fin 2816)) := by
  have e := dact0_at a2 h1 r q
  have g := gcol0_at h2 r q
  have u := ucol0_at h2 r q
  have s := sig0_at h2 r q
  unfold upA k0_pay10
  revert e s
  generalize k0_pay6 (F := Ideal) x1 (down0 a2) = y
  generalize k0_pay8 (F := Ideal) (cols0 x2) = z
  intro e s
  rw [val_main_v8_apply, val_main_v3_0_apply]
  rw [← e, ← g, ← s]
  pointwise [k0_pay7]
  exact mul_comm _ _

theorem gateB_at (h1 : Tile t x1 a0) (h2 : Tile t x2 a1) (f0 : ∀ i, Finite (a0 i)) (f1 : ∀ i, Finite (val_main_v2 (F := Ideal) a1 i)) (f2 : ∀ i, Finite (a2 i)) (r : Fin 256) (q : Fin 1408) :
    (gateB (F := Ideal) x1 x2 a2 (ix2 r q) : EReal) = val_main_v10 (F := Ideal) a0 a1 a2 (ix2 (row t r) (⟨1408 + q.val, by omega⟩ : Fin 2816)) := by
  have e := dact1_at a2 h1 r q
  have g := gcol1_at h2 r q
  have u := ucol1_at h2 r q
  have s := sig1_at h2 r q
  unfold gateB k0_pay15
  revert e s
  generalize k0_pay12 (F := Ideal) (k0_pay4 x1) (down1 a2) = y
  generalize k0_pay14 (F := Ideal) (cols1 x2) = z
  intro e s
  rw [val_main_v10_apply, val_main_call1_v1_apply, val_main_call1_v2_apply, val_main_call1_v0_apply, val_main_v3_1_apply, val_main_v9_apply, val_main_call0_v7_apply]
  have w := slope (dact_finite a2 f0 f2 (row t r) (⟨1408 + q.val, by omega⟩ : Fin 2816)) (f1 (ix2 (row t r) (⟨1408 + q.val, by omega⟩ : Fin 2816))) _ _ (sig_eq (a1 := a1) (row t r) (⟨1408 + q.val, by omega⟩ : Fin 2816))
  rw [← e, ← g, ← u, ← s] at w ⊢
  pointwise [k0_pay13, val_main_call0_v6, val_main_call0_cst_1]
  exact w

theorem upB_at (h1 : Tile t x1 a0) (h2 : Tile t x2 a1) (r : Fin 256) (q : Fin 1408) :
    (upB (F := Ideal) x1 x2 a2 (ix2 r q) : EReal) = val_main_v8 (F := Ideal) a0 a1 a2 (ix2 (row t r) (⟨1408 + q.val, by omega⟩ : Fin 2816)) := by
  have e := dact1_at a2 h1 r q
  have g := gcol1_at h2 r q
  have u := ucol1_at h2 r q
  have s := sig1_at h2 r q
  unfold upB k0_pay16
  revert e s
  generalize k0_pay12 (F := Ideal) (k0_pay4 x1) (down1 a2) = y
  generalize k0_pay14 (F := Ideal) (cols1 x2) = z
  intro e s
  rw [val_main_v8_apply, val_main_v3_0_apply]
  rw [← e, ← g, ← s]
  pointwise [k0_pay13]
  exact mul_comm _ _

/-- The gates' columns of the gradient, and the ups'. -/
theorem lower_at (i : Fin 8192) (k : Fin 2816) (k' : Fin 5632) (h : k'.val = k.val) : val_main_v11 (F := Ideal) a0 a1 a2 (ix2 i k') = val_main_v10 (F := Ideal) a0 a1 a2 (ix2 i k) := by
  unfold val_main_v11
  refine concatenate_apply_piece 1 _ _ (ix2 i k') 0 (by simp) Cert.Reference7Ideal.S8192x2816 (val_main_v10 (F := Ideal) a0 a1 a2) rfl rfl 0 rfl (ix2 i k) ?_ ?_
  · intro b hb; match b with
    | ⟨0, _⟩ => rfl
    | ⟨1, _⟩ => exact absurd rfl hb
  · show 0 + k.val = k'.val; omega

theorem upper_at (i : Fin 8192) (k : Fin 2816) (k' : Fin 5632) (h : k'.val = 2816 + k.val) : val_main_v11 (F := Ideal) a0 a1 a2 (ix2 i k') = val_main_v8 (F := Ideal) a0 a1 a2 (ix2 i k) := by
  unfold val_main_v11
  refine concatenate_apply_piece 1 _ _ (ix2 i k') 1 (by simp) Cert.Reference7Ideal.S8192x2816 (val_main_v8 (F := Ideal) a0 a1 a2) rfl rfl 2816 rfl (ix2 i k) ?_ ?_
  · intro b hb; match b with
    | ⟨0, _⟩ => rfl
    | ⟨1, _⟩ => exact absurd rfl hb
  · show 2816 + k.val = k'.val; omega

/-- The gradient of the normed input: the four products are added one after the other. -/
theorem dh_at (h1 : Tile t x1 a0) (h2 : Tile t x2 a1) (f0 : ∀ i, Finite (a0 i)) (f1 : ∀ i, Finite (val_main_v2 (F := Ideal) a1 i)) (f2 : ∀ i, Finite (a2 i)) (r : Fin 256) (l : Fin 1024) :
    (k0_pay17 (F := Ideal) (midT x1 x2 a2 a3) (gateB x1 x2 a2) (upB x1 x2 a2) (shard1 a3) (shard3 a3) (ix2 r l) : EReal) = val_main_v31 (F := Ideal) a0 a1 a2 a3 (ix2 (row t r) l) := by
  have e0 := fun q => (gateA_at a2 h1 h2 f0 f1 f2 r q).trans (lower_at a2 (row t r) _ (⟨0 + q.val, by omega⟩ : Fin 5632) rfl).symm
  have e1 := fun q => (gateB_at a2 h1 h2 f0 f1 f2 r q).trans (lower_at a2 (row t r) _ (⟨1408 + q.val, by omega⟩ : Fin 5632) rfl).symm
  have e2 := fun q => (upA_at a2 h1 h2 r q).trans (upper_at a2 (row t r) _ (⟨2816 + q.val, by omega⟩ : Fin 5632) (show 2816 + q.val = 2816 + (0 + q.val) by omega)).symm
  have e3 := fun q => (upB_at a2 h1 h2 r q).trans (upper_at a2 (row t r) _ (⟨4224 + q.val, by omega⟩ : Fin 5632) (show 4224 + q.val = 2816 + (1408 + q.val) by omega)).symm
  have d0 := fun q => shard0_at a3 l q
  have d1 := fun q => shard1_at a3 l q
  have d2 := fun q => shard2_at a3 l q
  have d3 := fun q => shard3_at a3 l q
  have s := sum_quarters (fun k => val_main_v11 (F := Ideal) a0 a1 a2 (ix2 (row t r) k) * val_main_v29 (F := Ideal) a3 (ix2 l k))
  unfold midT
  revert e0 e1 e2 e3 d0 d1 d2 d3 s
  generalize gateA (F := Ideal) x1 x2 a2 = y0
  generalize gateB (F := Ideal) x1 x2 a2 = y1
  generalize upA (F := Ideal) x1 x2 a2 = y2
  generalize upB (F := Ideal) x1 x2 a2 = y3
  generalize shard0 (F := Ideal) a3 = z0
  generalize shard1 (F := Ideal) a3 = z1
  generalize shard2 (F := Ideal) a3 = z2
  generalize shard3 (F := Ideal) a3 = z3
  unfold val_main_v31
  generalize val_main_v11 (F := Ideal) a0 a1 a2 = w
  generalize val_main_v29 (F := Ideal) a3 = w2
  intro e0 e1 e2 e3 d0 d1 d2 d3 s
  pointwise [k0_pay17, k0_pay11, k0_pay5]
  simp only [e0, e1, e2, e3, d0, d1, d2, d3]
  exact s.symm

/-- The tile's part of the gradient of the norm's scale. -/
theorem dg_at (h1 : Tile t x1 a0) (h2 : Tile t x2 a1) (h5 : Tile t x5 a4) (f0 : ∀ i, Finite (a0 i)) (f1 : ∀ i, Finite (val_main_v2 (F := Ideal) a1 i)) (f2 : ∀ i, Finite (a2 i)) (s : FVec Ideal S1x1024 .f32) (l : Fin 1024) :
    (dgT (F := Ideal) x1 x2 a2 a3 x5 s (ix2 (0 : Fin 1) l) : EReal)
      = s (ix2 (0 : Fin 1) l) + ∑ r : Fin 256, (val_main_v32 (F := Ideal) a0 a1 a2 a3 a4 (ix2 (row t r) l) : EReal) := by
  have e := fun r => dh_at a2 a3 h1 h2 f0 f1 f2 r l
  unfold dgT k0_pay21
  revert e
  generalize k0_pay17 (F := Ideal) _ _ _ _ _ = y
  intro e
  pointwise [k0_pay19, k0_pay18]
  simp only [val_main_v32_apply, e]
  refine congrArg (_ + ·) (Finset.sum_congr rfl fun r _ => ?_)
  generalize val_main_v31 (F := Ideal) a0 a1 a2 a3 _ = w
  pointwise [val_main_v24, val_main_v23, val_main_v22, val_main_v21, val_main_v20, val_main_v19, val_main_v18, val_main_v17, val_main_v16, val_main_v15, val_main_v14, val_main_v13, val_main_v12, val_main_cst, val_main_cst_0, val_main_cst_1]
  simp only [h5 r _]
  exact mul_comm _ _

end Cert.FfnBwd

end
-- ==== Proof.Ffn.BwdResults.lean ====
module

public import proofs.«01_k».proof.Proof.Ffn.BwdRows

@[expose] public section

set_option maxRecDepth 16384

noncomputable section

namespace Cert.FfnBwd

open Cert.Kernel7Ideal Cert.Kernel7Ideal.Gen Cert.Kernel7Ideal.Value Cert.Reference7Ideal.Read Cert.Ffn
open Idealize.ShloMosaic Idealize.ShloMosaic.TcCoe Idealize.ShloMosaic.Tactic

variable {t : Fin 32} {x1 : FVec Ideal S256x1024 .bf16} {x2 : FVec Ideal S256x5632 .bf16}
  {a0 : FVec Ideal S8192x1024 .f32} {a1 : FVec Ideal S8192x5632 .bf16} (a2 : FVec Ideal S2816x1024 .bf16)

/-! ## The gradient of the gates and ups, stored as column blocks -/

/-- The column blocks are the reference's columns. -/
theorem dgu_at (h1 : Tile t x1 a0) (h2 : Tile t x2 a1) (f0 : ∀ i, Finite (a0 i)) (f1 : ∀ i, Finite (val_main_v2 (F := Ideal) a1 i)) (f2 : ∀ i, Finite (a2 i)) (r : Fin 256) (j : Fin 5632) :
    (dguT (F := Ideal) x1 x2 a2 (ix2 r j) : EReal) = val_main_v11 (F := Ideal) a0 a1 a2 (ix2 (row t r) j) := by
  have hj := j.isLt
  have key : ∃ q, q < 1408 ∧ (j.val = 0 + q ∨ j.val = 1408 + q ∨ j.val = 2816 + q ∨ j.val = 4224 + q) :=
    ⟨j.val % 1408, Nat.mod_lt _ (by decide), by omega⟩
  obtain ⟨q, hq, e⟩ := key
  unfold dguT
  rcases e with e | e | e | e
  · have b : 0 + q < 5632 := by omega
    obtain rfl : j = (⟨0 + (⟨q, hq⟩ : Fin 1408).val, b⟩ : Fin 5632) := Fin.ext e
    exact ((block_skip 4224 _ _ _ r _ (by show 0 + q < 4224 ∨ 4224 + 1408 ≤ 0 + q; omega)).trans ((block_skip 1408 _ _ _ r _ (by show 0 + q < 1408 ∨ 1408 + 1408 ≤ 0 + q; omega)).trans ((block_skip 2816 _ _ _ r _ (by show 0 + q < 2816 ∨ 2816 + 1408 ≤ 0 + q; omega)).trans (block_hit 0 _ _ _ r _ _)))).trans ((gateA_at a2 h1 h2 f0 f1 f2 r ⟨q, hq⟩).trans (lower_at a2 _ _ _ rfl).symm)
  · have b : 1408 + q < 5632 := by omega
    obtain rfl : j = (⟨1408 + (⟨q, hq⟩ : Fin 1408).val, b⟩ : Fin 5632) := Fin.ext e
    exact ((block_skip 4224 _ _ _ r _ (by show 1408 + q < 4224 ∨ 4224 + 1408 ≤ 1408 + q; omega)).trans (block_hit 1408 _ _ _ r _ _)).trans ((gateB_at a2 h1 h2 f0 f1 f2 r ⟨q, hq⟩).trans (lower_at a2 _ _ _ rfl).symm)
  · have b : 2816 + q < 5632 := by omega
    obtain rfl : j = (⟨2816 + (⟨q, hq⟩ : Fin 1408).val, b⟩ : Fin 5632) := Fin.ext e
    exact ((block_skip 4224 _ _ _ r _ (by show 2816 + q < 4224 ∨ 4224 + 1408 ≤ 2816 + q; omega)).trans ((block_skip 1408 _ _ _ r _ (by show 2816 + q < 1408 ∨ 1408 + 1408 ≤ 2816 + q; omega)).trans (block_hit 2816 _ _ _ r _ _))).trans ((upA_at a2 h1 h2 r ⟨q, hq⟩).trans (upper_at a2 _ _ _ (show 2816 + q = 2816 + (0 + q) by omega)).symm)
  · have b : 4224 + q < 5632 := by omega
    obtain rfl : j = (⟨4224 + (⟨q, hq⟩ : Fin 1408).val, b⟩ : Fin 5632) := Fin.ext e
    exact (block_hit 4224 _ _ _ r _ _).trans ((upB_at a2 h1 h2 r ⟨q, hq⟩).trans (upper_at a2 _ _ _ (show 4224 + q = 2816 + (1408 + q) by omega)).symm)

/-! ## The blocks that a point reads -/

variable (m : (ℓ : Loc Cert.Kernel7Ideal.nD Cert.Kernel7Ideal.τ Cert.Kernel7Ideal.sig) → Buf (Elt Ideal) ℓ)

/-- The rounded copy of the incoming gradient, which the host prepares, holds the same values. -/
theorem copied (c : Dev nD) (i : S8192x1024.Idx) : ((V m c main_v0 : S8192x1024.Idx → EReal) i) = (m ((c : Thread nD τ).loc main_arg0) : S8192x1024.Idx → EReal) i := by
  show (StableHlo.after hostOps0 (fun b => m (c, b)) (Proc.devRef .tc main_v0) : S8192x1024.Idx → EReal) i = _
  simp only [hostOps0]
  after_results_simp
  rfl

attribute [local irreducible] outsAt0

/-- Argument 0. -/
def arg0 (c : Dev nD) : FVec Ideal S8192x1024 .f32 := m ((c : Thread nD τ).loc main_arg0)
/-- Argument 1. -/
def arg1 (c : Dev nD) : FVec Ideal S8192x5632 .bf16 := m ((c : Thread nD τ).loc main_arg1)
/-- Argument 2. -/
def arg2 (c : Dev nD) : FVec Ideal S2816x1024 .bf16 := m ((c : Thread nD τ).loc main_arg2)
/-- Argument 3. -/
def arg3 (c : Dev nD) : FVec Ideal S4x1024x1408 .bf16 := m ((c : Thread nD τ).loc main_arg3)
/-- Argument 4. -/
def arg4 (c : Dev nD) : FVec Ideal S8192x1024 .f32 := m ((c : Thread nD τ).loc main_arg4)

theorem index_1 : ∀ t : Fin cfg0.N, win0_1.index t = ![t.val, 0] := (by decide +kernel : ∀ t : Fin grid0.N, _)

theorem tile_1 (c : Dev nD) (t : Fin cfg0.N) : Tile (W := 1024) (e := .bf16) (t.cast N_0) (iblk m c 1 t) (arg0 m c) := by
  intro r d
  have e := index_1 t
  unfold iblk
  show (V m c main_v0 : S8192x1024.Idx → EReal) (((cfg0.win 1).blk t).view.emb (ix2 r d)) = _
  refine (copied m c _).trans ?_
  show arg0 m c (((cfg0.win 1).blk t).view.emb (ix2 r d)) = _
  refine congrArg _ (funext fun a => Fin.ext ?_)
  match a with
  | ⟨0, _⟩ => show win0_1.index t (0 : Fin 2) * 256 + 1 * r.val = 256 * t.val + r.val; rw [e]; show t.val * 256 + 1 * r.val = _; omega
  | ⟨1, _⟩ => show win0_1.index t (1 : Fin 2) * 1024 + 1 * d.val = d.val; rw [e]; show 0 * 1024 + 1 * d.val = _; omega

theorem index_2 : ∀ t : Fin cfg0.N, win0_2.index t = ![t.val, 0] := (by decide +kernel : ∀ t : Fin grid0.N, _)

theorem tile_2 (c : Dev nD) (t : Fin cfg0.N) : Tile (W := 5632) (e := .bf16) (t.cast N_0) (iblk m c 2 t) (arg1 m c) := by
  intro r d
  have e := index_2 t
  unfold iblk
  show arg1 m c (((cfg0.win 2).blk t).view.emb (ix2 r d)) = _
  refine congrArg _ (funext fun a => Fin.ext ?_)
  match a with
  | ⟨0, _⟩ => show win0_2.index t (0 : Fin 2) * 256 + 1 * r.val = 256 * t.val + r.val; rw [e]; show t.val * 256 + 1 * r.val = _; omega
  | ⟨1, _⟩ => show win0_2.index t (1 : Fin 2) * 5632 + 1 * d.val = d.val; rw [e]; show 0 * 5632 + 1 * d.val = _; omega

theorem index_3 : ∀ t : Fin cfg0.N, win0_3.index t = ![0, 0] := (by decide +kernel : ∀ t : Fin grid0.N, _)

theorem whole_3 (c : Dev nD) (t : Fin cfg0.N) : (iblk m c 3 t : S2816x1024.Idx → EReal) = arg2 m c := by
  have e := index_3 t
  unfold iblk
  funext i
  show arg2 m c (((cfg0.win 3).blk t).view.emb i) = _
  refine congrArg _ (funext fun a => Fin.ext ?_)
  match a with
  | ⟨0, _⟩ => show win0_3.index t (0 : Fin 2) * 2816 + 1 * (i 0).val = (i 0).val; rw [e]; show 0 * 2816 + 1 * (i 0).val = _; omega
  | ⟨1, _⟩ => show win0_3.index t (1 : Fin 2) * 1024 + 1 * (i 1).val = (i 1).val; rw [e]; show 0 * 1024 + 1 * (i 1).val = _; omega

theorem index_4 : ∀ t : Fin cfg0.N, win0_4.index t = ![0, 0, 0] := (by decide +kernel : ∀ t : Fin grid0.N, _)

theorem whole_4 (c : Dev nD) (t : Fin cfg0.N) : (iblk m c 4 t : S4x1024x1408.Idx → EReal) = arg3 m c := by
  have e := index_4 t
  unfold iblk
  funext i
  show arg3 m c (((cfg0.win 4).blk t).view.emb i) = _
  refine congrArg _ (funext fun a => Fin.ext ?_)
  match a with
  | ⟨0, _⟩ => show win0_4.index t (0 : Fin 3) * 4 + 1 * (i 0).val = (i 0).val; rw [e]; show 0 * 4 + 1 * (i 0).val = _; omega
  | ⟨1, _⟩ => show win0_4.index t (1 : Fin 3) * 1024 + 1 * (i 1).val = (i 1).val; rw [e]; show 0 * 1024 + 1 * (i 1).val = _; omega
  | ⟨2, _⟩ => show win0_4.index t (2 : Fin 3) * 1408 + 1 * (i 2).val = (i 2).val; rw [e]; show 0 * 1408 + 1 * (i 2).val = _; omega

theorem index_5 : ∀ t : Fin cfg0.N, win0_5.index t = ![t.val, 0] := (by decide +kernel : ∀ t : Fin grid0.N, _)

theorem tile_5 (c : Dev nD) (t : Fin cfg0.N) : Tile (W := 1024) (e := .f32) (t.cast N_0) (iblk m c 5 t) (arg4 m c) := by
  intro r d
  have e := index_5 t
  unfold iblk
  show arg4 m c (((cfg0.win 5).blk t).view.emb (ix2 r d)) = _
  refine congrArg _ (funext fun a => Fin.ext ?_)
  match a with
  | ⟨0, _⟩ => show win0_5.index t (0 : Fin 2) * 256 + 1 * r.val = 256 * t.val + r.val; rw [e]; show t.val * 256 + 1 * r.val = _; omega
  | ⟨1, _⟩ => show win0_5.index t (1 : Fin 2) * 1024 + 1 * d.val = d.val; rw [e]; show 0 * 1024 + 1 * d.val = _; omega

/-! ## The results that are written tile by tile -/

theorem index_7 : ∀ t : Fin cfg0.N, win0_7.index t = ![t.val, 0] := (by decide +kernel : ∀ t : Fin grid0.N, _)

theorem flushes_7 : ∀ t : Fin cfg0.N, (cfg0.win 7).flush t = true := (by decide +kernel : ∀ t : Fin grid0.N, _)

theorem place_7 (t : Fin cfg0.N) (r : Fin 256) (l : Fin 5632) : ((cfg0.win 7).blk t).view.emb (ix2 r l) = ix2 (row (t.cast N_0) r) l := by
  have e := index_7 t
  refine funext fun a => Fin.ext ?_
  match a with
  | ⟨0, _⟩ => show win0_7.index t (0 : Fin 2) * 256 + 1 * r.val = 256 * t.val + r.val; rw [e]; show t.val * 256 + 1 * r.val = _; omega
  | ⟨1, _⟩ => show win0_7.index t (1 : Fin 2) * 5632 + 1 * l.val = l.val; rw [e]; show 0 * 5632 + 1 * l.val = _; omega

theorem array_7 (c : Dev nD) (f0 : ∀ i, Finite (arg0 m c i)) (f1 : ∀ i, Finite (val_main_v2 (F := Ideal) (arg1 m c) i)) (f2 : ∀ i, Finite (arg2 m c i)) (t : Fin cfg0.N) (r : Fin 256) (l : Fin 5632) :
    ((dats m 0 c).arrAt 7 cfg0.N : S8192x5632.Idx → EReal) (ix2 (row (t.cast N_0) r) l) = val_main_v11 (F := Ideal) (arg0 m c) (arg1 m c) (arg2 m c) (ix2 (row (t.cast N_0) r) l) := by
  have h := (blocks7 m c t (flushes_7 t)).trans (flushed7 m c t)
  rw [← place_7 t r l]
  refine (congrFun h (ix2 r l)).trans ?_
  rw [place_7 t r l]
  refine (congrArg (outsAt0 m c t.val t.isLt).1 (show _ = ix2 r l from funext fun a => Fin.ext rfl)).trans ?_
  refine (congrFun (point_7 m c t) (ix2 r l)).trans ?_
  rw [whole_3 m c t]
  exact dgu_at _ (tile_1 m c t) (tile_2 m c t) f0 f1 f2 r l

theorem row_split (i : Fin 8192) : ∃ (t : Fin cfg0.N) (r : Fin 256), i = row (t.cast N_0) r :=
  ⟨(⟨i.val / 256, by omega⟩ : Fin 32).cast N_0.symm, ⟨i.val % 256, Nat.mod_lt _ (by decide)⟩, Fin.ext (by show i.val = 256 * (i.val / 256) + i.val % 256; omega)⟩

theorem result_7 (c : Dev nD) (f0 : ∀ i, Finite (arg0 m c i)) (f1 : ∀ i, Finite (val_main_v2 (F := Ideal) (arg1 m c) i)) (f2 : ∀ i, Finite (arg2 m c i)) : (dats m 0 c).arrAt 7 cfg0.N = val_main_v52 (F := Ideal) (arg0 m c) (arg1 m c) (arg2 m c) := by
  funext i
  rw [eq_ix2 (n0 := 8192) (n1 := 5632) i]
  obtain ⟨t, r, h⟩ := row_split (i 0)
  rw [h]
  exact array_7 m c f0 f1 f2 t r (i 1)

/-! ## The gradient of the scale, which grows from point to point -/

theorem last_lt : 31 < cfg0.N := by rw [show cfg0.N = 32 from N_0]; decide

def part_10 (c : Dev nD) (l : Fin 1024) (t : Fin 32) : EReal := ∑ r : Fin 256, (val_main_v32 (F := Ideal) (arg0 m c) (arg1 m c) (arg2 m c) (arg3 m c) (arg4 m c) (ix2 (row t r) l) : EReal)

theorem step_10 (c : Dev nD) (f0 : ∀ i, Finite (arg0 m c i)) (f1 : ∀ i, Finite (val_main_v2 (F := Ideal) (arg1 m c) i)) (f2 : ∀ i, Finite (arg2 m c i)) (l : Fin 1024) (t : Fin cfg0.N) (s : FVec Ideal S1x1024 .f32) :
    (dgT (F := Ideal) (iblk m c 1 t) (iblk m c 2 t) (iblk m c 3 t) (iblk m c 4 t) (iblk m c 5 t) s (ix2 (0 : Fin 1) l) : EReal) = s (ix2 (0 : Fin 1) l) + part_10 m c l (t.cast N_0) := by
  rw [whole_3 m c t, whole_4 m c t]
  exact dg_at _ _ (tile_1 m c t) (tile_2 m c t) (tile_5 m c t) f0 f1 f2 s l

/-- What the last point leaves is the sum of all parts. -/
theorem held_10 (c : Dev nD) (f0 : ∀ i, Finite (arg0 m c i)) (f1 : ∀ i, Finite (val_main_v2 (F := Ideal) (arg1 m c) i)) (f2 : ∀ i, Finite (arg2 m c i)) (l : Fin 1024) : ((outsAt0 m c 31 last_lt).2.2.2 (ix2 (0 : Fin 1) l) : EReal) = ∑ t : Fin 32, part_10 m c l t := by
  refine total N_0 (part_10 m c l) (fun n hn => ((outsAt0 m c n hn).2.2.2 (ix2 (0 : Fin 1) l) : EReal)) ?_ ?_ last_lt
  · intro hn
    refine (congrFun (pointA_10 m c ⟨0, hn⟩ rfl) _).trans ((step_10 m c f0 f1 f2 l ⟨0, hn⟩ _).trans (congrArg (· + _) ?_))
    pointwise [k0_pay3]
  · intro n hn
    have hN : n + 1 < 32 := lt_of_lt_of_eq hn N_0
    exact (congrFun (pointB_10 m c ⟨n + 1, hn⟩ (by show ¬(n + 1) % 32 = 0; omega)) _).trans (step_10 m c f0 f1 f2 l ⟨n + 1, hn⟩ _)

theorem index_10 : ∀ t : Fin cfg0.N, win0_10.index t = ![0, 0] := (by decide +kernel : ∀ t : Fin grid0.N, _)

theorem flushes_10 : ∀ t : Fin cfg0.N, (cfg0.win 10).flush t = true ↔ t.val = 31 := (by decide +kernel : ∀ t : Fin grid0.N, _)

theorem place_10 (t : Fin cfg0.N) (r : Fin 1) (l : Fin 1024) : ((cfg0.win 10).blk t).view.emb (ix2 r l) = ix2 r l := by
  have e := index_10 t
  refine funext fun a => Fin.ext ?_
  match a with
  | ⟨0, _⟩ => show win0_10.index t (0 : Fin 2) * 1 + 1 * r.val = r.val; rw [e]; show 0 * 1 + 1 * r.val = _; omega
  | ⟨1, _⟩ => show win0_10.index t (1 : Fin 2) * 1024 + 1 * l.val = l.val; rw [e]; show 0 * 1024 + 1 * l.val = _; omega

/-- The array is written once, after the last point. -/
theorem array_10 (c : Dev nD) (l : Fin 1024) :
    ((dats m 0 c).arrAt 10 cfg0.N : S1x1024.Idx → EReal) (ix2 (0 : Fin 1) l) = (outsAt0 m c 31 last_lt).2.2.2 (ix2 (0 : Fin 1) l) := by
  have h := (dats m 0 c).read_blk_arrAt_eq_flushed 10
    (fun t t' hf hf' hne => absurd (Fin.ext (((flushes_10 t).mp hf).trans ((flushes_10 t').mp hf').symm)) hne) cfg0.N ⟨31, last_lt⟩ last_lt ((flushes_10 ⟨31, last_lt⟩).mpr rfl)
  have h2 := h.trans (flushed10 m c ⟨31, last_lt⟩)
  rw [← place_10 ⟨31, last_lt⟩ 0 l]
  refine (congrFun h2 (ix2 0 l)).trans ?_
  rw [place_10 ⟨31, last_lt⟩ 0 l]
  exact congrArg (outsAt0 m c 31 last_lt).2.2.2 (show _ = ix2 0 l from funext fun a => Fin.ext rfl)

theorem row_index (i : S1x1024.Idx) : ∃ l : Fin 1024, i = ix2 (0 : Fin 1) l :=
  ⟨i 1, (eq_ix2 (n0 := 1) (n1 := 1024) i).trans (congrArg (fun z : Fin 1 => ix2 z (i 1 : Fin 1024)) (Subsingleton.elim (α := Fin 1) _ _))⟩

theorem result_10 (c : Dev nD) (f0 : ∀ i, Finite (arg0 m c i)) (f1 : ∀ i, Finite (val_main_v2 (F := Ideal) (arg1 m c) i)) (f2 : ∀ i, Finite (arg2 m c i)) : (dats m 0 c).arrAt 10 cfg0.N = val_main_v34 (F := Ideal) (arg0 m c) (arg1 m c) (arg2 m c) (arg3 m c) (arg4 m c) := by
  funext i
  obtain ⟨l, rfl⟩ := row_index i
  refine (array_10 m c l).trans ((held_10 m c f0 f1 f2 l).trans ?_)
  unfold part_10
  rw [sum_rows (fun k => (val_main_v32 (F := Ideal) (arg0 m c) (arg1 m c) (arg2 m c) (arg3 m c) (arg4 m c) (ix2 k l) : EReal))]
  pointwise [val_main_v34, val_main_v33, val_main_cst_3]

end Cert.FfnBwd

end
-- ==== Proof.Ffn.BwdClaims.lean ====
module

public import proofs.«01_k».proof.Defs
public import proofs.«01_k».proof.Proof.Ffn.BwdResults
public import proofs.«01_k».proof.Proof.Gen.On_written7
public import proofs.«01_k».proof.Proof.Gen.Pre_finite7
public import proofs.«01_k».proof.Proof.Gen.Reference7Ideal.Run
public import Idealize.ShloMosaic.Lib.ReduceAll

@[expose] public section

set_option maxRecDepth 16384

noncomputable section

namespace Cert.FfnBwd

open Cert.Kernel7Ideal.Gen Cert.Kernel7Ideal.Value Cert.Reference7Ideal.Read
open Cert.Ffn
open Idealize.ShloMosaic Idealize.ShloMosaic.TcCoe Idealize.ShloMosaic.Tactic Idealize.SL.Sem

/-! ## The claims

Two results, the gradient of the block's input and its rounded copy, are not compared. -/

theorem frame_reference : Cert.quiescent_Reference7Ideal := fun m ρ _ =>
  (θ_run Cert.Reference7Ideal.defs _ _).mono (fun r h => ⟨fun c => (h c).2.2.2.2, Idealize.ShloMosaic.sem_eq_zero_of_no_sems (by decide) r.2⟩)
    (Cert.Reference7Ideal.Value.run (F := Ideal) m ρ)

theorem bounded {a : EReal} (h : FloatOps.cmpf (F := Ideal) (φ := .f32) .olt (FloatOps.hostAbsf (F := Ideal) (φ := .f32) a) (Ideal.ofBits .f32 0x7F800000#32) = 1#1) : Finite a := by
  have e : Ideal.ofBits .f32 0x7F800000#32 = (⊤ : EReal) := by simp [Ideal.ofBits, Ideal.ieee]
  rw [e] at h
  have h2 : BitVec.ofBool (decide (max a (-a) < (⊤ : EReal))) = 1#1 := h
  have h3 : max a (-a) < (⊤ : EReal) := by
    by_contra n
    rw [decide_eq_false n] at h2
    exact absurd h2 (by decide)
  induction a using EReal.rec with
  | bot => exact absurd h3 (by simp)
  | top => exact absurd h3 (by simp)
  | coe x => exact ⟨x, rfl⟩

/-- The precondition says that the incoming gradient, the ups and the down weights are finite. -/
theorem finite_all [Cert.Pre_finite7.Facts] (a0 : FVec Ideal Cert.Pre_finite7.S8192x1024 .f32) (a1 : FVec Ideal Cert.Pre_finite7.S8192x5632 .bf16) (a2 : FVec Ideal Cert.Pre_finite7.S2816x1024 .bf16) (a3 : FVec Ideal Cert.Pre_finite7.S4x1024x1408 .bf16) (a4 : FVec Ideal Cert.Pre_finite7.S8192x1024 .f32) (a5 : FVec Ideal Cert.Pre_finite7.S1x1024 .f32)
    (h : ∀ i, Cert.Pre_finite7.fn (F := Ideal) a0 a1 a2 a3 a4 a5 i = 1#1) :
    (∀ i, Finite (a0 i)) ∧ (∀ i, Finite (val_main_v2 (F := Ideal) a1 i)) ∧ ∀ i, Finite (a2 i) := by
  have := h (fun a => a.elim0)
  unfold Cert.Pre_finite7.fn at this
  obtain ⟨h01, h2⟩ := IntOp.andi_eq_one.1 this
  obtain ⟨h0, h1⟩ := IntOp.andi_eq_one.1 h01
  haveI : Subsingleton Cert.Pre_finite7.S_.Idx := ⟨fun a b => funext fun k => k.elim0⟩
  refine ⟨fun i => bounded (Host.reduce_andi_all _ _ _ _ _ h0 i), fun i => ?_, fun i => bounded (Host.reduce_andi_all _ _ _ _ _ h2 i)⟩
  exact bounded (Host.reduce_andi_all _ _ _ _ _ h1 i)

theorem algebraic : @Cert.algebraic_Kernel7Ideal_Reference7Ideal_on_written7_pre_finite7 Cert.Kernel7Ideal.Gen.facts Cert.Reference7Ideal.Gen.facts Cert.Pre_finite7.Gen.facts Cert.On_written7.Gen.facts := by
  haveI := Cert.On_written7.Gen.facts
  haveI := Cert.Pre_finite7.Gen.facts
  intro m g m' g' hpre hagree
  have fin := fun c => finite_all _ _ _ _ _ _ fun i => congrFun (hpre c) i
  refine ⟨fun c => val_main_v52 (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)),
    fun c => val_main_v51 (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)),
    fun c => val_main_v53 (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)),
    fun c => val_main_v34 (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)), ?_, ?_⟩
  · refine (θ_run Cert.Kernel7Ideal.defs _ _).mono (fun r hr c => ?_) (Cert.Kernel7Ideal.Value.run_blocks (F := Ideal) m g)
    have h := hr c
    exact ⟨fun i _ => congrFun (h.1.trans (result_7 m c (fin c).1 (fin c).2.1 (fin c).2.2)) i,
      fun i hi => absurd (show (0#1 : BitVec 1) = 1#1 from hi) (by decide),
      fun i hi => absurd (show (0#1 : BitVec 1) = 1#1 from hi) (by decide),
      fun i _ => congrFun (h.2.2.2.1.trans (result_10 m c (fin c).1 (fin c).2.1 (fin c).2.2)) i,
      h.2.2.2.2⟩
  · refine (θ_run Cert.Reference7Ideal.defs _ _).mono (fun r hr c => ?_) (Cert.Reference7Ideal.Value.run (F := Ideal) m' g')
    have h := hr c
    have a := hagree c
    refine ⟨fun i _ => ?_, fun i _ => ?_, fun i _ => ?_, fun i _ => ?_, h.2.2.2.2⟩
    · have e : val_main_v52 (F := Ideal) (m' ((c.tc : Thread Cert.Reference7Ideal.nD Cert.Reference7Ideal.τ).loc Cert.Reference7Ideal.main_arg0)) (m' ((c.tc : Thread Cert.Reference7Ideal.nD Cert.Reference7Ideal.τ).loc Cert.Reference7Ideal.main_arg1)) (m' ((c.tc : Thread Cert.Reference7Ideal.nD Cert.Reference7Ideal.τ).loc Cert.Reference7Ideal.main_arg2)) = val_main_v52 (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) := by
        rw [a.1, a.2.1, a.2.2.1]
      exact congrFun ((h.1.trans (val_main_v52_eq _ _ _)).trans e) i
    · have e : val_main_v51 (F := Ideal) (m' ((c.tc : Thread Cert.Reference7Ideal.nD Cert.Reference7Ideal.τ).loc Cert.Reference7Ideal.main_arg0)) (m' ((c.tc : Thread Cert.Reference7Ideal.nD Cert.Reference7Ideal.τ).loc Cert.Reference7Ideal.main_arg1)) (m' ((c.tc : Thread Cert.Reference7Ideal.nD Cert.Reference7Ideal.τ).loc Cert.Reference7Ideal.main_arg2)) (m' ((c.tc : Thread Cert.Reference7Ideal.nD Cert.Reference7Ideal.τ).loc Cert.Reference7Ideal.main_arg3)) (m' ((c.tc : Thread Cert.Reference7Ideal.nD Cert.Reference7Ideal.τ).loc Cert.Reference7Ideal.main_arg4)) (m' ((c.tc : Thread Cert.Reference7Ideal.nD Cert.Reference7Ideal.τ).loc Cert.Reference7Ideal.main_arg5)) = val_main_v51 (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) := by
        rw [a.1, a.2.1, a.2.2.1, a.2.2.2.1, a.2.2.2.2.1, a.2.2.2.2.2]
      exact congrFun ((h.2.1.trans (val_main_v51_eq _ _)).trans e) i
    · have e : val_main_v53 (F := Ideal) (m' ((c.tc : Thread Cert.Reference7Ideal.nD Cert.Reference7Ideal.τ).loc Cert.Reference7Ideal.main_arg0)) (m' ((c.tc : Thread Cert.Reference7Ideal.nD Cert.Reference7Ideal.τ).loc Cert.Reference7Ideal.main_arg1)) (m' ((c.tc : Thread Cert.Reference7Ideal.nD Cert.Reference7Ideal.τ).loc Cert.Reference7Ideal.main_arg2)) (m' ((c.tc : Thread Cert.Reference7Ideal.nD Cert.Reference7Ideal.τ).loc Cert.Reference7Ideal.main_arg3)) (m' ((c.tc : Thread Cert.Reference7Ideal.nD Cert.Reference7Ideal.τ).loc Cert.Reference7Ideal.main_arg4)) (m' ((c.tc : Thread Cert.Reference7Ideal.nD Cert.Reference7Ideal.τ).loc Cert.Reference7Ideal.main_arg5)) = val_main_v53 (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) := by
        rw [a.1, a.2.1, a.2.2.1, a.2.2.2.1, a.2.2.2.2.1, a.2.2.2.2.2]
      exact congrFun ((h.2.2.1.trans (val_main_v53_eq _ _)).trans e) i
    · have e : val_main_v34 (F := Ideal) (m' ((c.tc : Thread Cert.Reference7Ideal.nD Cert.Reference7Ideal.τ).loc Cert.Reference7Ideal.main_arg0)) (m' ((c.tc : Thread Cert.Reference7Ideal.nD Cert.Reference7Ideal.τ).loc Cert.Reference7Ideal.main_arg1)) (m' ((c.tc : Thread Cert.Reference7Ideal.nD Cert.Reference7Ideal.τ).loc Cert.Reference7Ideal.main_arg2)) (m' ((c.tc : Thread Cert.Reference7Ideal.nD Cert.Reference7Ideal.τ).loc Cert.Reference7Ideal.main_arg3)) (m' ((c.tc : Thread Cert.Reference7Ideal.nD Cert.Reference7Ideal.τ).loc Cert.Reference7Ideal.main_arg4)) = val_main_v34 (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) := by
        rw [a.1, a.2.1, a.2.2.1, a.2.2.2.1, a.2.2.2.2.1]
      exact congrFun ((h.2.2.2.1.trans (val_main_v34_eq _ _ _ _ _)).trans e) i

end Cert.FfnBwd

end
-- ==== Proof.lean ====
/- The proof of the claims of the statement. Programs 1: the backward pass of the merge and of the spatial gating unit, as the
   version's `_merge_sgu_bwd` computes it over 32 tiles of rows, against the gradient of the plain forward lines; its run
   and frame are in Proof/Plain/Frame.lean and, idealized, in Proof/Merge/Frame.lean, its values in Proof/Merge/Claims.lean.
   Programs 2 to 5: four products of the backward pass, in Proof/Prod. Programs 6 and 7: the feed-forward block's forward
   pass with the loss, and its backward pass, in Proof/Ffn. -/
module

public import proofs.«01_k».proof.Defs
public import proofs.«01_k».proof.Proof.Gen.Kernel
public import proofs.«01_k».proof.Proof.Plain.Frame
public import proofs.«01_k».proof.Proof.Gen.KernelIdeal
public import proofs.«01_k».proof.Proof.Gen.ReferenceIdeal
public import proofs.«01_k».proof.Proof.Merge.Claims
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Reference3Ideal
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Reference4Ideal
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Reference5Ideal
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Reference6Ideal
public import proofs.«01_k».proof.Proof.Gen.On_written6
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Reference7Ideal
public import proofs.«01_k».proof.Proof.Gen.Pre_finite7
public import proofs.«01_k».proof.Proof.Gen.On_written7
public import proofs.«01_k».proof.Proof.Prod.GateUp
public import proofs.«01_k».proof.Proof.Prod.Down
public import proofs.«01_k».proof.Proof.Prod.InWgrad
public import proofs.«01_k».proof.Proof.Prod.InDh
public import proofs.«01_k».proof.Proof.Ffn.FwdClaims
public import proofs.«01_k».proof.Proof.Ffn.BwdClaims

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Pre_finite7.Gen.facts, Cert.On_written.facts, Cert.On_written6.Gen.facts, Cert.On_written7.Gen.facts,
    fun m ρ _ => Cert.Kernel.Whole.frame (F := Bits) m ρ, frame_ideal, frame_reference,
    fun m ρ _ => Cert.Kernel2.Gen.frame m ρ, fun m ρ _ => Cert.Kernel2Ideal.Gen.frame m ρ, Cert.GateUp.frame_reference,
    fun m ρ _ => Cert.Kernel3.Gen.frame m ρ, fun m ρ _ => Cert.Kernel3Ideal.Gen.frame m ρ, Cert.Down.frame_reference,
    fun m ρ _ => Cert.Kernel4.Gen.frame m ρ, fun m ρ _ => Cert.Kernel4Ideal.Gen.frame m ρ, Cert.InWgrad.frame_reference,
    fun m ρ _ => Cert.Kernel5.Gen.frame m ρ, fun m ρ _ => Cert.Kernel5Ideal.Gen.frame m ρ, Cert.InDh.frame_reference,
    fun m ρ _ => Cert.Kernel6.Gen.frame m ρ, fun m ρ _ => Cert.Kernel6Ideal.Gen.frame m ρ, Cert.FfnFwd.frame_reference,
    fun m ρ _ => Cert.Kernel7.Gen.frame m ρ, fun m ρ _ => Cert.Kernel7Ideal.Gen.frame m ρ, fun m ρ _ => Cert.Kernel7Ideal.Gen.frame m ρ,
    Cert.FfnBwd.frame_reference, fun m ρ _ => Cert.FfnBwd.frame_reference m ρ trivial,
    preserves, algebraic,
    trivial, Cert.GateUp.algebraic,
    trivial, Cert.Down.algebraic,
    trivial, Cert.InWgrad.algebraic,
    trivial, Cert.InDh.algebraic,
    trivial, Cert.FfnFwd.algebraic,
    trivial, Cert.FfnBwd.algebraic⟩

end Cert.Proof

end
